-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pair.BufferStatement Cert.KernelIdeal.S4x288x2x128 Cert.KernelIdeal.S4x288x1x128
  ∧ IdealRules.bf16_pair.BufferStatement Cert.KernelIdeal.S4x8x32x2x128 Cert.KernelIdeal.S4x8x32x1x128
  ∧ IdealRules.bf16_pair.Statement Cert.KernelIdeal.S16x128 Cert.KernelIdeal.S8x128
  ∧ IdealRules.bf16_pair.Statement Cert.KernelIdeal.S1x8x2x128 Cert.KernelIdeal.S1x8x1x128
  ∧ IdealRules.named_const.Statement Cert.KernelIdeal.κ "ln2" .f32 0x3F317218#32 ((Real.log 2 : ℝ) : EReal)
  ∧ IdealRules.bf16_pair.PackStatement Cert.KernelIdeal.S8x128
  ∧ IdealRules.bf16_pair.Statement Cert.KernelIdeal.S1x1x8x2x128 Cert.KernelIdeal.S1x1x8x1x128
  ∧ IdealRules.bf16_pair.Statement Cert.KernelIdeal.S1x1x1x2x128 Cert.KernelIdeal.S1x1x1x1x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S28x3072x1024 : Shape := ⟨3, ![28, 3072, 1024]⟩
abbrev S28x8x128x128 : Shape := ⟨4, ![28, 8, 128, 128]⟩
abbrev S_ : Shape := ⟨0, ![]⟩

class Facts : Prop where
  bitsLt_bf16_f32 : FTy.bits .bf16 < FTy.bits .f32
  bcast_S_S28x3072x1024 : S_.BroadcastsInDim S28x3072x1024 (![] : Fin 0 → Fin S28x3072x1024.rank)
  reducesTo_S28x3072x1024_S_d0_1_2 : S28x3072x1024.ReducesTo [0, 1, 2] S_
  h_S_ : 0 < S_.numel
  bcast_S_S28x8x128x128 : S_.BroadcastsInDim S28x8x128x128 (![] : Fin 0 → Fin S28x8x128x128.rank)
  reducesTo_S28x8x128x128_S_d0_1_2_3 : S28x8x128x128.ReducesTo [0, 1, 2, 3] S_

variable [Facts]

def fn {F : FTy → Type} [FloatOps F] (main_arg0 : FVec F S28x3072x1024 .bf16) (main_arg1 : FVec F S28x8x128x128 .f32) : IVec S_ 1 :=
  let main_v0 : FVec F S28x3072x1024 .f32 := (extf .f32 · bitsLt_bf16_f32) main_arg0
  let main_v1 : FVec F S28x3072x1024 .f32 := Host.absf main_v0
  let main_cst : FVec F S_ .f32 := constant S_ .f32 0x7F800000#32
  let main_v2 : FVec F S28x3072x1024 .f32 := broadcastInDim S28x3072x1024 ![] bcast_S_S28x3072x1024 main_cst
  let main_v3 : IVec S28x3072x1024 1 := cmpf .olt main_v1 main_v2
  let main_c : IVec S_ 1 := constantI S_ 1 1#1
  let main_v4 : IVec S_ 1 := (fun x v => Host.reduce IntOp.andi x v reducesTo_S28x3072x1024_S_d0_1_2 h_S_) main_v3 main_c
  let main_v5 : FVec F S28x8x128x128 .f32 := Host.absf main_arg1
  let main_cst_0 : FVec F S_ .f32 := constant S_ .f32 0x7F800000#32
  let main_v6 : FVec F S28x8x128x128 .f32 := broadcastInDim S28x8x128x128 ![] bcast_S_S28x8x128x128 main_cst_0
  let main_v7 : IVec S28x8x128x128 1 := cmpf .olt main_v5 main_v6
  let main_c_1 : IVec S_ 1 := constantI S_ 1 1#1
  let main_v8 : IVec S_ 1 := (fun x v => Host.reduce IntOp.andi x v reducesTo_S28x8x128x128_S_d0_1_2_3 h_S_) main_v7 main_c_1
  let main_v9 : IVec S_ 1 := andi main_v4 main_v8
  main_v9
-- ==== Kernel.lean ====
abbrev S28x3072x1024 : Shape := ⟨3, ![28, 3072, 1024]⟩
abbrev S28x8x128x128 : Shape := ⟨4, ![28, 8, 128, 128]⟩
abbrev S28x4x8x3072 : Shape := ⟨4, ![28, 4, 8, 3072]⟩
abbrev S28x3072x4x1024 : Shape := ⟨4, ![28, 3072, 4, 1024]⟩
abbrev S28x4x32x3072 : Shape := ⟨4, ![28, 4, 32, 3072]⟩
abbrev S1x512x1024 : Shape := ⟨3, ![1, 512, 1024]⟩
abbrev S1x8x128x128 : Shape := ⟨4, ![1, 8, 128, 128]⟩
abbrev S1x4x8x512 : Shape := ⟨4, ![1, 4, 8, 512]⟩
abbrev S1x512x4x1024 : Shape := ⟨4, ![1, 512, 4, 1024]⟩
abbrev S1x4x32x512 : Shape := ⟨4, ![1, 4, 32, 512]⟩
abbrev S4x256x256 : Shape := ⟨3, ![4, 256, 256]⟩
abbrev S4x1024x128 : Shape := ⟨3, ![4, 1024, 128]⟩
abbrev S4x288x128 : Shape := ⟨3, ![4, 288, 128]⟩
abbrev S4x8x32x128 : Shape := ⟨4, ![4, 8, 32, 128]⟩
abbrev S4x4x256x512 : Shape := ⟨4, ![4, 4, 256, 512]⟩
abbrev S4x4x2x128x128 : Shape := ⟨5, ![4, 4, 2, 128, 128]⟩
abbrev S4x4x72x128 : Shape := ⟨4, ![4, 4, 72, 128]⟩
abbrev S128x128 : Shape := ⟨2, ![128, 128]⟩
abbrev S1x1x64x128 : Shape := ⟨4, ![1, 1, 64, 128]⟩
abbrev S64x128 : Shape := ⟨2, ![64, 128]⟩
abbrev S1x64x128 : Shape := ⟨3, ![1, 64, 128]⟩
abbrev S1x128x128 : Shape := ⟨3, ![1, 128, 128]⟩
abbrev S16x128 : Shape := ⟨2, ![16, 128]⟩
abbrev S8x128 : Shape := ⟨2, ![8, 128]⟩
abbrev S1x8x128 : Shape := ⟨3, ![1, 8, 128]⟩
abbrev S1x1x8x128 : Shape := ⟨4, ![1, 1, 8, 128]⟩
abbrev S1x1x1x128 : Shape := ⟨4, ![1, 1, 1, 128]⟩
abbrev S1x128 : Shape := ⟨2, ![1, 128]⟩
abbrev S1x16x128 : Shape := ⟨3, ![1, 16, 128]⟩
abbrev S1x1x16x128 : Shape := ⟨4, ![1, 1, 16, 128]⟩
abbrev S1x1x1x8x128 : Shape := ⟨5, ![1, 1, 1, 8, 128]⟩
abbrev S1x1x1x128x128 : Shape := ⟨5, ![1, 1, 1, 128, 128]⟩
abbrev S512x128 : Shape := ⟨2, ![512, 128]⟩
abbrev S128x4x128 : Shape := ⟨3, ![128, 4, 128]⟩
abbrev S1x128x4x128 : Shape := ⟨4, ![1, 128, 4, 128]⟩
abbrev S1x256x256 : Shape := ⟨3, ![1, 256, 256]⟩
abbrev S256x256 : Shape := ⟨2, ![256, 256]⟩
abbrev S1x1x256x512 : Shape := ⟨4, ![1, 1, 256, 512]⟩
abbrev S256x512 : Shape := ⟨2, ![256, 512]⟩

abbrev nBuf : Space → Nat
  | .hbm => 5
  | .vmem => 17
  | .smem => 0
  | _ => 0

abbrev bufTy : (tb : Table) → Fin (tcTables nBuf tb) → BufTy
  | .hbm, ⟨0, _⟩ => ⟨S28x3072x1024, .bf16⟩
  | .hbm, ⟨1, _⟩ => ⟨S28x8x128x128, .f32⟩
  | .hbm, ⟨2, _⟩ => ⟨S28x4x8x3072, .f32⟩
  | .hbm, ⟨3, _⟩ => ⟨S28x3072x4x1024, .i8⟩
  | .hbm, ⟨4, _⟩ => ⟨S28x4x32x3072, .f32⟩
  | .local _ .vmem, ⟨0, _⟩ => ⟨S1x512x1024, .bf16⟩
  | .local _ .vmem, ⟨1, _⟩ => ⟨S1x512x1024, .bf16⟩
  | .local _ .vmem, ⟨2, _⟩ => ⟨S1x8x128x128, .f32⟩
  | .local _ .vmem, ⟨3, _⟩ => ⟨S1x8x128x128, .f32⟩
  | .local _ .vmem, ⟨4, _⟩ => ⟨S1x4x8x512, .f32⟩
  | .local _ .vmem, ⟨5, _⟩ => ⟨S1x4x8x512, .f32⟩
  | .local _ .vmem, ⟨6, _⟩ => ⟨S1x512x4x1024, .i8⟩
  | .local _ .vmem, ⟨7, _⟩ => ⟨S1x512x4x1024, .i8⟩
  | .local _ .vmem, ⟨8, _⟩ => ⟨S1x4x32x512, .f32⟩
  | .local _ .vmem, ⟨9, _⟩ => ⟨S1x4x32x512, .f32⟩
  | .local _ .vmem, ⟨10, _⟩ => ⟨S4x256x256, .bf16⟩
  | .local _ .vmem, ⟨11, _⟩ => ⟨S4x1024x128, .bf16⟩
  | .local _ .vmem, ⟨12, _⟩ => ⟨S4x288x128, .i32⟩
  | .local _ .vmem, ⟨13, _⟩ => ⟨S4x8x32x128, .i32⟩
  | .local _ .vmem, ⟨14, _⟩ => ⟨S4x4x256x512, .bf16⟩
  | .local _ .vmem, ⟨15, _⟩ => ⟨S4x4x2x128x128, .i32⟩
  | .local _ .vmem, ⟨16, _⟩ => ⟨S4x4x72x128, .f32⟩
  | _, _ => ⟨S28x3072x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![28, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c4_i32_12 : BitVec 32 := 4#32
  let v7 : BitVec 32 := Scalar.addi c0_i32_11 c4_i32_12
  let c1_i32_13 : BitVec 32 := 1#32
  ⟨c0_i32_11, v7, c1_i32_13⟩
def k0_off1 (k0_t1 : Fin k0_t1_loop.trips) (c0_i32_15 : BitVec 32) : Fin 4 → Nat :=
  let c0 : Index := 0#32
  let c2_i32 : BitVec 32 := 2#32
  let c0_i32_11 : BitVec 32 := 0#32
  let c1_i32_13 : BitVec 32 := 1#32
  let arg14 : BitVec 32 := Scf.iv c0_i32_11 c1_i32_13 k0_t1
  let v8 : BitVec 32 := Scalar.muli c2_i32 arg14
  let v9 : BitVec 32 := Scalar.addi v8 c0_i32_15
  let v10 : Index := Scalar.indexCast v9
  let c0_16 : Index := 0#32
  let c0_17 : Index := 0#32
  ![0, v10.toNat, 0, 0]
def k0_off2 (k0_t1 : Fin k0_t1_loop.trips) (c0_i32_15 : BitVec 32) : Fin 4 → Nat :=
  let c0_18 : Index := 0#32
  let c2_i32 : BitVec 32 := 2#32
  let c0_i32_11 : BitVec 32 := 0#32
  let c1_i32_13 : BitVec 32 := 1#32
  let arg14 : BitVec 32 := Scf.iv c0_i32_11 c1_i32_13 k0_t1
  let v8 : BitVec 32 := Scalar.muli c2_i32 arg14
  let v9 : BitVec 32 := Scalar.addi v8 c0_i32_15
  let v13 : Index := Scalar.indexCast v9
  let c1 : Index := 1#32
  let c0_19 : Index := 0#32
  ![0, v13.toNat, 1, 0]
def k0_off3 (k0_t1 : Fin k0_t1_loop.trips) : Fin 3 → Nat :=
  let c0_i32_11 : BitVec 32 := 0#32
  let c1_i32_13 : BitVec 32 := 1#32
  let arg14 : BitVec 32 := Scf.iv c0_i32_11 c1_i32_13 k0_t1
  let v17 : Index := Scalar.indexCast arg14
  let c0_20 : Index := 0#32
  let c0_21 : Index := 0#32
  ![v17.toNat, 0, 0]
def k0_off4 (k0_t1 : Fin k0_t1_loop.trips) : Fin 3 → Nat :=
  let c0_i32_11 : BitVec 32 := 0#32
  let c1_i32_13 : BitVec 32 := 1#32
  let arg14 : BitVec 32 := Scf.iv c0_i32_11 c1_i32_13 k0_t1
  let v22 : Index := Scalar.indexCast arg14
  let c64 : Index := 64#32
  let c0_22 : Index := 0#32
  ![v22.toNat, 64, 0]
def k0_off5 (k0_t1 : Fin k0_t1_loop.trips) : Fin 3 → Nat :=
  let c0_i32_11 : BitVec 32 := 0#32
  let c1_i32_13 : BitVec 32 := 1#32
  let arg14 : BitVec 32 := Scf.iv c0_i32_11 c1_i32_13 k0_t1
  let v26 : Index := Scalar.indexCast arg14
  let c0_23 : Index := 0#32
  let c128 : Index := 128#32
  ![v26.toNat, 0, 128]
def k0_off6 (k0_t1 : Fin k0_t1_loop.trips) : Fin 3 → Nat :=
  let c0_i32_11 : BitVec 32 := 0#32
  let c1_i32_13 : BitVec 32 := 1#32
  let arg14 : BitVec 32 := Scf.iv c0_i32_11 c1_i32_13 k0_t1
  let v39 : Index := Scalar.indexCast arg14
  let c128_32 : Index := 128#32
  let c128_33 : Index := 128#32
  ![v39.toNat, 128, 128]
def k0_off7 (k0_t1 : Fin k0_t1_loop.trips) : Fin 3 → Nat :=
  let c0_i32_11 : BitVec 32 := 0#32
  let c1_i32_13 : BitVec 32 := 1#32
  let arg14 : BitVec 32 := Scf.iv c0_i32_11 c1_i32_13 k0_t1
  let v44 : Index := Scalar.indexCast arg14
  let c192 : Index := 192#32
  let c128_34 : Index := 128#32
  ![v44.toNat, 192, 128]
def k0_off8 (k0_t1 : Fin k0_t1_loop.trips) : Fin 3 → Nat :=
  let c0_i32_11 : BitVec 32 := 0#32
  let c1_i32_13 : BitVec 32 := 1#32
  let arg14 : BitVec 32 := Scf.iv c0_i32_11 c1_i32_13 k0_t1
  let v48 : Index := Scalar.indexCast arg14
  let c128_35 : Index := 128#32
  let c0_36 : Index := 0#32
  ![v48.toNat, 128, 0]
@[reducible] def k0_t2_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t2 : Fin k0_t2_loop.trips) : BitVec 32 :=
  let c0_i32_1 : BitVec 32 := 0#32
  let c1_i32 : BitVec 32 := 1#32
  let arg14 : BitVec 32 := Scf.iv c0_i32_1 c1_i32 k0_t2
  let c128_i32 : BitVec 32 := 128#32
  let v6 : BitVec 32 := Scalar.muli arg14 c128_i32
  v6
@[reducible] def k0_t3_loop : Scf.Loop 32 :=
  let c0_i32_11 : BitVec 32 := 0#32
  let c8_i32 : BitVec 32 := 8#32
  let v8 : BitVec 32 := Scalar.addi c0_i32_11 c8_i32
  let c1_i32_12 : BitVec 32 := 1#32
  ⟨c0_i32_11, v8, c1_i32_12⟩
def k0_mult2 (k0_t3 : Fin k0_t3_loop.trips) : BitVec 32 :=
  let c0_i32_11 : BitVec 32 := 0#32
  let c1_i32_12 : BitVec 32 := 1#32
  let arg15 : BitVec 32 := Scf.iv c0_i32_11 c1_i32_12 k0_t3
  let c128_i32_18 : BitVec 32 := 128#32
  let v10 : BitVec 32 := Scalar.muli arg15 c128_i32_18
  v10
def k0_off9 (k0_t2 : Fin k0_t2_loop.trips) (k0_t3 : Fin k0_t3_loop.trips) : Fin 3 → Nat :=
  let c0 : Index := 0#32
  let c0_i32_1 : BitVec 32 := 0#32
  let c1_i32 : BitVec 32 := 1#32
  let arg14 : BitVec 32 := Scf.iv c0_i32_1 c1_i32 k0_t2
  let c128_i32 : BitVec 32 := 128#32
  let v6 : BitVec 32 := Scalar.muli arg14 c128_i32
  let v7 : BitVec 32 := v6
  let v12 : Index := Scalar.indexCast v7
  let c0_i32_11 : BitVec 32 := 0#32
  let c1_i32_12 : BitVec 32 := 1#32
  let arg15 : BitVec 32 := Scf.iv c0_i32_11 c1_i32_12 k0_t3
  let c128_i32_18 : BitVec 32 := 128#32
  let v10 : BitVec 32 := Scalar.muli arg15 c128_i32_18
  let v11 : BitVec 32 := v10
  let v13 : Index := Scalar.indexCast v11
  ![0, v12.toNat, v13.toNat]
def k0_off10 (k0_t2 : Fin k0_t2_loop.trips) (k0_t3 : Fin k0_t3_loop.trips) : Fin 3 → Nat :=
  let c0_i32_1 : BitVec 32 := 0#32
  let c1_i32 : BitVec 32 := 1#32
  let arg14 : BitVec 32 := Scf.iv c0_i32_1 c1_i32 k0_t2
  let v17 : Index := Scalar.indexCast arg14
  let c0_i32_11 : BitVec 32 := 0#32
  let c1_i32_12 : BitVec 32 := 1#32
  let arg15 : BitVec 32 := Scf.iv c0_i32_11 c1_i32_12 k0_t3
  let c128_i32_18 : BitVec 32 := 128#32
  let v10 : BitVec 32 := Scalar.muli arg15 c128_i32_18
  let v11 : BitVec 32 := v10
  let v18 : Index := Scalar.indexCast v11
  let c0_19 : Index := 0#32
  ![v17.toNat, v18.toNat, 0]
def k0_off11 (k0_t2 : Fin k0_t2_loop.trips) (k0_t3 : Fin k0_t3_loop.trips) (c0_i32_21 : BitVec 32) : Fin 3 → Nat :=
  let c0_i32_1 : BitVec 32 := 0#32
  let c1_i32 : BitVec 32 := 1#32
  let arg14 : BitVec 32 := Scf.iv c0_i32_1 c1_i32 k0_t2
  let v30 : Index := Scalar.indexCast arg14
  let c0_i32_11 : BitVec 32 := 0#32
  let c1_i32_12 : BitVec 32 := 1#32
  let arg15 : BitVec 32 := Scf.iv c0_i32_11 c1_i32_12 k0_t3
  let c4_i32_20 : BitVec 32 := 4#32
  let v26 : BitVec 32 := Scalar.muli arg15 c4_i32_20
  let v27 : BitVec 32 := Scalar.addi v26 c0_i32_21
  let c9_i32 : BitVec 32 := 9#32
  let v29 : BitVec 32 := Scalar.muli v27 c9_i32
  let v31 : Index := Scalar.indexCast v29
  let c0_22 : Index := 0#32
  ![v30.toNat, v31.toNat, 0]
@[reducible] def k0_t4_loop : Scf.Loop 32 :=
  let c0_i32_14 : BitVec 32 := 0#32
  let c4_i32_15 : BitVec 32 := 4#32
  let v9 : BitVec 32 := Scalar.addi c0_i32_14 c4_i32_15
  let c1_i32_16 : BitVec 32 := 1#32
  ⟨c0_i32_14, v9, c1_i32_16⟩
def k0_off12 (k0_t2 : Fin k0_t2_loop.trips) (k0_t4 : Fin k0_t4_loop.trips) : Fin 3 → Nat :=
  let c0_i32_1 : BitVec 32 := 0#32
  let c1_i32 : BitVec 32 := 1#32
  let arg14 : BitVec 32 := Scf.iv c0_i32_1 c1_i32 k0_t2
  let v12 : Index := Scalar.indexCast arg14
  let c0_i32_14 : BitVec 32 := 0#32
  let c1_i32_16 : BitVec 32 := 1#32
  let arg15 : BitVec 32 := Scf.iv c0_i32_14 c1_i32_16 k0_t4
  let c8_i32_18 : BitVec 32 := 8#32
  let v10 : BitVec 32 := Scalar.muli arg15 c8_i32_18
  let c9_i32 : BitVec 32 := 9#32
  let v11 : BitVec 32 := Scalar.muli v10 c9_i32
  let v13 : Index := Scalar.indexCast v11
  let c0 : Index := 0#32
  ![v12.toNat, v13.toNat, 0]
def k0_off13 (k0_t2 : Fin k0_t2_loop.trips) (k0_t4 : Fin k0_t4_loop.trips) (c1_i32_19 : BitVec 32) : Fin 3 → Nat :=
  let c0_i32_1 : BitVec 32 := 0#32
  let c1_i32 : BitVec 32 := 1#32
  let arg14 : BitVec 32 := Scf.iv c0_i32_1 c1_i32 k0_t2
  let v18 : Index := Scalar.indexCast arg14
  let c0_i32_14 : BitVec 32 := 0#32
  let c1_i32_16 : BitVec 32 := 1#32
  let arg15 : BitVec 32 := Scf.iv c0_i32_14 c1_i32_16 k0_t4
  let c8_i32_18 : BitVec 32 := 8#32
  let v10 : BitVec 32 := Scalar.muli arg15 c8_i32_18
  let c9_i32 : BitVec 32 := 9#32
  let v11 : BitVec 32 := Scalar.muli v10 c9_i32
  let v17 : BitVec 32 := Scalar.addi v11 c1_i32_19
  let v19 : Index := Scalar.indexCast v17
  let c0_20 : Index := 0#32
  ![v18.toNat, v19.toNat, 0]
def k0_mult3 (k0_t4 : Fin k0_t4_loop.trips) : BitVec 32 :=
  let c0_i32_14 : BitVec 32 := 0#32
  let c1_i32_16 : BitVec 32 := 1#32
  let arg15 : BitVec 32 := Scf.iv c0_i32_14 c1_i32_16 k0_t4
  let c8_i32_32 : BitVec 32 := 8#32
  let v87 : BitVec 32 := Scalar.muli arg15 c8_i32_32
  v87
def k0_off14 (k0_t2 : Fin k0_t2_loop.trips) (k0_t4 : Fin k0_t4_loop.trips) : Fin 4 → Nat :=
  let c0_33 : Index := 0#32
  let c0_34 : Index := 0#32
  let c0_i32_14 : BitVec 32 := 0#32
  let c1_i32_16 : BitVec 32 := 1#32
  let arg15 : BitVec 32 := Scf.iv c0_i32_14 c1_i32_16 k0_t4
  let c8_i32_32 : BitVec 32 := 8#32
  let v87 : BitVec 32 := Scalar.muli arg15 c8_i32_32
  let v88 : BitVec 32 := v87
  let v89 : Index := Scalar.indexCast v88
  let c0_i32_1 : BitVec 32 := 0#32
  let c1_i32 : BitVec 32 := 1#32
  let arg14 : BitVec 32 := Scf.iv c0_i32_1 c1_i32 k0_t2
  let c128_i32 : BitVec 32 := 128#32
  let v6 : BitVec 32 := Scalar.muli arg14 c128_i32
  let v7 : BitVec 32 := v6
  let v90 : Index := Scalar.indexCast v7
  ![0, 0, v89.toNat, v90.toNat]
def k0_mult4 (k0_t4 : Fin k0_t4_loop.trips) : BitVec 32 :=
  let c0_i32_14 : BitVec 32 := 0#32
  let c1_i32_16 : BitVec 32 := 1#32
  let arg15 : BitVec 32 := Scf.iv c0_i32_14 c1_i32_16 k0_t4
  let c8_i32_38 : BitVec 32 := 8#32
  let v100 : BitVec 32 := Scalar.muli arg15 c8_i32_38
  v100
def k0_off15 (k0_t2 : Fin k0_t2_loop.trips) (k0_t4 : Fin k0_t4_loop.trips) : Fin 4 → Nat :=
  let c0_39 : Index := 0#32
  let c1 : Index := 1#32
  let c0_i32_14 : BitVec 32 := 0#32
  let c1_i32_16 : BitVec 32 := 1#32
  let arg15 : BitVec 32 := Scf.iv c0_i32_14 c1_i32_16 k0_t4
  let c8_i32_38 : BitVec 32 := 8#32
  let v100 : BitVec 32 := Scalar.muli arg15 c8_i32_38
  let v101 : BitVec 32 := v100
  let v102 : Index := Scalar.indexCast v101
  let c0_i32_1 : BitVec 32 := 0#32
  let c1_i32 : BitVec 32 := 1#32
  let arg14 : BitVec 32 := Scf.iv c0_i32_1 c1_i32 k0_t2
  let c128_i32 : BitVec 32 := 128#32
  let v6 : BitVec 32 := Scalar.muli arg14 c128_i32
  let v7 : BitVec 32 := v6
  let v103 : Index := Scalar.indexCast v7
  ![0, 1, v102.toNat, v103.toNat]
def k0_mult5 (k0_t4 : Fin k0_t4_loop.trips) : BitVec 32 :=
  let c0_i32_14 : BitVec 32 := 0#32
  let c1_i32_16 : BitVec 32 := 1#32
  let arg15 : BitVec 32 := Scf.iv c0_i32_14 c1_i32_16 k0_t4
  let c8_i32_43 : BitVec 32 := 8#32
  let v113 : BitVec 32 := Scalar.muli arg15 c8_i32_43
  v113
def k0_off16 (k0_t2 : Fin k0_t2_loop.trips) (k0_t4 : Fin k0_t4_loop.trips) : Fin 4 → Nat :=
  let c0_44 : Index := 0#32
  let c2 : Index := 2#32
  let c0_i32_14 : BitVec 32 := 0#32
  let c1_i32_16 : BitVec 32 := 1#32
  let arg15 : BitVec 32 := Scf.iv c0_i32_14 c1_i32_16 k0_t4
  let c8_i32_43 : BitVec 32 := 8#32
  let v113 : BitVec 32 := Scalar.muli arg15 c8_i32_43
  let v114 : BitVec 32 := v113
  let v115 : Index := Scalar.indexCast v114
  let c0_i32_1 : BitVec 32 := 0#32
  let c1_i32 : BitVec 32 := 1#32
  let arg14 : BitVec 32 := Scf.iv c0_i32_1 c1_i32 k0_t2
  let c128_i32 : BitVec 32 := 128#32
  let v6 : BitVec 32 := Scalar.muli arg14 c128_i32
  let v7 : BitVec 32 := v6
  let v116 : Index := Scalar.indexCast v7
  ![0, 2, v115.toNat, v116.toNat]
def k0_mult6 (k0_t4 : Fin k0_t4_loop.trips) : BitVec 32 :=
  let c0_i32_14 : BitVec 32 := 0#32
  let c1_i32_16 : BitVec 32 := 1#32
  let arg15 : BitVec 32 := Scf.iv c0_i32_14 c1_i32_16 k0_t4
  let c8_i32_48 : BitVec 32 := 8#32
  let v126 : BitVec 32 := Scalar.muli arg15 c8_i32_48
  v126
def k0_off17 (k0_t2 : Fin k0_t2_loop.trips) (k0_t4 : Fin k0_t4_loop.trips) : Fin 4 → Nat :=
  let c0_49 : Index := 0#32
  let c3 : Index := 3#32
  let c0_i32_14 : BitVec 32 := 0#32
  let c1_i32_16 : BitVec 32 := 1#32
  let arg15 : BitVec 32 := Scf.iv c0_i32_14 c1_i32_16 k0_t4
  let c8_i32_48 : BitVec 32 := 8#32
  let v126 : BitVec 32 := Scalar.muli arg15 c8_i32_48
  let v127 : BitVec 32 := v126
  let v128 : Index := Scalar.indexCast v127
  let c0_i32_1 : BitVec 32 := 0#32
  let c1_i32 : BitVec 32 := 1#32
  let arg14 : BitVec 32 := Scf.iv c0_i32_1 c1_i32 k0_t2
  let c128_i32 : BitVec 32 := 128#32
  let v6 : BitVec 32 := Scalar.muli arg14 c128_i32
  let v7 : BitVec 32 := v6
  let v129 : Index := Scalar.indexCast v7
  ![0, 3, v128.toNat, v129.toNat]
def k0_mult7 (k0_t4 : Fin k0_t4_loop.trips) : BitVec 32 :=
  let c0_i32_14 : BitVec 32 := 0#32
  let c1_i32_16 : BitVec 32 := 1#32
  let arg15 : BitVec 32 := Scf.iv c0_i32_14 c1_i32_16 k0_t4
  let c8_i32_50 : BitVec 32 := 8#32
  let v135 : BitVec 32 := Scalar.muli arg15 c8_i32_50
  v135
def k0_off18 (k0_t2 : Fin k0_t2_loop.trips) (k0_t4 : Fin k0_t4_loop.trips) : Fin 4 → Nat :=
  let c0_i32_1 : BitVec 32 := 0#32
  let c1_i32 : BitVec 32 := 1#32
  let arg14 : BitVec 32 := Scf.iv c0_i32_1 c1_i32 k0_t2
  let v140 : Index := Scalar.indexCast arg14
  let c0_52 : Index := 0#32
  let c0_i32_14 : BitVec 32 := 0#32
  let c1_i32_16 : BitVec 32 := 1#32
  let arg15 : BitVec 32 := Scf.iv c0_i32_14 c1_i32_16 k0_t4
  let c8_i32_50 : BitVec 32 := 8#32
  let v135 : BitVec 32 := Scalar.muli arg15 c8_i32_50
  let v136 : BitVec 32 := v135
  let v141 : Index := Scalar.indexCast v136
  let c0_53 : Index := 0#32
  ![v140.toNat, 0, v141.toNat, 0]
def k0_off19 (k0_t2 : Fin k0_t2_loop.trips) (k0_t4 : Fin k0_t4_loop.trips) : Fin 4 → Nat :=
  let c0_i32_1 : BitVec 32 := 0#32
  let c1_i32 : BitVec 32 := 1#32
  let arg14 : BitVec 32 := Scf.iv c0_i32_1 c1_i32 k0_t2
  let v148 : Index := Scalar.indexCast arg14
  let c4 : Index := 4#32
  let c0_i32_14 : BitVec 32 := 0#32
  let c1_i32_16 : BitVec 32 := 1#32
  let arg15 : BitVec 32 := Scf.iv c0_i32_14 c1_i32_16 k0_t4
  let c8_i32_50 : BitVec 32 := 8#32
  let v135 : BitVec 32 := Scalar.muli arg15 c8_i32_50
  let v136 : BitVec 32 := v135
  let v149 : Index := Scalar.indexCast v136
  let c0_55 : Index := 0#32
  ![v148.toNat, 4, v149.toNat, 0]
def k0_mult8 (k0_t4 : Fin k0_t4_loop.trips) : BitVec 32 :=
  let c0_i32_14 : BitVec 32 := 0#32
  let c1_i32_16 : BitVec 32 := 1#32
  let arg15 : BitVec 32 := Scf.iv c0_i32_14 c1_i32_16 k0_t4
  let c8_i32_56 : BitVec 32 := 8#32
  let v153 : BitVec 32 := Scalar.muli arg15 c8_i32_56
  v153
def k0_off20 (k0_t2 : Fin k0_t2_loop.trips) (k0_t4 : Fin k0_t4_loop.trips) : Fin 4 → Nat :=
  let c0_i32_1 : BitVec 32 := 0#32
  let c1_i32 : BitVec 32 := 1#32
  let arg14 : BitVec 32 := Scf.iv c0_i32_1 c1_i32 k0_t2
  let v158 : Index := Scalar.indexCast arg14
  let c1_58 : Index := 1#32
  let c0_i32_14 : BitVec 32 := 0#32
  let c1_i32_16 : BitVec 32 := 1#32
  let arg15 : BitVec 32 := Scf.iv c0_i32_14 c1_i32_16 k0_t4
  let c8_i32_56 : BitVec 32 := 8#32
  let v153 : BitVec 32 := Scalar.muli arg15 c8_i32_56
  let v154 : BitVec 32 := v153
  let v159 : Index := Scalar.indexCast v154
  let c0_59 : Index := 0#32
  ![v158.toNat, 1, v159.toNat, 0]
def k0_off21 (k0_t2 : Fin k0_t2_loop.trips) (k0_t4 : Fin k0_t4_loop.trips) : Fin 4 → Nat :=
  let c0_i32_1 : BitVec 32 := 0#32
  let c1_i32 : BitVec 32 := 1#32
  let arg14 : BitVec 32 := Scf.iv c0_i32_1 c1_i32 k0_t2
  let v166 : Index := Scalar.indexCast arg14
  let c5 : Index := 5#32
  let c0_i32_14 : BitVec 32 := 0#32
  let c1_i32_16 : BitVec 32 := 1#32
  let arg15 : BitVec 32 := Scf.iv c0_i32_14 c1_i32_16 k0_t4
  let c8_i32_56 : BitVec 32 := 8#32
  let v153 : BitVec 32 := Scalar.muli arg15 c8_i32_56
  let v154 : BitVec 32 := v153
  let v167 : Index := Scalar.indexCast v154
  let c0_61 : Index := 0#32
  ![v166.toNat, 5, v167.toNat, 0]
def k0_mult9 (k0_t4 : Fin k0_t4_loop.trips) : BitVec 32 :=
  let c0_i32_14 : BitVec 32 := 0#32
  let c1_i32_16 : BitVec 32 := 1#32
  let arg15 : BitVec 32 := Scf.iv c0_i32_14 c1_i32_16 k0_t4
  let c8_i32_62 : BitVec 32 := 8#32
  let v171 : BitVec 32 := Scalar.muli arg15 c8_i32_62
  v171
def k0_off22 (k0_t2 : Fin k0_t2_loop.trips) (k0_t4 : Fin k0_t4_loop.trips) : Fin 4 → Nat :=
  let c0_i32_1 : BitVec 32 := 0#32
  let c1_i32 : BitVec 32 := 1#32
  let arg14 : BitVec 32 := Scf.iv c0_i32_1 c1_i32 k0_t2
  let v176 : Index := Scalar.indexCast arg14
  let c2_64 : Index := 2#32
  let c0_i32_14 : BitVec 32 := 0#32
  let c1_i32_16 : BitVec 32 := 1#32
  let arg15 : BitVec 32 := Scf.iv c0_i32_14 c1_i32_16 k0_t4
  let c8_i32_62 : BitVec 32 := 8#32
  let v171 : BitVec 32 := Scalar.muli arg15 c8_i32_62
  let v172 : BitVec 32 := v171
  let v177 : Index := Scalar.indexCast v172
  let c0_65 : Index := 0#32
  ![v176.toNat, 2, v177.toNat, 0]
def k0_off23 (k0_t2 : Fin k0_t2_loop.trips) (k0_t4 : Fin k0_t4_loop.trips) : Fin 4 → Nat :=
  let c0_i32_1 : BitVec 32 := 0#32
  let c1_i32 : BitVec 32 := 1#32
  let arg14 : BitVec 32 := Scf.iv c0_i32_1 c1_i32 k0_t2
  let v184 : Index := Scalar.indexCast arg14
  let c6 : Index := 6#32
  let c0_i32_14 : BitVec 32 := 0#32
  let c1_i32_16 : BitVec 32 := 1#32
  let arg15 : BitVec 32 := Scf.iv c0_i32_14 c1_i32_16 k0_t4
  let c8_i32_62 : BitVec 32 := 8#32
  let v171 : BitVec 32 := Scalar.muli arg15 c8_i32_62
  let v172 : BitVec 32 := v171
  let v185 : Index := Scalar.indexCast v172
  let c0_67 : Index := 0#32
  ![v184.toNat, 6, v185.toNat, 0]
def k0_mult10 (k0_t4 : Fin k0_t4_loop.trips) : BitVec 32 :=
  let c0_i32_14 : BitVec 32 := 0#32
  let c1_i32_16 : BitVec 32 := 1#32
  let arg15 : BitVec 32 := Scf.iv c0_i32_14 c1_i32_16 k0_t4
  let c8_i32_68 : BitVec 32 := 8#32
  let v189 : BitVec 32 := Scalar.muli arg15 c8_i32_68
  v189
def k0_off24 (k0_t2 : Fin k0_t2_loop.trips) (k0_t4 : Fin k0_t4_loop.trips) : Fin 4 → Nat :=
  let c0_i32_1 : BitVec 32 := 0#32
  let c1_i32 : BitVec 32 := 1#32
  let arg14 : BitVec 32 := Scf.iv c0_i32_1 c1_i32 k0_t2
  let v194 : Index := Scalar.indexCast arg14
  let c3_70 : Index := 3#32
  let c0_i32_14 : BitVec 32 := 0#32
  let c1_i32_16 : BitVec 32 := 1#32
  let arg15 : BitVec 32 := Scf.iv c0_i32_14 c1_i32_16 k0_t4
  let c8_i32_68 : BitVec 32 := 8#32
  let v189 : BitVec 32 := Scalar.muli arg15 c8_i32_68
  let v190 : BitVec 32 := v189
  let v195 : Index := Scalar.indexCast v190
  let c0_71 : Index := 0#32
  ![v194.toNat, 3, v195.toNat, 0]
def k0_off25 (k0_t2 : Fin k0_t2_loop.trips) (k0_t4 : Fin k0_t4_loop.trips) : Fin 4 → Nat :=
  let c0_i32_1 : BitVec 32 := 0#32
  let c1_i32 : BitVec 32 := 1#32
  let arg14 : BitVec 32 := Scf.iv c0_i32_1 c1_i32 k0_t2
  let v202 : Index := Scalar.indexCast arg14
  let c7 : Index := 7#32
  let c0_i32_14 : BitVec 32 := 0#32
  let c1_i32_16 : BitVec 32 := 1#32
  let arg15 : BitVec 32 := Scf.iv c0_i32_14 c1_i32_16 k0_t4
  let c8_i32_68 : BitVec 32 := 8#32
  let v189 : BitVec 32 := Scalar.muli arg15 c8_i32_68
  let v190 : BitVec 32 := v189
  let v203 : Index := Scalar.indexCast v190
  let c0_73 : Index := 0#32
  ![v202.toNat, 7, v203.toNat, 0]
@[reducible] def k0_t5_loop : Scf.Loop 32 :=
  let c0_i32_3 : BitVec 32 := 0#32
  let c4_i32_4 : BitVec 32 := 4#32
  let v4 : BitVec 32 := Scalar.addi c0_i32_3 c4_i32_4
  let c1_i32_5 : BitVec 32 := 1#32
  ⟨c0_i32_3, v4, c1_i32_5⟩
@[reducible] def k0_t6_loop : Scf.Loop 32 :=
  let c0_i32_11 : BitVec 32 := 0#32
  let c4_i32_12 : BitVec 32 := 4#32
  let v6 : BitVec 32 := Scalar.addi c0_i32_11 c4_i32_12
  let c1_i32_13 : BitVec 32 := 1#32
  ⟨c0_i32_11, v6, c1_i32_13⟩
def k0_mult11 (k0_t6 : Fin k0_t6_loop.trips) : BitVec 32 :=
  let c0_i32_11 : BitVec 32 := 0#32
  let c1_i32_13 : BitVec 32 := 1#32
  let arg15 : BitVec 32 := Scf.iv c0_i32_11 c1_i32_13 k0_t6
  let c128_i32 : BitVec 32 := 128#32
  let v8 : BitVec 32 := Scalar.muli arg15 c128_i32
  v8
@[reducible] def k0_t7_loop : Scf.Loop 32 :=
  let c0_i32_19 : BitVec 32 := 0#32
  let c2_i32 : BitVec 32 := 2#32
  let v10 : BitVec 32 := Scalar.addi c0_i32_19 c2_i32
  let c1_i32_20 : BitVec 32 := 1#32
  ⟨c0_i32_19, v10, c1_i32_20⟩
@[reducible] def k0_t8_loop : Scf.Loop 32 :=
  let c0_i32_23 : BitVec 32 := 0#32
  let c4_i32_24 : BitVec 32 := 4#32
  let v13 : BitVec 32 := Scalar.addi c0_i32_23 c4_i32_24
  let c1_i32_25 : BitVec 32 := 1#32
  ⟨c0_i32_23, v13, c1_i32_25⟩
def k0_off26 (k0_t5 : Fin k0_t5_loop.trips) (k0_t6 : Fin k0_t6_loop.trips) (k0_t7 : Fin k0_t7_loop.trips) (k0_t8 : Fin k0_t8_loop.trips) : Fin 4 → Nat :=
  let c0_i32_11 : BitVec 32 := 0#32
  let c1_i32_13 : BitVec 32 := 1#32
  let arg15 : BitVec 32 := Scf.iv c0_i32_11 c1_i32_13 k0_t6
  let v31 : Index := Scalar.indexCast arg15
  let c0_32 : Index := 0#32
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c4_i32_31 : BitVec 32 := 4#32
  let v29 : BitVec 32 := Scalar.muli v12 c4_i32_31
  let c0_i32_23 : BitVec 32 := 0#32
  let c1_i32_25 : BitVec 32 := 1#32
  let arg17 : BitVec 32 := Scf.iv c0_i32_23 c1_i32_25 k0_t8
  let v30 : BitVec 32 := Scalar.addi v29 arg17
  let v32 : Index := Scalar.indexCast v30
  let c0_33 : Index := 0#32
  ![v31.toNat, 0, v32.toNat, 0]
def k0_off27 (k0_t5 : Fin k0_t5_loop.trips) (k0_t6 : Fin k0_t6_loop.trips) (k0_t7 : Fin k0_t7_loop.trips) (k0_t8 : Fin k0_t8_loop.trips) : Fin 4 → Nat :=
  let c0_i32_11 : BitVec 32 := 0#32
  let c1_i32_13 : BitVec 32 := 1#32
  let arg15 : BitVec 32 := Scf.iv c0_i32_11 c1_i32_13 k0_t6
  let v37 : Index := Scalar.indexCast arg15
  let c1 : Index := 1#32
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c4_i32_31 : BitVec 32 := 4#32
  let v29 : BitVec 32 := Scalar.muli v12 c4_i32_31
  let c0_i32_23 : BitVec 32 := 0#32
  let c1_i32_25 : BitVec 32 := 1#32
  let arg17 : BitVec 32 := Scf.iv c0_i32_23 c1_i32_25 k0_t8
  let v30 : BitVec 32 := Scalar.addi v29 arg17
  let v38 : Index := Scalar.indexCast v30
  let c0_34 : Index := 0#32
  ![v37.toNat, 1, v38.toNat, 0]
def k0_off28 (k0_t5 : Fin k0_t5_loop.trips) (k0_t6 : Fin k0_t6_loop.trips) (k0_t7 : Fin k0_t7_loop.trips) (k0_t8 : Fin k0_t8_loop.trips) : Fin 4 → Nat :=
  let c0_i32_11 : BitVec 32 := 0#32
  let c1_i32_13 : BitVec 32 := 1#32
  let arg15 : BitVec 32 := Scf.iv c0_i32_11 c1_i32_13 k0_t6
  let v43 : Index := Scalar.indexCast arg15
  let c2 : Index := 2#32
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c4_i32_31 : BitVec 32 := 4#32
  let v29 : BitVec 32 := Scalar.muli v12 c4_i32_31
  let c0_i32_23 : BitVec 32 := 0#32
  let c1_i32_25 : BitVec 32 := 1#32
  let arg17 : BitVec 32 := Scf.iv c0_i32_23 c1_i32_25 k0_t8
  let v30 : BitVec 32 := Scalar.addi v29 arg17
  let v44 : Index := Scalar.indexCast v30
  let c0_35 : Index := 0#32
  ![v43.toNat, 2, v44.toNat, 0]
def k0_off29 (k0_t5 : Fin k0_t5_loop.trips) (k0_t6 : Fin k0_t6_loop.trips) (k0_t7 : Fin k0_t7_loop.trips) (k0_t8 : Fin k0_t8_loop.trips) : Fin 4 → Nat :=
  let c0_i32_11 : BitVec 32 := 0#32
  let c1_i32_13 : BitVec 32 := 1#32
  let arg15 : BitVec 32 := Scf.iv c0_i32_11 c1_i32_13 k0_t6
  let v49 : Index := Scalar.indexCast arg15
  let c3 : Index := 3#32
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c4_i32_31 : BitVec 32 := 4#32
  let v29 : BitVec 32 := Scalar.muli v12 c4_i32_31
  let c0_i32_23 : BitVec 32 := 0#32
  let c1_i32_25 : BitVec 32 := 1#32
  let arg17 : BitVec 32 := Scf.iv c0_i32_23 c1_i32_25 k0_t8
  let v30 : BitVec 32 := Scalar.addi v29 arg17
  let v50 : Index := Scalar.indexCast v30
  let c0_36 : Index := 0#32
  ![v49.toNat, 3, v50.toNat, 0]
def k0_off30 (k0_t5 : Fin k0_t5_loop.trips) (k0_t6 : Fin k0_t6_loop.trips) (k0_t7 : Fin k0_t7_loop.trips) (k0_t8 : Fin k0_t8_loop.trips) : Fin 4 → Nat :=
  let c0_i32_11 : BitVec 32 := 0#32
  let c1_i32_13 : BitVec 32 := 1#32
  let arg15 : BitVec 32 := Scf.iv c0_i32_11 c1_i32_13 k0_t6
  let v55 : Index := Scalar.indexCast arg15
  let c4 : Index := 4#32
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c4_i32_31 : BitVec 32 := 4#32
  let v29 : BitVec 32 := Scalar.muli v12 c4_i32_31
  let c0_i32_23 : BitVec 32 := 0#32
  let c1_i32_25 : BitVec 32 := 1#32
  let arg17 : BitVec 32 := Scf.iv c0_i32_23 c1_i32_25 k0_t8
  let v30 : BitVec 32 := Scalar.addi v29 arg17
  let v56 : Index := Scalar.indexCast v30
  let c0_37 : Index := 0#32
  ![v55.toNat, 4, v56.toNat, 0]
def k0_off31 (k0_t5 : Fin k0_t5_loop.trips) (k0_t6 : Fin k0_t6_loop.trips) (k0_t7 : Fin k0_t7_loop.trips) (k0_t8 : Fin k0_t8_loop.trips) : Fin 4 → Nat :=
  let c0_i32_11 : BitVec 32 := 0#32
  let c1_i32_13 : BitVec 32 := 1#32
  let arg15 : BitVec 32 := Scf.iv c0_i32_11 c1_i32_13 k0_t6
  let v61 : Index := Scalar.indexCast arg15
  let c5 : Index := 5#32
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c4_i32_31 : BitVec 32 := 4#32
  let v29 : BitVec 32 := Scalar.muli v12 c4_i32_31
  let c0_i32_23 : BitVec 32 := 0#32
  let c1_i32_25 : BitVec 32 := 1#32
  let arg17 : BitVec 32 := Scf.iv c0_i32_23 c1_i32_25 k0_t8
  let v30 : BitVec 32 := Scalar.addi v29 arg17
  let v62 : Index := Scalar.indexCast v30
  let c0_38 : Index := 0#32
  ![v61.toNat, 5, v62.toNat, 0]
def k0_off32 (k0_t5 : Fin k0_t5_loop.trips) (k0_t6 : Fin k0_t6_loop.trips) (k0_t7 : Fin k0_t7_loop.trips) (k0_t8 : Fin k0_t8_loop.trips) : Fin 4 → Nat :=
  let c0_i32_11 : BitVec 32 := 0#32
  let c1_i32_13 : BitVec 32 := 1#32
  let arg15 : BitVec 32 := Scf.iv c0_i32_11 c1_i32_13 k0_t6
  let v67 : Index := Scalar.indexCast arg15
  let c6 : Index := 6#32
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c4_i32_31 : BitVec 32 := 4#32
  let v29 : BitVec 32 := Scalar.muli v12 c4_i32_31
  let c0_i32_23 : BitVec 32 := 0#32
  let c1_i32_25 : BitVec 32 := 1#32
  let arg17 : BitVec 32 := Scf.iv c0_i32_23 c1_i32_25 k0_t8
  let v30 : BitVec 32 := Scalar.addi v29 arg17
  let v68 : Index := Scalar.indexCast v30
  let c0_39 : Index := 0#32
  ![v67.toNat, 6, v68.toNat, 0]
def k0_off33 (k0_t5 : Fin k0_t5_loop.trips) (k0_t6 : Fin k0_t6_loop.trips) (k0_t7 : Fin k0_t7_loop.trips) (k0_t8 : Fin k0_t8_loop.trips) : Fin 4 → Nat :=
  let c0_i32_11 : BitVec 32 := 0#32
  let c1_i32_13 : BitVec 32 := 1#32
  let arg15 : BitVec 32 := Scf.iv c0_i32_11 c1_i32_13 k0_t6
  let v73 : Index := Scalar.indexCast arg15
  let c7 : Index := 7#32
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c4_i32_31 : BitVec 32 := 4#32
  let v29 : BitVec 32 := Scalar.muli v12 c4_i32_31
  let c0_i32_23 : BitVec 32 := 0#32
  let c1_i32_25 : BitVec 32 := 1#32
  let arg17 : BitVec 32 := Scf.iv c0_i32_23 c1_i32_25 k0_t8
  let v30 : BitVec 32 := Scalar.addi v29 arg17
  let v74 : Index := Scalar.indexCast v30
  let c0_40 : Index := 0#32
  ![v73.toNat, 7, v74.toNat, 0]
def k0_mult12 (k0_t5 : Fin k0_t5_loop.trips) (k0_t7 : Fin k0_t7_loop.trips) (k0_t8 : Fin k0_t8_loop.trips) : BitVec 32 :=
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c128_i32_41 : BitVec 32 := 128#32
  let v79 : BitVec 32 := Scalar.muli v12 c128_i32_41
  let c0_i32_23 : BitVec 32 := 0#32
  let c1_i32_25 : BitVec 32 := 1#32
  let arg17 : BitVec 32 := Scf.iv c0_i32_23 c1_i32_25 k0_t8
  let c32_i32 : BitVec 32 := 32#32
  let v80 : BitVec 32 := Scalar.muli arg17 c32_i32
  let v81 : BitVec 32 := Scalar.addi v79 v80
  let c0_i32_42 : BitVec 32 := 0#32
  let v82 : BitVec 32 := Scalar.addi v81 c0_i32_42
  v82
def k0_off34 (k0_t5 : Fin k0_t5_loop.trips) (k0_t6 : Fin k0_t6_loop.trips) (k0_t7 : Fin k0_t7_loop.trips) (k0_t8 : Fin k0_t8_loop.trips) (c0_i32_42 : BitVec 32) : Fin 3 → Nat :=
  let c0_i32_11 : BitVec 32 := 0#32
  let c1_i32_13 : BitVec 32 := 1#32
  let arg15 : BitVec 32 := Scf.iv c0_i32_11 c1_i32_13 k0_t6
  let v84 : Index := Scalar.indexCast arg15
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c128_i32_41 : BitVec 32 := 128#32
  let v79 : BitVec 32 := Scalar.muli v12 c128_i32_41
  let c0_i32_23 : BitVec 32 := 0#32
  let c1_i32_25 : BitVec 32 := 1#32
  let arg17 : BitVec 32 := Scf.iv c0_i32_23 c1_i32_25 k0_t8
  let c32_i32 : BitVec 32 := 32#32
  let v80 : BitVec 32 := Scalar.muli arg17 c32_i32
  let v81 : BitVec 32 := Scalar.addi v79 v80
  let v82 : BitVec 32 := Scalar.addi v81 c0_i32_42
  let v83 : BitVec 32 := v82
  let v85 : Index := Scalar.indexCast v83
  let c0_43 : Index := 0#32
  ![v84.toNat, v85.toNat, 0]
def k0_mult13 (k0_t7 : Fin k0_t7_loop.trips) (k0_t8 : Fin k0_t8_loop.trips) : BitVec 32 :=
  let c0_i32_19 : BitVec 32 := 0#32
  let c1_i32_20 : BitVec 32 := 1#32
  let arg16 : BitVec 32 := Scf.iv c0_i32_19 c1_i32_20 k0_t7
  let c128_i32_47 : BitVec 32 := 128#32
  let v104 : BitVec 32 := Scalar.muli arg16 c128_i32_47
  let c0_i32_23 : BitVec 32 := 0#32
  let c1_i32_25 : BitVec 32 := 1#32
  let arg17 : BitVec 32 := Scf.iv c0_i32_23 c1_i32_25 k0_t8
  let c32_i32_48 : BitVec 32 := 32#32
  let v105 : BitVec 32 := Scalar.muli arg17 c32_i32_48
  let v106 : BitVec 32 := Scalar.addi v104 v105
  let c0_i32_49 : BitVec 32 := 0#32
  let v107 : BitVec 32 := Scalar.addi v106 c0_i32_49
  v107
def k0_off35 (k0_t5 : Fin k0_t5_loop.trips) (k0_t6 : Fin k0_t6_loop.trips) (k0_t7 : Fin k0_t7_loop.trips) (k0_t8 : Fin k0_t8_loop.trips) (c0_i32_49 : BitVec 32) : Fin 4 → Nat :=
  let c0_50 : Index := 0#32
  let c0_i32_3 : BitVec 32 := 0#32
  let c1_i32_5 : BitVec 32 := 1#32
  let arg14 : BitVec 32 := Scf.iv c0_i32_3 c1_i32_5 k0_t5
  let v109 : Index := Scalar.indexCast arg14
  let c0_i32_19 : BitVec 32 := 0#32
  let c1_i32_20 : BitVec 32 := 1#32
  let arg16 : BitVec 32 := Scf.iv c0_i32_19 c1_i32_20 k0_t7
  let c128_i32_47 : BitVec 32 := 128#32
  let v104 : BitVec 32 := Scalar.muli arg16 c128_i32_47
  let c0_i32_23 : BitVec 32 := 0#32
  let c1_i32_25 : BitVec 32 := 1#32
  let arg17 : BitVec 32 := Scf.iv c0_i32_23 c1_i32_25 k0_t8
  let c32_i32_48 : BitVec 32 := 32#32
  let v105 : BitVec 32 := Scalar.muli arg17 c32_i32_48
  let v106 : BitVec 32 := Scalar.addi v104 v105
  let v107 : BitVec 32 := Scalar.addi v106 c0_i32_49
  let v108 : BitVec 32 := v107
  let v110 : Index := Scalar.indexCast v108
  let c0_i32_11 : BitVec 32 := 0#32
  let c1_i32_13 : BitVec 32 := 1#32
  let arg15 : BitVec 32 := Scf.iv c0_i32_11 c1_i32_13 k0_t6
  let c128_i32 : BitVec 32 := 128#32
  let v8 : BitVec 32 := Scalar.muli arg15 c128_i32
  let v9 : BitVec 32 := v8
  let v111 : Index := Scalar.indexCast v9
  ![0, v109.toNat, v110.toNat, v111.toNat]
def k0_mult14 (k0_t7 : Fin k0_t7_loop.trips) (k0_t8 : Fin k0_t8_loop.trips) : BitVec 32 :=
  let c0_i32_19 : BitVec 32 := 0#32
  let c1_i32_20 : BitVec 32 := 1#32
  let arg16 : BitVec 32 := Scf.iv c0_i32_19 c1_i32_20 k0_t7
  let c128_i32_57 : BitVec 32 := 128#32
  let v140 : BitVec 32 := Scalar.muli arg16 c128_i32_57
  let c0_i32_23 : BitVec 32 := 0#32
  let c1_i32_25 : BitVec 32 := 1#32
  let arg17 : BitVec 32 := Scf.iv c0_i32_23 c1_i32_25 k0_t8
  let c32_i32_58 : BitVec 32 := 32#32
  let v141 : BitVec 32 := Scalar.muli arg17 c32_i32_58
  let v142 : BitVec 32 := Scalar.addi v140 v141
  let c0_i32_59 : BitVec 32 := 0#32
  let v143 : BitVec 32 := Scalar.addi v142 c0_i32_59
  v143
def k0_off36 (k0_t5 : Fin k0_t5_loop.trips) (k0_t6 : Fin k0_t6_loop.trips) (k0_t7 : Fin k0_t7_loop.trips) (k0_t8 : Fin k0_t8_loop.trips) (c0_i32_59 : BitVec 32) : Fin 4 → Nat :=
  let c1_60 : Index := 1#32
  let c0_i32_3 : BitVec 32 := 0#32
  let c1_i32_5 : BitVec 32 := 1#32
  let arg14 : BitVec 32 := Scf.iv c0_i32_3 c1_i32_5 k0_t5
  let v145 : Index := Scalar.indexCast arg14
  let c0_i32_19 : BitVec 32 := 0#32
  let c1_i32_20 : BitVec 32 := 1#32
  let arg16 : BitVec 32 := Scf.iv c0_i32_19 c1_i32_20 k0_t7
  let c128_i32_57 : BitVec 32 := 128#32
  let v140 : BitVec 32 := Scalar.muli arg16 c128_i32_57
  let c0_i32_23 : BitVec 32 := 0#32
  let c1_i32_25 : BitVec 32 := 1#32
  let arg17 : BitVec 32 := Scf.iv c0_i32_23 c1_i32_25 k0_t8
  let c32_i32_58 : BitVec 32 := 32#32
  let v141 : BitVec 32 := Scalar.muli arg17 c32_i32_58
  let v142 : BitVec 32 := Scalar.addi v140 v141
  let v143 : BitVec 32 := Scalar.addi v142 c0_i32_59
  let v144 : BitVec 32 := v143
  let v146 : Index := Scalar.indexCast v144
  let c0_i32_11 : BitVec 32 := 0#32
  let c1_i32_13 : BitVec 32 := 1#32
  let arg15 : BitVec 32 := Scf.iv c0_i32_11 c1_i32_13 k0_t6
  let c128_i32 : BitVec 32 := 128#32
  let v8 : BitVec 32 := Scalar.muli arg15 c128_i32
  let v9 : BitVec 32 := v8
  let v147 : Index := Scalar.indexCast v9
  ![1, v145.toNat, v146.toNat, v147.toNat]
def k0_mult15 (k0_t7 : Fin k0_t7_loop.trips) (k0_t8 : Fin k0_t8_loop.trips) : BitVec 32 :=
  let c0_i32_19 : BitVec 32 := 0#32
  let c1_i32_20 : BitVec 32 := 1#32
  let arg16 : BitVec 32 := Scf.iv c0_i32_19 c1_i32_20 k0_t7
  let c128_i32_67 : BitVec 32 := 128#32
  let v176 : BitVec 32 := Scalar.muli arg16 c128_i32_67
  let c0_i32_23 : BitVec 32 := 0#32
  let c1_i32_25 : BitVec 32 := 1#32
  let arg17 : BitVec 32 := Scf.iv c0_i32_23 c1_i32_25 k0_t8
  let c32_i32_68 : BitVec 32 := 32#32
  let v177 : BitVec 32 := Scalar.muli arg17 c32_i32_68
  let v178 : BitVec 32 := Scalar.addi v176 v177
  let c0_i32_69 : BitVec 32 := 0#32
  let v179 : BitVec 32 := Scalar.addi v178 c0_i32_69
  v179
def k0_off37 (k0_t5 : Fin k0_t5_loop.trips) (k0_t6 : Fin k0_t6_loop.trips) (k0_t7 : Fin k0_t7_loop.trips) (k0_t8 : Fin k0_t8_loop.trips) (c0_i32_69 : BitVec 32) : Fin 4 → Nat :=
  let c2_70 : Index := 2#32
  let c0_i32_3 : BitVec 32 := 0#32
  let c1_i32_5 : BitVec 32 := 1#32
  let arg14 : BitVec 32 := Scf.iv c0_i32_3 c1_i32_5 k0_t5
  let v181 : Index := Scalar.indexCast arg14
  let c0_i32_19 : BitVec 32 := 0#32
  let c1_i32_20 : BitVec 32 := 1#32
  let arg16 : BitVec 32 := Scf.iv c0_i32_19 c1_i32_20 k0_t7
  let c128_i32_67 : BitVec 32 := 128#32
  let v176 : BitVec 32 := Scalar.muli arg16 c128_i32_67
  let c0_i32_23 : BitVec 32 := 0#32
  let c1_i32_25 : BitVec 32 := 1#32
  let arg17 : BitVec 32 := Scf.iv c0_i32_23 c1_i32_25 k0_t8
  let c32_i32_68 : BitVec 32 := 32#32
  let v177 : BitVec 32 := Scalar.muli arg17 c32_i32_68
  let v178 : BitVec 32 := Scalar.addi v176 v177
  let v179 : BitVec 32 := Scalar.addi v178 c0_i32_69
  let v180 : BitVec 32 := v179
  let v182 : Index := Scalar.indexCast v180
  let c0_i32_11 : BitVec 32 := 0#32
  let c1_i32_13 : BitVec 32 := 1#32
  let arg15 : BitVec 32 := Scf.iv c0_i32_11 c1_i32_13 k0_t6
  let c128_i32 : BitVec 32 := 128#32
  let v8 : BitVec 32 := Scalar.muli arg15 c128_i32
  let v9 : BitVec 32 := v8
  let v183 : Index := Scalar.indexCast v9
  ![2, v181.toNat, v182.toNat, v183.toNat]
def k0_mult16 (k0_t7 : Fin k0_t7_loop.trips) (k0_t8 : Fin k0_t8_loop.trips) : BitVec 32 :=
  let c0_i32_19 : BitVec 32 := 0#32
  let c1_i32_20 : BitVec 32 := 1#32
  let arg16 : BitVec 32 := Scf.iv c0_i32_19 c1_i32_20 k0_t7
  let c128_i32_79 : BitVec 32 := 128#32
  let v217 : BitVec 32 := Scalar.muli arg16 c128_i32_79
  let c0_i32_23 : BitVec 32 := 0#32
  let c1_i32_25 : BitVec 32 := 1#32
  let arg17 : BitVec 32 := Scf.iv c0_i32_23 c1_i32_25 k0_t8
  let c32_i32_80 : BitVec 32 := 32#32
  let v218 : BitVec 32 := Scalar.muli arg17 c32_i32_80
  let v219 : BitVec 32 := Scalar.addi v217 v218
  let c0_i32_81 : BitVec 32 := 0#32
  let v220 : BitVec 32 := Scalar.addi v219 c0_i32_81
  v220
def k0_off38 (k0_t5 : Fin k0_t5_loop.trips) (k0_t6 : Fin k0_t6_loop.trips) (k0_t7 : Fin k0_t7_loop.trips) (k0_t8 : Fin k0_t8_loop.trips) (c0_i32_81 : BitVec 32) : Fin 4 → Nat :=
  let c3_82 : Index := 3#32
  let c0_i32_3 : BitVec 32 := 0#32
  let c1_i32_5 : BitVec 32 := 1#32
  let arg14 : BitVec 32 := Scf.iv c0_i32_3 c1_i32_5 k0_t5
  let v222 : Index := Scalar.indexCast arg14
  let c0_i32_19 : BitVec 32 := 0#32
  let c1_i32_20 : BitVec 32 := 1#32
  let arg16 : BitVec 32 := Scf.iv c0_i32_19 c1_i32_20 k0_t7
  let c128_i32_79 : BitVec 32 := 128#32
  let v217 : BitVec 32 := Scalar.muli arg16 c128_i32_79
  let c0_i32_23 : BitVec 32 := 0#32
  let c1_i32_25 : BitVec 32 := 1#32
  let arg17 : BitVec 32 := Scf.iv c0_i32_23 c1_i32_25 k0_t8
  let c32_i32_80 : BitVec 32 := 32#32
  let v218 : BitVec 32 := Scalar.muli arg17 c32_i32_80
  let v219 : BitVec 32 := Scalar.addi v217 v218
  let v220 : BitVec 32 := Scalar.addi v219 c0_i32_81
  let v221 : BitVec 32 := v220
  let v223 : Index := Scalar.indexCast v221
  let c0_i32_11 : BitVec 32 := 0#32
  let c1_i32_13 : BitVec 32 := 1#32
  let arg15 : BitVec 32 := Scf.iv c0_i32_11 c1_i32_13 k0_t6
  let c128_i32 : BitVec 32 := 128#32
  let v8 : BitVec 32 := Scalar.muli arg15 c128_i32
  let v9 : BitVec 32 := v8
  let v224 : Index := Scalar.indexCast v9
  ![3, v222.toNat, v223.toNat, v224.toNat]
def k0_mult17 (k0_t8 : Fin k0_t8_loop.trips) : BitVec 32 :=
  let c0_i32_23 : BitVec 32 := 0#32
  let c1_i32_25 : BitVec 32 := 1#32
  let arg17 : BitVec 32 := Scf.iv c0_i32_23 c1_i32_25 k0_t8
  let c32_i32_87 : BitVec 32 := 32#32
  let v255 : BitVec 32 := Scalar.muli arg17 c32_i32_87
  let c0_i32_88 : BitVec 32 := 0#32
  let v256 : BitVec 32 := Scalar.addi v255 c0_i32_88
  v256
def k0_off39 (k0_t5 : Fin k0_t5_loop.trips) (k0_t6 : Fin k0_t6_loop.trips) (k0_t7 : Fin k0_t7_loop.trips) (k0_t8 : Fin k0_t8_loop.trips) (c0_i32_88 : BitVec 32) : Fin 5 → Nat :=
  let c0_i32_3 : BitVec 32 := 0#32
  let c1_i32_5 : BitVec 32 := 1#32
  let arg14 : BitVec 32 := Scf.iv c0_i32_3 c1_i32_5 k0_t5
  let v258 : Index := Scalar.indexCast arg14
  let c0_i32_11 : BitVec 32 := 0#32
  let c1_i32_13 : BitVec 32 := 1#32
  let arg15 : BitVec 32 := Scf.iv c0_i32_11 c1_i32_13 k0_t6
  let v259 : Index := Scalar.indexCast arg15
  let c0_i32_19 : BitVec 32 := 0#32
  let c1_i32_20 : BitVec 32 := 1#32
  let arg16 : BitVec 32 := Scf.iv c0_i32_19 c1_i32_20 k0_t7
  let v260 : Index := Scalar.indexCast arg16
  let c0_i32_23 : BitVec 32 := 0#32
  let c1_i32_25 : BitVec 32 := 1#32
  let arg17 : BitVec 32 := Scf.iv c0_i32_23 c1_i32_25 k0_t8
  let c32_i32_87 : BitVec 32 := 32#32
  let v255 : BitVec 32 := Scalar.muli arg17 c32_i32_87
  let v256 : BitVec 32 := Scalar.addi v255 c0_i32_88
  let v257 : BitVec 32 := v256
  let v261 : Index := Scalar.indexCast v257
  let c0_89 : Index := 0#32
  ![v258.toNat, v259.toNat, v260.toNat, v261.toNat, 0]
def k0_off40 (k0_t5 : Fin k0_t5_loop.trips) (k0_t6 : Fin k0_t6_loop.trips) (k0_t7 : Fin k0_t7_loop.trips) (k0_t8 : Fin k0_t8_loop.trips) (c0_i32_88 : BitVec 32) : Fin 5 → Nat :=
  let c0_i32_3 : BitVec 32 := 0#32
  let c1_i32_5 : BitVec 32 := 1#32
  let arg14 : BitVec 32 := Scf.iv c0_i32_3 c1_i32_5 k0_t5
  let v266 : Index := Scalar.indexCast arg14
  let c0_i32_11 : BitVec 32 := 0#32
  let c1_i32_13 : BitVec 32 := 1#32
  let arg15 : BitVec 32 := Scf.iv c0_i32_11 c1_i32_13 k0_t6
  let v267 : Index := Scalar.indexCast arg15
  let c0_i32_19 : BitVec 32 := 0#32
  let c1_i32_20 : BitVec 32 := 1#32
  let arg16 : BitVec 32 := Scf.iv c0_i32_19 c1_i32_20 k0_t7
  let v268 : Index := Scalar.indexCast arg16
  let c0_i32_23 : BitVec 32 := 0#32
  let c1_i32_25 : BitVec 32 := 1#32
  let arg17 : BitVec 32 := Scf.iv c0_i32_23 c1_i32_25 k0_t8
  let c32_i32_87 : BitVec 32 := 32#32
  let v255 : BitVec 32 := Scalar.muli arg17 c32_i32_87
  let v256 : BitVec 32 := Scalar.addi v255 c0_i32_88
  let v257 : BitVec 32 := v256
  let c1_i32_90 : BitVec 32 := 1#32
  let v265 : BitVec 32 := Scalar.addi v257 c1_i32_90
  let v269 : Index := Scalar.indexCast v265
  let c0_91 : Index := 0#32
  ![v266.toNat, v267.toNat, v268.toNat, v269.toNat, 0]
def k0_mult18 (k0_t5 : Fin k0_t5_loop.trips) (k0_t7 : Fin k0_t7_loop.trips) (k0_t8 : Fin k0_t8_loop.trips) : BitVec 32 :=
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c128_i32_92 : BitVec 32 := 128#32
  let v273 : BitVec 32 := Scalar.muli v12 c128_i32_92
  let c0_i32_23 : BitVec 32 := 0#32
  let c1_i32_25 : BitVec 32 := 1#32
  let arg17 : BitVec 32 := Scf.iv c0_i32_23 c1_i32_25 k0_t8
  let c32_i32_93 : BitVec 32 := 32#32
  let v274 : BitVec 32 := Scalar.muli arg17 c32_i32_93
  let v275 : BitVec 32 := Scalar.addi v273 v274
  let c16_i32_94 : BitVec 32 := 16#32
  let v276 : BitVec 32 := Scalar.addi v275 c16_i32_94
  v276
def k0_mult19 (k0_t7 : Fin k0_t7_loop.trips) (k0_t8 : Fin k0_t8_loop.trips) : BitVec 32 :=
  let c0_i32_19 : BitVec 32 := 0#32
  let c1_i32_20 : BitVec 32 := 1#32
  let arg16 : BitVec 32 := Scf.iv c0_i32_19 c1_i32_20 k0_t7
  let c128_i32_100 : BitVec 32 := 128#32
  let v298 : BitVec 32 := Scalar.muli arg16 c128_i32_100
  let c0_i32_23 : BitVec 32 := 0#32
  let c1_i32_25 : BitVec 32 := 1#32
  let arg17 : BitVec 32 := Scf.iv c0_i32_23 c1_i32_25 k0_t8
  let c32_i32_101 : BitVec 32 := 32#32
  let v299 : BitVec 32 := Scalar.muli arg17 c32_i32_101
  let v300 : BitVec 32 := Scalar.addi v298 v299
  let c16_i32_102 : BitVec 32 := 16#32
  let v301 : BitVec 32 := Scalar.addi v300 c16_i32_102
  v301
def k0_mult20 (k0_t7 : Fin k0_t7_loop.trips) (k0_t8 : Fin k0_t8_loop.trips) : BitVec 32 :=
  let c0_i32_19 : BitVec 32 := 0#32
  let c1_i32_20 : BitVec 32 := 1#32
  let arg16 : BitVec 32 := Scf.iv c0_i32_19 c1_i32_20 k0_t7
  let c128_i32_110 : BitVec 32 := 128#32
  let v334 : BitVec 32 := Scalar.muli arg16 c128_i32_110
  let c0_i32_23 : BitVec 32 := 0#32
  let c1_i32_25 : BitVec 32 := 1#32
  let arg17 : BitVec 32 := Scf.iv c0_i32_23 c1_i32_25 k0_t8
  let c32_i32_111 : BitVec 32 := 32#32
  let v335 : BitVec 32 := Scalar.muli arg17 c32_i32_111
  let v336 : BitVec 32 := Scalar.addi v334 v335
  let c16_i32_112 : BitVec 32 := 16#32
  let v337 : BitVec 32 := Scalar.addi v336 c16_i32_112
  v337
def k0_mult21 (k0_t7 : Fin k0_t7_loop.trips) (k0_t8 : Fin k0_t8_loop.trips) : BitVec 32 :=
  let c0_i32_19 : BitVec 32 := 0#32
  let c1_i32_20 : BitVec 32 := 1#32
  let arg16 : BitVec 32 := Scf.iv c0_i32_19 c1_i32_20 k0_t7
  let c128_i32_120 : BitVec 32 := 128#32
  let v370 : BitVec 32 := Scalar.muli arg16 c128_i32_120
  let c0_i32_23 : BitVec 32 := 0#32
  let c1_i32_25 : BitVec 32 := 1#32
  let arg17 : BitVec 32 := Scf.iv c0_i32_23 c1_i32_25 k0_t8
  let c32_i32_121 : BitVec 32 := 32#32
  let v371 : BitVec 32 := Scalar.muli arg17 c32_i32_121
  let v372 : BitVec 32 := Scalar.addi v370 v371
  let c16_i32_122 : BitVec 32 := 16#32
  let v373 : BitVec 32 := Scalar.addi v372 c16_i32_122
  v373
def k0_mult22 (k0_t7 : Fin k0_t7_loop.trips) (k0_t8 : Fin k0_t8_loop.trips) : BitVec 32 :=
  let c0_i32_19 : BitVec 32 := 0#32
  let c1_i32_20 : BitVec 32 := 1#32
  let arg16 : BitVec 32 := Scf.iv c0_i32_19 c1_i32_20 k0_t7
  let c128_i32_132 : BitVec 32 := 128#32
  let v411 : BitVec 32 := Scalar.muli arg16 c128_i32_132
  let c0_i32_23 : BitVec 32 := 0#32
  let c1_i32_25 : BitVec 32 := 1#32
  let arg17 : BitVec 32 := Scf.iv c0_i32_23 c1_i32_25 k0_t8
  let c32_i32_133 : BitVec 32 := 32#32
  let v412 : BitVec 32 := Scalar.muli arg17 c32_i32_133
  let v413 : BitVec 32 := Scalar.addi v411 v412
  let c16_i32_134 : BitVec 32 := 16#32
  let v414 : BitVec 32 := Scalar.addi v413 c16_i32_134
  v414
def k0_mult23 (k0_t8 : Fin k0_t8_loop.trips) : BitVec 32 :=
  let c0_i32_23 : BitVec 32 := 0#32
  let c1_i32_25 : BitVec 32 := 1#32
  let arg17 : BitVec 32 := Scf.iv c0_i32_23 c1_i32_25 k0_t8
  let c32_i32_144 : BitVec 32 := 32#32
  let v449 : BitVec 32 := Scalar.muli arg17 c32_i32_144
  let c16_i32_145 : BitVec 32 := 16#32
  let v450 : BitVec 32 := Scalar.addi v449 c16_i32_145
  v450
def k0_off41 (k0_t5 : Fin k0_t5_loop.trips) (k0_t6 : Fin k0_t6_loop.trips) (k0_t7 : Fin k0_t7_loop.trips) : Fin 5 → Nat :=
  let c0_i32_3 : BitVec 32 := 0#32
  let c1_i32_5 : BitVec 32 := 1#32
  let arg14 : BitVec 32 := Scf.iv c0_i32_3 c1_i32_5 k0_t5
  let v14 : Index := Scalar.indexCast arg14
  let c0_i32_11 : BitVec 32 := 0#32
  let c1_i32_13 : BitVec 32 := 1#32
  let arg15 : BitVec 32 := Scf.iv c0_i32_11 c1_i32_13 k0_t6
  let v15 : Index := Scalar.indexCast arg15
  let c0_i32_19 : BitVec 32 := 0#32
  let c1_i32_20 : BitVec 32 := 1#32
  let arg16 : BitVec 32 := Scf.iv c0_i32_19 c1_i32_20 k0_t7
  let v16 : Index := Scalar.indexCast arg16
  let c0 : Index := 0#32
  let c0_27 : Index := 0#32
  ![v14.toNat, v15.toNat, v16.toNat, 0, 0]
def k0_mult24 (k0_t5 : Fin k0_t5_loop.trips) (k0_t7 : Fin k0_t7_loop.trips) : BitVec 32 :=
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c128_i32_28 : BitVec 32 := 128#32
  let v22 : BitVec 32 := Scalar.muli v12 c128_i32_28
  v22
def k0_off42 (k0_t5 : Fin k0_t5_loop.trips) (k0_t6 : Fin k0_t6_loop.trips) (k0_t7 : Fin k0_t7_loop.trips) : Fin 4 → Nat :=
  let c0_29 : Index := 0#32
  let c0_i32_11 : BitVec 32 := 0#32
  let c1_i32_13 : BitVec 32 := 1#32
  let arg15 : BitVec 32 := Scf.iv c0_i32_11 c1_i32_13 k0_t6
  let c128_i32 : BitVec 32 := 128#32
  let v8 : BitVec 32 := Scalar.muli arg15 c128_i32
  let v9 : BitVec 32 := v8
  let v24 : Index := Scalar.indexCast v9
  let c0_30 : Index := 0#32
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c128_i32_28 : BitVec 32 := 128#32
  let v22 : BitVec 32 := Scalar.muli v12 c128_i32_28
  let v23 : BitVec 32 := v22
  let v25 : Index := Scalar.indexCast v23
  ![0, v24.toNat, 0, v25.toNat]
@[reducible] def k0_t9_loop : Scf.Loop 32 :=
  let c0_i32_15 : BitVec 32 := 0#32
  let c4_i32_16 : BitVec 32 := 4#32
  let v7 : BitVec 32 := Scalar.addi c0_i32_15 c4_i32_16
  let c1_i32_17 : BitVec 32 := 1#32
  ⟨c0_i32_15, v7, c1_i32_17⟩
def k0_off43 (k0_t5 : Fin k0_t5_loop.trips) : Fin 3 → Nat :=
  let c0_i32_3 : BitVec 32 := 0#32
  let c1_i32_5 : BitVec 32 := 1#32
  let arg14 : BitVec 32 := Scf.iv c0_i32_3 c1_i32_5 k0_t5
  let v8 : Index := Scalar.indexCast arg14
  let c0 : Index := 0#32
  let c0_19 : Index := 0#32
  ![v8.toNat, 0, 0]
def k0_off44 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v11 : Index := Scalar.indexCast arg15
  let c0_i32_3 : BitVec 32 := 0#32
  let c1_i32_5 : BitVec 32 := 1#32
  let arg14 : BitVec 32 := Scf.iv c0_i32_3 c1_i32_5 k0_t5
  let v12 : Index := Scalar.indexCast arg14
  let c0_20 : Index := 0#32
  let c0_21 : Index := 0#32
  ![v11.toNat, v12.toNat, 0, 0]
def k0_off45 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v16 : Index := Scalar.indexCast arg15
  let c0_i32_3 : BitVec 32 := 0#32
  let c1_i32_5 : BitVec 32 := 1#32
  let arg14 : BitVec 32 := Scf.iv c0_i32_3 c1_i32_5 k0_t5
  let v17 : Index := Scalar.indexCast arg14
  let c0_22 : Index := 0#32
  let c0_23 : Index := 0#32
  ![v16.toNat, v17.toNat, 0, 0]
def k0_off46 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v32 : Index := Scalar.indexCast arg15
  let c0_i32_3 : BitVec 32 := 0#32
  let c1_i32_5 : BitVec 32 := 1#32
  let arg14 : BitVec 32 := Scf.iv c0_i32_3 c1_i32_5 k0_t5
  let v33 : Index := Scalar.indexCast arg14
  let c16 : Index := 16#32
  let c0_24 : Index := 0#32
  ![v32.toNat, v33.toNat, 16, 0]
def k0_off47 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v49 : Index := Scalar.indexCast arg15
  let c0_i32_3 : BitVec 32 := 0#32
  let c1_i32_5 : BitVec 32 := 1#32
  let arg14 : BitVec 32 := Scf.iv c0_i32_3 c1_i32_5 k0_t5
  let v50 : Index := Scalar.indexCast arg14
  let c32 : Index := 32#32
  let c0_27 : Index := 0#32
  ![v49.toNat, v50.toNat, 32, 0]
def k0_off48 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v66 : Index := Scalar.indexCast arg15
  let c0_i32_3 : BitVec 32 := 0#32
  let c1_i32_5 : BitVec 32 := 1#32
  let arg14 : BitVec 32 := Scf.iv c0_i32_3 c1_i32_5 k0_t5
  let v67 : Index := Scalar.indexCast arg14
  let c48 : Index := 48#32
  let c0_30 : Index := 0#32
  ![v66.toNat, v67.toNat, 48, 0]
def k0_off49 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v83 : Index := Scalar.indexCast arg15
  let c0_i32_3 : BitVec 32 := 0#32
  let c1_i32_5 : BitVec 32 := 1#32
  let arg14 : BitVec 32 := Scf.iv c0_i32_3 c1_i32_5 k0_t5
  let v84 : Index := Scalar.indexCast arg14
  let c64 : Index := 64#32
  let c0_33 : Index := 0#32
  ![v83.toNat, v84.toNat, 64, 0]
def k0_off50 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v100 : Index := Scalar.indexCast arg15
  let c0_i32_3 : BitVec 32 := 0#32
  let c1_i32_5 : BitVec 32 := 1#32
  let arg14 : BitVec 32 := Scf.iv c0_i32_3 c1_i32_5 k0_t5
  let v101 : Index := Scalar.indexCast arg14
  let c80 : Index := 80#32
  let c0_36 : Index := 0#32
  ![v100.toNat, v101.toNat, 80, 0]
def k0_off51 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v117 : Index := Scalar.indexCast arg15
  let c0_i32_3 : BitVec 32 := 0#32
  let c1_i32_5 : BitVec 32 := 1#32
  let arg14 : BitVec 32 := Scf.iv c0_i32_3 c1_i32_5 k0_t5
  let v118 : Index := Scalar.indexCast arg14
  let c96 : Index := 96#32
  let c0_39 : Index := 0#32
  ![v117.toNat, v118.toNat, 96, 0]
def k0_off52 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v134 : Index := Scalar.indexCast arg15
  let c0_i32_3 : BitVec 32 := 0#32
  let c1_i32_5 : BitVec 32 := 1#32
  let arg14 : BitVec 32 := Scf.iv c0_i32_3 c1_i32_5 k0_t5
  let v135 : Index := Scalar.indexCast arg14
  let c112 : Index := 112#32
  let c0_42 : Index := 0#32
  ![v134.toNat, v135.toNat, 112, 0]
def k0_off53 (k0_t5 : Fin k0_t5_loop.trips) (k0_t9 : Fin k0_t9_loop.trips) (c0_i32_45 : BitVec 32) : Fin 4 → Nat :=
  let c0_i32_15 : BitVec 32 := 0#32
  let c1_i32_17 : BitVec 32 := 1#32
  let arg15 : BitVec 32 := Scf.iv c0_i32_15 c1_i32_17 k0_t9
  let v154 : Index := Scalar.indexCast arg15
  let c0_46 : Index := 0#32
  let c2_i32 : BitVec 32 := 2#32
  let c0_i32_3 : BitVec 32 := 0#32
  let c1_i32_5 : BitVec 32 := 1#32
  let arg14 : BitVec 32 := Scf.iv c0_i32_3 c1_i32_5 k0_t5
  let v151 : BitVec 32 := Scalar.muli c2_i32 arg14
  let v152 : BitVec 32 := Scalar.addi v151 c0_i32_45
  let c9_i32 : BitVec 32 := 9#32
  let v153 : BitVec 32 := Scalar.muli v152 c9_i32
  let v155 : Index := Scalar.indexCast v153
  let c0_47 : Index := 0#32
  ![v154.toNat, 0, v155.toNat, 0]
def k0_off54 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v159 : Index := Scalar.indexCast arg15
  let c0_i32_3 : BitVec 32 := 0#32
  let c1_i32_5 : BitVec 32 := 1#32
  let arg14 : BitVec 32 := Scf.iv c0_i32_3 c1_i32_5 k0_t5
  let v160 : Index := Scalar.indexCast arg14
  let c128 : Index := 128#32
  let c0_48 : Index := 0#32
  ![v159.toNat, v160.toNat, 128, 0]
def k0_off55 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v175 : Index := Scalar.indexCast arg15
  let c0_i32_3 : BitVec 32 := 0#32
  let c1_i32_5 : BitVec 32 := 1#32
  let arg14 : BitVec 32 := Scf.iv c0_i32_3 c1_i32_5 k0_t5
  let v176 : Index := Scalar.indexCast arg14
  let c144 : Index := 144#32
  let c0_51 : Index := 0#32
  ![v175.toNat, v176.toNat, 144, 0]
def k0_off56 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v192 : Index := Scalar.indexCast arg15
  let c0_i32_3 : BitVec 32 := 0#32
  let c1_i32_5 : BitVec 32 := 1#32
  let arg14 : BitVec 32 := Scf.iv c0_i32_3 c1_i32_5 k0_t5
  let v193 : Index := Scalar.indexCast arg14
  let c160 : Index := 160#32
  let c0_54 : Index := 0#32
  ![v192.toNat, v193.toNat, 160, 0]
def k0_off57 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v209 : Index := Scalar.indexCast arg15
  let c0_i32_3 : BitVec 32 := 0#32
  let c1_i32_5 : BitVec 32 := 1#32
  let arg14 : BitVec 32 := Scf.iv c0_i32_3 c1_i32_5 k0_t5
  let v210 : Index := Scalar.indexCast arg14
  let c176 : Index := 176#32
  let c0_57 : Index := 0#32
  ![v209.toNat, v210.toNat, 176, 0]
def k0_off58 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v226 : Index := Scalar.indexCast arg15
  let c0_i32_3 : BitVec 32 := 0#32
  let c1_i32_5 : BitVec 32 := 1#32
  let arg14 : BitVec 32 := Scf.iv c0_i32_3 c1_i32_5 k0_t5
  let v227 : Index := Scalar.indexCast arg14
  let c192 : Index := 192#32
  let c0_60 : Index := 0#32
  ![v226.toNat, v227.toNat, 192, 0]
def k0_off59 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v243 : Index := Scalar.indexCast arg15
  let c0_i32_3 : BitVec 32 := 0#32
  let c1_i32_5 : BitVec 32 := 1#32
  let arg14 : BitVec 32 := Scf.iv c0_i32_3 c1_i32_5 k0_t5
  let v244 : Index := Scalar.indexCast arg14
  let c208 : Index := 208#32
  let c0_63 : Index := 0#32
  ![v243.toNat, v244.toNat, 208, 0]
def k0_off60 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v260 : Index := Scalar.indexCast arg15
  let c0_i32_3 : BitVec 32 := 0#32
  let c1_i32_5 : BitVec 32 := 1#32
  let arg14 : BitVec 32 := Scf.iv c0_i32_3 c1_i32_5 k0_t5
  let v261 : Index := Scalar.indexCast arg14
  let c224 : Index := 224#32
  let c0_66 : Index := 0#32
  ![v260.toNat, v261.toNat, 224, 0]
def k0_off61 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v277 : Index := Scalar.indexCast arg15
  let c0_i32_3 : BitVec 32 := 0#32
  let c1_i32_5 : BitVec 32 := 1#32
  let arg14 : BitVec 32 := Scf.iv c0_i32_3 c1_i32_5 k0_t5
  let v278 : Index := Scalar.indexCast arg14
  let c240 : Index := 240#32
  let c0_69 : Index := 0#32
  ![v277.toNat, v278.toNat, 240, 0]
def k0_off62 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v302 : Index := Scalar.indexCast arg15
  let c0_i32_3 : BitVec 32 := 0#32
  let c1_i32_5 : BitVec 32 := 1#32
  let arg14 : BitVec 32 := Scf.iv c0_i32_3 c1_i32_5 k0_t5
  let v303 : Index := Scalar.indexCast arg14
  let c0_77 : Index := 0#32
  let c128_78 : Index := 128#32
  ![v302.toNat, v303.toNat, 0, 128]
def k0_off63 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v318 : Index := Scalar.indexCast arg15
  let c0_i32_3 : BitVec 32 := 0#32
  let c1_i32_5 : BitVec 32 := 1#32
  let arg14 : BitVec 32 := Scf.iv c0_i32_3 c1_i32_5 k0_t5
  let v319 : Index := Scalar.indexCast arg14
  let c16_81 : Index := 16#32
  let c128_82 : Index := 128#32
  ![v318.toNat, v319.toNat, 16, 128]
def k0_off64 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v335 : Index := Scalar.indexCast arg15
  let c0_i32_3 : BitVec 32 := 0#32
  let c1_i32_5 : BitVec 32 := 1#32
  let arg14 : BitVec 32 := Scf.iv c0_i32_3 c1_i32_5 k0_t5
  let v336 : Index := Scalar.indexCast arg14
  let c32_85 : Index := 32#32
  let c128_86 : Index := 128#32
  ![v335.toNat, v336.toNat, 32, 128]
def k0_off65 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v352 : Index := Scalar.indexCast arg15
  let c0_i32_3 : BitVec 32 := 0#32
  let c1_i32_5 : BitVec 32 := 1#32
  let arg14 : BitVec 32 := Scf.iv c0_i32_3 c1_i32_5 k0_t5
  let v353 : Index := Scalar.indexCast arg14
  let c48_89 : Index := 48#32
  let c128_90 : Index := 128#32
  ![v352.toNat, v353.toNat, 48, 128]
def k0_off66 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v369 : Index := Scalar.indexCast arg15
  let c0_i32_3 : BitVec 32 := 0#32
  let c1_i32_5 : BitVec 32 := 1#32
  let arg14 : BitVec 32 := Scf.iv c0_i32_3 c1_i32_5 k0_t5
  let v370 : Index := Scalar.indexCast arg14
  let c64_93 : Index := 64#32
  let c128_94 : Index := 128#32
  ![v369.toNat, v370.toNat, 64, 128]
def k0_off67 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v386 : Index := Scalar.indexCast arg15
  let c0_i32_3 : BitVec 32 := 0#32
  let c1_i32_5 : BitVec 32 := 1#32
  let arg14 : BitVec 32 := Scf.iv c0_i32_3 c1_i32_5 k0_t5
  let v387 : Index := Scalar.indexCast arg14
  let c80_97 : Index := 80#32
  let c128_98 : Index := 128#32
  ![v386.toNat, v387.toNat, 80, 128]
def k0_off68 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v403 : Index := Scalar.indexCast arg15
  let c0_i32_3 : BitVec 32 := 0#32
  let c1_i32_5 : BitVec 32 := 1#32
  let arg14 : BitVec 32 := Scf.iv c0_i32_3 c1_i32_5 k0_t5
  let v404 : Index := Scalar.indexCast arg14
  let c96_101 : Index := 96#32
  let c128_102 : Index := 128#32
  ![v403.toNat, v404.toNat, 96, 128]
def k0_off69 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v420 : Index := Scalar.indexCast arg15
  let c0_i32_3 : BitVec 32 := 0#32
  let c1_i32_5 : BitVec 32 := 1#32
  let arg14 : BitVec 32 := Scf.iv c0_i32_3 c1_i32_5 k0_t5
  let v421 : Index := Scalar.indexCast arg14
  let c112_105 : Index := 112#32
  let c128_106 : Index := 128#32
  ![v420.toNat, v421.toNat, 112, 128]
def k0_off70 (k0_t5 : Fin k0_t5_loop.trips) (k0_t9 : Fin k0_t9_loop.trips) (c0_i32_110 : BitVec 32) : Fin 4 → Nat :=
  let c0_i32_15 : BitVec 32 := 0#32
  let c1_i32_17 : BitVec 32 := 1#32
  let arg15 : BitVec 32 := Scf.iv c0_i32_15 c1_i32_17 k0_t9
  let v440 : Index := Scalar.indexCast arg15
  let c1 : Index := 1#32
  let c2_i32_109 : BitVec 32 := 2#32
  let c0_i32_3 : BitVec 32 := 0#32
  let c1_i32_5 : BitVec 32 := 1#32
  let arg14 : BitVec 32 := Scf.iv c0_i32_3 c1_i32_5 k0_t5
  let v437 : BitVec 32 := Scalar.muli c2_i32_109 arg14
  let v438 : BitVec 32 := Scalar.addi v437 c0_i32_110
  let c9_i32_111 : BitVec 32 := 9#32
  let v439 : BitVec 32 := Scalar.muli v438 c9_i32_111
  let v441 : Index := Scalar.indexCast v439
  let c0_112 : Index := 0#32
  ![v440.toNat, 1, v441.toNat, 0]
def k0_off71 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v445 : Index := Scalar.indexCast arg15
  let c0_i32_3 : BitVec 32 := 0#32
  let c1_i32_5 : BitVec 32 := 1#32
  let arg14 : BitVec 32 := Scf.iv c0_i32_3 c1_i32_5 k0_t5
  let v446 : Index := Scalar.indexCast arg14
  let c128_113 : Index := 128#32
  let c128_114 : Index := 128#32
  ![v445.toNat, v446.toNat, 128, 128]
def k0_off72 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v461 : Index := Scalar.indexCast arg15
  let c0_i32_3 : BitVec 32 := 0#32
  let c1_i32_5 : BitVec 32 := 1#32
  let arg14 : BitVec 32 := Scf.iv c0_i32_3 c1_i32_5 k0_t5
  let v462 : Index := Scalar.indexCast arg14
  let c144_117 : Index := 144#32
  let c128_118 : Index := 128#32
  ![v461.toNat, v462.toNat, 144, 128]
def k0_off73 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v478 : Index := Scalar.indexCast arg15
  let c0_i32_3 : BitVec 32 := 0#32
  let c1_i32_5 : BitVec 32 := 1#32
  let arg14 : BitVec 32 := Scf.iv c0_i32_3 c1_i32_5 k0_t5
  let v479 : Index := Scalar.indexCast arg14
  let c160_121 : Index := 160#32
  let c128_122 : Index := 128#32
  ![v478.toNat, v479.toNat, 160, 128]
def k0_off74 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v495 : Index := Scalar.indexCast arg15
  let c0_i32_3 : BitVec 32 := 0#32
  let c1_i32_5 : BitVec 32 := 1#32
  let arg14 : BitVec 32 := Scf.iv c0_i32_3 c1_i32_5 k0_t5
  let v496 : Index := Scalar.indexCast arg14
  let c176_125 : Index := 176#32
  let c128_126 : Index := 128#32
  ![v495.toNat, v496.toNat, 176, 128]
def k0_off75 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v512 : Index := Scalar.indexCast arg15
  let c0_i32_3 : BitVec 32 := 0#32
  let c1_i32_5 : BitVec 32 := 1#32
  let arg14 : BitVec 32 := Scf.iv c0_i32_3 c1_i32_5 k0_t5
  let v513 : Index := Scalar.indexCast arg14
  let c192_129 : Index := 192#32
  let c128_130 : Index := 128#32
  ![v512.toNat, v513.toNat, 192, 128]
def k0_off76 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v529 : Index := Scalar.indexCast arg15
  let c0_i32_3 : BitVec 32 := 0#32
  let c1_i32_5 : BitVec 32 := 1#32
  let arg14 : BitVec 32 := Scf.iv c0_i32_3 c1_i32_5 k0_t5
  let v530 : Index := Scalar.indexCast arg14
  let c208_133 : Index := 208#32
  let c128_134 : Index := 128#32
  ![v529.toNat, v530.toNat, 208, 128]
def k0_off77 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v546 : Index := Scalar.indexCast arg15
  let c0_i32_3 : BitVec 32 := 0#32
  let c1_i32_5 : BitVec 32 := 1#32
  let arg14 : BitVec 32 := Scf.iv c0_i32_3 c1_i32_5 k0_t5
  let v547 : Index := Scalar.indexCast arg14
  let c224_137 : Index := 224#32
  let c128_138 : Index := 128#32
  ![v546.toNat, v547.toNat, 224, 128]
def k0_off78 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v563 : Index := Scalar.indexCast arg15
  let c0_i32_3 : BitVec 32 := 0#32
  let c1_i32_5 : BitVec 32 := 1#32
  let arg14 : BitVec 32 := Scf.iv c0_i32_3 c1_i32_5 k0_t5
  let v564 : Index := Scalar.indexCast arg14
  let c240_141 : Index := 240#32
  let c128_142 : Index := 128#32
  ![v563.toNat, v564.toNat, 240, 128]
def k0_off79 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v588 : Index := Scalar.indexCast arg15
  let c0_i32_3 : BitVec 32 := 0#32
  let c1_i32_5 : BitVec 32 := 1#32
  let arg14 : BitVec 32 := Scf.iv c0_i32_3 c1_i32_5 k0_t5
  let v589 : Index := Scalar.indexCast arg14
  let c0_150 : Index := 0#32
  let c256 : Index := 256#32
  ![v588.toNat, v589.toNat, 0, 256]
def k0_off80 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v604 : Index := Scalar.indexCast arg15
  let c0_i32_3 : BitVec 32 := 0#32
  let c1_i32_5 : BitVec 32 := 1#32
  let arg14 : BitVec 32 := Scf.iv c0_i32_3 c1_i32_5 k0_t5
  let v605 : Index := Scalar.indexCast arg14
  let c16_153 : Index := 16#32
  let c256_154 : Index := 256#32
  ![v604.toNat, v605.toNat, 16, 256]
def k0_off81 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v621 : Index := Scalar.indexCast arg15
  let c0_i32_3 : BitVec 32 := 0#32
  let c1_i32_5 : BitVec 32 := 1#32
  let arg14 : BitVec 32 := Scf.iv c0_i32_3 c1_i32_5 k0_t5
  let v622 : Index := Scalar.indexCast arg14
  let c32_157 : Index := 32#32
  let c256_158 : Index := 256#32
  ![v621.toNat, v622.toNat, 32, 256]
def k0_off82 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v638 : Index := Scalar.indexCast arg15
  let c0_i32_3 : BitVec 32 := 0#32
  let c1_i32_5 : BitVec 32 := 1#32
  let arg14 : BitVec 32 := Scf.iv c0_i32_3 c1_i32_5 k0_t5
  let v639 : Index := Scalar.indexCast arg14
  let c48_161 : Index := 48#32
  let c256_162 : Index := 256#32
  ![v638.toNat, v639.toNat, 48, 256]
def k0_off83 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v655 : Index := Scalar.indexCast arg15
  let c0_i32_3 : BitVec 32 := 0#32
  let c1_i32_5 : BitVec 32 := 1#32
  let arg14 : BitVec 32 := Scf.iv c0_i32_3 c1_i32_5 k0_t5
  let v656 : Index := Scalar.indexCast arg14
  let c64_165 : Index := 64#32
  let c256_166 : Index := 256#32
  ![v655.toNat, v656.toNat, 64, 256]
def k0_off84 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v672 : Index := Scalar.indexCast arg15
  let c0_i32_3 : BitVec 32 := 0#32
  let c1_i32_5 : BitVec 32 := 1#32
  let arg14 : BitVec 32 := Scf.iv c0_i32_3 c1_i32_5 k0_t5
  let v673 : Index := Scalar.indexCast arg14
  let c80_169 : Index := 80#32
  let c256_170 : Index := 256#32
  ![v672.toNat, v673.toNat, 80, 256]
def k0_off85 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v689 : Index := Scalar.indexCast arg15
  let c0_i32_3 : BitVec 32 := 0#32
  let c1_i32_5 : BitVec 32 := 1#32
  let arg14 : BitVec 32 := Scf.iv c0_i32_3 c1_i32_5 k0_t5
  let v690 : Index := Scalar.indexCast arg14
  let c96_173 : Index := 96#32
  let c256_174 : Index := 256#32
  ![v689.toNat, v690.toNat, 96, 256]
def k0_off86 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v706 : Index := Scalar.indexCast arg15
  let c0_i32_3 : BitVec 32 := 0#32
  let c1_i32_5 : BitVec 32 := 1#32
  let arg14 : BitVec 32 := Scf.iv c0_i32_3 c1_i32_5 k0_t5
  let v707 : Index := Scalar.indexCast arg14
  let c112_177 : Index := 112#32
  let c256_178 : Index := 256#32
  ![v706.toNat, v707.toNat, 112, 256]
def k0_off87 (k0_t5 : Fin k0_t5_loop.trips) (k0_t9 : Fin k0_t9_loop.trips) (c0_i32_182 : BitVec 32) : Fin 4 → Nat :=
  let c0_i32_15 : BitVec 32 := 0#32
  let c1_i32_17 : BitVec 32 := 1#32
  let arg15 : BitVec 32 := Scf.iv c0_i32_15 c1_i32_17 k0_t9
  let v726 : Index := Scalar.indexCast arg15
  let c2 : Index := 2#32
  let c2_i32_181 : BitVec 32 := 2#32
  let c0_i32_3 : BitVec 32 := 0#32
  let c1_i32_5 : BitVec 32 := 1#32
  let arg14 : BitVec 32 := Scf.iv c0_i32_3 c1_i32_5 k0_t5
  let v723 : BitVec 32 := Scalar.muli c2_i32_181 arg14
  let v724 : BitVec 32 := Scalar.addi v723 c0_i32_182
  let c9_i32_183 : BitVec 32 := 9#32
  let v725 : BitVec 32 := Scalar.muli v724 c9_i32_183
  let v727 : Index := Scalar.indexCast v725
  let c0_184 : Index := 0#32
  ![v726.toNat, 2, v727.toNat, 0]
def k0_off88 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v731 : Index := Scalar.indexCast arg15
  let c0_i32_3 : BitVec 32 := 0#32
  let c1_i32_5 : BitVec 32 := 1#32
  let arg14 : BitVec 32 := Scf.iv c0_i32_3 c1_i32_5 k0_t5
  let v732 : Index := Scalar.indexCast arg14
  let c128_185 : Index := 128#32
  let c256_186 : Index := 256#32
  ![v731.toNat, v732.toNat, 128, 256]
def k0_off89 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v747 : Index := Scalar.indexCast arg15
  let c0_i32_3 : BitVec 32 := 0#32
  let c1_i32_5 : BitVec 32 := 1#32
  let arg14 : BitVec 32 := Scf.iv c0_i32_3 c1_i32_5 k0_t5
  let v748 : Index := Scalar.indexCast arg14
  let c144_189 : Index := 144#32
  let c256_190 : Index := 256#32
  ![v747.toNat, v748.toNat, 144, 256]
def k0_off90 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v764 : Index := Scalar.indexCast arg15
  let c0_i32_3 : BitVec 32 := 0#32
  let c1_i32_5 : BitVec 32 := 1#32
  let arg14 : BitVec 32 := Scf.iv c0_i32_3 c1_i32_5 k0_t5
  let v765 : Index := Scalar.indexCast arg14
  let c160_193 : Index := 160#32
  let c256_194 : Index := 256#32
  ![v764.toNat, v765.toNat, 160, 256]
def k0_off91 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v781 : Index := Scalar.indexCast arg15
  let c0_i32_3 : BitVec 32 := 0#32
  let c1_i32_5 : BitVec 32 := 1#32
  let arg14 : BitVec 32 := Scf.iv c0_i32_3 c1_i32_5 k0_t5
  let v782 : Index := Scalar.indexCast arg14
  let c176_197 : Index := 176#32
  let c256_198 : Index := 256#32
  ![v781.toNat, v782.toNat, 176, 256]
def k0_off92 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v798 : Index := Scalar.indexCast arg15
  let c0_i32_3 : BitVec 32 := 0#32
  let c1_i32_5 : BitVec 32 := 1#32
  let arg14 : BitVec 32 := Scf.iv c0_i32_3 c1_i32_5 k0_t5
  let v799 : Index := Scalar.indexCast arg14
  let c192_201 : Index := 192#32
  let c256_202 : Index := 256#32
  ![v798.toNat, v799.toNat, 192, 256]
def k0_off93 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v815 : Index := Scalar.indexCast arg15
  let c0_i32_3 : BitVec 32 := 0#32
  let c1_i32_5 : BitVec 32 := 1#32
  let arg14 : BitVec 32 := Scf.iv c0_i32_3 c1_i32_5 k0_t5
  let v816 : Index := Scalar.indexCast arg14
  let c208_205 : Index := 208#32
  let c256_206 : Index := 256#32
  ![v815.toNat, v816.toNat, 208, 256]
def k0_off94 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v832 : Index := Scalar.indexCast arg15
  let c0_i32_3 : BitVec 32 := 0#32
  let c1_i32_5 : BitVec 32 := 1#32
  let arg14 : BitVec 32 := Scf.iv c0_i32_3 c1_i32_5 k0_t5
  let v833 : Index := Scalar.indexCast arg14
  let c224_209 : Index := 224#32
  let c256_210 : Index := 256#32
  ![v832.toNat, v833.toNat, 224, 256]
def k0_off95 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v849 : Index := Scalar.indexCast arg15
  let c0_i32_3 : BitVec 32 := 0#32
  let c1_i32_5 : BitVec 32 := 1#32
  let arg14 : BitVec 32 := Scf.iv c0_i32_3 c1_i32_5 k0_t5
  let v850 : Index := Scalar.indexCast arg14
  let c240_213 : Index := 240#32
  let c256_214 : Index := 256#32
  ![v849.toNat, v850.toNat, 240, 256]
def k0_off96 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v874 : Index := Scalar.indexCast arg15
  let c0_i32_3 : BitVec 32 := 0#32
  let c1_i32_5 : BitVec 32 := 1#32
  let arg14 : BitVec 32 := Scf.iv c0_i32_3 c1_i32_5 k0_t5
  let v875 : Index := Scalar.indexCast arg14
  let c0_222 : Index := 0#32
  let c384 : Index := 384#32
  ![v874.toNat, v875.toNat, 0, 384]
def k0_off97 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v890 : Index := Scalar.indexCast arg15
  let c0_i32_3 : BitVec 32 := 0#32
  let c1_i32_5 : BitVec 32 := 1#32
  let arg14 : BitVec 32 := Scf.iv c0_i32_3 c1_i32_5 k0_t5
  let v891 : Index := Scalar.indexCast arg14
  let c16_225 : Index := 16#32
  let c384_226 : Index := 384#32
  ![v890.toNat, v891.toNat, 16, 384]
def k0_off98 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v907 : Index := Scalar.indexCast arg15
  let c0_i32_3 : BitVec 32 := 0#32
  let c1_i32_5 : BitVec 32 := 1#32
  let arg14 : BitVec 32 := Scf.iv c0_i32_3 c1_i32_5 k0_t5
  let v908 : Index := Scalar.indexCast arg14
  let c32_229 : Index := 32#32
  let c384_230 : Index := 384#32
  ![v907.toNat, v908.toNat, 32, 384]
def k0_off99 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v924 : Index := Scalar.indexCast arg15
  let c0_i32_3 : BitVec 32 := 0#32
  let c1_i32_5 : BitVec 32 := 1#32
  let arg14 : BitVec 32 := Scf.iv c0_i32_3 c1_i32_5 k0_t5
  let v925 : Index := Scalar.indexCast arg14
  let c48_233 : Index := 48#32
  let c384_234 : Index := 384#32
  ![v924.toNat, v925.toNat, 48, 384]
def k0_off100 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v941 : Index := Scalar.indexCast arg15
  let c0_i32_3 : BitVec 32 := 0#32
  let c1_i32_5 : BitVec 32 := 1#32
  let arg14 : BitVec 32 := Scf.iv c0_i32_3 c1_i32_5 k0_t5
  let v942 : Index := Scalar.indexCast arg14
  let c64_237 : Index := 64#32
  let c384_238 : Index := 384#32
  ![v941.toNat, v942.toNat, 64, 384]
def k0_off101 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v958 : Index := Scalar.indexCast arg15
  let c0_i32_3 : BitVec 32 := 0#32
  let c1_i32_5 : BitVec 32 := 1#32
  let arg14 : BitVec 32 := Scf.iv c0_i32_3 c1_i32_5 k0_t5
  let v959 : Index := Scalar.indexCast arg14
  let c80_241 : Index := 80#32
  let c384_242 : Index := 384#32
  ![v958.toNat, v959.toNat, 80, 384]
def k0_off102 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v975 : Index := Scalar.indexCast arg15
  let c0_i32_3 : BitVec 32 := 0#32
  let c1_i32_5 : BitVec 32 := 1#32
  let arg14 : BitVec 32 := Scf.iv c0_i32_3 c1_i32_5 k0_t5
  let v976 : Index := Scalar.indexCast arg14
  let c96_245 : Index := 96#32
  let c384_246 : Index := 384#32
  ![v975.toNat, v976.toNat, 96, 384]
def k0_off103 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v992 : Index := Scalar.indexCast arg15
  let c0_i32_3 : BitVec 32 := 0#32
  let c1_i32_5 : BitVec 32 := 1#32
  let arg14 : BitVec 32 := Scf.iv c0_i32_3 c1_i32_5 k0_t5
  let v993 : Index := Scalar.indexCast arg14
  let c112_249 : Index := 112#32
  let c384_250 : Index := 384#32
  ![v992.toNat, v993.toNat, 112, 384]
def k0_off104 (k0_t5 : Fin k0_t5_loop.trips) (k0_t9 : Fin k0_t9_loop.trips) (c0_i32_254 : BitVec 32) : Fin 4 → Nat :=
  let c0_i32_15 : BitVec 32 := 0#32
  let c1_i32_17 : BitVec 32 := 1#32
  let arg15 : BitVec 32 := Scf.iv c0_i32_15 c1_i32_17 k0_t9
  let v1012 : Index := Scalar.indexCast arg15
  let c3 : Index := 3#32
  let c2_i32_253 : BitVec 32 := 2#32
  let c0_i32_3 : BitVec 32 := 0#32
  let c1_i32_5 : BitVec 32 := 1#32
  let arg14 : BitVec 32 := Scf.iv c0_i32_3 c1_i32_5 k0_t5
  let v1009 : BitVec 32 := Scalar.muli c2_i32_253 arg14
  let v1010 : BitVec 32 := Scalar.addi v1009 c0_i32_254
  let c9_i32_255 : BitVec 32 := 9#32
  let v1011 : BitVec 32 := Scalar.muli v1010 c9_i32_255
  let v1013 : Index := Scalar.indexCast v1011
  let c0_256 : Index := 0#32
  ![v1012.toNat, 3, v1013.toNat, 0]
def k0_off105 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v1017 : Index := Scalar.indexCast arg15
  let c0_i32_3 : BitVec 32 := 0#32
  let c1_i32_5 : BitVec 32 := 1#32
  let arg14 : BitVec 32 := Scf.iv c0_i32_3 c1_i32_5 k0_t5
  let v1018 : Index := Scalar.indexCast arg14
  let c128_257 : Index := 128#32
  let c384_258 : Index := 384#32
  ![v1017.toNat, v1018.toNat, 128, 384]
def k0_off106 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v1033 : Index := Scalar.indexCast arg15
  let c0_i32_3 : BitVec 32 := 0#32
  let c1_i32_5 : BitVec 32 := 1#32
  let arg14 : BitVec 32 := Scf.iv c0_i32_3 c1_i32_5 k0_t5
  let v1034 : Index := Scalar.indexCast arg14
  let c144_261 : Index := 144#32
  let c384_262 : Index := 384#32
  ![v1033.toNat, v1034.toNat, 144, 384]
def k0_off107 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v1050 : Index := Scalar.indexCast arg15
  let c0_i32_3 : BitVec 32 := 0#32
  let c1_i32_5 : BitVec 32 := 1#32
  let arg14 : BitVec 32 := Scf.iv c0_i32_3 c1_i32_5 k0_t5
  let v1051 : Index := Scalar.indexCast arg14
  let c160_265 : Index := 160#32
  let c384_266 : Index := 384#32
  ![v1050.toNat, v1051.toNat, 160, 384]
def k0_off108 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v1067 : Index := Scalar.indexCast arg15
  let c0_i32_3 : BitVec 32 := 0#32
  let c1_i32_5 : BitVec 32 := 1#32
  let arg14 : BitVec 32 := Scf.iv c0_i32_3 c1_i32_5 k0_t5
  let v1068 : Index := Scalar.indexCast arg14
  let c176_269 : Index := 176#32
  let c384_270 : Index := 384#32
  ![v1067.toNat, v1068.toNat, 176, 384]
def k0_off109 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v1084 : Index := Scalar.indexCast arg15
  let c0_i32_3 : BitVec 32 := 0#32
  let c1_i32_5 : BitVec 32 := 1#32
  let arg14 : BitVec 32 := Scf.iv c0_i32_3 c1_i32_5 k0_t5
  let v1085 : Index := Scalar.indexCast arg14
  let c192_273 : Index := 192#32
  let c384_274 : Index := 384#32
  ![v1084.toNat, v1085.toNat, 192, 384]
def k0_off110 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v1101 : Index := Scalar.indexCast arg15
  let c0_i32_3 : BitVec 32 := 0#32
  let c1_i32_5 : BitVec 32 := 1#32
  let arg14 : BitVec 32 := Scf.iv c0_i32_3 c1_i32_5 k0_t5
  let v1102 : Index := Scalar.indexCast arg14
  let c208_277 : Index := 208#32
  let c384_278 : Index := 384#32
  ![v1101.toNat, v1102.toNat, 208, 384]
def k0_off111 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v1118 : Index := Scalar.indexCast arg15
  let c0_i32_3 : BitVec 32 := 0#32
  let c1_i32_5 : BitVec 32 := 1#32
  let arg14 : BitVec 32 := Scf.iv c0_i32_3 c1_i32_5 k0_t5
  let v1119 : Index := Scalar.indexCast arg14
  let c224_281 : Index := 224#32
  let c384_282 : Index := 384#32
  ![v1118.toNat, v1119.toNat, 224, 384]
def k0_off112 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v1135 : Index := Scalar.indexCast arg15
  let c0_i32_3 : BitVec 32 := 0#32
  let c1_i32_5 : BitVec 32 := 1#32
  let arg14 : BitVec 32 := Scf.iv c0_i32_3 c1_i32_5 k0_t5
  let v1136 : Index := Scalar.indexCast arg14
  let c240_285 : Index := 240#32
  let c384_286 : Index := 384#32
  ![v1135.toNat, v1136.toNat, 240, 384]
@[reducible] def k0_t10_loop : Scf.Loop 32 :=
  let c0_i32_7 : BitVec 32 := 0#32
  let c4_i32_8 : BitVec 32 := 4#32
  let v5 : BitVec 32 := Scalar.addi c0_i32_7 c4_i32_8
  let c1_i32_9 : BitVec 32 := 1#32
  ⟨c0_i32_7, v5, c1_i32_9⟩
@[reducible] def k0_t11_loop : Scf.Loop 32 :=
  let c0_i32_11 : BitVec 32 := 0#32
  let c4_i32_12 : BitVec 32 := 4#32
  let v6 : BitVec 32 := Scalar.addi c0_i32_11 c4_i32_12
  let c1_i32_13 : BitVec 32 := 1#32
  ⟨c0_i32_11, v6, c1_i32_13⟩
def k0_off113 (k0_t10 : Fin k0_t10_loop.trips) (k0_t11 : Fin k0_t11_loop.trips) : Fin 4 → Nat :=
  let c0_i32_7 : BitVec 32 := 0#32
  let c1_i32_9 : BitVec 32 := 1#32
  let arg14 : BitVec 32 := Scf.iv c0_i32_7 c1_i32_9 k0_t10
  let v7 : Index := Scalar.indexCast arg14
  let c0_i32_11 : BitVec 32 := 0#32
  let c1_i32_13 : BitVec 32 := 1#32
  let arg15 : BitVec 32 := Scf.iv c0_i32_11 c1_i32_13 k0_t11
  let v8 : Index := Scalar.indexCast arg15
  let c0 : Index := 0#32
  let c0_15 : Index := 0#32
  ![v7.toNat, v8.toNat, 0, 0]
def k0_off114 (k0_t10 : Fin k0_t10_loop.trips) (k0_t11 : Fin k0_t11_loop.trips) : Fin 4 → Nat :=
  let c0_i32_7 : BitVec 32 := 0#32
  let c1_i32_9 : BitVec 32 := 1#32
  let arg14 : BitVec 32 := Scf.iv c0_i32_7 c1_i32_9 k0_t10
  let v11 : Index := Scalar.indexCast arg14
  let c0_i32_11 : BitVec 32 := 0#32
  let c1_i32_13 : BitVec 32 := 1#32
  let arg15 : BitVec 32 := Scf.iv c0_i32_11 c1_i32_13 k0_t11
  let v12 : Index := Scalar.indexCast arg15
  let c1 : Index := 1#32
  let c0_16 : Index := 0#32
  ![v11.toNat, v12.toNat, 1, 0]
def k0_off115 (k0_t10 : Fin k0_t10_loop.trips) (k0_t11 : Fin k0_t11_loop.trips) : Fin 4 → Nat :=
  let c0_i32_7 : BitVec 32 := 0#32
  let c1_i32_9 : BitVec 32 := 1#32
  let arg14 : BitVec 32 := Scf.iv c0_i32_7 c1_i32_9 k0_t10
  let v16 : Index := Scalar.indexCast arg14
  let c0_i32_11 : BitVec 32 := 0#32
  let c1_i32_13 : BitVec 32 := 1#32
  let arg15 : BitVec 32 := Scf.iv c0_i32_11 c1_i32_13 k0_t11
  let v17 : Index := Scalar.indexCast arg15
  let c2 : Index := 2#32
  let c0_17 : Index := 0#32
  ![v16.toNat, v17.toNat, 2, 0]
def k0_off116 (k0_t10 : Fin k0_t10_loop.trips) (k0_t11 : Fin k0_t11_loop.trips) : Fin 4 → Nat :=
  let c0_i32_7 : BitVec 32 := 0#32
  let c1_i32_9 : BitVec 32 := 1#32
  let arg14 : BitVec 32 := Scf.iv c0_i32_7 c1_i32_9 k0_t10
  let v21 : Index := Scalar.indexCast arg14
  let c0_i32_11 : BitVec 32 := 0#32
  let c1_i32_13 : BitVec 32 := 1#32
  let arg15 : BitVec 32 := Scf.iv c0_i32_11 c1_i32_13 k0_t11
  let v22 : Index := Scalar.indexCast arg15
  let c3 : Index := 3#32
  let c0_18 : Index := 0#32
  ![v21.toNat, v22.toNat, 3, 0]
def k0_off117 (k0_t10 : Fin k0_t10_loop.trips) (k0_t11 : Fin k0_t11_loop.trips) : Fin 4 → Nat :=
  let c0_i32_7 : BitVec 32 := 0#32
  let c1_i32_9 : BitVec 32 := 1#32
  let arg14 : BitVec 32 := Scf.iv c0_i32_7 c1_i32_9 k0_t10
  let v26 : Index := Scalar.indexCast arg14
  let c0_i32_11 : BitVec 32 := 0#32
  let c1_i32_13 : BitVec 32 := 1#32
  let arg15 : BitVec 32 := Scf.iv c0_i32_11 c1_i32_13 k0_t11
  let v27 : Index := Scalar.indexCast arg15
  let c4 : Index := 4#32
  let c0_19 : Index := 0#32
  ![v26.toNat, v27.toNat, 4, 0]
def k0_off118 (k0_t10 : Fin k0_t10_loop.trips) (k0_t11 : Fin k0_t11_loop.trips) : Fin 4 → Nat :=
  let c0_i32_7 : BitVec 32 := 0#32
  let c1_i32_9 : BitVec 32 := 1#32
  let arg14 : BitVec 32 := Scf.iv c0_i32_7 c1_i32_9 k0_t10
  let v31 : Index := Scalar.indexCast arg14
  let c0_i32_11 : BitVec 32 := 0#32
  let c1_i32_13 : BitVec 32 := 1#32
  let arg15 : BitVec 32 := Scf.iv c0_i32_11 c1_i32_13 k0_t11
  let v32 : Index := Scalar.indexCast arg15
  let c5 : Index := 5#32
  let c0_20 : Index := 0#32
  ![v31.toNat, v32.toNat, 5, 0]
def k0_off119 (k0_t10 : Fin k0_t10_loop.trips) (k0_t11 : Fin k0_t11_loop.trips) : Fin 4 → Nat :=
  let c0_i32_7 : BitVec 32 := 0#32
  let c1_i32_9 : BitVec 32 := 1#32
  let arg14 : BitVec 32 := Scf.iv c0_i32_7 c1_i32_9 k0_t10
  let v36 : Index := Scalar.indexCast arg14
  let c0_i32_11 : BitVec 32 := 0#32
  let c1_i32_13 : BitVec 32 := 1#32
  let arg15 : BitVec 32 := Scf.iv c0_i32_11 c1_i32_13 k0_t11
  let v37 : Index := Scalar.indexCast arg15
  let c6 : Index := 6#32
  let c0_21 : Index := 0#32
  ![v36.toNat, v37.toNat, 6, 0]
def k0_off120 (k0_t10 : Fin k0_t10_loop.trips) (k0_t11 : Fin k0_t11_loop.trips) : Fin 4 → Nat :=
  let c0_i32_7 : BitVec 32 := 0#32
  let c1_i32_9 : BitVec 32 := 1#32
  let arg14 : BitVec 32 := Scf.iv c0_i32_7 c1_i32_9 k0_t10
  let v41 : Index := Scalar.indexCast arg14
  let c0_i32_11 : BitVec 32 := 0#32
  let c1_i32_13 : BitVec 32 := 1#32
  let arg15 : BitVec 32 := Scf.iv c0_i32_11 c1_i32_13 k0_t11
  let v42 : Index := Scalar.indexCast arg15
  let c7 : Index := 7#32
  let c0_22 : Index := 0#32
  ![v41.toNat, v42.toNat, 7, 0]
def k0_mult25 (k0_t11 : Fin k0_t11_loop.trips) : BitVec 32 :=
  let c0_i32_11 : BitVec 32 := 0#32
  let c1_i32_13 : BitVec 32 := 1#32
  let arg15 : BitVec 32 := Scf.iv c0_i32_11 c1_i32_13 k0_t11
  let c128_i32 : BitVec 32 := 128#32
  let v46 : BitVec 32 := Scalar.muli arg15 c128_i32
  v46
def k0_off121 (k0_t10 : Fin k0_t10_loop.trips) (k0_t11 : Fin k0_t11_loop.trips) : Fin 4 → Nat :=
  let c0_23 : Index := 0#32
  let c0_i32_7 : BitVec 32 := 0#32
  let c1_i32_9 : BitVec 32 := 1#32
  let arg14 : BitVec 32 := Scf.iv c0_i32_7 c1_i32_9 k0_t10
  let v48 : Index := Scalar.indexCast arg14
  let c0_24 : Index := 0#32
  let c0_i32_11 : BitVec 32 := 0#32
  let c1_i32_13 : BitVec 32 := 1#32
  let arg15 : BitVec 32 := Scf.iv c0_i32_11 c1_i32_13 k0_t11
  let c128_i32 : BitVec 32 := 128#32
  let v46 : BitVec 32 := Scalar.muli arg15 c128_i32
  let v47 : BitVec 32 := v46
  let v49 : Index := Scalar.indexCast v47
  ![0, v48.toNat, 0, v49.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x4x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
abbrev S28x3072x1024 : Shape := ⟨3, ![28, 3072, 1024]⟩
abbrev S28x8x128x128 : Shape := ⟨4, ![28, 8, 128, 128]⟩
abbrev S28x4x8x3072 : Shape := ⟨4, ![28, 4, 8, 3072]⟩
abbrev S28x3072x4x1024 : Shape := ⟨4, ![28, 3072, 4, 1024]⟩
abbrev S28x4x32x3072 : Shape := ⟨4, ![28, 4, 32, 3072]⟩
abbrev S1x512x1024 : Shape := ⟨3, ![1, 512, 1024]⟩
abbrev S1x8x128x128 : Shape := ⟨4, ![1, 8, 128, 128]⟩
abbrev S1x4x8x512 : Shape := ⟨4, ![1, 4, 8, 512]⟩
abbrev S1x512x4x1024 : Shape := ⟨4, ![1, 512, 4, 1024]⟩
abbrev S1x4x32x512 : Shape := ⟨4, ![1, 4, 32, 512]⟩
abbrev S4x256x256 : Shape := ⟨3, ![4, 256, 256]⟩
abbrev S4x1024x128 : Shape := ⟨3, ![4, 1024, 128]⟩
abbrev S4x288x128 : Shape := ⟨3, ![4, 288, 128]⟩
abbrev S4x288x2x128 : Shape := ⟨4, ![4, 288, 2, 128]⟩
abbrev S4x288x1x128 : Shape := ⟨4, ![4, 288, 1, 128]⟩
abbrev S4x8x32x128 : Shape := ⟨4, ![4, 8, 32, 128]⟩
abbrev S4x8x32x2x128 : Shape := ⟨5, ![4, 8, 32, 2, 128]⟩
abbrev S4x8x32x1x128 : Shape := ⟨5, ![4, 8, 32, 1, 128]⟩
abbrev S4x4x256x512 : Shape := ⟨4, ![4, 4, 256, 512]⟩
abbrev S4x4x2x128x128 : Shape := ⟨5, ![4, 4, 2, 128, 128]⟩
abbrev S4x4x72x128 : Shape := ⟨4, ![4, 4, 72, 128]⟩
abbrev S128x128 : Shape := ⟨2, ![128, 128]⟩
abbrev S1x1x64x128 : Shape := ⟨4, ![1, 1, 64, 128]⟩
abbrev S64x128 : Shape := ⟨2, ![64, 128]⟩
abbrev S1x64x128 : Shape := ⟨3, ![1, 64, 128]⟩
abbrev S1x128x128 : Shape := ⟨3, ![1, 128, 128]⟩
abbrev S16x128 : Shape := ⟨2, ![16, 128]⟩
abbrev S8x128 : Shape := ⟨2, ![8, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S1x1x8x128 : Shape := ⟨4, ![1, 1, 8, 128]⟩
abbrev S1x1x8x2x128 : Shape := ⟨5, ![1, 1, 8, 2, 128]⟩
abbrev S1x1x8x1x128 : Shape := ⟨5, ![1, 1, 8, 1, 128]⟩
abbrev S1x1x1x128 : Shape := ⟨4, ![1, 1, 1, 128]⟩
abbrev S1x1x1x2x128 : Shape := ⟨5, ![1, 1, 1, 2, 128]⟩
abbrev S1x1x1x1x128 : Shape := ⟨5, ![1, 1, 1, 1, 128]⟩
abbrev S1x128 : Shape := ⟨2, ![1, 128]⟩
abbrev S1x16x128 : Shape := ⟨3, ![1, 16, 128]⟩
abbrev S1x1x16x128 : Shape := ⟨4, ![1, 1, 16, 128]⟩
abbrev S1x1x1x8x128 : Shape := ⟨5, ![1, 1, 1, 8, 128]⟩
abbrev S1x1x1x128x128 : Shape := ⟨5, ![1, 1, 1, 128, 128]⟩
abbrev S512x128 : Shape := ⟨2, ![512, 128]⟩
abbrev S128x4x128 : Shape := ⟨3, ![128, 4, 128]⟩
abbrev S1x128x4x128 : Shape := ⟨4, ![1, 128, 4, 128]⟩
abbrev S1x256x256 : Shape := ⟨3, ![1, 256, 256]⟩
abbrev S256x256 : Shape := ⟨2, ![256, 256]⟩
abbrev S1x1x256x512 : Shape := ⟨4, ![1, 1, 256, 512]⟩
abbrev S256x512 : Shape := ⟨2, ![256, 512]⟩

abbrev nBuf : Space → Nat
  | .hbm => 5
  | .vmem => 17
  | .smem => 0
  | _ => 0

abbrev bufTy : (tb : Table) → Fin (tcTables nBuf tb) → BufTy
  | .hbm, ⟨0, _⟩ => ⟨S28x3072x1024, .bf16⟩
  | .hbm, ⟨1, _⟩ => ⟨S28x8x128x128, .f32⟩
  | .hbm, ⟨2, _⟩ => ⟨S28x4x8x3072, .f32⟩
  | .hbm, ⟨3, _⟩ => ⟨S28x3072x4x1024, .i8⟩
  | .hbm, ⟨4, _⟩ => ⟨S28x4x32x3072, .f32⟩
  | .local _ .vmem, ⟨0, _⟩ => ⟨S1x512x1024, .bf16⟩
  | .local _ .vmem, ⟨1, _⟩ => ⟨S1x512x1024, .bf16⟩
  | .local _ .vmem, ⟨2, _⟩ => ⟨S1x8x128x128, .f32⟩
  | .local _ .vmem, ⟨3, _⟩ => ⟨S1x8x128x128, .f32⟩
  | .local _ .vmem, ⟨4, _⟩ => ⟨S1x4x8x512, .f32⟩
  | .local _ .vmem, ⟨5, _⟩ => ⟨S1x4x8x512, .f32⟩
  | .local _ .vmem, ⟨6, _⟩ => ⟨S1x512x4x1024, .i8⟩
  | .local _ .vmem, ⟨7, _⟩ => ⟨S1x512x4x1024, .i8⟩
  | .local _ .vmem, ⟨8, _⟩ => ⟨S1x4x32x512, .f32⟩
  | .local _ .vmem, ⟨9, _⟩ => ⟨S1x4x32x512, .f32⟩
  | .local _ .vmem, ⟨10, _⟩ => ⟨S4x256x256, .bf16⟩
  | .local _ .vmem, ⟨11, _⟩ => ⟨S4x1024x128, .bf16⟩
  | .local _ .vmem, ⟨12, _⟩ => ⟨S4x288x2x128, .bf16⟩
  | .local _ .vmem, ⟨13, _⟩ => ⟨S4x8x32x2x128, .bf16⟩
  | .local _ .vmem, ⟨14, _⟩ => ⟨S4x4x256x512, .bf16⟩
  | .local _ .vmem, ⟨15, _⟩ => ⟨S4x4x2x128x128, .i32⟩
  | .local _ .vmem, ⟨16, _⟩ => ⟨S4x4x72x128, .f32⟩
  | _, _ => ⟨S28x3072x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := ⟨2, ![28, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c4_i32_12 : BitVec 32 := 4#32
  let v7 : BitVec 32 := Scalar.addi c0_i32_11 c4_i32_12
  let c1_i32_13 : BitVec 32 := 1#32
  ⟨c0_i32_11, v7, c1_i32_13⟩
def k0_off1 (k0_t1 : Fin k0_t1_loop.trips) (c0_i32_15 : BitVec 32) : Fin 4 → Nat :=
  let c0 : Index := 0#32
  let c2_i32 : BitVec 32 := 2#32
  let c0_i32_11 : BitVec 32 := 0#32
  let c1_i32_13 : BitVec 32 := 1#32
  let arg14 : BitVec 32 := Scf.iv c0_i32_11 c1_i32_13 k0_t1
  let v8 : BitVec 32 := Scalar.muli c2_i32 arg14
  let v9 : BitVec 32 := Scalar.addi v8 c0_i32_15
  let v10 : Index := Scalar.indexCast v9
  let c0_16 : Index := 0#32
  let c0_17 : Index := 0#32
  ![0, v10.toNat, 0, 0]
def k0_off2 (k0_t1 : Fin k0_t1_loop.trips) (c0_i32_15 : BitVec 32) : Fin 4 → Nat :=
  let c0_18 : Index := 0#32
  let c2_i32 : BitVec 32 := 2#32
  let c0_i32_11 : BitVec 32 := 0#32
  let c1_i32_13 : BitVec 32 := 1#32
  let arg14 : BitVec 32 := Scf.iv c0_i32_11 c1_i32_13 k0_t1
  let v8 : BitVec 32 := Scalar.muli c2_i32 arg14
  let v9 : BitVec 32 := Scalar.addi v8 c0_i32_15
  let v13 : Index := Scalar.indexCast v9
  let c1 : Index := 1#32
  let c0_19 : Index := 0#32
  ![0, v13.toNat, 1, 0]
def k0_off3 (k0_t1 : Fin k0_t1_loop.trips) : Fin 3 → Nat :=
  let c0_i32_11 : BitVec 32 := 0#32
  let c1_i32_13 : BitVec 32 := 1#32
  let arg14 : BitVec 32 := Scf.iv c0_i32_11 c1_i32_13 k0_t1
  let v17 : Index := Scalar.indexCast arg14
  let c0_20 : Index := 0#32
  let c0_21 : Index := 0#32
  ![v17.toNat, 0, 0]
def k0_off4 (k0_t1 : Fin k0_t1_loop.trips) : Fin 3 → Nat :=
  let c0_i32_11 : BitVec 32 := 0#32
  let c1_i32_13 : BitVec 32 := 1#32
  let arg14 : BitVec 32 := Scf.iv c0_i32_11 c1_i32_13 k0_t1
  let v22 : Index := Scalar.indexCast arg14
  let c64 : Index := 64#32
  let c0_22 : Index := 0#32
  ![v22.toNat, 64, 0]
def k0_off5 (k0_t1 : Fin k0_t1_loop.trips) : Fin 3 → Nat :=
  let c0_i32_11 : BitVec 32 := 0#32
  let c1_i32_13 : BitVec 32 := 1#32
  let arg14 : BitVec 32 := Scf.iv c0_i32_11 c1_i32_13 k0_t1
  let v26 : Index := Scalar.indexCast arg14
  let c0_23 : Index := 0#32
  let c128 : Index := 128#32
  ![v26.toNat, 0, 128]
def k0_off6 (k0_t1 : Fin k0_t1_loop.trips) : Fin 3 → Nat :=
  let c0_i32_11 : BitVec 32 := 0#32
  let c1_i32_13 : BitVec 32 := 1#32
  let arg14 : BitVec 32 := Scf.iv c0_i32_11 c1_i32_13 k0_t1
  let v39 : Index := Scalar.indexCast arg14
  let c128_32 : Index := 128#32
  let c128_33 : Index := 128#32
  ![v39.toNat, 128, 128]
def k0_off7 (k0_t1 : Fin k0_t1_loop.trips) : Fin 3 → Nat :=
  let c0_i32_11 : BitVec 32 := 0#32
  let c1_i32_13 : BitVec 32 := 1#32
  let arg14 : BitVec 32 := Scf.iv c0_i32_11 c1_i32_13 k0_t1
  let v44 : Index := Scalar.indexCast arg14
  let c192 : Index := 192#32
  let c128_34 : Index := 128#32
  ![v44.toNat, 192, 128]
def k0_off8 (k0_t1 : Fin k0_t1_loop.trips) : Fin 3 → Nat :=
  let c0_i32_11 : BitVec 32 := 0#32
  let c1_i32_13 : BitVec 32 := 1#32
  let arg14 : BitVec 32 := Scf.iv c0_i32_11 c1_i32_13 k0_t1
  let v48 : Index := Scalar.indexCast arg14
  let c128_35 : Index := 128#32
  let c0_36 : Index := 0#32
  ![v48.toNat, 128, 0]
@[reducible] def k0_t2_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t2 : Fin k0_t2_loop.trips) : BitVec 32 :=
  let c0_i32_1 : BitVec 32 := 0#32
  let c1_i32 : BitVec 32 := 1#32
  let arg14 : BitVec 32 := Scf.iv c0_i32_1 c1_i32 k0_t2
  let c128_i32 : BitVec 32 := 128#32
  let v6 : BitVec 32 := Scalar.muli arg14 c128_i32
  v6
@[reducible] def k0_t3_loop : Scf.Loop 32 :=
  let c0_i32_11 : BitVec 32 := 0#32
  let c8_i32 : BitVec 32 := 8#32
  let v8 : BitVec 32 := Scalar.addi c0_i32_11 c8_i32
  let c1_i32_12 : BitVec 32 := 1#32
  ⟨c0_i32_11, v8, c1_i32_12⟩
def k0_mult2 (k0_t3 : Fin k0_t3_loop.trips) : BitVec 32 :=
  let c0_i32_11 : BitVec 32 := 0#32
  let c1_i32_12 : BitVec 32 := 1#32
  let arg15 : BitVec 32 := Scf.iv c0_i32_11 c1_i32_12 k0_t3
  let c128_i32_18 : BitVec 32 := 128#32
  let v10 : BitVec 32 := Scalar.muli arg15 c128_i32_18
  v10
def k0_off9 (k0_t2 : Fin k0_t2_loop.trips) (k0_t3 : Fin k0_t3_loop.trips) : Fin 3 → Nat :=
  let c0 : Index := 0#32
  let c0_i32_1 : BitVec 32 := 0#32
  let c1_i32 : BitVec 32 := 1#32
  let arg14 : BitVec 32 := Scf.iv c0_i32_1 c1_i32 k0_t2
  let c128_i32 : BitVec 32 := 128#32
  let v6 : BitVec 32 := Scalar.muli arg14 c128_i32
  let v7 : BitVec 32 := v6
  let v12 : Index := Scalar.indexCast v7
  let c0_i32_11 : BitVec 32 := 0#32
  let c1_i32_12 : BitVec 32 := 1#32
  let arg15 : BitVec 32 := Scf.iv c0_i32_11 c1_i32_12 k0_t3
  let c128_i32_18 : BitVec 32 := 128#32
  let v10 : BitVec 32 := Scalar.muli arg15 c128_i32_18
  let v11 : BitVec 32 := v10
  let v13 : Index := Scalar.indexCast v11
  ![0, v12.toNat, v13.toNat]
def k0_off10 (k0_t2 : Fin k0_t2_loop.trips) (k0_t3 : Fin k0_t3_loop.trips) : Fin 3 → Nat :=
  let c0_i32_1 : BitVec 32 := 0#32
  let c1_i32 : BitVec 32 := 1#32
  let arg14 : BitVec 32 := Scf.iv c0_i32_1 c1_i32 k0_t2
  let v17 : Index := Scalar.indexCast arg14
  let c0_i32_11 : BitVec 32 := 0#32
  let c1_i32_12 : BitVec 32 := 1#32
  let arg15 : BitVec 32 := Scf.iv c0_i32_11 c1_i32_12 k0_t3
  let c128_i32_18 : BitVec 32 := 128#32
  let v10 : BitVec 32 := Scalar.muli arg15 c128_i32_18
  let v11 : BitVec 32 := v10
  let v18 : Index := Scalar.indexCast v11
  let c0_19 : Index := 0#32
  ![v17.toNat, v18.toNat, 0]
def k0_off11 (k0_t2 : Fin k0_t2_loop.trips) (k0_t3 : Fin k0_t3_loop.trips) (c0_i32_21 : BitVec 32) : Fin 4 → Nat :=
  let c0_i32_1 : BitVec 32 := 0#32
  let c1_i32 : BitVec 32 := 1#32
  let arg14 : BitVec 32 := Scf.iv c0_i32_1 c1_i32 k0_t2
  let v30 : Index := Scalar.indexCast arg14
  let c0_i32_11 : BitVec 32 := 0#32
  let c1_i32_12 : BitVec 32 := 1#32
  let arg15 : BitVec 32 := Scf.iv c0_i32_11 c1_i32_12 k0_t3
  let c4_i32_20 : BitVec 32 := 4#32
  let v26 : BitVec 32 := Scalar.muli arg15 c4_i32_20
  let v27 : BitVec 32 := Scalar.addi v26 c0_i32_21
  let c9_i32 : BitVec 32 := 9#32
  let v29 : BitVec 32 := Scalar.muli v27 c9_i32
  let v31 : Index := Scalar.indexCast v29
  let c0_22 : Index := 0#32
  ![v30.toNat, v31.toNat, 0, 0]
@[reducible] def k0_t4_loop : Scf.Loop 32 :=
  let c0_i32_14 : BitVec 32 := 0#32
  let c4_i32_15 : BitVec 32 := 4#32
  let v9 : BitVec 32 := Scalar.addi c0_i32_14 c4_i32_15
  let c1_i32_16 : BitVec 32 := 1#32
  ⟨c0_i32_14, v9, c1_i32_16⟩
def k0_off12 (k0_t2 : Fin k0_t2_loop.trips) (k0_t4 : Fin k0_t4_loop.trips) : Fin 4 → Nat :=
  let c0_i32_1 : BitVec 32 := 0#32
  let c1_i32 : BitVec 32 := 1#32
  let arg14 : BitVec 32 := Scf.iv c0_i32_1 c1_i32 k0_t2
  let v12 : Index := Scalar.indexCast arg14
  let c0_i32_14 : BitVec 32 := 0#32
  let c1_i32_16 : BitVec 32 := 1#32
  let arg15 : BitVec 32 := Scf.iv c0_i32_14 c1_i32_16 k0_t4
  let c8_i32_18 : BitVec 32 := 8#32
  let v10 : BitVec 32 := Scalar.muli arg15 c8_i32_18
  let c9_i32 : BitVec 32 := 9#32
  let v11 : BitVec 32 := Scalar.muli v10 c9_i32
  let v13 : Index := Scalar.indexCast v11
  let c0 : Index := 0#32
  ![v12.toNat, v13.toNat, 0, 0]
def k0_off13 (k0_t2 : Fin k0_t2_loop.trips) (k0_t4 : Fin k0_t4_loop.trips) (c1_i32_19 : BitVec 32) : Fin 4 → Nat :=
  let c0_i32_1 : BitVec 32 := 0#32
  let c1_i32 : BitVec 32 := 1#32
  let arg14 : BitVec 32 := Scf.iv c0_i32_1 c1_i32 k0_t2
  let v18 : Index := Scalar.indexCast arg14
  let c0_i32_14 : BitVec 32 := 0#32
  let c1_i32_16 : BitVec 32 := 1#32
  let arg15 : BitVec 32 := Scf.iv c0_i32_14 c1_i32_16 k0_t4
  let c8_i32_18 : BitVec 32 := 8#32
  let v10 : BitVec 32 := Scalar.muli arg15 c8_i32_18
  let c9_i32 : BitVec 32 := 9#32
  let v11 : BitVec 32 := Scalar.muli v10 c9_i32
  let v17 : BitVec 32 := Scalar.addi v11 c1_i32_19
  let v19 : Index := Scalar.indexCast v17
  let c0_20 : Index := 0#32
  ![v18.toNat, v19.toNat, 0, 0]
def k0_mult3 (k0_t4 : Fin k0_t4_loop.trips) : BitVec 32 :=
  let c0_i32_14 : BitVec 32 := 0#32
  let c1_i32_16 : BitVec 32 := 1#32
  let arg15 : BitVec 32 := Scf.iv c0_i32_14 c1_i32_16 k0_t4
  let c8_i32_32 : BitVec 32 := 8#32
  let v87 : BitVec 32 := Scalar.muli arg15 c8_i32_32
  v87
def k0_off14 (k0_t2 : Fin k0_t2_loop.trips) (k0_t4 : Fin k0_t4_loop.trips) : Fin 4 → Nat :=
  let c0_33 : Index := 0#32
  let c0_34 : Index := 0#32
  let c0_i32_14 : BitVec 32 := 0#32
  let c1_i32_16 : BitVec 32 := 1#32
  let arg15 : BitVec 32 := Scf.iv c0_i32_14 c1_i32_16 k0_t4
  let c8_i32_32 : BitVec 32 := 8#32
  let v87 : BitVec 32 := Scalar.muli arg15 c8_i32_32
  let v88 : BitVec 32 := v87
  let v89 : Index := Scalar.indexCast v88
  let c0_i32_1 : BitVec 32 := 0#32
  let c1_i32 : BitVec 32 := 1#32
  let arg14 : BitVec 32 := Scf.iv c0_i32_1 c1_i32 k0_t2
  let c128_i32 : BitVec 32 := 128#32
  let v6 : BitVec 32 := Scalar.muli arg14 c128_i32
  let v7 : BitVec 32 := v6
  let v90 : Index := Scalar.indexCast v7
  ![0, 0, v89.toNat, v90.toNat]
def k0_mult4 (k0_t4 : Fin k0_t4_loop.trips) : BitVec 32 :=
  let c0_i32_14 : BitVec 32 := 0#32
  let c1_i32_16 : BitVec 32 := 1#32
  let arg15 : BitVec 32 := Scf.iv c0_i32_14 c1_i32_16 k0_t4
  let c8_i32_38 : BitVec 32 := 8#32
  let v100 : BitVec 32 := Scalar.muli arg15 c8_i32_38
  v100
def k0_off15 (k0_t2 : Fin k0_t2_loop.trips) (k0_t4 : Fin k0_t4_loop.trips) : Fin 4 → Nat :=
  let c0_39 : Index := 0#32
  let c1 : Index := 1#32
  let c0_i32_14 : BitVec 32 := 0#32
  let c1_i32_16 : BitVec 32 := 1#32
  let arg15 : BitVec 32 := Scf.iv c0_i32_14 c1_i32_16 k0_t4
  let c8_i32_38 : BitVec 32 := 8#32
  let v100 : BitVec 32 := Scalar.muli arg15 c8_i32_38
  let v101 : BitVec 32 := v100
  let v102 : Index := Scalar.indexCast v101
  let c0_i32_1 : BitVec 32 := 0#32
  let c1_i32 : BitVec 32 := 1#32
  let arg14 : BitVec 32 := Scf.iv c0_i32_1 c1_i32 k0_t2
  let c128_i32 : BitVec 32 := 128#32
  let v6 : BitVec 32 := Scalar.muli arg14 c128_i32
  let v7 : BitVec 32 := v6
  let v103 : Index := Scalar.indexCast v7
  ![0, 1, v102.toNat, v103.toNat]
def k0_mult5 (k0_t4 : Fin k0_t4_loop.trips) : BitVec 32 :=
  let c0_i32_14 : BitVec 32 := 0#32
  let c1_i32_16 : BitVec 32 := 1#32
  let arg15 : BitVec 32 := Scf.iv c0_i32_14 c1_i32_16 k0_t4
  let c8_i32_43 : BitVec 32 := 8#32
  let v113 : BitVec 32 := Scalar.muli arg15 c8_i32_43
  v113
def k0_off16 (k0_t2 : Fin k0_t2_loop.trips) (k0_t4 : Fin k0_t4_loop.trips) : Fin 4 → Nat :=
  let c0_44 : Index := 0#32
  let c2 : Index := 2#32
  let c0_i32_14 : BitVec 32 := 0#32
  let c1_i32_16 : BitVec 32 := 1#32
  let arg15 : BitVec 32 := Scf.iv c0_i32_14 c1_i32_16 k0_t4
  let c8_i32_43 : BitVec 32 := 8#32
  let v113 : BitVec 32 := Scalar.muli arg15 c8_i32_43
  let v114 : BitVec 32 := v113
  let v115 : Index := Scalar.indexCast v114
  let c0_i32_1 : BitVec 32 := 0#32
  let c1_i32 : BitVec 32 := 1#32
  let arg14 : BitVec 32 := Scf.iv c0_i32_1 c1_i32 k0_t2
  let c128_i32 : BitVec 32 := 128#32
  let v6 : BitVec 32 := Scalar.muli arg14 c128_i32
  let v7 : BitVec 32 := v6
  let v116 : Index := Scalar.indexCast v7
  ![0, 2, v115.toNat, v116.toNat]
def k0_mult6 (k0_t4 : Fin k0_t4_loop.trips) : BitVec 32 :=
  let c0_i32_14 : BitVec 32 := 0#32
  let c1_i32_16 : BitVec 32 := 1#32
  let arg15 : BitVec 32 := Scf.iv c0_i32_14 c1_i32_16 k0_t4
  let c8_i32_48 : BitVec 32 := 8#32
  let v126 : BitVec 32 := Scalar.muli arg15 c8_i32_48
  v126
def k0_off17 (k0_t2 : Fin k0_t2_loop.trips) (k0_t4 : Fin k0_t4_loop.trips) : Fin 4 → Nat :=
  let c0_49 : Index := 0#32
  let c3 : Index := 3#32
  let c0_i32_14 : BitVec 32 := 0#32
  let c1_i32_16 : BitVec 32 := 1#32
  let arg15 : BitVec 32 := Scf.iv c0_i32_14 c1_i32_16 k0_t4
  let c8_i32_48 : BitVec 32 := 8#32
  let v126 : BitVec 32 := Scalar.muli arg15 c8_i32_48
  let v127 : BitVec 32 := v126
  let v128 : Index := Scalar.indexCast v127
  let c0_i32_1 : BitVec 32 := 0#32
  let c1_i32 : BitVec 32 := 1#32
  let arg14 : BitVec 32 := Scf.iv c0_i32_1 c1_i32 k0_t2
  let c128_i32 : BitVec 32 := 128#32
  let v6 : BitVec 32 := Scalar.muli arg14 c128_i32
  let v7 : BitVec 32 := v6
  let v129 : Index := Scalar.indexCast v7
  ![0, 3, v128.toNat, v129.toNat]
def k0_mult7 (k0_t4 : Fin k0_t4_loop.trips) : BitVec 32 :=
  let c0_i32_14 : BitVec 32 := 0#32
  let c1_i32_16 : BitVec 32 := 1#32
  let arg15 : BitVec 32 := Scf.iv c0_i32_14 c1_i32_16 k0_t4
  let c8_i32_50 : BitVec 32 := 8#32
  let v135 : BitVec 32 := Scalar.muli arg15 c8_i32_50
  v135
def k0_off18 (k0_t2 : Fin k0_t2_loop.trips) (k0_t4 : Fin k0_t4_loop.trips) : Fin 5 → Nat :=
  let c0_i32_1 : BitVec 32 := 0#32
  let c1_i32 : BitVec 32 := 1#32
  let arg14 : BitVec 32 := Scf.iv c0_i32_1 c1_i32 k0_t2
  let v140 : Index := Scalar.indexCast arg14
  let c0_52 : Index := 0#32
  let c0_i32_14 : BitVec 32 := 0#32
  let c1_i32_16 : BitVec 32 := 1#32
  let arg15 : BitVec 32 := Scf.iv c0_i32_14 c1_i32_16 k0_t4
  let c8_i32_50 : BitVec 32 := 8#32
  let v135 : BitVec 32 := Scalar.muli arg15 c8_i32_50
  let v136 : BitVec 32 := v135
  let v141 : Index := Scalar.indexCast v136
  let c0_53 : Index := 0#32
  ![v140.toNat, 0, v141.toNat, 0, 0]
def k0_off19 (k0_t2 : Fin k0_t2_loop.trips) (k0_t4 : Fin k0_t4_loop.trips) : Fin 5 → Nat :=
  let c0_i32_1 : BitVec 32 := 0#32
  let c1_i32 : BitVec 32 := 1#32
  let arg14 : BitVec 32 := Scf.iv c0_i32_1 c1_i32 k0_t2
  let v148 : Index := Scalar.indexCast arg14
  let c4 : Index := 4#32
  let c0_i32_14 : BitVec 32 := 0#32
  let c1_i32_16 : BitVec 32 := 1#32
  let arg15 : BitVec 32 := Scf.iv c0_i32_14 c1_i32_16 k0_t4
  let c8_i32_50 : BitVec 32 := 8#32
  let v135 : BitVec 32 := Scalar.muli arg15 c8_i32_50
  let v136 : BitVec 32 := v135
  let v149 : Index := Scalar.indexCast v136
  let c0_55 : Index := 0#32
  ![v148.toNat, 4, v149.toNat, 0, 0]
def k0_mult8 (k0_t4 : Fin k0_t4_loop.trips) : BitVec 32 :=
  let c0_i32_14 : BitVec 32 := 0#32
  let c1_i32_16 : BitVec 32 := 1#32
  let arg15 : BitVec 32 := Scf.iv c0_i32_14 c1_i32_16 k0_t4
  let c8_i32_56 : BitVec 32 := 8#32
  let v153 : BitVec 32 := Scalar.muli arg15 c8_i32_56
  v153
def k0_off20 (k0_t2 : Fin k0_t2_loop.trips) (k0_t4 : Fin k0_t4_loop.trips) : Fin 5 → Nat :=
  let c0_i32_1 : BitVec 32 := 0#32
  let c1_i32 : BitVec 32 := 1#32
  let arg14 : BitVec 32 := Scf.iv c0_i32_1 c1_i32 k0_t2
  let v158 : Index := Scalar.indexCast arg14
  let c1_58 : Index := 1#32
  let c0_i32_14 : BitVec 32 := 0#32
  let c1_i32_16 : BitVec 32 := 1#32
  let arg15 : BitVec 32 := Scf.iv c0_i32_14 c1_i32_16 k0_t4
  let c8_i32_56 : BitVec 32 := 8#32
  let v153 : BitVec 32 := Scalar.muli arg15 c8_i32_56
  let v154 : BitVec 32 := v153
  let v159 : Index := Scalar.indexCast v154
  let c0_59 : Index := 0#32
  ![v158.toNat, 1, v159.toNat, 0, 0]
def k0_off21 (k0_t2 : Fin k0_t2_loop.trips) (k0_t4 : Fin k0_t4_loop.trips) : Fin 5 → Nat :=
  let c0_i32_1 : BitVec 32 := 0#32
  let c1_i32 : BitVec 32 := 1#32
  let arg14 : BitVec 32 := Scf.iv c0_i32_1 c1_i32 k0_t2
  let v166 : Index := Scalar.indexCast arg14
  let c5 : Index := 5#32
  let c0_i32_14 : BitVec 32 := 0#32
  let c1_i32_16 : BitVec 32 := 1#32
  let arg15 : BitVec 32 := Scf.iv c0_i32_14 c1_i32_16 k0_t4
  let c8_i32_56 : BitVec 32 := 8#32
  let v153 : BitVec 32 := Scalar.muli arg15 c8_i32_56
  let v154 : BitVec 32 := v153
  let v167 : Index := Scalar.indexCast v154
  let c0_61 : Index := 0#32
  ![v166.toNat, 5, v167.toNat, 0, 0]
def k0_mult9 (k0_t4 : Fin k0_t4_loop.trips) : BitVec 32 :=
  let c0_i32_14 : BitVec 32 := 0#32
  let c1_i32_16 : BitVec 32 := 1#32
  let arg15 : BitVec 32 := Scf.iv c0_i32_14 c1_i32_16 k0_t4
  let c8_i32_62 : BitVec 32 := 8#32
  let v171 : BitVec 32 := Scalar.muli arg15 c8_i32_62
  v171
def k0_off22 (k0_t2 : Fin k0_t2_loop.trips) (k0_t4 : Fin k0_t4_loop.trips) : Fin 5 → Nat :=
  let c0_i32_1 : BitVec 32 := 0#32
  let c1_i32 : BitVec 32 := 1#32
  let arg14 : BitVec 32 := Scf.iv c0_i32_1 c1_i32 k0_t2
  let v176 : Index := Scalar.indexCast arg14
  let c2_64 : Index := 2#32
  let c0_i32_14 : BitVec 32 := 0#32
  let c1_i32_16 : BitVec 32 := 1#32
  let arg15 : BitVec 32 := Scf.iv c0_i32_14 c1_i32_16 k0_t4
  let c8_i32_62 : BitVec 32 := 8#32
  let v171 : BitVec 32 := Scalar.muli arg15 c8_i32_62
  let v172 : BitVec 32 := v171
  let v177 : Index := Scalar.indexCast v172
  let c0_65 : Index := 0#32
  ![v176.toNat, 2, v177.toNat, 0, 0]
def k0_off23 (k0_t2 : Fin k0_t2_loop.trips) (k0_t4 : Fin k0_t4_loop.trips) : Fin 5 → Nat :=
  let c0_i32_1 : BitVec 32 := 0#32
  let c1_i32 : BitVec 32 := 1#32
  let arg14 : BitVec 32 := Scf.iv c0_i32_1 c1_i32 k0_t2
  let v184 : Index := Scalar.indexCast arg14
  let c6 : Index := 6#32
  let c0_i32_14 : BitVec 32 := 0#32
  let c1_i32_16 : BitVec 32 := 1#32
  let arg15 : BitVec 32 := Scf.iv c0_i32_14 c1_i32_16 k0_t4
  let c8_i32_62 : BitVec 32 := 8#32
  let v171 : BitVec 32 := Scalar.muli arg15 c8_i32_62
  let v172 : BitVec 32 := v171
  let v185 : Index := Scalar.indexCast v172
  let c0_67 : Index := 0#32
  ![v184.toNat, 6, v185.toNat, 0, 0]
def k0_mult10 (k0_t4 : Fin k0_t4_loop.trips) : BitVec 32 :=
  let c0_i32_14 : BitVec 32 := 0#32
  let c1_i32_16 : BitVec 32 := 1#32
  let arg15 : BitVec 32 := Scf.iv c0_i32_14 c1_i32_16 k0_t4
  let c8_i32_68 : BitVec 32 := 8#32
  let v189 : BitVec 32 := Scalar.muli arg15 c8_i32_68
  v189
def k0_off24 (k0_t2 : Fin k0_t2_loop.trips) (k0_t4 : Fin k0_t4_loop.trips) : Fin 5 → Nat :=
  let c0_i32_1 : BitVec 32 := 0#32
  let c1_i32 : BitVec 32 := 1#32
  let arg14 : BitVec 32 := Scf.iv c0_i32_1 c1_i32 k0_t2
  let v194 : Index := Scalar.indexCast arg14
  let c3_70 : Index := 3#32
  let c0_i32_14 : BitVec 32 := 0#32
  let c1_i32_16 : BitVec 32 := 1#32
  let arg15 : BitVec 32 := Scf.iv c0_i32_14 c1_i32_16 k0_t4
  let c8_i32_68 : BitVec 32 := 8#32
  let v189 : BitVec 32 := Scalar.muli arg15 c8_i32_68
  let v190 : BitVec 32 := v189
  let v195 : Index := Scalar.indexCast v190
  let c0_71 : Index := 0#32
  ![v194.toNat, 3, v195.toNat, 0, 0]
def k0_off25 (k0_t2 : Fin k0_t2_loop.trips) (k0_t4 : Fin k0_t4_loop.trips) : Fin 5 → Nat :=
  let c0_i32_1 : BitVec 32 := 0#32
  let c1_i32 : BitVec 32 := 1#32
  let arg14 : BitVec 32 := Scf.iv c0_i32_1 c1_i32 k0_t2
  let v202 : Index := Scalar.indexCast arg14
  let c7 : Index := 7#32
  let c0_i32_14 : BitVec 32 := 0#32
  let c1_i32_16 : BitVec 32 := 1#32
  let arg15 : BitVec 32 := Scf.iv c0_i32_14 c1_i32_16 k0_t4
  let c8_i32_68 : BitVec 32 := 8#32
  let v189 : BitVec 32 := Scalar.muli arg15 c8_i32_68
  let v190 : BitVec 32 := v189
  let v203 : Index := Scalar.indexCast v190
  let c0_73 : Index := 0#32
  ![v202.toNat, 7, v203.toNat, 0, 0]
@[reducible] def k0_t5_loop : Scf.Loop 32 :=
  let c0_i32_3 : BitVec 32 := 0#32
  let c4_i32_4 : BitVec 32 := 4#32
  let v4 : BitVec 32 := Scalar.addi c0_i32_3 c4_i32_4
  let c1_i32_5 : BitVec 32 := 1#32
  ⟨c0_i32_3, v4, c1_i32_5⟩
@[reducible] def k0_t6_loop : Scf.Loop 32 :=
  let c0_i32_11 : BitVec 32 := 0#32
  let c4_i32_12 : BitVec 32 := 4#32
  let v6 : BitVec 32 := Scalar.addi c0_i32_11 c4_i32_12
  let c1_i32_13 : BitVec 32 := 1#32
  ⟨c0_i32_11, v6, c1_i32_13⟩
def k0_mult11 (k0_t6 : Fin k0_t6_loop.trips) : BitVec 32 :=
  let c0_i32_11 : BitVec 32 := 0#32
  let c1_i32_13 : BitVec 32 := 1#32
  let arg15 : BitVec 32 := Scf.iv c0_i32_11 c1_i32_13 k0_t6
  let c128_i32 : BitVec 32 := 128#32
  let v8 : BitVec 32 := Scalar.muli arg15 c128_i32
  v8
@[reducible] def k0_t7_loop : Scf.Loop 32 :=
  let c0_i32_19 : BitVec 32 := 0#32
  let c2_i32 : BitVec 32 := 2#32
  let v10 : BitVec 32 := Scalar.addi c0_i32_19 c2_i32
  let c1_i32_20 : BitVec 32 := 1#32
  ⟨c0_i32_19, v10, c1_i32_20⟩
@[reducible] def k0_t8_loop : Scf.Loop 32 :=
  let c0_i32_23 : BitVec 32 := 0#32
  let c4_i32_24 : BitVec 32 := 4#32
  let v13 : BitVec 32 := Scalar.addi c0_i32_23 c4_i32_24
  let c1_i32_25 : BitVec 32 := 1#32
  ⟨c0_i32_23, v13, c1_i32_25⟩
def k0_off26 (k0_t5 : Fin k0_t5_loop.trips) (k0_t6 : Fin k0_t6_loop.trips) (k0_t7 : Fin k0_t7_loop.trips) (k0_t8 : Fin k0_t8_loop.trips) : Fin 5 → Nat :=
  let c0_i32_11 : BitVec 32 := 0#32
  let c1_i32_13 : BitVec 32 := 1#32
  let arg15 : BitVec 32 := Scf.iv c0_i32_11 c1_i32_13 k0_t6
  let v31 : Index := Scalar.indexCast arg15
  let c0_32 : Index := 0#32
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c4_i32_31 : BitVec 32 := 4#32
  let v29 : BitVec 32 := Scalar.muli v12 c4_i32_31
  let c0_i32_23 : BitVec 32 := 0#32
  let c1_i32_25 : BitVec 32 := 1#32
  let arg17 : BitVec 32 := Scf.iv c0_i32_23 c1_i32_25 k0_t8
  let v30 : BitVec 32 := Scalar.addi v29 arg17
  let v32 : Index := Scalar.indexCast v30
  let c0_33 : Index := 0#32
  ![v31.toNat, 0, v32.toNat, 0, 0]
def k0_off27 (k0_t5 : Fin k0_t5_loop.trips) (k0_t6 : Fin k0_t6_loop.trips) (k0_t7 : Fin k0_t7_loop.trips) (k0_t8 : Fin k0_t8_loop.trips) : Fin 5 → Nat :=
  let c0_i32_11 : BitVec 32 := 0#32
  let c1_i32_13 : BitVec 32 := 1#32
  let arg15 : BitVec 32 := Scf.iv c0_i32_11 c1_i32_13 k0_t6
  let v37 : Index := Scalar.indexCast arg15
  let c1 : Index := 1#32
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c4_i32_31 : BitVec 32 := 4#32
  let v29 : BitVec 32 := Scalar.muli v12 c4_i32_31
  let c0_i32_23 : BitVec 32 := 0#32
  let c1_i32_25 : BitVec 32 := 1#32
  let arg17 : BitVec 32 := Scf.iv c0_i32_23 c1_i32_25 k0_t8
  let v30 : BitVec 32 := Scalar.addi v29 arg17
  let v38 : Index := Scalar.indexCast v30
  let c0_34 : Index := 0#32
  ![v37.toNat, 1, v38.toNat, 0, 0]
def k0_off28 (k0_t5 : Fin k0_t5_loop.trips) (k0_t6 : Fin k0_t6_loop.trips) (k0_t7 : Fin k0_t7_loop.trips) (k0_t8 : Fin k0_t8_loop.trips) : Fin 5 → Nat :=
  let c0_i32_11 : BitVec 32 := 0#32
  let c1_i32_13 : BitVec 32 := 1#32
  let arg15 : BitVec 32 := Scf.iv c0_i32_11 c1_i32_13 k0_t6
  let v43 : Index := Scalar.indexCast arg15
  let c2 : Index := 2#32
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c4_i32_31 : BitVec 32 := 4#32
  let v29 : BitVec 32 := Scalar.muli v12 c4_i32_31
  let c0_i32_23 : BitVec 32 := 0#32
  let c1_i32_25 : BitVec 32 := 1#32
  let arg17 : BitVec 32 := Scf.iv c0_i32_23 c1_i32_25 k0_t8
  let v30 : BitVec 32 := Scalar.addi v29 arg17
  let v44 : Index := Scalar.indexCast v30
  let c0_35 : Index := 0#32
  ![v43.toNat, 2, v44.toNat, 0, 0]
def k0_off29 (k0_t5 : Fin k0_t5_loop.trips) (k0_t6 : Fin k0_t6_loop.trips) (k0_t7 : Fin k0_t7_loop.trips) (k0_t8 : Fin k0_t8_loop.trips) : Fin 5 → Nat :=
  let c0_i32_11 : BitVec 32 := 0#32
  let c1_i32_13 : BitVec 32 := 1#32
  let arg15 : BitVec 32 := Scf.iv c0_i32_11 c1_i32_13 k0_t6
  let v49 : Index := Scalar.indexCast arg15
  let c3 : Index := 3#32
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c4_i32_31 : BitVec 32 := 4#32
  let v29 : BitVec 32 := Scalar.muli v12 c4_i32_31
  let c0_i32_23 : BitVec 32 := 0#32
  let c1_i32_25 : BitVec 32 := 1#32
  let arg17 : BitVec 32 := Scf.iv c0_i32_23 c1_i32_25 k0_t8
  let v30 : BitVec 32 := Scalar.addi v29 arg17
  let v50 : Index := Scalar.indexCast v30
  let c0_36 : Index := 0#32
  ![v49.toNat, 3, v50.toNat, 0, 0]
def k0_off30 (k0_t5 : Fin k0_t5_loop.trips) (k0_t6 : Fin k0_t6_loop.trips) (k0_t7 : Fin k0_t7_loop.trips) (k0_t8 : Fin k0_t8_loop.trips) : Fin 5 → Nat :=
  let c0_i32_11 : BitVec 32 := 0#32
  let c1_i32_13 : BitVec 32 := 1#32
  let arg15 : BitVec 32 := Scf.iv c0_i32_11 c1_i32_13 k0_t6
  let v55 : Index := Scalar.indexCast arg15
  let c4 : Index := 4#32
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c4_i32_31 : BitVec 32 := 4#32
  let v29 : BitVec 32 := Scalar.muli v12 c4_i32_31
  let c0_i32_23 : BitVec 32 := 0#32
  let c1_i32_25 : BitVec 32 := 1#32
  let arg17 : BitVec 32 := Scf.iv c0_i32_23 c1_i32_25 k0_t8
  let v30 : BitVec 32 := Scalar.addi v29 arg17
  let v56 : Index := Scalar.indexCast v30
  let c0_37 : Index := 0#32
  ![v55.toNat, 4, v56.toNat, 0, 0]
def k0_off31 (k0_t5 : Fin k0_t5_loop.trips) (k0_t6 : Fin k0_t6_loop.trips) (k0_t7 : Fin k0_t7_loop.trips) (k0_t8 : Fin k0_t8_loop.trips) : Fin 5 → Nat :=
  let c0_i32_11 : BitVec 32 := 0#32
  let c1_i32_13 : BitVec 32 := 1#32
  let arg15 : BitVec 32 := Scf.iv c0_i32_11 c1_i32_13 k0_t6
  let v61 : Index := Scalar.indexCast arg15
  let c5 : Index := 5#32
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c4_i32_31 : BitVec 32 := 4#32
  let v29 : BitVec 32 := Scalar.muli v12 c4_i32_31
  let c0_i32_23 : BitVec 32 := 0#32
  let c1_i32_25 : BitVec 32 := 1#32
  let arg17 : BitVec 32 := Scf.iv c0_i32_23 c1_i32_25 k0_t8
  let v30 : BitVec 32 := Scalar.addi v29 arg17
  let v62 : Index := Scalar.indexCast v30
  let c0_38 : Index := 0#32
  ![v61.toNat, 5, v62.toNat, 0, 0]
def k0_off32 (k0_t5 : Fin k0_t5_loop.trips) (k0_t6 : Fin k0_t6_loop.trips) (k0_t7 : Fin k0_t7_loop.trips) (k0_t8 : Fin k0_t8_loop.trips) : Fin 5 → Nat :=
  let c0_i32_11 : BitVec 32 := 0#32
  let c1_i32_13 : BitVec 32 := 1#32
  let arg15 : BitVec 32 := Scf.iv c0_i32_11 c1_i32_13 k0_t6
  let v67 : Index := Scalar.indexCast arg15
  let c6 : Index := 6#32
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c4_i32_31 : BitVec 32 := 4#32
  let v29 : BitVec 32 := Scalar.muli v12 c4_i32_31
  let c0_i32_23 : BitVec 32 := 0#32
  let c1_i32_25 : BitVec 32 := 1#32
  let arg17 : BitVec 32 := Scf.iv c0_i32_23 c1_i32_25 k0_t8
  let v30 : BitVec 32 := Scalar.addi v29 arg17
  let v68 : Index := Scalar.indexCast v30
  let c0_39 : Index := 0#32
  ![v67.toNat, 6, v68.toNat, 0, 0]
def k0_off33 (k0_t5 : Fin k0_t5_loop.trips) (k0_t6 : Fin k0_t6_loop.trips) (k0_t7 : Fin k0_t7_loop.trips) (k0_t8 : Fin k0_t8_loop.trips) : Fin 5 → Nat :=
  let c0_i32_11 : BitVec 32 := 0#32
  let c1_i32_13 : BitVec 32 := 1#32
  let arg15 : BitVec 32 := Scf.iv c0_i32_11 c1_i32_13 k0_t6
  let v73 : Index := Scalar.indexCast arg15
  let c7 : Index := 7#32
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c4_i32_31 : BitVec 32 := 4#32
  let v29 : BitVec 32 := Scalar.muli v12 c4_i32_31
  let c0_i32_23 : BitVec 32 := 0#32
  let c1_i32_25 : BitVec 32 := 1#32
  let arg17 : BitVec 32 := Scf.iv c0_i32_23 c1_i32_25 k0_t8
  let v30 : BitVec 32 := Scalar.addi v29 arg17
  let v74 : Index := Scalar.indexCast v30
  let c0_40 : Index := 0#32
  ![v73.toNat, 7, v74.toNat, 0, 0]
def k0_mult12 (k0_t5 : Fin k0_t5_loop.trips) (k0_t7 : Fin k0_t7_loop.trips) (k0_t8 : Fin k0_t8_loop.trips) : BitVec 32 :=
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c128_i32_41 : BitVec 32 := 128#32
  let v79 : BitVec 32 := Scalar.muli v12 c128_i32_41
  let c0_i32_23 : BitVec 32 := 0#32
  let c1_i32_25 : BitVec 32 := 1#32
  let arg17 : BitVec 32 := Scf.iv c0_i32_23 c1_i32_25 k0_t8
  let c32_i32 : BitVec 32 := 32#32
  let v80 : BitVec 32 := Scalar.muli arg17 c32_i32
  let v81 : BitVec 32 := Scalar.addi v79 v80
  let c0_i32_42 : BitVec 32 := 0#32
  let v82 : BitVec 32 := Scalar.addi v81 c0_i32_42
  v82
def k0_off34 (k0_t5 : Fin k0_t5_loop.trips) (k0_t6 : Fin k0_t6_loop.trips) (k0_t7 : Fin k0_t7_loop.trips) (k0_t8 : Fin k0_t8_loop.trips) (c0_i32_42 : BitVec 32) : Fin 3 → Nat :=
  let c0_i32_11 : BitVec 32 := 0#32
  let c1_i32_13 : BitVec 32 := 1#32
  let arg15 : BitVec 32 := Scf.iv c0_i32_11 c1_i32_13 k0_t6
  let v84 : Index := Scalar.indexCast arg15
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c128_i32_41 : BitVec 32 := 128#32
  let v79 : BitVec 32 := Scalar.muli v12 c128_i32_41
  let c0_i32_23 : BitVec 32 := 0#32
  let c1_i32_25 : BitVec 32 := 1#32
  let arg17 : BitVec 32 := Scf.iv c0_i32_23 c1_i32_25 k0_t8
  let c32_i32 : BitVec 32 := 32#32
  let v80 : BitVec 32 := Scalar.muli arg17 c32_i32
  let v81 : BitVec 32 := Scalar.addi v79 v80
  let v82 : BitVec 32 := Scalar.addi v81 c0_i32_42
  let v83 : BitVec 32 := v82
  let v85 : Index := Scalar.indexCast v83
  let c0_43 : Index := 0#32
  ![v84.toNat, v85.toNat, 0]
def k0_mult13 (k0_t7 : Fin k0_t7_loop.trips) (k0_t8 : Fin k0_t8_loop.trips) : BitVec 32 :=
  let c0_i32_19 : BitVec 32 := 0#32
  let c1_i32_20 : BitVec 32 := 1#32
  let arg16 : BitVec 32 := Scf.iv c0_i32_19 c1_i32_20 k0_t7
  let c128_i32_47 : BitVec 32 := 128#32
  let v104 : BitVec 32 := Scalar.muli arg16 c128_i32_47
  let c0_i32_23 : BitVec 32 := 0#32
  let c1_i32_25 : BitVec 32 := 1#32
  let arg17 : BitVec 32 := Scf.iv c0_i32_23 c1_i32_25 k0_t8
  let c32_i32_48 : BitVec 32 := 32#32
  let v105 : BitVec 32 := Scalar.muli arg17 c32_i32_48
  let v106 : BitVec 32 := Scalar.addi v104 v105
  let c0_i32_49 : BitVec 32 := 0#32
  let v107 : BitVec 32 := Scalar.addi v106 c0_i32_49
  v107
def k0_off35 (k0_t5 : Fin k0_t5_loop.trips) (k0_t6 : Fin k0_t6_loop.trips) (k0_t7 : Fin k0_t7_loop.trips) (k0_t8 : Fin k0_t8_loop.trips) (c0_i32_49 : BitVec 32) : Fin 4 → Nat :=
  let c0_50 : Index := 0#32
  let c0_i32_3 : BitVec 32 := 0#32
  let c1_i32_5 : BitVec 32 := 1#32
  let arg14 : BitVec 32 := Scf.iv c0_i32_3 c1_i32_5 k0_t5
  let v109 : Index := Scalar.indexCast arg14
  let c0_i32_19 : BitVec 32 := 0#32
  let c1_i32_20 : BitVec 32 := 1#32
  let arg16 : BitVec 32 := Scf.iv c0_i32_19 c1_i32_20 k0_t7
  let c128_i32_47 : BitVec 32 := 128#32
  let v104 : BitVec 32 := Scalar.muli arg16 c128_i32_47
  let c0_i32_23 : BitVec 32 := 0#32
  let c1_i32_25 : BitVec 32 := 1#32
  let arg17 : BitVec 32 := Scf.iv c0_i32_23 c1_i32_25 k0_t8
  let c32_i32_48 : BitVec 32 := 32#32
  let v105 : BitVec 32 := Scalar.muli arg17 c32_i32_48
  let v106 : BitVec 32 := Scalar.addi v104 v105
  let v107 : BitVec 32 := Scalar.addi v106 c0_i32_49
  let v108 : BitVec 32 := v107
  let v110 : Index := Scalar.indexCast v108
  let c0_i32_11 : BitVec 32 := 0#32
  let c1_i32_13 : BitVec 32 := 1#32
  let arg15 : BitVec 32 := Scf.iv c0_i32_11 c1_i32_13 k0_t6
  let c128_i32 : BitVec 32 := 128#32
  let v8 : BitVec 32 := Scalar.muli arg15 c128_i32
  let v9 : BitVec 32 := v8
  let v111 : Index := Scalar.indexCast v9
  ![0, v109.toNat, v110.toNat, v111.toNat]
def k0_mult14 (k0_t7 : Fin k0_t7_loop.trips) (k0_t8 : Fin k0_t8_loop.trips) : BitVec 32 :=
  let c0_i32_19 : BitVec 32 := 0#32
  let c1_i32_20 : BitVec 32 := 1#32
  let arg16 : BitVec 32 := Scf.iv c0_i32_19 c1_i32_20 k0_t7
  let c128_i32_57 : BitVec 32 := 128#32
  let v140 : BitVec 32 := Scalar.muli arg16 c128_i32_57
  let c0_i32_23 : BitVec 32 := 0#32
  let c1_i32_25 : BitVec 32 := 1#32
  let arg17 : BitVec 32 := Scf.iv c0_i32_23 c1_i32_25 k0_t8
  let c32_i32_58 : BitVec 32 := 32#32
  let v141 : BitVec 32 := Scalar.muli arg17 c32_i32_58
  let v142 : BitVec 32 := Scalar.addi v140 v141
  let c0_i32_59 : BitVec 32 := 0#32
  let v143 : BitVec 32 := Scalar.addi v142 c0_i32_59
  v143
def k0_off36 (k0_t5 : Fin k0_t5_loop.trips) (k0_t6 : Fin k0_t6_loop.trips) (k0_t7 : Fin k0_t7_loop.trips) (k0_t8 : Fin k0_t8_loop.trips) (c0_i32_59 : BitVec 32) : Fin 4 → Nat :=
  let c1_60 : Index := 1#32
  let c0_i32_3 : BitVec 32 := 0#32
  let c1_i32_5 : BitVec 32 := 1#32
  let arg14 : BitVec 32 := Scf.iv c0_i32_3 c1_i32_5 k0_t5
  let v145 : Index := Scalar.indexCast arg14
  let c0_i32_19 : BitVec 32 := 0#32
  let c1_i32_20 : BitVec 32 := 1#32
  let arg16 : BitVec 32 := Scf.iv c0_i32_19 c1_i32_20 k0_t7
  let c128_i32_57 : BitVec 32 := 128#32
  let v140 : BitVec 32 := Scalar.muli arg16 c128_i32_57
  let c0_i32_23 : BitVec 32 := 0#32
  let c1_i32_25 : BitVec 32 := 1#32
  let arg17 : BitVec 32 := Scf.iv c0_i32_23 c1_i32_25 k0_t8
  let c32_i32_58 : BitVec 32 := 32#32
  let v141 : BitVec 32 := Scalar.muli arg17 c32_i32_58
  let v142 : BitVec 32 := Scalar.addi v140 v141
  let v143 : BitVec 32 := Scalar.addi v142 c0_i32_59
  let v144 : BitVec 32 := v143
  let v146 : Index := Scalar.indexCast v144
  let c0_i32_11 : BitVec 32 := 0#32
  let c1_i32_13 : BitVec 32 := 1#32
  let arg15 : BitVec 32 := Scf.iv c0_i32_11 c1_i32_13 k0_t6
  let c128_i32 : BitVec 32 := 128#32
  let v8 : BitVec 32 := Scalar.muli arg15 c128_i32
  let v9 : BitVec 32 := v8
  let v147 : Index := Scalar.indexCast v9
  ![1, v145.toNat, v146.toNat, v147.toNat]
def k0_mult15 (k0_t7 : Fin k0_t7_loop.trips) (k0_t8 : Fin k0_t8_loop.trips) : BitVec 32 :=
  let c0_i32_19 : BitVec 32 := 0#32
  let c1_i32_20 : BitVec 32 := 1#32
  let arg16 : BitVec 32 := Scf.iv c0_i32_19 c1_i32_20 k0_t7
  let c128_i32_67 : BitVec 32 := 128#32
  let v176 : BitVec 32 := Scalar.muli arg16 c128_i32_67
  let c0_i32_23 : BitVec 32 := 0#32
  let c1_i32_25 : BitVec 32 := 1#32
  let arg17 : BitVec 32 := Scf.iv c0_i32_23 c1_i32_25 k0_t8
  let c32_i32_68 : BitVec 32 := 32#32
  let v177 : BitVec 32 := Scalar.muli arg17 c32_i32_68
  let v178 : BitVec 32 := Scalar.addi v176 v177
  let c0_i32_69 : BitVec 32 := 0#32
  let v179 : BitVec 32 := Scalar.addi v178 c0_i32_69
  v179
def k0_off37 (k0_t5 : Fin k0_t5_loop.trips) (k0_t6 : Fin k0_t6_loop.trips) (k0_t7 : Fin k0_t7_loop.trips) (k0_t8 : Fin k0_t8_loop.trips) (c0_i32_69 : BitVec 32) : Fin 4 → Nat :=
  let c2_70 : Index := 2#32
  let c0_i32_3 : BitVec 32 := 0#32
  let c1_i32_5 : BitVec 32 := 1#32
  let arg14 : BitVec 32 := Scf.iv c0_i32_3 c1_i32_5 k0_t5
  let v181 : Index := Scalar.indexCast arg14
  let c0_i32_19 : BitVec 32 := 0#32
  let c1_i32_20 : BitVec 32 := 1#32
  let arg16 : BitVec 32 := Scf.iv c0_i32_19 c1_i32_20 k0_t7
  let c128_i32_67 : BitVec 32 := 128#32
  let v176 : BitVec 32 := Scalar.muli arg16 c128_i32_67
  let c0_i32_23 : BitVec 32 := 0#32
  let c1_i32_25 : BitVec 32 := 1#32
  let arg17 : BitVec 32 := Scf.iv c0_i32_23 c1_i32_25 k0_t8
  let c32_i32_68 : BitVec 32 := 32#32
  let v177 : BitVec 32 := Scalar.muli arg17 c32_i32_68
  let v178 : BitVec 32 := Scalar.addi v176 v177
  let v179 : BitVec 32 := Scalar.addi v178 c0_i32_69
  let v180 : BitVec 32 := v179
  let v182 : Index := Scalar.indexCast v180
  let c0_i32_11 : BitVec 32 := 0#32
  let c1_i32_13 : BitVec 32 := 1#32
  let arg15 : BitVec 32 := Scf.iv c0_i32_11 c1_i32_13 k0_t6
  let c128_i32 : BitVec 32 := 128#32
  let v8 : BitVec 32 := Scalar.muli arg15 c128_i32
  let v9 : BitVec 32 := v8
  let v183 : Index := Scalar.indexCast v9
  ![2, v181.toNat, v182.toNat, v183.toNat]
def k0_mult16 (k0_t7 : Fin k0_t7_loop.trips) (k0_t8 : Fin k0_t8_loop.trips) : BitVec 32 :=
  let c0_i32_19 : BitVec 32 := 0#32
  let c1_i32_20 : BitVec 32 := 1#32
  let arg16 : BitVec 32 := Scf.iv c0_i32_19 c1_i32_20 k0_t7
  let c128_i32_79 : BitVec 32 := 128#32
  let v217 : BitVec 32 := Scalar.muli arg16 c128_i32_79
  let c0_i32_23 : BitVec 32 := 0#32
  let c1_i32_25 : BitVec 32 := 1#32
  let arg17 : BitVec 32 := Scf.iv c0_i32_23 c1_i32_25 k0_t8
  let c32_i32_80 : BitVec 32 := 32#32
  let v218 : BitVec 32 := Scalar.muli arg17 c32_i32_80
  let v219 : BitVec 32 := Scalar.addi v217 v218
  let c0_i32_81 : BitVec 32 := 0#32
  let v220 : BitVec 32 := Scalar.addi v219 c0_i32_81
  v220
def k0_off38 (k0_t5 : Fin k0_t5_loop.trips) (k0_t6 : Fin k0_t6_loop.trips) (k0_t7 : Fin k0_t7_loop.trips) (k0_t8 : Fin k0_t8_loop.trips) (c0_i32_81 : BitVec 32) : Fin 4 → Nat :=
  let c3_82 : Index := 3#32
  let c0_i32_3 : BitVec 32 := 0#32
  let c1_i32_5 : BitVec 32 := 1#32
  let arg14 : BitVec 32 := Scf.iv c0_i32_3 c1_i32_5 k0_t5
  let v222 : Index := Scalar.indexCast arg14
  let c0_i32_19 : BitVec 32 := 0#32
  let c1_i32_20 : BitVec 32 := 1#32
  let arg16 : BitVec 32 := Scf.iv c0_i32_19 c1_i32_20 k0_t7
  let c128_i32_79 : BitVec 32 := 128#32
  let v217 : BitVec 32 := Scalar.muli arg16 c128_i32_79
  let c0_i32_23 : BitVec 32 := 0#32
  let c1_i32_25 : BitVec 32 := 1#32
  let arg17 : BitVec 32 := Scf.iv c0_i32_23 c1_i32_25 k0_t8
  let c32_i32_80 : BitVec 32 := 32#32
  let v218 : BitVec 32 := Scalar.muli arg17 c32_i32_80
  let v219 : BitVec 32 := Scalar.addi v217 v218
  let v220 : BitVec 32 := Scalar.addi v219 c0_i32_81
  let v221 : BitVec 32 := v220
  let v223 : Index := Scalar.indexCast v221
  let c0_i32_11 : BitVec 32 := 0#32
  let c1_i32_13 : BitVec 32 := 1#32
  let arg15 : BitVec 32 := Scf.iv c0_i32_11 c1_i32_13 k0_t6
  let c128_i32 : BitVec 32 := 128#32
  let v8 : BitVec 32 := Scalar.muli arg15 c128_i32
  let v9 : BitVec 32 := v8
  let v224 : Index := Scalar.indexCast v9
  ![3, v222.toNat, v223.toNat, v224.toNat]
def k0_mult17 (k0_t8 : Fin k0_t8_loop.trips) : BitVec 32 :=
  let c0_i32_23 : BitVec 32 := 0#32
  let c1_i32_25 : BitVec 32 := 1#32
  let arg17 : BitVec 32 := Scf.iv c0_i32_23 c1_i32_25 k0_t8
  let c32_i32_87 : BitVec 32 := 32#32
  let v255 : BitVec 32 := Scalar.muli arg17 c32_i32_87
  let c0_i32_88 : BitVec 32 := 0#32
  let v256 : BitVec 32 := Scalar.addi v255 c0_i32_88
  v256
def k0_off39 (k0_t5 : Fin k0_t5_loop.trips) (k0_t6 : Fin k0_t6_loop.trips) (k0_t7 : Fin k0_t7_loop.trips) (k0_t8 : Fin k0_t8_loop.trips) (c0_i32_88 : BitVec 32) : Fin 5 → Nat :=
  let c0_i32_3 : BitVec 32 := 0#32
  let c1_i32_5 : BitVec 32 := 1#32
  let arg14 : BitVec 32 := Scf.iv c0_i32_3 c1_i32_5 k0_t5
  let v258 : Index := Scalar.indexCast arg14
  let c0_i32_11 : BitVec 32 := 0#32
  let c1_i32_13 : BitVec 32 := 1#32
  let arg15 : BitVec 32 := Scf.iv c0_i32_11 c1_i32_13 k0_t6
  let v259 : Index := Scalar.indexCast arg15
  let c0_i32_19 : BitVec 32 := 0#32
  let c1_i32_20 : BitVec 32 := 1#32
  let arg16 : BitVec 32 := Scf.iv c0_i32_19 c1_i32_20 k0_t7
  let v260 : Index := Scalar.indexCast arg16
  let c0_i32_23 : BitVec 32 := 0#32
  let c1_i32_25 : BitVec 32 := 1#32
  let arg17 : BitVec 32 := Scf.iv c0_i32_23 c1_i32_25 k0_t8
  let c32_i32_87 : BitVec 32 := 32#32
  let v255 : BitVec 32 := Scalar.muli arg17 c32_i32_87
  let v256 : BitVec 32 := Scalar.addi v255 c0_i32_88
  let v257 : BitVec 32 := v256
  let v261 : Index := Scalar.indexCast v257
  let c0_89 : Index := 0#32
  ![v258.toNat, v259.toNat, v260.toNat, v261.toNat, 0]
def k0_off40 (k0_t5 : Fin k0_t5_loop.trips) (k0_t6 : Fin k0_t6_loop.trips) (k0_t7 : Fin k0_t7_loop.trips) (k0_t8 : Fin k0_t8_loop.trips) (c0_i32_88 : BitVec 32) : Fin 5 → Nat :=
  let c0_i32_3 : BitVec 32 := 0#32
  let c1_i32_5 : BitVec 32 := 1#32
  let arg14 : BitVec 32 := Scf.iv c0_i32_3 c1_i32_5 k0_t5
  let v266 : Index := Scalar.indexCast arg14
  let c0_i32_11 : BitVec 32 := 0#32
  let c1_i32_13 : BitVec 32 := 1#32
  let arg15 : BitVec 32 := Scf.iv c0_i32_11 c1_i32_13 k0_t6
  let v267 : Index := Scalar.indexCast arg15
  let c0_i32_19 : BitVec 32 := 0#32
  let c1_i32_20 : BitVec 32 := 1#32
  let arg16 : BitVec 32 := Scf.iv c0_i32_19 c1_i32_20 k0_t7
  let v268 : Index := Scalar.indexCast arg16
  let c0_i32_23 : BitVec 32 := 0#32
  let c1_i32_25 : BitVec 32 := 1#32
  let arg17 : BitVec 32 := Scf.iv c0_i32_23 c1_i32_25 k0_t8
  let c32_i32_87 : BitVec 32 := 32#32
  let v255 : BitVec 32 := Scalar.muli arg17 c32_i32_87
  let v256 : BitVec 32 := Scalar.addi v255 c0_i32_88
  let v257 : BitVec 32 := v256
  let c1_i32_90 : BitVec 32 := 1#32
  let v265 : BitVec 32 := Scalar.addi v257 c1_i32_90
  let v269 : Index := Scalar.indexCast v265
  let c0_91 : Index := 0#32
  ![v266.toNat, v267.toNat, v268.toNat, v269.toNat, 0]
def k0_mult18 (k0_t5 : Fin k0_t5_loop.trips) (k0_t7 : Fin k0_t7_loop.trips) (k0_t8 : Fin k0_t8_loop.trips) : BitVec 32 :=
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c128_i32_92 : BitVec 32 := 128#32
  let v273 : BitVec 32 := Scalar.muli v12 c128_i32_92
  let c0_i32_23 : BitVec 32 := 0#32
  let c1_i32_25 : BitVec 32 := 1#32
  let arg17 : BitVec 32 := Scf.iv c0_i32_23 c1_i32_25 k0_t8
  let c32_i32_93 : BitVec 32 := 32#32
  let v274 : BitVec 32 := Scalar.muli arg17 c32_i32_93
  let v275 : BitVec 32 := Scalar.addi v273 v274
  let c16_i32_94 : BitVec 32 := 16#32
  let v276 : BitVec 32 := Scalar.addi v275 c16_i32_94
  v276
def k0_mult19 (k0_t7 : Fin k0_t7_loop.trips) (k0_t8 : Fin k0_t8_loop.trips) : BitVec 32 :=
  let c0_i32_19 : BitVec 32 := 0#32
  let c1_i32_20 : BitVec 32 := 1#32
  let arg16 : BitVec 32 := Scf.iv c0_i32_19 c1_i32_20 k0_t7
  let c128_i32_100 : BitVec 32 := 128#32
  let v298 : BitVec 32 := Scalar.muli arg16 c128_i32_100
  let c0_i32_23 : BitVec 32 := 0#32
  let c1_i32_25 : BitVec 32 := 1#32
  let arg17 : BitVec 32 := Scf.iv c0_i32_23 c1_i32_25 k0_t8
  let c32_i32_101 : BitVec 32 := 32#32
  let v299 : BitVec 32 := Scalar.muli arg17 c32_i32_101
  let v300 : BitVec 32 := Scalar.addi v298 v299
  let c16_i32_102 : BitVec 32 := 16#32
  let v301 : BitVec 32 := Scalar.addi v300 c16_i32_102
  v301
def k0_mult20 (k0_t7 : Fin k0_t7_loop.trips) (k0_t8 : Fin k0_t8_loop.trips) : BitVec 32 :=
  let c0_i32_19 : BitVec 32 := 0#32
  let c1_i32_20 : BitVec 32 := 1#32
  let arg16 : BitVec 32 := Scf.iv c0_i32_19 c1_i32_20 k0_t7
  let c128_i32_110 : BitVec 32 := 128#32
  let v334 : BitVec 32 := Scalar.muli arg16 c128_i32_110
  let c0_i32_23 : BitVec 32 := 0#32
  let c1_i32_25 : BitVec 32 := 1#32
  let arg17 : BitVec 32 := Scf.iv c0_i32_23 c1_i32_25 k0_t8
  let c32_i32_111 : BitVec 32 := 32#32
  let v335 : BitVec 32 := Scalar.muli arg17 c32_i32_111
  let v336 : BitVec 32 := Scalar.addi v334 v335
  let c16_i32_112 : BitVec 32 := 16#32
  let v337 : BitVec 32 := Scalar.addi v336 c16_i32_112
  v337
def k0_mult21 (k0_t7 : Fin k0_t7_loop.trips) (k0_t8 : Fin k0_t8_loop.trips) : BitVec 32 :=
  let c0_i32_19 : BitVec 32 := 0#32
  let c1_i32_20 : BitVec 32 := 1#32
  let arg16 : BitVec 32 := Scf.iv c0_i32_19 c1_i32_20 k0_t7
  let c128_i32_120 : BitVec 32 := 128#32
  let v370 : BitVec 32 := Scalar.muli arg16 c128_i32_120
  let c0_i32_23 : BitVec 32 := 0#32
  let c1_i32_25 : BitVec 32 := 1#32
  let arg17 : BitVec 32 := Scf.iv c0_i32_23 c1_i32_25 k0_t8
  let c32_i32_121 : BitVec 32 := 32#32
  let v371 : BitVec 32 := Scalar.muli arg17 c32_i32_121
  let v372 : BitVec 32 := Scalar.addi v370 v371
  let c16_i32_122 : BitVec 32 := 16#32
  let v373 : BitVec 32 := Scalar.addi v372 c16_i32_122
  v373
def k0_mult22 (k0_t7 : Fin k0_t7_loop.trips) (k0_t8 : Fin k0_t8_loop.trips) : BitVec 32 :=
  let c0_i32_19 : BitVec 32 := 0#32
  let c1_i32_20 : BitVec 32 := 1#32
  let arg16 : BitVec 32 := Scf.iv c0_i32_19 c1_i32_20 k0_t7
  let c128_i32_132 : BitVec 32 := 128#32
  let v411 : BitVec 32 := Scalar.muli arg16 c128_i32_132
  let c0_i32_23 : BitVec 32 := 0#32
  let c1_i32_25 : BitVec 32 := 1#32
  let arg17 : BitVec 32 := Scf.iv c0_i32_23 c1_i32_25 k0_t8
  let c32_i32_133 : BitVec 32 := 32#32
  let v412 : BitVec 32 := Scalar.muli arg17 c32_i32_133
  let v413 : BitVec 32 := Scalar.addi v411 v412
  let c16_i32_134 : BitVec 32 := 16#32
  let v414 : BitVec 32 := Scalar.addi v413 c16_i32_134
  v414
def k0_mult23 (k0_t8 : Fin k0_t8_loop.trips) : BitVec 32 :=
  let c0_i32_23 : BitVec 32 := 0#32
  let c1_i32_25 : BitVec 32 := 1#32
  let arg17 : BitVec 32 := Scf.iv c0_i32_23 c1_i32_25 k0_t8
  let c32_i32_144 : BitVec 32 := 32#32
  let v449 : BitVec 32 := Scalar.muli arg17 c32_i32_144
  let c16_i32_145 : BitVec 32 := 16#32
  let v450 : BitVec 32 := Scalar.addi v449 c16_i32_145
  v450
def k0_off41 (k0_t5 : Fin k0_t5_loop.trips) (k0_t6 : Fin k0_t6_loop.trips) (k0_t7 : Fin k0_t7_loop.trips) : Fin 5 → Nat :=
  let c0_i32_3 : BitVec 32 := 0#32
  let c1_i32_5 : BitVec 32 := 1#32
  let arg14 : BitVec 32 := Scf.iv c0_i32_3 c1_i32_5 k0_t5
  let v14 : Index := Scalar.indexCast arg14
  let c0_i32_11 : BitVec 32 := 0#32
  let c1_i32_13 : BitVec 32 := 1#32
  let arg15 : BitVec 32 := Scf.iv c0_i32_11 c1_i32_13 k0_t6
  let v15 : Index := Scalar.indexCast arg15
  let c0_i32_19 : BitVec 32 := 0#32
  let c1_i32_20 : BitVec 32 := 1#32
  let arg16 : BitVec 32 := Scf.iv c0_i32_19 c1_i32_20 k0_t7
  let v16 : Index := Scalar.indexCast arg16
  let c0 : Index := 0#32
  let c0_27 : Index := 0#32
  ![v14.toNat, v15.toNat, v16.toNat, 0, 0]
def k0_mult24 (k0_t5 : Fin k0_t5_loop.trips) (k0_t7 : Fin k0_t7_loop.trips) : BitVec 32 :=
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c128_i32_28 : BitVec 32 := 128#32
  let v22 : BitVec 32 := Scalar.muli v12 c128_i32_28
  v22
def k0_off42 (k0_t5 : Fin k0_t5_loop.trips) (k0_t6 : Fin k0_t6_loop.trips) (k0_t7 : Fin k0_t7_loop.trips) : Fin 4 → Nat :=
  let c0_29 : Index := 0#32
  let c0_i32_11 : BitVec 32 := 0#32
  let c1_i32_13 : BitVec 32 := 1#32
  let arg15 : BitVec 32 := Scf.iv c0_i32_11 c1_i32_13 k0_t6
  let c128_i32 : BitVec 32 := 128#32
  let v8 : BitVec 32 := Scalar.muli arg15 c128_i32
  let v9 : BitVec 32 := v8
  let v24 : Index := Scalar.indexCast v9
  let c0_30 : Index := 0#32
  let c2_i32_22 : BitVec 32 := 2#32
  let c0_i32_3 : BitVec 32 := 0#32
  let c1_i32_5 : BitVec 32 := 1#32
  let arg14 : BitVec 32 := Scf.iv c0_i32_3 c1_i32_5 k0_t5
  let v11 : BitVec 32 := Scalar.muli c2_i32_22 arg14
  let c0_i32_19 : BitVec 32 := 0#32
  let c1_i32_20 : BitVec 32 := 1#32
  let arg16 : BitVec 32 := Scf.iv c0_i32_19 c1_i32_20 k0_t7
  let v12 : BitVec 32 := Scalar.addi v11 arg16
  let c128_i32_28 : BitVec 32 := 128#32
  let v22 : BitVec 32 := Scalar.muli v12 c128_i32_28
  let v23 : BitVec 32 := v22
  let v25 : Index := Scalar.indexCast v23
  ![0, v24.toNat, 0, v25.toNat]
@[reducible] def k0_t9_loop : Scf.Loop 32 :=
  let c0_i32_15 : BitVec 32 := 0#32
  let c4_i32_16 : BitVec 32 := 4#32
  let v7 : BitVec 32 := Scalar.addi c0_i32_15 c4_i32_16
  let c1_i32_17 : BitVec 32 := 1#32
  ⟨c0_i32_15, v7, c1_i32_17⟩
def k0_off43 (k0_t5 : Fin k0_t5_loop.trips) : Fin 3 → Nat :=
  let c0_i32_3 : BitVec 32 := 0#32
  let c1_i32_5 : BitVec 32 := 1#32
  let arg14 : BitVec 32 := Scf.iv c0_i32_3 c1_i32_5 k0_t5
  let v8 : Index := Scalar.indexCast arg14
  let c0 : Index := 0#32
  let c0_19 : Index := 0#32
  ![v8.toNat, 0, 0]
def k0_off44 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v11 : Index := Scalar.indexCast arg15
  let c0_i32_3 : BitVec 32 := 0#32
  let c1_i32_5 : BitVec 32 := 1#32
  let arg14 : BitVec 32 := Scf.iv c0_i32_3 c1_i32_5 k0_t5
  let v12 : Index := Scalar.indexCast arg14
  let c0_20 : Index := 0#32
  let c0_21 : Index := 0#32
  ![v11.toNat, v12.toNat, 0, 0]
def k0_off45 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v16 : Index := Scalar.indexCast arg15
  let c0_i32_3 : BitVec 32 := 0#32
  let c1_i32_5 : BitVec 32 := 1#32
  let arg14 : BitVec 32 := Scf.iv c0_i32_3 c1_i32_5 k0_t5
  let v17 : Index := Scalar.indexCast arg14
  let c0_22 : Index := 0#32
  let c0_23 : Index := 0#32
  ![v16.toNat, v17.toNat, 0, 0]
def k0_off46 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v32 : Index := Scalar.indexCast arg15
  let c0_i32_3 : BitVec 32 := 0#32
  let c1_i32_5 : BitVec 32 := 1#32
  let arg14 : BitVec 32 := Scf.iv c0_i32_3 c1_i32_5 k0_t5
  let v33 : Index := Scalar.indexCast arg14
  let c16 : Index := 16#32
  let c0_24 : Index := 0#32
  ![v32.toNat, v33.toNat, 16, 0]
def k0_off47 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v49 : Index := Scalar.indexCast arg15
  let c0_i32_3 : BitVec 32 := 0#32
  let c1_i32_5 : BitVec 32 := 1#32
  let arg14 : BitVec 32 := Scf.iv c0_i32_3 c1_i32_5 k0_t5
  let v50 : Index := Scalar.indexCast arg14
  let c32 : Index := 32#32
  let c0_27 : Index := 0#32
  ![v49.toNat, v50.toNat, 32, 0]
def k0_off48 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v66 : Index := Scalar.indexCast arg15
  let c0_i32_3 : BitVec 32 := 0#32
  let c1_i32_5 : BitVec 32 := 1#32
  let arg14 : BitVec 32 := Scf.iv c0_i32_3 c1_i32_5 k0_t5
  let v67 : Index := Scalar.indexCast arg14
  let c48 : Index := 48#32
  let c0_30 : Index := 0#32
  ![v66.toNat, v67.toNat, 48, 0]
def k0_off49 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v83 : Index := Scalar.indexCast arg15
  let c0_i32_3 : BitVec 32 := 0#32
  let c1_i32_5 : BitVec 32 := 1#32
  let arg14 : BitVec 32 := Scf.iv c0_i32_3 c1_i32_5 k0_t5
  let v84 : Index := Scalar.indexCast arg14
  let c64 : Index := 64#32
  let c0_33 : Index := 0#32
  ![v83.toNat, v84.toNat, 64, 0]
def k0_off50 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v100 : Index := Scalar.indexCast arg15
  let c0_i32_3 : BitVec 32 := 0#32
  let c1_i32_5 : BitVec 32 := 1#32
  let arg14 : BitVec 32 := Scf.iv c0_i32_3 c1_i32_5 k0_t5
  let v101 : Index := Scalar.indexCast arg14
  let c80 : Index := 80#32
  let c0_36 : Index := 0#32
  ![v100.toNat, v101.toNat, 80, 0]
def k0_off51 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v117 : Index := Scalar.indexCast arg15
  let c0_i32_3 : BitVec 32 := 0#32
  let c1_i32_5 : BitVec 32 := 1#32
  let arg14 : BitVec 32 := Scf.iv c0_i32_3 c1_i32_5 k0_t5
  let v118 : Index := Scalar.indexCast arg14
  let c96 : Index := 96#32
  let c0_39 : Index := 0#32
  ![v117.toNat, v118.toNat, 96, 0]
def k0_off52 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v134 : Index := Scalar.indexCast arg15
  let c0_i32_3 : BitVec 32 := 0#32
  let c1_i32_5 : BitVec 32 := 1#32
  let arg14 : BitVec 32 := Scf.iv c0_i32_3 c1_i32_5 k0_t5
  let v135 : Index := Scalar.indexCast arg14
  let c112 : Index := 112#32
  let c0_42 : Index := 0#32
  ![v134.toNat, v135.toNat, 112, 0]
def k0_off53 (k0_t5 : Fin k0_t5_loop.trips) (k0_t9 : Fin k0_t9_loop.trips) (c0_i32_45 : BitVec 32) : Fin 4 → Nat :=
  let c0_i32_15 : BitVec 32 := 0#32
  let c1_i32_17 : BitVec 32 := 1#32
  let arg15 : BitVec 32 := Scf.iv c0_i32_15 c1_i32_17 k0_t9
  let v154 : Index := Scalar.indexCast arg15
  let c0_46 : Index := 0#32
  let c2_i32 : BitVec 32 := 2#32
  let c0_i32_3 : BitVec 32 := 0#32
  let c1_i32_5 : BitVec 32 := 1#32
  let arg14 : BitVec 32 := Scf.iv c0_i32_3 c1_i32_5 k0_t5
  let v151 : BitVec 32 := Scalar.muli c2_i32 arg14
  let v152 : BitVec 32 := Scalar.addi v151 c0_i32_45
  let c9_i32 : BitVec 32 := 9#32
  let v153 : BitVec 32 := Scalar.muli v152 c9_i32
  let v155 : Index := Scalar.indexCast v153
  let c0_47 : Index := 0#32
  ![v154.toNat, 0, v155.toNat, 0]
def k0_off54 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v159 : Index := Scalar.indexCast arg15
  let c0_i32_3 : BitVec 32 := 0#32
  let c1_i32_5 : BitVec 32 := 1#32
  let arg14 : BitVec 32 := Scf.iv c0_i32_3 c1_i32_5 k0_t5
  let v160 : Index := Scalar.indexCast arg14
  let c128 : Index := 128#32
  let c0_48 : Index := 0#32
  ![v159.toNat, v160.toNat, 128, 0]
def k0_off55 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v175 : Index := Scalar.indexCast arg15
  let c0_i32_3 : BitVec 32 := 0#32
  let c1_i32_5 : BitVec 32 := 1#32
  let arg14 : BitVec 32 := Scf.iv c0_i32_3 c1_i32_5 k0_t5
  let v176 : Index := Scalar.indexCast arg14
  let c144 : Index := 144#32
  let c0_51 : Index := 0#32
  ![v175.toNat, v176.toNat, 144, 0]
def k0_off56 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v192 : Index := Scalar.indexCast arg15
  let c0_i32_3 : BitVec 32 := 0#32
  let c1_i32_5 : BitVec 32 := 1#32
  let arg14 : BitVec 32 := Scf.iv c0_i32_3 c1_i32_5 k0_t5
  let v193 : Index := Scalar.indexCast arg14
  let c160 : Index := 160#32
  let c0_54 : Index := 0#32
  ![v192.toNat, v193.toNat, 160, 0]
def k0_off57 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v209 : Index := Scalar.indexCast arg15
  let c0_i32_3 : BitVec 32 := 0#32
  let c1_i32_5 : BitVec 32 := 1#32
  let arg14 : BitVec 32 := Scf.iv c0_i32_3 c1_i32_5 k0_t5
  let v210 : Index := Scalar.indexCast arg14
  let c176 : Index := 176#32
  let c0_57 : Index := 0#32
  ![v209.toNat, v210.toNat, 176, 0]
def k0_off58 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v226 : Index := Scalar.indexCast arg15
  let c0_i32_3 : BitVec 32 := 0#32
  let c1_i32_5 : BitVec 32 := 1#32
  let arg14 : BitVec 32 := Scf.iv c0_i32_3 c1_i32_5 k0_t5
  let v227 : Index := Scalar.indexCast arg14
  let c192 : Index := 192#32
  let c0_60 : Index := 0#32
  ![v226.toNat, v227.toNat, 192, 0]
def k0_off59 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v243 : Index := Scalar.indexCast arg15
  let c0_i32_3 : BitVec 32 := 0#32
  let c1_i32_5 : BitVec 32 := 1#32
  let arg14 : BitVec 32 := Scf.iv c0_i32_3 c1_i32_5 k0_t5
  let v244 : Index := Scalar.indexCast arg14
  let c208 : Index := 208#32
  let c0_63 : Index := 0#32
  ![v243.toNat, v244.toNat, 208, 0]
def k0_off60 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v260 : Index := Scalar.indexCast arg15
  let c0_i32_3 : BitVec 32 := 0#32
  let c1_i32_5 : BitVec 32 := 1#32
  let arg14 : BitVec 32 := Scf.iv c0_i32_3 c1_i32_5 k0_t5
  let v261 : Index := Scalar.indexCast arg14
  let c224 : Index := 224#32
  let c0_66 : Index := 0#32
  ![v260.toNat, v261.toNat, 224, 0]
def k0_off61 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v277 : Index := Scalar.indexCast arg15
  let c0_i32_3 : BitVec 32 := 0#32
  let c1_i32_5 : BitVec 32 := 1#32
  let arg14 : BitVec 32 := Scf.iv c0_i32_3 c1_i32_5 k0_t5
  let v278 : Index := Scalar.indexCast arg14
  let c240 : Index := 240#32
  let c0_69 : Index := 0#32
  ![v277.toNat, v278.toNat, 240, 0]
def k0_off62 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v302 : Index := Scalar.indexCast arg15
  let c0_i32_3 : BitVec 32 := 0#32
  let c1_i32_5 : BitVec 32 := 1#32
  let arg14 : BitVec 32 := Scf.iv c0_i32_3 c1_i32_5 k0_t5
  let v303 : Index := Scalar.indexCast arg14
  let c0_77 : Index := 0#32
  let c128_78 : Index := 128#32
  ![v302.toNat, v303.toNat, 0, 128]
def k0_off63 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v318 : Index := Scalar.indexCast arg15
  let c0_i32_3 : BitVec 32 := 0#32
  let c1_i32_5 : BitVec 32 := 1#32
  let arg14 : BitVec 32 := Scf.iv c0_i32_3 c1_i32_5 k0_t5
  let v319 : Index := Scalar.indexCast arg14
  let c16_81 : Index := 16#32
  let c128_82 : Index := 128#32
  ![v318.toNat, v319.toNat, 16, 128]
def k0_off64 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v335 : Index := Scalar.indexCast arg15
  let c0_i32_3 : BitVec 32 := 0#32
  let c1_i32_5 : BitVec 32 := 1#32
  let arg14 : BitVec 32 := Scf.iv c0_i32_3 c1_i32_5 k0_t5
  let v336 : Index := Scalar.indexCast arg14
  let c32_85 : Index := 32#32
  let c128_86 : Index := 128#32
  ![v335.toNat, v336.toNat, 32, 128]
def k0_off65 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v352 : Index := Scalar.indexCast arg15
  let c0_i32_3 : BitVec 32 := 0#32
  let c1_i32_5 : BitVec 32 := 1#32
  let arg14 : BitVec 32 := Scf.iv c0_i32_3 c1_i32_5 k0_t5
  let v353 : Index := Scalar.indexCast arg14
  let c48_89 : Index := 48#32
  let c128_90 : Index := 128#32
  ![v352.toNat, v353.toNat, 48, 128]
def k0_off66 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v369 : Index := Scalar.indexCast arg15
  let c0_i32_3 : BitVec 32 := 0#32
  let c1_i32_5 : BitVec 32 := 1#32
  let arg14 : BitVec 32 := Scf.iv c0_i32_3 c1_i32_5 k0_t5
  let v370 : Index := Scalar.indexCast arg14
  let c64_93 : Index := 64#32
  let c128_94 : Index := 128#32
  ![v369.toNat, v370.toNat, 64, 128]
def k0_off67 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v386 : Index := Scalar.indexCast arg15
  let c0_i32_3 : BitVec 32 := 0#32
  let c1_i32_5 : BitVec 32 := 1#32
  let arg14 : BitVec 32 := Scf.iv c0_i32_3 c1_i32_5 k0_t5
  let v387 : Index := Scalar.indexCast arg14
  let c80_97 : Index := 80#32
  let c128_98 : Index := 128#32
  ![v386.toNat, v387.toNat, 80, 128]
def k0_off68 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v403 : Index := Scalar.indexCast arg15
  let c0_i32_3 : BitVec 32 := 0#32
  let c1_i32_5 : BitVec 32 := 1#32
  let arg14 : BitVec 32 := Scf.iv c0_i32_3 c1_i32_5 k0_t5
  let v404 : Index := Scalar.indexCast arg14
  let c96_101 : Index := 96#32
  let c128_102 : Index := 128#32
  ![v403.toNat, v404.toNat, 96, 128]
def k0_off69 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v420 : Index := Scalar.indexCast arg15
  let c0_i32_3 : BitVec 32 := 0#32
  let c1_i32_5 : BitVec 32 := 1#32
  let arg14 : BitVec 32 := Scf.iv c0_i32_3 c1_i32_5 k0_t5
  let v421 : Index := Scalar.indexCast arg14
  let c112_105 : Index := 112#32
  let c128_106 : Index := 128#32
  ![v420.toNat, v421.toNat, 112, 128]
def k0_off70 (k0_t5 : Fin k0_t5_loop.trips) (k0_t9 : Fin k0_t9_loop.trips) (c0_i32_110 : BitVec 32) : Fin 4 → Nat :=
  let c0_i32_15 : BitVec 32 := 0#32
  let c1_i32_17 : BitVec 32 := 1#32
  let arg15 : BitVec 32 := Scf.iv c0_i32_15 c1_i32_17 k0_t9
  let v440 : Index := Scalar.indexCast arg15
  let c1 : Index := 1#32
  let c2_i32_109 : BitVec 32 := 2#32
  let c0_i32_3 : BitVec 32 := 0#32
  let c1_i32_5 : BitVec 32 := 1#32
  let arg14 : BitVec 32 := Scf.iv c0_i32_3 c1_i32_5 k0_t5
  let v437 : BitVec 32 := Scalar.muli c2_i32_109 arg14
  let v438 : BitVec 32 := Scalar.addi v437 c0_i32_110
  let c9_i32_111 : BitVec 32 := 9#32
  let v439 : BitVec 32 := Scalar.muli v438 c9_i32_111
  let v441 : Index := Scalar.indexCast v439
  let c0_112 : Index := 0#32
  ![v440.toNat, 1, v441.toNat, 0]
def k0_off71 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v445 : Index := Scalar.indexCast arg15
  let c0_i32_3 : BitVec 32 := 0#32
  let c1_i32_5 : BitVec 32 := 1#32
  let arg14 : BitVec 32 := Scf.iv c0_i32_3 c1_i32_5 k0_t5
  let v446 : Index := Scalar.indexCast arg14
  let c128_113 : Index := 128#32
  let c128_114 : Index := 128#32
  ![v445.toNat, v446.toNat, 128, 128]
def k0_off72 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v461 : Index := Scalar.indexCast arg15
  let c0_i32_3 : BitVec 32 := 0#32
  let c1_i32_5 : BitVec 32 := 1#32
  let arg14 : BitVec 32 := Scf.iv c0_i32_3 c1_i32_5 k0_t5
  let v462 : Index := Scalar.indexCast arg14
  let c144_117 : Index := 144#32
  let c128_118 : Index := 128#32
  ![v461.toNat, v462.toNat, 144, 128]
def k0_off73 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v478 : Index := Scalar.indexCast arg15
  let c0_i32_3 : BitVec 32 := 0#32
  let c1_i32_5 : BitVec 32 := 1#32
  let arg14 : BitVec 32 := Scf.iv c0_i32_3 c1_i32_5 k0_t5
  let v479 : Index := Scalar.indexCast arg14
  let c160_121 : Index := 160#32
  let c128_122 : Index := 128#32
  ![v478.toNat, v479.toNat, 160, 128]
def k0_off74 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v495 : Index := Scalar.indexCast arg15
  let c0_i32_3 : BitVec 32 := 0#32
  let c1_i32_5 : BitVec 32 := 1#32
  let arg14 : BitVec 32 := Scf.iv c0_i32_3 c1_i32_5 k0_t5
  let v496 : Index := Scalar.indexCast arg14
  let c176_125 : Index := 176#32
  let c128_126 : Index := 128#32
  ![v495.toNat, v496.toNat, 176, 128]
def k0_off75 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v512 : Index := Scalar.indexCast arg15
  let c0_i32_3 : BitVec 32 := 0#32
  let c1_i32_5 : BitVec 32 := 1#32
  let arg14 : BitVec 32 := Scf.iv c0_i32_3 c1_i32_5 k0_t5
  let v513 : Index := Scalar.indexCast arg14
  let c192_129 : Index := 192#32
  let c128_130 : Index := 128#32
  ![v512.toNat, v513.toNat, 192, 128]
def k0_off76 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v529 : Index := Scalar.indexCast arg15
  let c0_i32_3 : BitVec 32 := 0#32
  let c1_i32_5 : BitVec 32 := 1#32
  let arg14 : BitVec 32 := Scf.iv c0_i32_3 c1_i32_5 k0_t5
  let v530 : Index := Scalar.indexCast arg14
  let c208_133 : Index := 208#32
  let c128_134 : Index := 128#32
  ![v529.toNat, v530.toNat, 208, 128]
def k0_off77 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v546 : Index := Scalar.indexCast arg15
  let c0_i32_3 : BitVec 32 := 0#32
  let c1_i32_5 : BitVec 32 := 1#32
  let arg14 : BitVec 32 := Scf.iv c0_i32_3 c1_i32_5 k0_t5
  let v547 : Index := Scalar.indexCast arg14
  let c224_137 : Index := 224#32
  let c128_138 : Index := 128#32
  ![v546.toNat, v547.toNat, 224, 128]
def k0_off78 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v563 : Index := Scalar.indexCast arg15
  let c0_i32_3 : BitVec 32 := 0#32
  let c1_i32_5 : BitVec 32 := 1#32
  let arg14 : BitVec 32 := Scf.iv c0_i32_3 c1_i32_5 k0_t5
  let v564 : Index := Scalar.indexCast arg14
  let c240_141 : Index := 240#32
  let c128_142 : Index := 128#32
  ![v563.toNat, v564.toNat, 240, 128]
def k0_off79 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v588 : Index := Scalar.indexCast arg15
  let c0_i32_3 : BitVec 32 := 0#32
  let c1_i32_5 : BitVec 32 := 1#32
  let arg14 : BitVec 32 := Scf.iv c0_i32_3 c1_i32_5 k0_t5
  let v589 : Index := Scalar.indexCast arg14
  let c0_150 : Index := 0#32
  let c256 : Index := 256#32
  ![v588.toNat, v589.toNat, 0, 256]
def k0_off80 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v604 : Index := Scalar.indexCast arg15
  let c0_i32_3 : BitVec 32 := 0#32
  let c1_i32_5 : BitVec 32 := 1#32
  let arg14 : BitVec 32 := Scf.iv c0_i32_3 c1_i32_5 k0_t5
  let v605 : Index := Scalar.indexCast arg14
  let c16_153 : Index := 16#32
  let c256_154 : Index := 256#32
  ![v604.toNat, v605.toNat, 16, 256]
def k0_off81 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v621 : Index := Scalar.indexCast arg15
  let c0_i32_3 : BitVec 32 := 0#32
  let c1_i32_5 : BitVec 32 := 1#32
  let arg14 : BitVec 32 := Scf.iv c0_i32_3 c1_i32_5 k0_t5
  let v622 : Index := Scalar.indexCast arg14
  let c32_157 : Index := 32#32
  let c256_158 : Index := 256#32
  ![v621.toNat, v622.toNat, 32, 256]
def k0_off82 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v638 : Index := Scalar.indexCast arg15
  let c0_i32_3 : BitVec 32 := 0#32
  let c1_i32_5 : BitVec 32 := 1#32
  let arg14 : BitVec 32 := Scf.iv c0_i32_3 c1_i32_5 k0_t5
  let v639 : Index := Scalar.indexCast arg14
  let c48_161 : Index := 48#32
  let c256_162 : Index := 256#32
  ![v638.toNat, v639.toNat, 48, 256]
def k0_off83 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v655 : Index := Scalar.indexCast arg15
  let c0_i32_3 : BitVec 32 := 0#32
  let c1_i32_5 : BitVec 32 := 1#32
  let arg14 : BitVec 32 := Scf.iv c0_i32_3 c1_i32_5 k0_t5
  let v656 : Index := Scalar.indexCast arg14
  let c64_165 : Index := 64#32
  let c256_166 : Index := 256#32
  ![v655.toNat, v656.toNat, 64, 256]
def k0_off84 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v672 : Index := Scalar.indexCast arg15
  let c0_i32_3 : BitVec 32 := 0#32
  let c1_i32_5 : BitVec 32 := 1#32
  let arg14 : BitVec 32 := Scf.iv c0_i32_3 c1_i32_5 k0_t5
  let v673 : Index := Scalar.indexCast arg14
  let c80_169 : Index := 80#32
  let c256_170 : Index := 256#32
  ![v672.toNat, v673.toNat, 80, 256]
def k0_off85 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v689 : Index := Scalar.indexCast arg15
  let c0_i32_3 : BitVec 32 := 0#32
  let c1_i32_5 : BitVec 32 := 1#32
  let arg14 : BitVec 32 := Scf.iv c0_i32_3 c1_i32_5 k0_t5
  let v690 : Index := Scalar.indexCast arg14
  let c96_173 : Index := 96#32
  let c256_174 : Index := 256#32
  ![v689.toNat, v690.toNat, 96, 256]
def k0_off86 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v706 : Index := Scalar.indexCast arg15
  let c0_i32_3 : BitVec 32 := 0#32
  let c1_i32_5 : BitVec 32 := 1#32
  let arg14 : BitVec 32 := Scf.iv c0_i32_3 c1_i32_5 k0_t5
  let v707 : Index := Scalar.indexCast arg14
  let c112_177 : Index := 112#32
  let c256_178 : Index := 256#32
  ![v706.toNat, v707.toNat, 112, 256]
def k0_off87 (k0_t5 : Fin k0_t5_loop.trips) (k0_t9 : Fin k0_t9_loop.trips) (c0_i32_182 : BitVec 32) : Fin 4 → Nat :=
  let c0_i32_15 : BitVec 32 := 0#32
  let c1_i32_17 : BitVec 32 := 1#32
  let arg15 : BitVec 32 := Scf.iv c0_i32_15 c1_i32_17 k0_t9
  let v726 : Index := Scalar.indexCast arg15
  let c2 : Index := 2#32
  let c2_i32_181 : BitVec 32 := 2#32
  let c0_i32_3 : BitVec 32 := 0#32
  let c1_i32_5 : BitVec 32 := 1#32
  let arg14 : BitVec 32 := Scf.iv c0_i32_3 c1_i32_5 k0_t5
  let v723 : BitVec 32 := Scalar.muli c2_i32_181 arg14
  let v724 : BitVec 32 := Scalar.addi v723 c0_i32_182
  let c9_i32_183 : BitVec 32 := 9#32
  let v725 : BitVec 32 := Scalar.muli v724 c9_i32_183
  let v727 : Index := Scalar.indexCast v725
  let c0_184 : Index := 0#32
  ![v726.toNat, 2, v727.toNat, 0]
def k0_off88 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v731 : Index := Scalar.indexCast arg15
  let c0_i32_3 : BitVec 32 := 0#32
  let c1_i32_5 : BitVec 32 := 1#32
  let arg14 : BitVec 32 := Scf.iv c0_i32_3 c1_i32_5 k0_t5
  let v732 : Index := Scalar.indexCast arg14
  let c128_185 : Index := 128#32
  let c256_186 : Index := 256#32
  ![v731.toNat, v732.toNat, 128, 256]
def k0_off89 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v747 : Index := Scalar.indexCast arg15
  let c0_i32_3 : BitVec 32 := 0#32
  let c1_i32_5 : BitVec 32 := 1#32
  let arg14 : BitVec 32 := Scf.iv c0_i32_3 c1_i32_5 k0_t5
  let v748 : Index := Scalar.indexCast arg14
  let c144_189 : Index := 144#32
  let c256_190 : Index := 256#32
  ![v747.toNat, v748.toNat, 144, 256]
def k0_off90 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v764 : Index := Scalar.indexCast arg15
  let c0_i32_3 : BitVec 32 := 0#32
  let c1_i32_5 : BitVec 32 := 1#32
  let arg14 : BitVec 32 := Scf.iv c0_i32_3 c1_i32_5 k0_t5
  let v765 : Index := Scalar.indexCast arg14
  let c160_193 : Index := 160#32
  let c256_194 : Index := 256#32
  ![v764.toNat, v765.toNat, 160, 256]
def k0_off91 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v781 : Index := Scalar.indexCast arg15
  let c0_i32_3 : BitVec 32 := 0#32
  let c1_i32_5 : BitVec 32 := 1#32
  let arg14 : BitVec 32 := Scf.iv c0_i32_3 c1_i32_5 k0_t5
  let v782 : Index := Scalar.indexCast arg14
  let c176_197 : Index := 176#32
  let c256_198 : Index := 256#32
  ![v781.toNat, v782.toNat, 176, 256]
def k0_off92 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v798 : Index := Scalar.indexCast arg15
  let c0_i32_3 : BitVec 32 := 0#32
  let c1_i32_5 : BitVec 32 := 1#32
  let arg14 : BitVec 32 := Scf.iv c0_i32_3 c1_i32_5 k0_t5
  let v799 : Index := Scalar.indexCast arg14
  let c192_201 : Index := 192#32
  let c256_202 : Index := 256#32
  ![v798.toNat, v799.toNat, 192, 256]
def k0_off93 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v815 : Index := Scalar.indexCast arg15
  let c0_i32_3 : BitVec 32 := 0#32
  let c1_i32_5 : BitVec 32 := 1#32
  let arg14 : BitVec 32 := Scf.iv c0_i32_3 c1_i32_5 k0_t5
  let v816 : Index := Scalar.indexCast arg14
  let c208_205 : Index := 208#32
  let c256_206 : Index := 256#32
  ![v815.toNat, v816.toNat, 208, 256]
def k0_off94 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v832 : Index := Scalar.indexCast arg15
  let c0_i32_3 : BitVec 32 := 0#32
  let c1_i32_5 : BitVec 32 := 1#32
  let arg14 : BitVec 32 := Scf.iv c0_i32_3 c1_i32_5 k0_t5
  let v833 : Index := Scalar.indexCast arg14
  let c224_209 : Index := 224#32
  let c256_210 : Index := 256#32
  ![v832.toNat, v833.toNat, 224, 256]
def k0_off95 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v849 : Index := Scalar.indexCast arg15
  let c0_i32_3 : BitVec 32 := 0#32
  let c1_i32_5 : BitVec 32 := 1#32
  let arg14 : BitVec 32 := Scf.iv c0_i32_3 c1_i32_5 k0_t5
  let v850 : Index := Scalar.indexCast arg14
  let c240_213 : Index := 240#32
  let c256_214 : Index := 256#32
  ![v849.toNat, v850.toNat, 240, 256]
def k0_off96 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v874 : Index := Scalar.indexCast arg15
  let c0_i32_3 : BitVec 32 := 0#32
  let c1_i32_5 : BitVec 32 := 1#32
  let arg14 : BitVec 32 := Scf.iv c0_i32_3 c1_i32_5 k0_t5
  let v875 : Index := Scalar.indexCast arg14
  let c0_222 : Index := 0#32
  let c384 : Index := 384#32
  ![v874.toNat, v875.toNat, 0, 384]
def k0_off97 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v890 : Index := Scalar.indexCast arg15
  let c0_i32_3 : BitVec 32 := 0#32
  let c1_i32_5 : BitVec 32 := 1#32
  let arg14 : BitVec 32 := Scf.iv c0_i32_3 c1_i32_5 k0_t5
  let v891 : Index := Scalar.indexCast arg14
  let c16_225 : Index := 16#32
  let c384_226 : Index := 384#32
  ![v890.toNat, v891.toNat, 16, 384]
def k0_off98 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v907 : Index := Scalar.indexCast arg15
  let c0_i32_3 : BitVec 32 := 0#32
  let c1_i32_5 : BitVec 32 := 1#32
  let arg14 : BitVec 32 := Scf.iv c0_i32_3 c1_i32_5 k0_t5
  let v908 : Index := Scalar.indexCast arg14
  let c32_229 : Index := 32#32
  let c384_230 : Index := 384#32
  ![v907.toNat, v908.toNat, 32, 384]
def k0_off99 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v924 : Index := Scalar.indexCast arg15
  let c0_i32_3 : BitVec 32 := 0#32
  let c1_i32_5 : BitVec 32 := 1#32
  let arg14 : BitVec 32 := Scf.iv c0_i32_3 c1_i32_5 k0_t5
  let v925 : Index := Scalar.indexCast arg14
  let c48_233 : Index := 48#32
  let c384_234 : Index := 384#32
  ![v924.toNat, v925.toNat, 48, 384]
def k0_off100 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v941 : Index := Scalar.indexCast arg15
  let c0_i32_3 : BitVec 32 := 0#32
  let c1_i32_5 : BitVec 32 := 1#32
  let arg14 : BitVec 32 := Scf.iv c0_i32_3 c1_i32_5 k0_t5
  let v942 : Index := Scalar.indexCast arg14
  let c64_237 : Index := 64#32
  let c384_238 : Index := 384#32
  ![v941.toNat, v942.toNat, 64, 384]
def k0_off101 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v958 : Index := Scalar.indexCast arg15
  let c0_i32_3 : BitVec 32 := 0#32
  let c1_i32_5 : BitVec 32 := 1#32
  let arg14 : BitVec 32 := Scf.iv c0_i32_3 c1_i32_5 k0_t5
  let v959 : Index := Scalar.indexCast arg14
  let c80_241 : Index := 80#32
  let c384_242 : Index := 384#32
  ![v958.toNat, v959.toNat, 80, 384]
def k0_off102 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v975 : Index := Scalar.indexCast arg15
  let c0_i32_3 : BitVec 32 := 0#32
  let c1_i32_5 : BitVec 32 := 1#32
  let arg14 : BitVec 32 := Scf.iv c0_i32_3 c1_i32_5 k0_t5
  let v976 : Index := Scalar.indexCast arg14
  let c96_245 : Index := 96#32
  let c384_246 : Index := 384#32
  ![v975.toNat, v976.toNat, 96, 384]
def k0_off103 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v992 : Index := Scalar.indexCast arg15
  let c0_i32_3 : BitVec 32 := 0#32
  let c1_i32_5 : BitVec 32 := 1#32
  let arg14 : BitVec 32 := Scf.iv c0_i32_3 c1_i32_5 k0_t5
  let v993 : Index := Scalar.indexCast arg14
  let c112_249 : Index := 112#32
  let c384_250 : Index := 384#32
  ![v992.toNat, v993.toNat, 112, 384]
def k0_off104 (k0_t5 : Fin k0_t5_loop.trips) (k0_t9 : Fin k0_t9_loop.trips) (c0_i32_254 : BitVec 32) : Fin 4 → Nat :=
  let c0_i32_15 : BitVec 32 := 0#32
  let c1_i32_17 : BitVec 32 := 1#32
  let arg15 : BitVec 32 := Scf.iv c0_i32_15 c1_i32_17 k0_t9
  let v1012 : Index := Scalar.indexCast arg15
  let c3 : Index := 3#32
  let c2_i32_253 : BitVec 32 := 2#32
  let c0_i32_3 : BitVec 32 := 0#32
  let c1_i32_5 : BitVec 32 := 1#32
  let arg14 : BitVec 32 := Scf.iv c0_i32_3 c1_i32_5 k0_t5
  let v1009 : BitVec 32 := Scalar.muli c2_i32_253 arg14
  let v1010 : BitVec 32 := Scalar.addi v1009 c0_i32_254
  let c9_i32_255 : BitVec 32 := 9#32
  let v1011 : BitVec 32 := Scalar.muli v1010 c9_i32_255
  let v1013 : Index := Scalar.indexCast v1011
  let c0_256 : Index := 0#32
  ![v1012.toNat, 3, v1013.toNat, 0]
def k0_off105 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v1017 : Index := Scalar.indexCast arg15
  let c0_i32_3 : BitVec 32 := 0#32
  let c1_i32_5 : BitVec 32 := 1#32
  let arg14 : BitVec 32 := Scf.iv c0_i32_3 c1_i32_5 k0_t5
  let v1018 : Index := Scalar.indexCast arg14
  let c128_257 : Index := 128#32
  let c384_258 : Index := 384#32
  ![v1017.toNat, v1018.toNat, 128, 384]
def k0_off106 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v1033 : Index := Scalar.indexCast arg15
  let c0_i32_3 : BitVec 32 := 0#32
  let c1_i32_5 : BitVec 32 := 1#32
  let arg14 : BitVec 32 := Scf.iv c0_i32_3 c1_i32_5 k0_t5
  let v1034 : Index := Scalar.indexCast arg14
  let c144_261 : Index := 144#32
  let c384_262 : Index := 384#32
  ![v1033.toNat, v1034.toNat, 144, 384]
def k0_off107 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v1050 : Index := Scalar.indexCast arg15
  let c0_i32_3 : BitVec 32 := 0#32
  let c1_i32_5 : BitVec 32 := 1#32
  let arg14 : BitVec 32 := Scf.iv c0_i32_3 c1_i32_5 k0_t5
  let v1051 : Index := Scalar.indexCast arg14
  let c160_265 : Index := 160#32
  let c384_266 : Index := 384#32
  ![v1050.toNat, v1051.toNat, 160, 384]
def k0_off108 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v1067 : Index := Scalar.indexCast arg15
  let c0_i32_3 : BitVec 32 := 0#32
  let c1_i32_5 : BitVec 32 := 1#32
  let arg14 : BitVec 32 := Scf.iv c0_i32_3 c1_i32_5 k0_t5
  let v1068 : Index := Scalar.indexCast arg14
  let c176_269 : Index := 176#32
  let c384_270 : Index := 384#32
  ![v1067.toNat, v1068.toNat, 176, 384]
def k0_off109 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v1084 : Index := Scalar.indexCast arg15
  let c0_i32_3 : BitVec 32 := 0#32
  let c1_i32_5 : BitVec 32 := 1#32
  let arg14 : BitVec 32 := Scf.iv c0_i32_3 c1_i32_5 k0_t5
  let v1085 : Index := Scalar.indexCast arg14
  let c192_273 : Index := 192#32
  let c384_274 : Index := 384#32
  ![v1084.toNat, v1085.toNat, 192, 384]
def k0_off110 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v1101 : Index := Scalar.indexCast arg15
  let c0_i32_3 : BitVec 32 := 0#32
  let c1_i32_5 : BitVec 32 := 1#32
  let arg14 : BitVec 32 := Scf.iv c0_i32_3 c1_i32_5 k0_t5
  let v1102 : Index := Scalar.indexCast arg14
  let c208_277 : Index := 208#32
  let c384_278 : Index := 384#32
  ![v1101.toNat, v1102.toNat, 208, 384]
def k0_off111 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v1118 : Index := Scalar.indexCast arg15
  let c0_i32_3 : BitVec 32 := 0#32
  let c1_i32_5 : BitVec 32 := 1#32
  let arg14 : BitVec 32 := Scf.iv c0_i32_3 c1_i32_5 k0_t5
  let v1119 : Index := Scalar.indexCast arg14
  let c224_281 : Index := 224#32
  let c384_282 : Index := 384#32
  ![v1118.toNat, v1119.toNat, 224, 384]
def k0_off112 (k0_t5 : Fin k0_t5_loop.trips) (k0_t9 : Fin k0_t9_loop.trips) : Fin 4 → Nat :=
  let c0_i32_15 : BitVec 32 := 0#32
  let c1_i32_17 : BitVec 32 := 1#32
  let arg15 : BitVec 32 := Scf.iv c0_i32_15 c1_i32_17 k0_t9
  let v1135 : Index := Scalar.indexCast arg15
  let c0_i32_3 : BitVec 32 := 0#32
  let c1_i32_5 : BitVec 32 := 1#32
  let arg14 : BitVec 32 := Scf.iv c0_i32_3 c1_i32_5 k0_t5
  let v1136 : Index := Scalar.indexCast arg14
  let c240_285 : Index := 240#32
  let c384_286 : Index := 384#32
  ![v1135.toNat, v1136.toNat, 240, 384]
@[reducible] def k0_t10_loop : Scf.Loop 32 :=
  let c0_i32_7 : BitVec 32 := 0#32
  let c4_i32_8 : BitVec 32 := 4#32
  let v5 : BitVec 32 := Scalar.addi c0_i32_7 c4_i32_8
  let c1_i32_9 : BitVec 32 := 1#32
  ⟨c0_i32_7, v5, c1_i32_9⟩
@[reducible] def k0_t11_loop : Scf.Loop 32 :=
  let c0_i32_11 : BitVec 32 := 0#32
  let c4_i32_12 : BitVec 32 := 4#32
  let v6 : BitVec 32 := Scalar.addi c0_i32_11 c4_i32_12
  let c1_i32_13 : BitVec 32 := 1#32
  ⟨c0_i32_11, v6, c1_i32_13⟩
def k0_off113 (k0_t10 : Fin k0_t10_loop.trips) (k0_t11 : Fin k0_t11_loop.trips) : Fin 4 → Nat :=
  let c0_i32_7 : BitVec 32 := 0#32
  let c1_i32_9 : BitVec 32 := 1#32
  let arg14 : BitVec 32 := Scf.iv c0_i32_7 c1_i32_9 k0_t10
  let v7 : Index := Scalar.indexCast arg14
  let c0_i32_11 : BitVec 32 := 0#32
  let c1_i32_13 : BitVec 32 := 1#32
  let arg15 : BitVec 32 := Scf.iv c0_i32_11 c1_i32_13 k0_t11
  let v8 : Index := Scalar.indexCast arg15
  let c0 : Index := 0#32
  let c0_15 : Index := 0#32
  ![v7.toNat, v8.toNat, 0, 0]
def k0_off114 (k0_t10 : Fin k0_t10_loop.trips) (k0_t11 : Fin k0_t11_loop.trips) : Fin 4 → Nat :=
  let c0_i32_7 : BitVec 32 := 0#32
  let c1_i32_9 : BitVec 32 := 1#32
  let arg14 : BitVec 32 := Scf.iv c0_i32_7 c1_i32_9 k0_t10
  let v11 : Index := Scalar.indexCast arg14
  let c0_i32_11 : BitVec 32 := 0#32
  let c1_i32_13 : BitVec 32 := 1#32
  let arg15 : BitVec 32 := Scf.iv c0_i32_11 c1_i32_13 k0_t11
  let v12 : Index := Scalar.indexCast arg15
  let c1 : Index := 1#32
  let c0_16 : Index := 0#32
  ![v11.toNat, v12.toNat, 1, 0]
def k0_off115 (k0_t10 : Fin k0_t10_loop.trips) (k0_t11 : Fin k0_t11_loop.trips) : Fin 4 → Nat :=
  let c0_i32_7 : BitVec 32 := 0#32
  let c1_i32_9 : BitVec 32 := 1#32
  let arg14 : BitVec 32 := Scf.iv c0_i32_7 c1_i32_9 k0_t10
  let v16 : Index := Scalar.indexCast arg14
  let c0_i32_11 : BitVec 32 := 0#32
  let c1_i32_13 : BitVec 32 := 1#32
  let arg15 : BitVec 32 := Scf.iv c0_i32_11 c1_i32_13 k0_t11
  let v17 : Index := Scalar.indexCast arg15
  let c2 : Index := 2#32
  let c0_17 : Index := 0#32
  ![v16.toNat, v17.toNat, 2, 0]
def k0_off116 (k0_t10 : Fin k0_t10_loop.trips) (k0_t11 : Fin k0_t11_loop.trips) : Fin 4 → Nat :=
  let c0_i32_7 : BitVec 32 := 0#32
  let c1_i32_9 : BitVec 32 := 1#32
  let arg14 : BitVec 32 := Scf.iv c0_i32_7 c1_i32_9 k0_t10
  let v21 : Index := Scalar.indexCast arg14
  let c0_i32_11 : BitVec 32 := 0#32
  let c1_i32_13 : BitVec 32 := 1#32
  let arg15 : BitVec 32 := Scf.iv c0_i32_11 c1_i32_13 k0_t11
  let v22 : Index := Scalar.indexCast arg15
  let c3 : Index := 3#32
  let c0_18 : Index := 0#32
  ![v21.toNat, v22.toNat, 3, 0]
def k0_off117 (k0_t10 : Fin k0_t10_loop.trips) (k0_t11 : Fin k0_t11_loop.trips) : Fin 4 → Nat :=
  let c0_i32_7 : BitVec 32 := 0#32
  let c1_i32_9 : BitVec 32 := 1#32
  let arg14 : BitVec 32 := Scf.iv c0_i32_7 c1_i32_9 k0_t10
  let v26 : Index := Scalar.indexCast arg14
  let c0_i32_11 : BitVec 32 := 0#32
  let c1_i32_13 : BitVec 32 := 1#32
  let arg15 : BitVec 32 := Scf.iv c0_i32_11 c1_i32_13 k0_t11
  let v27 : Index := Scalar.indexCast arg15
  let c4 : Index := 4#32
  let c0_19 : Index := 0#32
  ![v26.toNat, v27.toNat, 4, 0]
def k0_off118 (k0_t10 : Fin k0_t10_loop.trips) (k0_t11 : Fin k0_t11_loop.trips) : Fin 4 → Nat :=
  let c0_i32_7 : BitVec 32 := 0#32
  let c1_i32_9 : BitVec 32 := 1#32
  let arg14 : BitVec 32 := Scf.iv c0_i32_7 c1_i32_9 k0_t10
  let v31 : Index := Scalar.indexCast arg14
  let c0_i32_11 : BitVec 32 := 0#32
  let c1_i32_13 : BitVec 32 := 1#32
  let arg15 : BitVec 32 := Scf.iv c0_i32_11 c1_i32_13 k0_t11
  let v32 : Index := Scalar.indexCast arg15
  let c5 : Index := 5#32
  let c0_20 : Index := 0#32
  ![v31.toNat, v32.toNat, 5, 0]
def k0_off119 (k0_t10 : Fin k0_t10_loop.trips) (k0_t11 : Fin k0_t11_loop.trips) : Fin 4 → Nat :=
  let c0_i32_7 : BitVec 32 := 0#32
  let c1_i32_9 : BitVec 32 := 1#32
  let arg14 : BitVec 32 := Scf.iv c0_i32_7 c1_i32_9 k0_t10
  let v36 : Index := Scalar.indexCast arg14
  let c0_i32_11 : BitVec 32 := 0#32
  let c1_i32_13 : BitVec 32 := 1#32
  let arg15 : BitVec 32 := Scf.iv c0_i32_11 c1_i32_13 k0_t11
  let v37 : Index := Scalar.indexCast arg15
  let c6 : Index := 6#32
  let c0_21 : Index := 0#32
  ![v36.toNat, v37.toNat, 6, 0]
def k0_off120 (k0_t10 : Fin k0_t10_loop.trips) (k0_t11 : Fin k0_t11_loop.trips) : Fin 4 → Nat :=
  let c0_i32_7 : BitVec 32 := 0#32
  let c1_i32_9 : BitVec 32 := 1#32
  let arg14 : BitVec 32 := Scf.iv c0_i32_7 c1_i32_9 k0_t10
  let v41 : Index := Scalar.indexCast arg14
  let c0_i32_11 : BitVec 32 := 0#32
  let c1_i32_13 : BitVec 32 := 1#32
  let arg15 : BitVec 32 := Scf.iv c0_i32_11 c1_i32_13 k0_t11
  let v42 : Index := Scalar.indexCast arg15
  let c7 : Index := 7#32
  let c0_22 : Index := 0#32
  ![v41.toNat, v42.toNat, 7, 0]
def k0_mult25 (k0_t11 : Fin k0_t11_loop.trips) : BitVec 32 :=
  let c0_i32_11 : BitVec 32 := 0#32
  let c1_i32_13 : BitVec 32 := 1#32
  let arg15 : BitVec 32 := Scf.iv c0_i32_11 c1_i32_13 k0_t11
  let c128_i32 : BitVec 32 := 128#32
  let v46 : BitVec 32 := Scalar.muli arg15 c128_i32
  v46
def k0_off121 (k0_t10 : Fin k0_t10_loop.trips) (k0_t11 : Fin k0_t11_loop.trips) : Fin 4 → Nat :=
  let c0_23 : Index := 0#32
  let c0_i32_7 : BitVec 32 := 0#32
  let c1_i32_9 : BitVec 32 := 1#32
  let arg14 : BitVec 32 := Scf.iv c0_i32_7 c1_i32_9 k0_t10
  let v48 : Index := Scalar.indexCast arg14
  let c0_24 : Index := 0#32
  let c0_i32_11 : BitVec 32 := 0#32
  let c1_i32_13 : BitVec 32 := 1#32
  let arg15 : BitVec 32 := Scf.iv c0_i32_11 c1_i32_13 k0_t11
  let c128_i32 : BitVec 32 := 128#32
  let v46 : BitVec 32 := Scalar.muli arg15 c128_i32
  let v47 : BitVec 32 := v46
  let v49 : Index := Scalar.indexCast v47
  ![0, v48.toNat, 0, v49.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x4x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S28x3072x1024 : Shape := ⟨3, ![28, 3072, 1024]⟩
abbrev S28x8x128x128 : Shape := ⟨4, ![28, 8, 128, 128]⟩
abbrev S28x3072x1x32x32 : Shape := ⟨5, ![28, 3072, 1, 32, 32]⟩
abbrev S_ : Shape := ⟨0, ![]⟩
abbrev S28x3072x1x32 : Shape := ⟨4, ![28, 3072, 1, 32]⟩
abbrev S28x3072x1x32x1 : Shape := ⟨5, ![28, 3072, 1, 32, 1]⟩
abbrev S1x1x4x1x1 : Shape := ⟨5, ![1, 1, 4, 1, 1]⟩
abbrev S28x3072x4x32x1 : Shape := ⟨5, ![28, 3072, 4, 32, 1]⟩
abbrev S28x3072x4x32x32 : Shape := ⟨5, ![28, 3072, 4, 32, 32]⟩
abbrev S28x3072x4x8x128 : Shape := ⟨5, ![28, 3072, 4, 8, 128]⟩
abbrev S28x8x128x3072x4 : Shape := ⟨5, ![28, 8, 128, 3072, 4]⟩
abbrev S28x3072x4x8 : Shape := ⟨4, ![28, 3072, 4, 8]⟩
abbrev S28x4x8x3072 : Shape := ⟨4, ![28, 4, 8, 3072]⟩
abbrev S28x3072x4x1024 : Shape := ⟨4, ![28, 3072, 4, 1024]⟩
abbrev S28x3072x4x32 : Shape := ⟨4, ![28, 3072, 4, 32]⟩
abbrev S28x4x32x3072 : Shape := ⟨4, ![28, 4, 32, 3072]⟩

abbrev nBuf : Space → Nat
  | .hbm => 105
  | .vmem => 0
  | .smem => 0
  | _ => 0

abbrev bufTy : (tb : Table) → Fin (tcTables nBuf tb) → BufTy
  | .hbm, ⟨0, _⟩ => ⟨S28x3072x1024, .bf16⟩
  | .hbm, ⟨1, _⟩ => ⟨S28x8x128x128, .f32⟩
  | .hbm, ⟨2, _⟩ => ⟨S28x3072x1024, .f32⟩
  | .hbm, ⟨3, _⟩ => ⟨S28x3072x1x32x32, .f32⟩
  | .hbm, ⟨4, _⟩ => ⟨S28x3072x1x32x32, .f32⟩
  | .hbm, ⟨5, _⟩ => ⟨S_, .f32⟩
  | .hbm, ⟨6, _⟩ => ⟨S28x3072x1x32, .f32⟩
  | .hbm, ⟨7, _⟩ => ⟨S28x3072x1x32x1, .f32⟩
  | .hbm, ⟨8, _⟩ => ⟨S1x1x4x1x1, .i32⟩
  | .hbm, ⟨9, _⟩ => ⟨S_, .i32⟩
  | .hbm, ⟨10, _⟩ => ⟨S1x1x4x1x1, .i32⟩
  | .hbm, ⟨11, _⟩ => ⟨S1x1x4x1x1, .i1⟩
  | .hbm, ⟨12, _⟩ => ⟨S_, .i32⟩
  | .hbm, ⟨13, _⟩ => ⟨S1x1x4x1x1, .i32⟩
  | .hbm, ⟨14, _⟩ => ⟨S1x1x4x1x1, .i1⟩
  | .hbm, ⟨15, _⟩ => ⟨S_, .i32⟩
  | .hbm, ⟨16, _⟩ => ⟨S1x1x4x1x1, .i32⟩
  | .hbm, ⟨17, _⟩ => ⟨S1x1x4x1x1, .i1⟩
  | .hbm, ⟨18, _⟩ => ⟨S_, .f32⟩
  | .hbm, ⟨19, _⟩ => ⟨S_, .f32⟩
  | .hbm, ⟨20, _⟩ => ⟨S1x1x4x1x1, .f32⟩
  | .hbm, ⟨21, _⟩ => ⟨S1x1x4x1x1, .f32⟩
  | .hbm, ⟨22, _⟩ => ⟨S1x1x4x1x1, .f32⟩
  | .hbm, ⟨23, _⟩ => ⟨S_, .f32⟩
  | .hbm, ⟨24, _⟩ => ⟨S1x1x4x1x1, .f32⟩
  | .hbm, ⟨25, _⟩ => ⟨S1x1x4x1x1, .f32⟩
  | .hbm, ⟨26, _⟩ => ⟨S_, .f32⟩
  | .hbm, ⟨27, _⟩ => ⟨S1x1x4x1x1, .f32⟩
  | .hbm, ⟨28, _⟩ => ⟨S1x1x4x1x1, .f32⟩
  | .hbm, ⟨29, _⟩ => ⟨S1x1x4x1x1, .i32⟩
  | .hbm, ⟨30, _⟩ => ⟨S_, .i32⟩
  | .hbm, ⟨31, _⟩ => ⟨S1x1x4x1x1, .i32⟩
  | .hbm, ⟨32, _⟩ => ⟨S1x1x4x1x1, .i1⟩
  | .hbm, ⟨33, _⟩ => ⟨S_, .i32⟩
  | .hbm, ⟨34, _⟩ => ⟨S1x1x4x1x1, .i32⟩
  | .hbm, ⟨35, _⟩ => ⟨S1x1x4x1x1, .i1⟩
  | .hbm, ⟨36, _⟩ => ⟨S_, .i32⟩
  | .hbm, ⟨37, _⟩ => ⟨S1x1x4x1x1, .i32⟩
  | .hbm, ⟨38, _⟩ => ⟨S1x1x4x1x1, .i1⟩
  | .hbm, ⟨39, _⟩ => ⟨S_, .f32⟩
  | .hbm, ⟨40, _⟩ => ⟨S_, .f32⟩
  | .hbm, ⟨41, _⟩ => ⟨S1x1x4x1x1, .f32⟩
  | .hbm, ⟨42, _⟩ => ⟨S1x1x4x1x1, .f32⟩
  | .hbm, ⟨43, _⟩ => ⟨S1x1x4x1x1, .f32⟩
  | .hbm, ⟨44, _⟩ => ⟨S_, .f32⟩
  | .hbm, ⟨45, _⟩ => ⟨S1x1x4x1x1, .f32⟩
  | .hbm, ⟨46, _⟩ => ⟨S1x1x4x1x1, .f32⟩
  | .hbm, ⟨47, _⟩ => ⟨S_, .f32⟩
  | .hbm, ⟨48, _⟩ => ⟨S1x1x4x1x1, .f32⟩
  | .hbm, ⟨49, _⟩ => ⟨S1x1x4x1x1, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S28x3072x1x32x1, .f32⟩
  | .hbm, ⟨54, _⟩ => ⟨S28x3072x1x32x1, .i1⟩
  | .hbm, ⟨55, _⟩ => ⟨S28x3072x4x32x1, .f32⟩
  | .hbm, ⟨56, _⟩ => ⟨S28x3072x4x32x1, .f32⟩
  | .hbm, ⟨57, _⟩ => ⟨S28x3072x4x32x1, .f32⟩
  | .hbm, ⟨58, _⟩ => ⟨S28x3072x4x32x1, .f32⟩
  | .hbm, ⟨59, _⟩ => ⟨S28x3072x4x32x1, .f32⟩
  | .hbm, ⟨60, _⟩ => ⟨S28x3072x4x32x1, .f32⟩
  | .hbm, ⟨61, _⟩ => ⟨S28x3072x4x32x1, .f32⟩
  | .hbm, ⟨62, _⟩ => ⟨S_, .f32⟩
  | .hbm, ⟨63, _⟩ => ⟨S28x3072x4x32x1, .f32⟩
  | .hbm, ⟨64, _⟩ => ⟨S28x3072x4x32x1, .f32⟩
  | .hbm, ⟨65, _⟩ => ⟨S_, .f32⟩
  | .hbm, ⟨66, _⟩ => ⟨S28x3072x4x32x1, .i1⟩
  | .hbm, ⟨67, _⟩ => ⟨S28x3072x4x32x1, .f32⟩
  | .hbm, ⟨68, _⟩ => ⟨S28x3072x4x32x1, .f32⟩
  | .hbm, ⟨69, _⟩ => ⟨S28x3072x4x32x1, .f32⟩
  | .hbm, ⟨70, _⟩ => ⟨S28x3072x4x32x1, .f32⟩
  | .hbm, ⟨71, _⟩ => ⟨S28x3072x4x32x1, .f32⟩
  | .hbm, ⟨72, _⟩ => ⟨S28x3072x4x32x1, .f32⟩
  | .hbm, ⟨73, _⟩ => ⟨S28x3072x4x32x1, .f32⟩
  | .hbm, ⟨74, _⟩ => ⟨S28x3072x4x32x1, .f32⟩
  | .hbm, ⟨75, _⟩ => ⟨S28x3072x4x32x1, .f32⟩
  | .hbm, ⟨76, _⟩ => ⟨S28x3072x4x32x32, .f32⟩
  | .hbm, ⟨77, _⟩ => ⟨S28x3072x4x32x32, .f32⟩
  | .hbm, ⟨78, _⟩ => ⟨S28x3072x4x32x32, .f32⟩
  | .hbm, ⟨79, _⟩ => ⟨S28x3072x4x32x32, .f32⟩
  | .hbm, ⟨80, _⟩ => ⟨S1x1x4x1x1, .f32⟩
  | .hbm, ⟨81, _⟩ => ⟨S28x3072x4x32x32, .f32⟩
  | .hbm, ⟨82, _⟩ => ⟨S28x3072x4x32x32, .f32⟩
  | .hbm, ⟨83, _⟩ => ⟨S28x3072x4x32x32, .f32⟩
  | .hbm, ⟨84, _⟩ => ⟨S28x3072x4x32x32, .f32⟩
  | .hbm, ⟨85, _⟩ => ⟨S28x3072x4x32x32, .i32⟩
  | .hbm, ⟨86, _⟩ => ⟨S28x3072x4x32x32, .f32⟩
  | .hbm, ⟨87, _⟩ => ⟨S28x3072x4x32x32, .f32⟩
  | .hbm, ⟨88, _⟩ => ⟨S28x3072x4x32x32, .f32⟩
  | .hbm, ⟨89, _⟩ => ⟨S28x3072x4x32x32, .f32⟩
  | .hbm, ⟨90, _⟩ => ⟨S28x3072x4x32x32, .f32⟩
  | .hbm, ⟨91, _⟩ => ⟨S28x3072x4x8x128, .f32⟩
  | .hbm, ⟨92, _⟩ => ⟨S28x3072x4x8x128, .bf16⟩
  | .hbm, ⟨93, _⟩ => ⟨S28x8x128x128, .bf16⟩
  | .hbm, ⟨94, _⟩ => ⟨S28x8x128x3072x4, .f32⟩
  | .hbm, ⟨95, _⟩ => ⟨S28x3072x4x8x128, .f32⟩
  | .hbm, ⟨96, _⟩ => ⟨S28x3072x4x8x128, .f32⟩
  | .hbm, ⟨97, _⟩ => ⟨S28x3072x4x8x128, .f32⟩
  | .hbm, ⟨98, _⟩ => ⟨S_, .f32⟩
  | .hbm, ⟨99, _⟩ => ⟨S28x3072x4x8, .f32⟩
  | .hbm, ⟨100, _⟩ => ⟨S28x4x8x3072, .f32⟩
  | .hbm, ⟨101, _⟩ => ⟨S28x3072x4x32x32, .i8⟩
  | .hbm, ⟨102, _⟩ => ⟨S28x3072x4x1024, .i8⟩
  | .hbm, ⟨103, _⟩ => ⟨S28x3072x4x32, .f32⟩
  | .hbm, ⟨104, _⟩ => ⟨S28x4x32x3072, .f32⟩
  | _, _ => ⟨S28x3072x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_cst_4 : Ref sig .tc := ⟨.hbm, 23, rfl⟩
abbrev main_call1_v0 : Ref sig .tc := ⟨.hbm, 24, rfl⟩
abbrev main_v13 : Ref sig .tc := ⟨.hbm, 25, rfl⟩
abbrev main_cst_5 : Ref sig .tc := ⟨.hbm, 26, rfl⟩
abbrev main_call2_v0 : Ref sig .tc := ⟨.hbm, 27, rfl⟩
abbrev main_v14 : Ref sig .tc := ⟨.hbm, 28, rfl⟩
abbrev main_v15 : Ref sig .tc := ⟨.hbm, 29, rfl⟩
abbrev main_c_6 : Ref sig .tc := ⟨.hbm, 30, rfl⟩
abbrev main_v16 : Ref sig .tc := ⟨.hbm, 31, rfl⟩
abbrev main_v17 : Ref sig .tc := ⟨.hbm, 32, rfl⟩
abbrev main_c_7 : Ref sig .tc := ⟨.hbm, 33, rfl⟩
abbrev main_v18 : Ref sig .tc := ⟨.hbm, 34, rfl⟩
abbrev main_v19 : Ref sig .tc := ⟨.hbm, 35, rfl⟩
abbrev main_c_8 : Ref sig .tc := ⟨.hbm, 36, rfl⟩
abbrev main_v20 : Ref sig .tc := ⟨.hbm, 37, rfl⟩
abbrev main_v21 : Ref sig .tc := ⟨.hbm, 38, rfl⟩
abbrev main_cst_9 : Ref sig .tc := ⟨.hbm, 39, rfl⟩
abbrev main_cst_10 : Ref sig .tc := ⟨.hbm, 40, rfl⟩
abbrev main_call3_v0 : Ref sig .tc := ⟨.hbm, 41, rfl⟩
abbrev main_call3_v1 : Ref sig .tc := ⟨.hbm, 42, rfl⟩
abbrev main_v22 : Ref sig .tc := ⟨.hbm, 43, rfl⟩
abbrev main_cst_11 : Ref sig .tc := ⟨.hbm, 44, rfl⟩
abbrev main_call4_v0 : Ref sig .tc := ⟨.hbm, 45, rfl⟩
abbrev main_v23 : Ref sig .tc := ⟨.hbm, 46, rfl⟩
abbrev main_cst_12 : Ref sig .tc := ⟨.hbm, 47, rfl⟩
abbrev main_call5_v0 : Ref sig .tc := ⟨.hbm, 48, rfl⟩
abbrev main_v24 : Ref sig .tc := ⟨.hbm, 49, rfl⟩
abbrev main_cst_13 : Ref sig .tc := ⟨.hbm, 50, rfl⟩
abbrev main_v25 : Ref sig .tc := ⟨.hbm, 51, rfl⟩
abbrev main_cst_14 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_15 : Ref sig .tc := ⟨.hbm, 62, rfl⟩
abbrev main_v35 : Ref sig .tc := ⟨.hbm, 63, rfl⟩
abbrev main_v36 : Ref sig .tc := ⟨.hbm, 64, rfl⟩
abbrev main_cst_16 : Ref sig .tc := ⟨.hbm, 65, rfl⟩
abbrev main_call6_v0 : Ref sig .tc := ⟨.hbm, 66, rfl⟩
abbrev main_call6_v1 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call8_v0 : Ref sig .tc := ⟨.hbm, 81, rfl⟩
abbrev main_call8_v1 : Ref sig .tc := ⟨.hbm, 82, rfl⟩
abbrev main_call8_v2 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_17 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩

abbrev nD : Nat := 1
abbrev τ : Topo := Topo.v7x

variable {F : FTy → Type} [FloatOps F]
-- ==== Proof.Kernel.Own.lean ====
/- The hand-written invariants of the nested loops of `Kernel`: each says only that the buffers its trips touch are owned, at some contents. Enough for the claim that the program leaves its arguments as they were. -/
module

public import proofs.«01_k».proof.Proof.Gen.Kernel.Loops
public import Idealize.ShloMosaic.Lib.Tactic

@[expose] public section

set_option maxRecDepth 16384
set_option warn.classDefReducibility false

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

variable (c : Dev nD) (i : grid0.Coords) (arg2 : Memref sig .tc .vmem S1x512x1024 .bf16) (harg2 : arg2.IsWhole) (arg3 : Memref sig .tc .vmem S1x8x128x128 .f32) (harg3 : arg3.IsWhole) (arg4 : Memref sig .tc .vmem S1x4x8x512 .f32) (harg4 : arg4.IsWhole) (arg5 : Memref sig .tc .vmem S1x512x4x1024 .i8) (harg5 : arg5.IsWhole) (arg6 : Memref sig .tc .vmem S1x4x32x512 .f32) (harg6 : arg6.IsWhole) (arg7 : Memref sig .tc .vmem S4x256x256 .bf16) (harg7 : arg7.IsWhole) (arg8 : Memref sig .tc .vmem S4x1024x128 .bf16) (harg8 : arg8.IsWhole) (arg9 : Memref sig .tc .vmem S4x288x128 .i32) (harg9 : arg9.IsWhole) (arg10 : Memref sig .tc .vmem S4x8x32x128 .i32) (harg10 : arg10.IsWhole) (arg11 : Memref sig .tc .vmem S4x4x256x512 .bf16) (harg11 : arg11.IsWhole) (arg12 : Memref sig .tc .vmem S4x4x2x128x128 .i32) (harg12 : arg12.IsWhole) (arg13 : Memref sig .tc .vmem S4x4x72x128 .f32) (harg13 : arg13.IsWhole)

/-- The buffers one trip of `k0_t2_loop` touches, before the loop over the strips of the first phase: owned, at some contents. -/
@[sl_loop] def loopInv_k0_t2 (X2 : BufTy.Contents (Elt F) arg2.view.ty) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13  where
  inv := fun k _ => iprop((arg2.view.loc (c : Thread nD τ) ↦[arg2.view.set]{fullShare} X2) ∗ (∃ f, arg6.view.loc (c : Thread nD τ) ↦[arg6.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f))
  step := fun k _ => by
    unfold k0_t2_body
    iintro ⟨H2, ⟨%f6, H6⟩, ⟨%f8, H8⟩, ⟨%f9, H9⟩, ⟨%f10, H10⟩⟩
    sl_exec
    sl_step
    isplitl [H2]
    · iexact H2
    isplitl [H6]
    · iexists _; iexact H6
    isplitl [H8]
    · iexists _; iexact H8
    isplitl [H9]
    · iexists _; iexact H9
    iexists _; iexact H10

/-- The buffers one trip of `k0_t8_loop` touches, before the loop over the pieces of one half strip: owned, at some contents. -/
@[sl_loop] def loopInv_k0_t8 (k0_t5 : Fin k0_t5_loop.trips) (arg14 : BitVec 32) (k0_t6 : Fin k0_t6_loop.trips) (arg15 : BitVec 32) (v9 : BitVec 32) (k0_t7 : Fin k0_t7_loop.trips) (arg16 : BitVec 32) (v12 : BitVec 32) :
    LoopInvTy_k0_t8 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 k0_t5 arg14 k0_t6 arg15 v9 k0_t7 arg16 v12 where
  inv := fun k _ => iprop((∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f))
  step := fun k _ => by
    unfold k0_t8_body
    iintro ⟨⟨%f8, H8⟩, ⟨%f9, H9⟩, ⟨%f10, H10⟩, ⟨%f11, H11⟩, ⟨%f12, H12⟩⟩
    sl_exec
    sl_step
    isplitl [H8]
    · iexists _; iexact H8
    isplitl [H9]
    · iexists _; iexact H9
    isplitl [H10]
    · iexists _; iexact H10
    isplitl [H11]
    · iexists _; iexact H11
    iexists _; iexact H12

/-- The buffers one trip of `k0_t7_loop` touches, before the loop over the two halves: owned, at some contents. -/
@[sl_loop] def loopInv_k0_t7 (k0_t5 : Fin k0_t5_loop.trips) (arg14 : BitVec 32) (k0_t6 : Fin k0_t6_loop.trips) (arg15 : BitVec 32) (v9 : BitVec 32) :
    LoopInvTy_k0_t7 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 k0_t5 arg14 k0_t6 arg15 v9 where
  inv := fun k _ => iprop((∃ f, arg5.view.loc (c : Thread nD τ) ↦[arg5.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f))
  step := fun k _ => by
    unfold k0_t7_body
    iintro ⟨⟨%f5, H5⟩, ⟨%f8, H8⟩, ⟨%f9, H9⟩, ⟨%f10, H10⟩, ⟨%f11, H11⟩, ⟨%f12, H12⟩⟩
    sl_exec
    sl_step
    isplitl [H5]
    · iexists _; iexact H5
    isplitl [H8]
    · iexists _; iexact H8
    isplitl [H9]
    · iexists _; iexact H9
    isplitl [H10]
    · iexists _; iexact H10
    isplitl [H11]
    · iexists _; iexact H11
    iexists _; iexact H12

/-- The buffers one trip of `k0_t6_loop` touches, before the loop over the strips: owned, at some contents. -/
@[sl_loop] def loopInv_k0_t6 (k0_t5 : Fin k0_t5_loop.trips) (arg14 : BitVec 32) :
    LoopInvTy_k0_t6 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 k0_t5 arg14 where
  inv := fun k _ => iprop((∃ f, arg5.view.loc (c : Thread nD τ) ↦[arg5.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f))
  step := fun k _ => by
    unfold k0_t6_body
    iintro ⟨⟨%f5, H5⟩, ⟨%f8, H8⟩, ⟨%f9, H9⟩, ⟨%f10, H10⟩, ⟨%f11, H11⟩, ⟨%f12, H12⟩⟩
    sl_exec
    sl_step
    isplitl [H5]
    · iexists _; iexact H5
    isplitl [H8]
    · iexists _; iexact H8
    isplitl [H9]
    · iexists _; iexact H9
    isplitl [H10]
    · iexists _; iexact H10
    isplitl [H11]
    · iexists _; iexact H11
    iexists _; iexact H12

/-- The buffers one trip of `k0_t5_loop` touches, before the loop over the pairs: owned, at some contents. -/
@[sl_loop] def loopInv_k0_t5  :
    LoopInvTy_k0_t5 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13  where
  inv := fun k _ => iprop((∃ f, arg5.view.loc (c : Thread nD τ) ↦[arg5.view.set]{fullShare} f) ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f))
  step := fun k _ => by
    unfold k0_t5_body
    iintro ⟨⟨%f5, H5⟩, ⟨%f7, H7⟩, ⟨%f8, H8⟩, ⟨%f9, H9⟩, ⟨%f10, H10⟩, ⟨%f11, H11⟩, ⟨%f12, H12⟩, ⟨%f13, H13⟩⟩
    sl_exec
    sl_step
    isplitl [H5]
    · iexists _; iexact H5
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; iexact H12
    iexists _; iexact H13

end Cert.Kernel.Own

end

end
-- ==== Proof.Kernel.Run.lean ====
/- `Kernel` terminates, faults nowhere, leaves its two arguments as they were and every semaphore counter at zero: its body run over the invariants of `Own.lean`, and the pipeline around it, which is told nothing of what the three results hold. -/
module

public import proofs.«01_k».proof.Proof.Kernel.Own
public import proofs.«01_k».proof.Proof.Gen.Kernel.Frame
public import proofs.«01_k».proof.Proof.Gen.Kernel.Skeleton
public import Idealize.ShloMosaic.Lib.Tactic

@[expose] public section

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [BitOps F]

local notation "𝕄" => MT nD τ sig Unit (Elt F) ℕ (UR sig nD τ) ℕ

/-- The body at any grid point, on whole buffers: the two input blocks come back as they were, the results and the scratch come back owned. -/
theorem body (c : Dev nD) (i : grid0.Coords) (arg2 : Memref sig .tc .vmem S1x512x1024 .bf16) (harg2 : arg2.IsWhole) (arg3 : Memref sig .tc .vmem S1x8x128x128 .f32) (harg3 : arg3.IsWhole) (arg4 : Memref sig .tc .vmem S1x4x8x512 .f32) (harg4 : arg4.IsWhole) (arg5 : Memref sig .tc .vmem S1x512x4x1024 .i8) (harg5 : arg5.IsWhole) (arg6 : Memref sig .tc .vmem S1x4x32x512 .f32) (harg6 : arg6.IsWhole) (arg7 : Memref sig .tc .vmem S4x256x256 .bf16) (harg7 : arg7.IsWhole) (arg8 : Memref sig .tc .vmem S4x1024x128 .bf16) (harg8 : arg8.IsWhole) (arg9 : Memref sig .tc .vmem S4x288x128 .i32) (harg9 : arg9.IsWhole) (arg10 : Memref sig .tc .vmem S4x8x32x128 .i32) (harg10 : arg10.IsWhole) (arg11 : Memref sig .tc .vmem S4x4x256x512 .bf16) (harg11 : arg11.IsWhole) (arg12 : Memref sig .tc .vmem S4x4x2x128x128 .i32) (harg12 : arg12.IsWhole) (arg13 : Memref sig .tc .vmem S4x4x72x128 .f32) (harg13 : arg13.IsWhole)
    (x2 : Vec F S1x512x1024 .bf16) (x3 : Vec F S1x8x128x128 .f32) (K : PUnit → sProp 𝕄) :
    iprop(owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) Set.univ (cc0_sensitivity_table i arg2 harg2 arg3 harg3 arg4 harg4 arg5 harg5 arg6 harg6 arg7 harg7 arg8 harg8 arg9 harg9 arg10 harg10 arg11 harg11 arg12 harg12 arg13 harg13) K := by
  unfold owns
  iintro ⟨⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  sl_unfold [cc0_sensitivity_table]
  by_cases hq : k0_cond1 i = 1#1
  all_goals
    sl_exec
    sl_step
    iapply Hk
    isplitl [H2]
    · iexists _; isplitr; · ipureintro; exact hf2
      iexact H2
    isplitl [H3]
    · iexists _; isplitr; · ipureintro; exact hf3
      iexact H3
    isplitl [H4]
    · iexists _; iexists _; isplitr; swap; · iexact H4
      ipureintro; rfl
    isplitl [H5]
    · iexists _; iexists _; isplitr; swap; · iexact H5
      ipureintro; rfl
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    iexists _; iexists _; isplitr; swap; · iexact H13
    ipureintro; rfl

/-- The scratch buffers, whole. -/
abbrev sc0 : Memref sig .tc .vmem S4x256x256 .bf16 := Memref.whole cc0_scratch0
abbrev sc1 : Memref sig .tc .vmem S4x1024x128 .bf16 := Memref.whole cc0_scratch1
abbrev sc2 : Memref sig .tc .vmem S4x288x128 .i32 := Memref.whole cc0_scratch2
abbrev sc3 : Memref sig .tc .vmem S4x8x32x128 .i32 := Memref.whole cc0_scratch3
abbrev sc4 : Memref sig .tc .vmem S4x4x256x512 .bf16 := Memref.whole cc0_scratch4
abbrev sc5 : Memref sig .tc .vmem S4x4x2x128x128 .i32 := Memref.whole cc0_scratch5
abbrev sc6 : Memref sig .tc .vmem S4x4x72x128 .f32 := Memref.whole cc0_scratch6

theorem ΦA_eq (c : Dev nD) : (ΦA spec0 c : sProp 𝕄)
    = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ ∃ r, prngReg c r) := by
  unfold Pipeline.ΦA
  rw [scopedRest0_eq]
  simp only [sc0, sc1, sc2, sc3, sc4, sc5, sc6, owns_whole]; try rfl

variable (m : (ℓ : Loc nD τ sig) → Buf (Elt F) ℓ) (ρ : Dev nD → PrngReg)

/-- The three results are not described. -/
def fgt : Fin cfg0.W → Bool := fun | 0 => false | 1 => false | _ => true

/-- The arrays as the region finds them; after the body each input block in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Dat.unnamed (cfg := cfg0) ⟨2, h⟩ t
    | ⟨3, h⟩ => Dat.unnamed (cfg := cfg0) ⟨3, h⟩ t
    | ⟨4, h⟩ => Dat.unnamed (cfg := cfg0) ⟨4, h⟩ t
  Φ _ := ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The body obligation, the results forgotten. -/
theorem body_obligation (c : Dev nD) : BodyObligation (dats (F := F) m 0 c) (defs₀ (F := F)) Variants.none () Set.univ fgt := fun t => by
  rw [bigSep_W0, bigSep_W0]
  sl_whnfR [defs₀, Defs.onTc]
  simp only [fgt, before0_0, before0_1]
  rw [show (dats m 0 c).Φ t.succ = ΦA spec0 c from rfl, show (dats m 0 c).Φ t.castSucc = ΦA spec0 c from rfl,
    show (dats m 0 c).owesAt () t.succ = (dats m 0 c).owesAt () t.castSucc from rfl, after0_0, after0_1, ΦA_eq]
  iintro ⟨⟨⟨S0, S1, S2, S3, S4, S5, S6⟩, Hg⟩, Ho, ⟨%d0, H0⟩, ⟨%d1, H1⟩, ⟨%d2, H2⟩, ⟨%d3, H3⟩, ⟨%d4, H4⟩⟩
  iapply (body c _ _ _ _ _ _ _ _ _ _ _ sc0 _ sc1 _ sc2 _ sc3 _ sc4 _ sc5 _ sc6 _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  iexact H4

set_option backward.isDefEq.respectTransparency.types false in
/-- From any memory with zero counters every run of the program ends, each input array as it was, every counter at zero. -/
theorem run_main : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: the arguments end as launched, the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1.arr_in c 0 rfl).trans (V_main_arg0 m c), (h.1.arr_in c 1 rfl).trans (V_main_arg1 m c)⟩, h.2⟩)
    (run_main m ρ)

end Cert.Kernel.Own

end

end
-- ==== Proof.KernelIdeal.Own.lean ====
/- The hand-written invariants of the nested loops of `KernelIdeal`: each says only that the buffers its trips touch are owned, at some contents. Enough for the claim that the program leaves its arguments as they were. -/
module

public import proofs.«01_k».proof.Proof.Gen.KernelIdeal.Loops
public import Idealize.ShloMosaic.Lib.Tactic

@[expose] public section

set_option maxRecDepth 16384
set_option warn.classDefReducibility false

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (c : Dev nD) (i : grid0.Coords) (arg2 : Memref sig .tc .vmem S1x512x1024 .bf16) (harg2 : arg2.IsWhole) (arg3 : Memref sig .tc .vmem S1x8x128x128 .f32) (harg3 : arg3.IsWhole) (arg4 : Memref sig .tc .vmem S1x4x8x512 .f32) (harg4 : arg4.IsWhole) (arg5 : Memref sig .tc .vmem S1x512x4x1024 .i8) (harg5 : arg5.IsWhole) (arg6 : Memref sig .tc .vmem S1x4x32x512 .f32) (harg6 : arg6.IsWhole) (arg7 : Memref sig .tc .vmem S4x256x256 .bf16) (harg7 : arg7.IsWhole) (arg8 : Memref sig .tc .vmem S4x1024x128 .bf16) (harg8 : arg8.IsWhole) (arg9 : Memref sig .tc .vmem S4x288x2x128 .bf16) (harg9 : arg9.IsWhole) (arg10 : Memref sig .tc .vmem S4x8x32x2x128 .bf16) (harg10 : arg10.IsWhole) (arg11 : Memref sig .tc .vmem S4x4x256x512 .bf16) (harg11 : arg11.IsWhole) (arg12 : Memref sig .tc .vmem S4x4x2x128x128 .i32) (harg12 : arg12.IsWhole) (arg13 : Memref sig .tc .vmem S4x4x72x128 .f32) (harg13 : arg13.IsWhole)

/-- The buffers one trip of `k0_t2_loop` touches, before the loop over the strips of the first phase: owned, at some contents. -/
@[sl_loop] def loopInv_k0_t2 (X2 : BufTy.Contents (Elt F) arg2.view.ty) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13  where
  inv := fun k _ => iprop((arg2.view.loc (c : Thread nD τ) ↦[arg2.view.set]{fullShare} X2) ∗ (∃ f, arg6.view.loc (c : Thread nD τ) ↦[arg6.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f))
  step := fun k _ => by
    unfold k0_t2_body
    iintro ⟨H2, ⟨%f6, H6⟩, ⟨%f8, H8⟩, ⟨%f9, H9⟩, ⟨%f10, H10⟩⟩
    sl_exec
    sl_step
    isplitl [H2]
    · iexact H2
    isplitl [H6]
    · iexists _; iexact H6
    isplitl [H8]
    · iexists _; iexact H8
    isplitl [H9]
    · iexists _; iexact H9
    iexists _; iexact H10

/-- The buffers one trip of `k0_t8_loop` touches, before the loop over the pieces of one half strip: owned, at some contents. -/
@[sl_loop] def loopInv_k0_t8 (k0_t5 : Fin k0_t5_loop.trips) (arg14 : BitVec 32) (k0_t6 : Fin k0_t6_loop.trips) (arg15 : BitVec 32) (v9 : BitVec 32) (k0_t7 : Fin k0_t7_loop.trips) (arg16 : BitVec 32) (v12 : BitVec 32) :
    LoopInvTy_k0_t8 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 k0_t5 arg14 k0_t6 arg15 v9 k0_t7 arg16 v12 where
  inv := fun k _ => iprop((∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f))
  step := fun k _ => by
    unfold k0_t8_body
    iintro ⟨⟨%f8, H8⟩, ⟨%f9, H9⟩, ⟨%f10, H10⟩, ⟨%f11, H11⟩, ⟨%f12, H12⟩⟩
    sl_exec
    sl_step
    isplitl [H8]
    · iexists _; iexact H8
    isplitl [H9]
    · iexists _; iexact H9
    isplitl [H10]
    · iexists _; iexact H10
    isplitl [H11]
    · iexists _; iexact H11
    iexists _; iexact H12

/-- The buffers one trip of `k0_t7_loop` touches, before the loop over the two halves: owned, at some contents. -/
@[sl_loop] def loopInv_k0_t7 (k0_t5 : Fin k0_t5_loop.trips) (arg14 : BitVec 32) (k0_t6 : Fin k0_t6_loop.trips) (arg15 : BitVec 32) (v9 : BitVec 32) :
    LoopInvTy_k0_t7 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 k0_t5 arg14 k0_t6 arg15 v9 where
  inv := fun k _ => iprop((∃ f, arg5.view.loc (c : Thread nD τ) ↦[arg5.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f))
  step := fun k _ => by
    unfold k0_t7_body
    iintro ⟨⟨%f5, H5⟩, ⟨%f8, H8⟩, ⟨%f9, H9⟩, ⟨%f10, H10⟩, ⟨%f11, H11⟩, ⟨%f12, H12⟩⟩
    sl_exec
    sl_step
    isplitl [H5]
    · iexists _; iexact H5
    isplitl [H8]
    · iexists _; iexact H8
    isplitl [H9]
    · iexists _; iexact H9
    isplitl [H10]
    · iexists _; iexact H10
    isplitl [H11]
    · iexists _; iexact H11
    iexists _; iexact H12

/-- The buffers one trip of `k0_t6_loop` touches, before the loop over the strips: owned, at some contents. -/
@[sl_loop] def loopInv_k0_t6 (k0_t5 : Fin k0_t5_loop.trips) (arg14 : BitVec 32) :
    LoopInvTy_k0_t6 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 k0_t5 arg14 where
  inv := fun k _ => iprop((∃ f, arg5.view.loc (c : Thread nD τ) ↦[arg5.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f))
  step := fun k _ => by
    unfold k0_t6_body
    iintro ⟨⟨%f5, H5⟩, ⟨%f8, H8⟩, ⟨%f9, H9⟩, ⟨%f10, H10⟩, ⟨%f11, H11⟩, ⟨%f12, H12⟩⟩
    sl_exec
    sl_step
    isplitl [H5]
    · iexists _; iexact H5
    isplitl [H8]
    · iexists _; iexact H8
    isplitl [H9]
    · iexists _; iexact H9
    isplitl [H10]
    · iexists _; iexact H10
    isplitl [H11]
    · iexists _; iexact H11
    iexists _; iexact H12

/-- The buffers one trip of `k0_t5_loop` touches, before the loop over the pairs: owned, at some contents. -/
@[sl_loop] def loopInv_k0_t5  :
    LoopInvTy_k0_t5 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13  where
  inv := fun k _ => iprop((∃ f, arg5.view.loc (c : Thread nD τ) ↦[arg5.view.set]{fullShare} f) ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f))
  step := fun k _ => by
    unfold k0_t5_body
    iintro ⟨⟨%f5, H5⟩, ⟨%f7, H7⟩, ⟨%f8, H8⟩, ⟨%f9, H9⟩, ⟨%f10, H10⟩, ⟨%f11, H11⟩, ⟨%f12, H12⟩, ⟨%f13, H13⟩⟩
    sl_exec
    sl_step
    isplitl [H5]
    · iexists _; iexact H5
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; iexact H12
    iexists _; iexact H13

/-- The buffers the loop that copies the scores out touches, before its `k`-th trip: owned, at some contents. -/
@[sl_loop] def loopInv_k0_t10 :
    LoopInvTy_k0_t10 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13  where
  inv := fun k _ => iprop((∃ f, arg13.view.loc (c : Thread nD τ) ↦[arg13.view.set]{fullShare} f) ∗ (∃ f, arg4.view.loc (c : Thread nD τ) ↦[arg4.view.set]{fullShare} f))
  step := fun k _ => by
    unfold k0_t10_body
    iintro ⟨⟨%f13, H13⟩, ⟨%f4, H4⟩⟩
    sl_exec
    sl_step
    isplitl [H13]
    · iexists _; iexact H13
    iexists _; iexact H4

end Cert.KernelIdeal.Own

end

end
-- ==== Proof.KernelIdeal.Run.lean ====
/- `KernelIdeal` terminates, faults nowhere, leaves its two arguments as they were and every semaphore counter at zero: its body run over the invariants of `Own.lean`, and the pipeline around it, which is told nothing of what the three results hold. -/
module

public import proofs.«01_k».proof.Proof.KernelIdeal.Own
public import proofs.«01_k».proof.Proof.Gen.KernelIdeal.Frame
public import proofs.«01_k».proof.Proof.Gen.KernelIdeal.Skeleton
public import Idealize.ShloMosaic.Lib.Tactic

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

/-- The body at any grid point, on whole buffers: the two input blocks come back as they were, the results and the scratch come back owned. -/
theorem body (c : Dev nD) (i : grid0.Coords) (arg2 : Memref sig .tc .vmem S1x512x1024 .bf16) (harg2 : arg2.IsWhole) (arg3 : Memref sig .tc .vmem S1x8x128x128 .f32) (harg3 : arg3.IsWhole) (arg4 : Memref sig .tc .vmem S1x4x8x512 .f32) (harg4 : arg4.IsWhole) (arg5 : Memref sig .tc .vmem S1x512x4x1024 .i8) (harg5 : arg5.IsWhole) (arg6 : Memref sig .tc .vmem S1x4x32x512 .f32) (harg6 : arg6.IsWhole) (arg7 : Memref sig .tc .vmem S4x256x256 .bf16) (harg7 : arg7.IsWhole) (arg8 : Memref sig .tc .vmem S4x1024x128 .bf16) (harg8 : arg8.IsWhole) (arg9 : Memref sig .tc .vmem S4x288x2x128 .bf16) (harg9 : arg9.IsWhole) (arg10 : Memref sig .tc .vmem S4x8x32x2x128 .bf16) (harg10 : arg10.IsWhole) (arg11 : Memref sig .tc .vmem S4x4x256x512 .bf16) (harg11 : arg11.IsWhole) (arg12 : Memref sig .tc .vmem S4x4x2x128x128 .i32) (harg12 : arg12.IsWhole) (arg13 : Memref sig .tc .vmem S4x4x72x128 .f32) (harg13 : arg13.IsWhole)
    (x2 : Vec F S1x512x1024 .bf16) (x3 : Vec F S1x8x128x128 .f32) (K : PUnit → sProp 𝕄) :
    iprop(owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) Set.univ (cc0_sensitivity_table i arg2 harg2 arg3 harg3 arg4 harg4 arg5 harg5 arg6 harg6 arg7 harg7 arg8 harg8 arg9 harg9 arg10 harg10 arg11 harg11 arg12 harg12 arg13 harg13) K := by
  unfold owns
  iintro ⟨⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  sl_unfold [cc0_sensitivity_table]
  by_cases hq : k0_cond1 i = 1#1
  all_goals
    sl_exec
    sl_step
    iapply Hk
    isplitl [H2]
    · iexists _; isplitr; · ipureintro; exact hf2
      iexact H2
    isplitl [H3]
    · iexists _; isplitr; · ipureintro; exact hf3
      iexact H3
    isplitl [H4]
    · iexists _; iexists _; isplitr; swap; · iexact H4
      ipureintro; rfl
    isplitl [H5]
    · iexists _; iexists _; isplitr; swap; · iexact H5
      ipureintro; rfl
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    iexists _; iexists _; isplitr; swap; · iexact H13
    ipureintro; rfl

/-- The scratch buffers, whole. -/
abbrev sc0 : Memref sig .tc .vmem S4x256x256 .bf16 := Memref.whole cc0_scratch0
abbrev sc1 : Memref sig .tc .vmem S4x1024x128 .bf16 := Memref.whole cc0_scratch1
abbrev sc2 : Memref sig .tc .vmem S4x288x2x128 .bf16 := Memref.whole cc0_scratch2
abbrev sc3 : Memref sig .tc .vmem S4x8x32x2x128 .bf16 := Memref.whole cc0_scratch3
abbrev sc4 : Memref sig .tc .vmem S4x4x256x512 .bf16 := Memref.whole cc0_scratch4
abbrev sc5 : Memref sig .tc .vmem S4x4x2x128x128 .i32 := Memref.whole cc0_scratch5
abbrev sc6 : Memref sig .tc .vmem S4x4x72x128 .f32 := Memref.whole cc0_scratch6

theorem ΦA_eq (c : Dev nD) : (ΦA spec0 c : sProp 𝕄)
    = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ ∃ r, prngReg c r) := by
  unfold Pipeline.ΦA
  rw [scopedRest0_eq]
  simp only [sc0, sc1, sc2, sc3, sc4, sc5, sc6, owns_whole]; try rfl

variable (m : (ℓ : Loc nD τ sig) → Buf (Elt F) ℓ) (ρ : Dev nD → PrngReg)

/-- The three results are not described. -/
def fgt : Fin cfg0.W → Bool := fun | 0 => false | 1 => false | _ => true

/-- The arrays as the region finds them; after the body each input block in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Dat.unnamed (cfg := cfg0) ⟨2, h⟩ t
    | ⟨3, h⟩ => Dat.unnamed (cfg := cfg0) ⟨3, h⟩ t
    | ⟨4, h⟩ => Dat.unnamed (cfg := cfg0) ⟨4, h⟩ t
  Φ _ := ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The body obligation, the results forgotten. -/
theorem body_obligation (c : Dev nD) : BodyObligation (dats (F := F) m 0 c) (defs₀ (F := F)) Variants.none () Set.univ fgt := fun t => by
  rw [bigSep_W0, bigSep_W0]
  sl_whnfR [defs₀, Defs.onTc]
  simp only [fgt, before0_0, before0_1]
  rw [show (dats m 0 c).Φ t.succ = ΦA spec0 c from rfl, show (dats m 0 c).Φ t.castSucc = ΦA spec0 c from rfl,
    show (dats m 0 c).owesAt () t.succ = (dats m 0 c).owesAt () t.castSucc from rfl, after0_0, after0_1, ΦA_eq]
  iintro ⟨⟨⟨S0, S1, S2, S3, S4, S5, S6⟩, Hg⟩, Ho, ⟨%d0, H0⟩, ⟨%d1, H1⟩, ⟨%d2, H2⟩, ⟨%d3, H3⟩, ⟨%d4, H4⟩⟩
  iapply (body c _ _ _ _ _ _ _ _ _ _ _ sc0 _ sc1 _ sc2 _ sc3 _ sc4 _ sc5 _ sc6 _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  iexact H4

set_option backward.isDefEq.respectTransparency.types false in
/-- From any memory with zero counters every run of the program ends, each input array as it was, every counter at zero. -/
theorem run_main : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: the arguments end as launched, the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1.arr_in c 0 rfl).trans (V_main_arg0 m c), (h.1.arr_in c 1 rfl).trans (V_main_arg1 m c)⟩, h.2⟩)
    (run_main m ρ)

end Cert.KernelIdeal.Own

end

end
-- ==== Proof.Claims.lean ====
/- What is claimed of the two programs beside their values: each leaves its arguments and the counters as it should, and the idealized program's rewrites are each what its rule says. -/
module

public import proofs.«01_k».proof.Defs
public import proofs.«01_k».proof.Proof.Kernel.Run
public import proofs.«01_k».proof.Proof.KernelIdeal.Run
public import Idealize.ShloMosaic.Lib.Bf16PairInverse

@[expose] public section

noncomputable section

namespace Cert.Proof

open Idealize.ShloMosaic Idealize.SL.Sem

theorem quiescent : Cert.quiescent_Kernel := fun m ρ _ => Cert.Kernel.Own.frame_main m ρ

theorem quiescentIdeal : Cert.quiescent_KernelIdeal := fun m ρ _ => Cert.KernelIdeal.Own.frame_main m ρ

/-- The rewrites of the idealized program, one statement for each kind and shape: the two buffers of packed words held as pairs of rows, the pairs read and packed, the constant named. -/
theorem preserves : Cert.preserves_Kernel_KernelIdeal :=
  open Cert.KernelIdeal IdealRules.bf16_pair in
  ⟨bufferStatement S4x288x2x128 S4x288x1x128, bufferStatement S4x8x32x2x128 S4x8x32x1x128, statement S16x128 S8x128,
    statement S1x8x2x128 S1x8x1x128,
    IdealRules.named_const.statement Cert.KernelIdeal.κ "ln2" .f32 0x3F317218#32 ((Real.log 2 : ℝ) : EReal) rfl,
    packStatement S8x128, statement S1x1x8x2x128 S1x1x8x1x128, statement S1x1x1x2x128 S1x1x1x1x128⟩

end Cert.Proof

end

end
-- ==== Proof.Finite.lean ====
/- What the precondition says: every element of the two arguments is a real. -/
module

public import proofs.«01_k».proof.Pre_finite
public import Idealize.ShloMosaic.Lib.ReduceAll
public import Idealize.ShloMosaic.Lib.IdealHost

@[expose] public section

set_option maxRecDepth 16384
set_option warn.classDefReducibility false

noncomputable section

namespace Cert.Pre_finite.Val

open Cert.Pre_finite
open Idealize.ShloMosaic

/-- The side conditions of the precondition's function. -/
theorem facts : Cert.Pre_finite.Facts where
  bitsLt_bf16_f32 := by decide
  bcast_S_S28x3072x1024 := by decide
  reducesTo_S28x3072x1024_S_d0_1_2 := by decide
  h_S_ := by decide
  bcast_S_S28x8x128x128 := by decide
  reducesTo_S28x8x128x128_S_d0_1_2_3 := by decide

theorem ofBits_inf : Ideal.ofBits .f32 0x7F800000#32 = ⊤ := by
  simp [Ideal.ofBits, Ideal.ieee]

/-- A value below infinity in magnitude is a real. -/
theorem real_of_abs (x : EReal) (h : Ideal.cmp .olt (max x (-x)) ⊤ = 1#1) : ∃ r : ℝ, x = ((r : ℝ) : EReal) := by
  have hlt : max x (-x) < ⊤ := by
    by_contra hc
    unfold Ideal.cmp at h
    simp only [decide_eq_false hc] at h
    exact absurd h (by decide)
  induction x with
  | bot => exact absurd hlt (by simp)
  | coe r => exact ⟨r, rfl⟩
  | top => exact absurd hlt (by simp)

variable [Facts]

theorem reals (w : FVec Ideal S28x3072x1024 .bf16) (h : FVec Ideal S28x8x128x128 .f32) (e : fn (F := Ideal) w h = fun _ => 1#1) :
    (∀ j, ∃ r : ℝ, w j = ((r : ℝ) : EReal)) ∧ ∀ j, ∃ r : ℝ, h j = ((r : ℝ) : EReal) := by
  have e0 := congrFun e (fun a => a.elim0)
  obtain ⟨ew, eh⟩ := IntOp.andi_eq_one.1 e0
  haveI : Subsingleton S_.Idx := ⟨fun a b => funext fun x => x.elim0⟩
  refine ⟨fun j => real_of_abs _ ?_, fun j => real_of_abs _ ?_⟩
  · have := Host.reduce_andi_all _ _ _ _ _ ew j
    rw [← ofBits_inf]
    exact this
  · have := Host.reduce_andi_all _ _ _ _ _ eh j
    rw [← ofBits_inf]
    exact this

end Cert.Pre_finite.Val
-- ==== Proof.KernelIdeal.Val.Agree.lean ====
/- What a buffer reads after a list of writes, when every payload restricts one function: the function holds where it held before and under every piece. -/
module

public import proofs.«01_k».proof.Proof.Gen.KernelIdeal.Loops
public import Idealize.ShloMosaic.Lib.Tactic
public import Idealize.ShloMosaic.Lib.WritesUnit
public import Idealize.ShloMosaic.Lib.CellWrites

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section
variable {sig : RefSig} {κ : Kind} {sp : Space} {s : Shape} {e : EltTy} {Val : EltTy → Type} (v : View sig κ sp s e)

/-- A list of writes each of which writes values of one function `G` leaves `G` where the buffer already held it and under
every piece. -/
theorem read_writes_agree (f : v.ty.Contents Val) (G : s.Idx → Val e) (D : s.Idx → Prop)
    (hf : ∀ y, D y → v.read Val f y = G y) :
    ∀ L : List (View.Piece Val s e), (∀ p ∈ L, ∀ x : p.1.shape.Idx, p.2 x = G (p.1.emb x)) →
      ∀ y, (D y ∨ ∃ p ∈ L, y ∈ p.1.set) → v.read Val (v.writes Val f L) y = G y
  | [], _, y, h => by
    rcases h with h | ⟨_, hm, _⟩
    · exact hf y h
    · exact absurd hm List.not_mem_nil
  | p :: L, hP, y, h => by
    by_cases hy : y ∈ p.1.set
    · obtain ⟨x, rfl⟩ : ∃ x, p.1.emb x = y := p.1.exists_idx_of_mem hy
      rw [View.read_writes_cons_emb]
      exact hP p List.mem_cons_self x
    · have hy' : y ∉ Finset.univ.map p.1.emb := by rwa [Rect.map_emb_univ]
      rw [View.writes_cons, View.read_slice_write_of_not_mem p.1 _ _ _ hy']
      refine read_writes_agree f G D hf L (fun q hq => hP q (List.mem_cons_of_mem _ hq)) y ?_
      rcases h with h | ⟨q, hq, hyq⟩
      · exact .inl h
      rcases List.mem_cons.mp hq with rfl | hq'
      · exact absurd hyq hy
      · exact .inr ⟨q, hq', hyq⟩

/-- The same over the trips of a counted loop, each trip's pieces put in front of those before it. -/
theorem read_writes_trips (f : v.ty.Contents Val) (G : s.Idx → Val e) (D : s.Idx → Prop)
    (hf : ∀ y, D y → v.read Val f y = G y) {N : ℕ} (T : Fin N → List (View.Piece Val s e))
    (pb : ℕ → List (View.Piece Val s e)) (h0 : pb 0 = []) (hs : ∀ k : Fin N, pb (k.val + 1) = T k ++ pb k.val)
    (hT : ∀ k, ∀ p ∈ T k, ∀ x : p.1.shape.Idx, p.2 x = G (p.1.emb x)) :
    ∀ n, n ≤ N → ∀ y, (D y ∨ ∃ k : Fin N, k.val < n ∧ ∃ p ∈ T k, y ∈ p.1.set) →
      v.read Val (v.writes Val f (pb n)) y = G y
  | 0, _, y, h => by
    rw [h0]
    rcases h with h | ⟨k, hk, _⟩
    · exact hf y h
    · exact absurd hk (Nat.not_lt_zero _)
  | n + 1, hn, y, h => by
    rw [hs ⟨n, hn⟩, View.writes_append]
    refine read_writes_agree v _ G (fun y => D y ∨ ∃ k : Fin N, k.val < n ∧ ∃ p ∈ T k, y ∈ p.1.set)
      (read_writes_trips f G D hf T pb h0 hs hT n (Nat.le_of_succ_le hn)) _ (hT ⟨n, hn⟩) y ?_
    rcases h with h | ⟨k, hk, hp⟩
    · exact .inl (.inl h)
    rcases Nat.lt_succ_iff_lt_or_eq.mp hk with hk | hk
    · exact .inl (.inr ⟨k, hk, hp⟩)
    · obtain rfl : k = ⟨n, hn⟩ := Fin.ext hk
      exact .inr hp

end

/-- A unit-stride rectangle's index: the offset plus the coordinate. -/
theorem unit_emb_val {s : Shape} (off size : Fin s.rank → ℕ) (inb : ∀ a, off a + size a ≤ s.size a)
    (x : (Rect.unit (s := s) off size inb).shape.Idx) (a : Fin s.rank) :
    ((Rect.unit (s := s) off size inb).emb x a).val = off a + (x a).val := by
  show off a + 1 * (x a).val = _
  rw [one_mul]

/-- The same of the index a load reads. -/
theorem unit_idx_val {s : Shape} (off size : Fin s.rank → ℕ) (inb : ∀ a, off a + size a ≤ s.size a)
    (x : (Rect.unit (s := s) off size inb).toLoadRect.shape.Idx) (a : Fin s.rank) :
    ((Rect.unit (s := s) off size inb).toLoadRect.idx x a).val = off a + (x a).val := by
  show off a + 1 * (x a).val = _
  rw [one_mul]

end Cert.KernelIdeal.Val
-- ==== Proof.KernelIdeal.Val.Words.lean ====
/- Facts of the 32-bit words the loop bodies address their buffers with, and the tactics that read one element of a piece. -/
module

public import proofs.«01_k».proof.Proof.KernelIdeal.Val.Agree
public import Idealize.ShloMosaic.Lib.Tactic
public import Idealize.ShloMosaic.Lib.Pointwise

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A counted loop's word at trip `k`. -/
theorem iv_eq (k : ℕ) : Scf.iv 0#32 1#32 k = BitVec.ofNat 32 k := by simp [Scf.iv]

theorem muli_eq (a b : ℕ) : Scalar.muli (BitVec.ofNat 32 a) (BitVec.ofNat 32 b) = BitVec.ofNat 32 (a * b) := by
  rw [BitVec.ofNat_mul]; rfl

theorem addi_eq (a b : ℕ) : Scalar.addi (BitVec.ofNat 32 a) (BitVec.ofNat 32 b) = BitVec.ofNat 32 (a + b) := by
  rw [BitVec.ofNat_add]; rfl

theorem W_congr {α : Type} (W : ℕ → ℕ → α) {a b a' b' : ℕ} (h : a = a') (h' : b = b') : W a b = W a' b' := by rw [h, h']
end Cert.KernelIdeal.Val
-- ==== Proof.KernelIdeal.Val.PayT3.lean ====
/- The values of the strip loop of the first phase: the transposed strip and the maxima of each sub-group’s pairs. -/
module

public import proofs.«01_k».proof.Proof.KernelIdeal.Val.Words
public import proofs.«01_k».proof.Proof.Gen.KernelIdeal.Loops

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (c : Dev nD) (i : grid0.Coords) (arg2 : Memref sig .tc .vmem S1x512x1024 .bf16) (harg2 : arg2.IsWhole) (arg3 : Memref sig .tc .vmem S1x8x128x128 .f32) (harg3 : arg3.IsWhole) (arg4 : Memref sig .tc .vmem S1x4x8x512 .f32) (harg4 : arg4.IsWhole) (arg5 : Memref sig .tc .vmem S1x512x4x1024 .i8) (harg5 : arg5.IsWhole) (arg6 : Memref sig .tc .vmem S1x4x32x512 .f32) (harg6 : arg6.IsWhole) (arg7 : Memref sig .tc .vmem S4x256x256 .bf16) (harg7 : arg7.IsWhole) (arg8 : Memref sig .tc .vmem S4x1024x128 .bf16) (harg8 : arg8.IsWhole) (arg9 : Memref sig .tc .vmem S4x288x2x128 .bf16) (harg9 : arg9.IsWhole) (arg10 : Memref sig .tc .vmem S4x8x32x2x128 .bf16) (harg10 : arg10.IsWhole) (arg11 : Memref sig .tc .vmem S4x4x256x512 .bf16) (harg11 : arg11.IsWhole) (arg12 : Memref sig .tc .vmem S4x4x2x128x128 .i32) (harg12 : arg12.IsWhole) (arg13 : Memref sig .tc .vmem S4x4x72x128 .f32) (harg13 : arg13.IsWhole)

theorem off9_eq : ∀ k2 k3, k0_off9 k2 k3 = ![0, 128 * k2.val, 128 * k3.val] := by decide +kernel
theorem off10_eq : ∀ k2 k3, k0_off10 k2 k3 = ![k2.val, 128 * k3.val, 0] := by decide +kernel
theorem off11_eq : ∀ k2 k3, ∀ j : Fin 4, k0_off11 k2 k3 (BitVec.ofNat 32 j.val) = ![k2.val, 9 * (4 * k3.val + j.val), 0, 0] := by decide +kernel

theorem off11_0 (k2 k3) : k0_off11 k2 k3 0#32 = ![k2.val, 9 * (4 * k3.val + 0), 0, 0] := off11_eq k2 k3 0
theorem off11_1 (k2 k3) : k0_off11 k2 k3 1#32 = ![k2.val, 9 * (4 * k3.val + 1), 0, 0] := off11_eq k2 k3 1
theorem off11_2 (k2 k3) : k0_off11 k2 k3 2#32 = ![k2.val, 9 * (4 * k3.val + 2), 0, 0] := off11_eq k2 k3 2
theorem off11_3 (k2 k3) : k0_off11 k2 k3 3#32 = ![k2.val, 9 * (4 * k3.val + 3), 0, 0] := off11_eq k2 k3 3

/-- The transposed block. -/
def G8 (W : ℕ → ℕ → EReal) (y : S4x1024x128.Idx) : EReal := W (128 * (y 0).val + (y 2).val) (y 1).val

/-- An extended real's magnitude. -/
def absS (x : EReal) : EReal := max x (-x)

/-- The maxima of a sub-group's upper and lower half, a sub-group's eight row pairs at a pitch of nine. -/
def G9 (W : ℕ → ℕ → EReal) (y : S4x288x2x128.Idx) : EReal :=
  max (absS (W (128 * (y 0).val + (y 3).val) (32 * ((y 1).val / 9) + 2 * ((y 1).val % 9) + (y 2).val)))
    (absS (W (128 * (y 0).val + (y 3).val) (32 * ((y 1).val / 9) + 16 + 2 * ((y 1).val % 9) + (y 2).val)))

variable (k0_t2 : Fin k0_t2_loop.trips) (arg14 v7 : BitVec 32) (X : BufTy.Contents (Elt Ideal) arg2.view.ty) (k : Fin k0_t3_loop.trips)
  (W : ℕ → ℕ → EReal) (hX : ∀ y, arg2.view.read (Elt Ideal) X y = W (y 1).val (y 2).val)
include hX

omit hX in
theorem pay18_eq (v : Vec Ideal S1x128x128 .bf16) (z : S128x128.Idx) : k0_pay18 v z = v (ix3 0 (z 1) (z 0)) := by
  pointwise [k0_pay18]

theorem v16_eq (z : S128x128.Idx) : trip_k0_t3.sl.v16 arg2 k0_t2 X k z = W (128 * k0_t2.val + (z 1).val) (128 * k.val + (z 0).val) := by
  unfold trip_k0_t3.sl.v16
  refine (pay18_eq _ _).trans ((View.readAt_apply _ _ _).trans ((hX _).trans ?_))
  apply W_congr <;> (try rw [unit_idx_val]) <;> simp [off9_eq]

theorem v22_eq (z : S128x128.Idx) : trip_k0_t3.sl.v22 arg2 k0_t2 X k z = absS (W (128 * k0_t2.val + (z 1).val) (128 * k.val + (z 0).val)) := by
  unfold trip_k0_t3.sl.v22
  rw [← v16_eq _ _ _ _ _ hX]
  rfl

theorem t3_one :
  ∀ p ∈ (tripL_k0_t3 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X k).1, ∀ x, p.2 x = G8 W (p.1.emb x) := by
  unfold tripL_k0_t3 trip_k0_t3
  dsimp only
  simp only [List.forall_mem_cons, List.not_mem_nil, IsEmpty.forall_iff, implies_true, and_true]
  intro x
  unfold trip_k0_t3.sl.v21 G8
  pointwise [k0_pay19]
  rw [v16_eq _ _ _ _ _ hX]
  apply W_congr <;> (repeat rw [unit_emb_val]) <;> simp [off10_eq]
  have : (x 0).val < 1 := (x 0).isLt
  omega

theorem t3_two :
  ∀ p ∈ (tripL_k0_t3 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X k).2, ∀ x, p.2 x = G9 W (p.1.emb x) := by
  have key : ∀ (j : Fin 4) (x : S1x8x2x128.Idx) (a b : S128x128.Idx), (a 0).val = 32 * j.val + 2 * (x 1).val + (x 2).val → (b 0).val = 32 * j.val + 16 + 2 * (x 1).val + (x 2).val → (a 1).val = (x 3).val → (b 1).val = (x 3).val →
     ∀ y : S4x288x2x128.Idx, (y 0).val = k0_t2.val + (x 0).val → (y 1).val = 9 * (4 * k.val + j.val) + (x 1).val → (y 2).val = (x 2).val → (y 3).val = (x 3).val →
      max (trip_k0_t3.sl.v22 arg2 k0_t2 X k a) (trip_k0_t3.sl.v22 arg2 k0_t2 X k b) = G9 W y := by
    intro j x a b ha hb ha1 hb1 y h0 h1 h2 h3
    have hx : (x 1).val < 8 := (x 1).isLt
    have hx0 : (x 0).val < 1 := (x 0).isLt
    rw [v22_eq _ _ _ _ _ hX, v22_eq _ _ _ _ _ hX]
    unfold G9
    congr 2 <;> apply W_congr <;> omega
  unfold tripL_k0_t3 trip_k0_t3
  dsimp only
  simp only [List.forall_mem_cons, List.not_mem_nil, IsEmpty.forall_iff, implies_true, and_true]
  refine ⟨?_, ?_, ?_, ?_⟩ <;> intro x <;> have hx2 : (x 2).val < 2 := (x 2).isLt
  · pointwise [k0_pay7]
    split
    · refine key 3 x _ _ ?_ ?_ ?_ ?_ _ ?_ ?_ ?_ ?_ <;> (try rw [unit_emb_val]) <;> first | rfl | (simp [off11_3] <;> first | omega | rfl)
    · refine key 3 x _ _ ?_ ?_ ?_ ?_ _ ?_ ?_ ?_ ?_ <;> (try rw [unit_emb_val]) <;> first | rfl | (simp [off11_3] <;> first | omega | rfl)
  · pointwise [k0_pay6]
    split
    · refine key 2 x _ _ ?_ ?_ ?_ ?_ _ ?_ ?_ ?_ ?_ <;> (try rw [unit_emb_val]) <;> first | rfl | (simp [off11_2] <;> first | omega | rfl)
    · refine key 2 x _ _ ?_ ?_ ?_ ?_ _ ?_ ?_ ?_ ?_ <;> (try rw [unit_emb_val]) <;> first | rfl | (simp [off11_2] <;> first | omega | rfl)
  · pointwise [k0_pay5,trip_k0_t3.sl.v40_lo,trip_k0_t3.sl.v40_hi, trip_k0_t3.sl.v37]
    split
    · refine key 1 x _ _ ?_ ?_ ?_ ?_ _ ?_ ?_ ?_ ?_ <;> (try rw [unit_emb_val]) <;> first | rfl | (simp [off11_1] <;> first | omega | rfl)
    · refine key 1 x _ _ ?_ ?_ ?_ ?_ _ ?_ ?_ ?_ ?_ <;> (try rw [unit_emb_val]) <;> first | rfl | (simp [off11_1] <;> first | omega | rfl)
  · change trip_k0_t3.sl.k0_w1 arg2 k0_t2 X k (show S1x8x2x128.Idx from x) = _
    unfold trip_k0_t3.sl.k0_w1
    pointwise [trip_k0_t3.sl.v34_lo, trip_k0_t3.sl.v34_hi,trip_k0_t3.sl.v28_lo, trip_k0_t3.sl.v28_hi, trip_k0_t3.sl.v25, trip_k0_t3.sl.v23, trip_k0_t3.sl.v24]
    split
    · refine key 0 x _ _ ?_ ?_ ?_ ?_ _ ?_ ?_ ?_ ?_ <;> (try rw [unit_emb_val]) <;> first | rfl | (simp [off11_0] <;> first | omega | rfl)
    · refine key 0 x _ _ ?_ ?_ ?_ ?_ _ ?_ ?_ ?_ ?_ <;> (try rw [unit_emb_val]) <;> first | rfl | (simp [off11_0] <;> first | omega | rfl)
end Cert.KernelIdeal.Val
-- ==== Proof.KernelIdeal.Val.PayT4.lean ====
/- The values of the second strip loop: each sub-group’s maximum, its power of two, and the multiples of it the later loops read. -/
module

public import proofs.«01_k».proof.Proof.KernelIdeal.Val.PayT3

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (c : Dev nD) (i : grid0.Coords) (arg2 : Memref sig .tc .vmem S1x512x1024 .bf16) (harg2 : arg2.IsWhole) (arg3 : Memref sig .tc .vmem S1x8x128x128 .f32) (harg3 : arg3.IsWhole) (arg4 : Memref sig .tc .vmem S1x4x8x512 .f32) (harg4 : arg4.IsWhole) (arg5 : Memref sig .tc .vmem S1x512x4x1024 .i8) (harg5 : arg5.IsWhole) (arg6 : Memref sig .tc .vmem S1x4x32x512 .f32) (harg6 : arg6.IsWhole) (arg7 : Memref sig .tc .vmem S4x256x256 .bf16) (harg7 : arg7.IsWhole) (arg8 : Memref sig .tc .vmem S4x1024x128 .bf16) (harg8 : arg8.IsWhole) (arg9 : Memref sig .tc .vmem S4x288x2x128 .bf16) (harg9 : arg9.IsWhole) (arg10 : Memref sig .tc .vmem S4x8x32x2x128 .bf16) (harg10 : arg10.IsWhole) (arg11 : Memref sig .tc .vmem S4x4x256x512 .bf16) (harg11 : arg11.IsWhole) (arg12 : Memref sig .tc .vmem S4x4x2x128x128 .i32) (harg12 : arg12.IsWhole) (arg13 : Memref sig .tc .vmem S4x4x72x128 .f32) (harg13 : arg13.IsWhole)
variable (k0_t2 : Fin k0_t2_loop.trips) (arg14 v7 : BitVec 32) (X : BufTy.Contents (Elt Ideal) arg9.view.ty) (k : Fin k0_t4_loop.trips)

theorem off12_eq : ∀ k2 k3, k0_off12 k2 k3 = ![k2.val, 72 * k3.val, 0, 0] := by decide +kernel
theorem off13_eq : ∀ k2 k3, ∀ j : Fin 8, k0_off13 k2 k3 (BitVec.ofNat 32 j.val) = ![k2.val, 72 * k3.val + j.val, 0, 0] := by decide +kernel
theorem off13_1 (k2 k3) : k0_off13 k2 k3 1#32 = ![k2.val, 72 * k3.val + 1, 0, 0] := off13_eq k2 k3 1
theorem off13_2 (k2 k3) : k0_off13 k2 k3 2#32 = ![k2.val, 72 * k3.val + 2, 0, 0] := off13_eq k2 k3 2
theorem off13_3 (k2 k3) : k0_off13 k2 k3 3#32 = ![k2.val, 72 * k3.val + 3, 0, 0] := off13_eq k2 k3 3
theorem off13_4 (k2 k3) : k0_off13 k2 k3 4#32 = ![k2.val, 72 * k3.val + 4, 0, 0] := off13_eq k2 k3 4
theorem off13_5 (k2 k3) : k0_off13 k2 k3 5#32 = ![k2.val, 72 * k3.val + 5, 0, 0] := off13_eq k2 k3 5
theorem off13_6 (k2 k3) : k0_off13 k2 k3 6#32 = ![k2.val, 72 * k3.val + 6, 0, 0] := off13_eq k2 k3 6
theorem off13_7 (k2 k3) : k0_off13 k2 k3 7#32 = ![k2.val, 72 * k3.val + 7, 0, 0] := off13_eq k2 k3 7
theorem off14_eq : ∀ k2 k3, k0_off14 k2 k3 = ![0, 0, 8 * k3.val, 128 * k2.val] := by decide +kernel
theorem off15_eq : ∀ k2 k3, k0_off15 k2 k3 = ![0, 1, 8 * k3.val, 128 * k2.val] := by decide +kernel
theorem off16_eq : ∀ k2 k3, k0_off16 k2 k3 = ![0, 2, 8 * k3.val, 128 * k2.val] := by decide +kernel
theorem off17_eq : ∀ k2 k3, k0_off17 k2 k3 = ![0, 3, 8 * k3.val, 128 * k2.val] := by decide +kernel
theorem off18_eq : ∀ k2 k3, k0_off18 k2 k3 = ![k2.val, 0, 8 * k3.val, 0, 0] := by decide +kernel
theorem off19_eq : ∀ k2 k3, k0_off19 k2 k3 = ![k2.val, 4, 8 * k3.val, 0, 0] := by decide +kernel
theorem off20_eq : ∀ k2 k3, k0_off20 k2 k3 = ![k2.val, 1, 8 * k3.val, 0, 0] := by decide +kernel
theorem off21_eq : ∀ k2 k3, k0_off21 k2 k3 = ![k2.val, 5, 8 * k3.val, 0, 0] := by decide +kernel
theorem off22_eq : ∀ k2 k3, k0_off22 k2 k3 = ![k2.val, 2, 8 * k3.val, 0, 0] := by decide +kernel
theorem off23_eq : ∀ k2 k3, k0_off23 k2 k3 = ![k2.val, 6, 8 * k3.val, 0, 0] := by decide +kernel
theorem off24_eq : ∀ k2 k3, k0_off24 k2 k3 = ![k2.val, 3, 8 * k3.val, 0, 0] := by decide +kernel
theorem off25_eq : ∀ k2 k3, k0_off25 k2 k3 = ![k2.val, 7, 8 * k3.val, 0, 0] := by decide +kernel

/-- The greater of the two magnitudes sixteen apart. -/
def pairS (W : ℕ → ℕ → EReal) (s u t : ℕ) : EReal := max (absS (W s (32 * u + t))) (absS (W s (32 * u + 16 + t)))

/-- The greatest magnitude of a sub-group of thirty-two. -/
def amaxS (W : ℕ → ℕ → EReal) (s u : ℕ) : EReal := (Finset.range 32).sup fun t => absS (W s (32 * u + t))

/-- The maxima of the pairs, in the order the loop takes them, are the sub-group's maximum. -/
theorem tree_eq (W : ℕ → ℕ → EReal) (s u : ℕ) :
    max (max (max (max (max (max (max (max (pairS W s u 1) (pairS W s u 3)) (pairS W s u 5)) (pairS W s u 7)) (pairS W s u 9)) (pairS W s u 11)) (pairS W s u 13)) (pairS W s u 15)) (max (max (max (max (max (max (max (pairS W s u 0) (pairS W s u 2)) (pairS W s u 4)) (pairS W s u 6)) (pairS W s u 8)) (pairS W s u 10)) (pairS W s u 12)) (pairS W s u 14)) = amaxS W s u := by
  unfold pairS amaxS
  apply le_antisymm
  · have h : ∀ t < 32, absS (W s (32 * u + t)) ≤ (Finset.range 32).sup fun t => absS (W s (32 * u + t)) :=
      fun t ht => Finset.le_sup (f := fun t => absS (W s (32 * u + t))) (Finset.mem_range.mpr ht)
    simp only [max_le_iff, Nat.add_assoc, Nat.reduceAdd]
    refine ⟨?_, ?_⟩ <;> (repeat' apply And.intro) <;> apply h <;> omega
  · refine Finset.sup_le fun t ht => ?_
    have := Finset.mem_range.mp ht
    simp only [le_max_iff, Nat.add_assoc, Nat.reduceAdd]
    interval_cases t <;> simp

/-- The named constant: the logarithm of two. -/
def ln2S : EReal := Named.named (F := Ideal) (φ := .f32) κ "ln2" 0x3F317218#32

/-- The greatest power of two not above a maximum; zero at zero. -/
def pwS (a : EReal) : EReal :=
  if a = 0 then 0 else FloatOps.exp2 (F := Ideal) (φ := .f32) (Ideal.liftRound Int.floor (Ideal.div (Ideal.log a) ln2S))

variable (W : ℕ → ℕ → EReal) (hX : ∀ y, (y 0).val = k0_t2.val → (y 1).val % 9 < 8 → arg9.view.read (Elt Ideal) X y = G9 W y)
include hX

theorem rd9 (r : LoadRect S4x288x2x128) (x : r.shape.Idx) (sub t l : ℕ) (ht : t < 16) (h0 : (r.idx x 0).val = k0_t2.val)
    (h1 : (r.idx x 1).val = 9 * sub + t / 2) (h2 : (r.idx x 2).val = t % 2) (h3 : (r.idx x 3).val = l) :
    View.readAt (Elt Ideal) arg9.view r X x = pairS W (128 * k0_t2.val + l) sub t := by
  rw [View.readAt_apply, hX _ h0 (by omega)]
  unfold G9 pairS
  rw [h0, h1, h2, h3]
  congr 2 <;> apply W_congr <;> omega

theorem r_eq (z : S8x128.Idx) : trip_k0_t4.sl.r arg9 k0_t2 X k z = amaxS W (128 * k0_t2.val + (z 1).val) (8 * k.val + (z 0).val) := by
  have e0 : 2 * (z 0).val % 2 = 0 := by omega
  have e1 : ¬ (2 * (z 0).val + 1) % 2 = 0 := by omega
  unfold trip_k0_t4.sl.r
  pointwise [k0_pay28, trip_k0_t4.sl.v37, trip_k0_t4.sl.v30, trip_k0_t4.sl.v23, trip_k0_t4.sl.v16, trip_k0_t4.sl.v22, trip_k0_t4.sl.v29, trip_k0_t4.sl.v36, trip_k0_t4.sl.v14_lo, trip_k0_t4.sl.v15_lo, trip_k0_t4.sl.v14_hi, trip_k0_t4.sl.v15_hi, trip_k0_t4.sl.v20_lo, trip_k0_t4.sl.v21_lo, trip_k0_t4.sl.v20_hi, trip_k0_t4.sl.v21_hi, trip_k0_t4.sl.v27_lo, trip_k0_t4.sl.v28_lo, trip_k0_t4.sl.v27_hi, trip_k0_t4.sl.v28_hi, trip_k0_t4.sl.v34_lo, trip_k0_t4.sl.v35_lo, trip_k0_t4.sl.v34_hi, trip_k0_t4.sl.v35_hi, trip_k0_t4.sl.v41_lo, trip_k0_t4.sl.v42_lo, trip_k0_t4.sl.v41_hi, trip_k0_t4.sl.v42_hi]
  simp only [e0, e1, if_true, if_false]
  rw [← tree_eq]
  repeat' refine congrArg₂ max ?_ ?_
  all_goals refine rd9 arg9 k0_t2 X W hX _ _ (8 * k.val + (z 0).val) _ (z 1).val (by omega) ?_ ?_ ?_ ?_
  all_goals first | rfl | (simp [LoadRect.idx, off12_eq, off13_1, off13_2, off13_3, off13_4, off13_5, off13_6, off13_7] <;> omega)

theorem r1_eq (z : S8x128.Idx) : trip_k0_t4.sl.r_1 arg9 k0_t2 X k z = pwS (amaxS W (128 * k0_t2.val + (z 1).val) (8 * k.val + (z 0).val)) := by
  rw [← r_eq arg9 k0_t2 X k W hX]
  unfold trip_k0_t4.sl.r_1 trip_k0_t4.sl.r pwS ln2S
  pointwise [k0_pay29]

/-- One at a zero maximum, else its power of two. -/
def p2S (a : EReal) : EReal := if a = 0 then 1 else pwS a

theorem v86_eq (z : S8x128.Idx) : trip_k0_t4.sl.v86 arg9 k0_t2 X k z = p2S (amaxS W (128 * k0_t2.val + (z 1).val) (8 * k.val + (z 0).val)) := by
  pointwise [trip_k0_t4.sl.v86, trip_k0_t4.sl.v84, trip_k0_t4.sl.v85, trip_k0_t4.sl.v83, trip_k0_t4.sl.cst_30, trip_k0_t4.sl.cst_31]
  rw [r_eq arg9 k0_t2 X k W hX, r1_eq arg9 k0_t2 X k W hX]
  rfl

theorem v134_eq (z : S16x128.Idx) : trip_k0_t4.sl.v134 arg9 k0_t2 X k z = pwS (amaxS W (128 * k0_t2.val + (z 1).val) (8 * k.val + (z 0).val / 2)) := by
  pointwise [trip_k0_t4.sl.v134, trip_k0_t4.sl.v133_lo]
  rw [ite_self, r1_eq arg9 k0_t2 X k W hX]
  rfl

/-- The width's step at a power of two, a width above the first dividing it. -/
def scC : ℕ → EReal
  | 1 => Ideal.ofBits .f32 0x3F000000#32
  | 2 => Ideal.ofBits .f32 0x3E800000#32
  | _ => Ideal.ofBits .f32 0x3C800000#32

/-- The scale of a sub-group at width number `b`. -/
def scaleS (b : ℕ) (a : EReal) : EReal :=
  if b = 0 then p2S a else if a = 0 then 1 else p2S a * scC b

/-- The multiples kept for each sub-group: the four limits, then the four rounding offsets. -/
def kindC : ℕ → EReal
  | 0 => 1
  | 1 => Ideal.ofBits .bf16 0x3FC0#16
  | 2 => Ideal.ofBits .bf16 0x3FE0#16
  | 3 => Ideal.ofBits .bf16 0x3FFE#16
  | 4 => Ideal.ofBits .bf16 0x4340#16
  | 5 => Ideal.ofBits .bf16 0x42C0#16
  | 6 => Ideal.ofBits .bf16 0x4240#16
  | _ => Ideal.ofBits .bf16 0x4000#16

/-- The block of scales. -/
def G6 (W : ℕ → ℕ → EReal) (y : S1x4x32x512.Idx) : EReal := scaleS (y 1).val (amaxS W (y 3).val (y 2).val)

/-- The kept multiples. -/
def G10 (W : ℕ → ℕ → EReal) (y : S4x8x32x2x128.Idx) : EReal :=
  pwS (amaxS W (128 * (y 0).val + (y 4).val) (y 2).val) * kindC (y 1).val

theorem t4_one :
  ∀ p ∈ (tripL_k0_t4 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X k).1, ∀ x, p.2 x = G6 W (p.1.emb x) := by
  have key : ∀ (b : ℕ) (x : S1x1x8x128.Idx) (y : S1x4x32x512.Idx), (y 1).val = b + (x 1).val → (y 2).val = 8 * k.val + (x 2).val →
      (y 3).val = 128 * k0_t2.val + (x 3).val → scaleS b (amaxS W (128 * k0_t2.val + (x 3).val) (8 * k.val + (x 2).val)) = G6 W y := by
    intro b x y h1 h2 h3
    have : (x 1).val < 1 := (x 1).isLt
    unfold G6
    rw [h1, h2, h3, show b + (x 1).val = b by omega]
  unfold tripL_k0_t4 trip_k0_t4
  dsimp only
  simp only [List.forall_mem_cons, List.not_mem_nil, IsEmpty.forall_iff, implies_true, and_true]
  refine ⟨?_, ?_, ?_, ?_⟩ <;> intro x
  · refine Eq.trans ?_ (key 3 x _ ?_ ?_ ?_)
    · unfold trip_k0_t4.sl.v132
      pointwise [trip_k0_t4.sl.v125, trip_k0_t4.sl.v123, trip_k0_t4.sl.v122, trip_k0_t4.sl.cst_46, trip_k0_t4.sl.v84, trip_k0_t4.sl.v85, trip_k0_t4.sl.v83, trip_k0_t4.sl.cst_30, trip_k0_t4.sl.cst_31]
      rw [r_eq arg9 k0_t2 X k W hX, v86_eq arg9 k0_t2 X k W hX]
      rfl
    all_goals (rw [unit_emb_val]; simp [off17_eq])
  · refine Eq.trans ?_ (key 2 x _ ?_ ?_ ?_)
    · unfold trip_k0_t4.sl.v119
      pointwise [trip_k0_t4.sl.v112, trip_k0_t4.sl.v110, trip_k0_t4.sl.v109, trip_k0_t4.sl.cst_41, trip_k0_t4.sl.v84, trip_k0_t4.sl.v85, trip_k0_t4.sl.v83, trip_k0_t4.sl.cst_30, trip_k0_t4.sl.cst_31]
      rw [r_eq arg9 k0_t2 X k W hX, v86_eq arg9 k0_t2 X k W hX]
      rfl
    all_goals (rw [unit_emb_val]; simp [off16_eq])
  · refine Eq.trans ?_ (key 1 x _ ?_ ?_ ?_)
    · unfold trip_k0_t4.sl.v106
      pointwise [trip_k0_t4.sl.v99, trip_k0_t4.sl.v97, trip_k0_t4.sl.v96, trip_k0_t4.sl.cst_36, trip_k0_t4.sl.v84, trip_k0_t4.sl.v85, trip_k0_t4.sl.v83, trip_k0_t4.sl.cst_30, trip_k0_t4.sl.cst_31]
      rw [r_eq arg9 k0_t2 X k W hX, v86_eq arg9 k0_t2 X k W hX]
      rfl
    all_goals (rw [unit_emb_val]; simp [off15_eq])
  · refine Eq.trans ?_ (key 0 x _ ?_ ?_ ?_)
    · unfold trip_k0_t4.sl.v93
      pointwise
      rw [v86_eq arg9 k0_t2 X k W hX]
      rfl
    all_goals (rw [unit_emb_val]; simp [off14_eq])

theorem t4_two :
  ∀ p ∈ (tripL_k0_t4 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X k).2, ∀ x, p.2 x = G10 W (p.1.emb x) := by
  have key : ∀ (b : ℕ) (x : S1x1x8x2x128.Idx) (z : S16x128.Idx) (y : S4x8x32x2x128.Idx), (z 0).val = 2 * (x 2).val + (x 3).val → (z 1).val = (x 4).val →
      (y 0).val = k0_t2.val + (x 0).val → (y 1).val = b + (x 1).val → (y 2).val = 8 * k.val + (x 2).val →
      (y 4).val = (x 4).val → trip_k0_t4.sl.v134 arg9 k0_t2 X k z * kindC b = G10 W y := by
    intro b x z y hz0 hz1 h0 h1 h2 h4
    have : (x 0).val < 1 := (x 0).isLt
    have : (x 1).val < 1 := (x 1).isLt
    have : (x 3).val < 2 := (x 3).isLt
    rw [v134_eq arg9 k0_t2 X k W hX]
    unfold G10
    rw [h0, h1, h2, h4, hz0, hz1, show b + (x 1).val = b by omega, show k0_t2.val + (x 0).val = k0_t2.val by omega,
      show (2 * (x 2).val + (x 3).val) / 2 = (x 2).val by omega]
  unfold tripL_k0_t4 trip_k0_t4
  dsimp only
  simp only [List.forall_mem_cons, List.not_mem_nil, IsEmpty.forall_iff, implies_true, and_true]
  refine ⟨?_, ?_, ?_, ?_, ?_, ?_, ?_, ?_⟩ <;> intro x <;> have hx3 : (x 3).val < 2 := (x 3).isLt
  · skip
    pointwise [k0_pay45]
    split <;> refine key 7 x _ _ ?_ ?_ ?_ ?_ ?_ ?_ <;> (try rw [unit_emb_val]) <;>
      first | rfl | (simp [off25_eq] <;> first | omega | rfl)
  · skip
    pointwise [k0_pay44]
    split <;> refine key 3 x _ _ ?_ ?_ ?_ ?_ ?_ ?_ <;> (try rw [unit_emb_val]) <;>
      first | rfl | (simp [off24_eq] <;> first | omega | rfl)
  · skip
    pointwise [k0_pay43, trip_k0_t4.sl.v181, trip_k0_t4.sl.cst_66]
    split <;> refine key 6 x _ _ ?_ ?_ ?_ ?_ ?_ ?_ <;> (try rw [unit_emb_val]) <;>
      first | rfl | (simp [off23_eq] <;> first | omega | rfl)
  · change trip_k0_t4.sl.k0_w9 arg9 k0_t2 X k (show S1x1x8x2x128.Idx from x) = _
    unfold trip_k0_t4.sl.k0_w9
    pointwise [trip_k0_t4.sl.v180_lo, trip_k0_t4.sl.v180_hi, trip_k0_t4.sl.v175_lo, trip_k0_t4.sl.v175_hi, trip_k0_t4.sl.v174, trip_k0_t4.sl.v173, trip_k0_t4.sl.cst_63]
    split <;> refine key 2 x _ _ ?_ ?_ ?_ ?_ ?_ ?_ <;> (try rw [unit_emb_val]) <;>
      first | rfl | (simp [off22_eq] <;> first | omega | rfl)
  · change trip_k0_t4.sl.k0_w8 arg9 k0_t2 X k (show S1x1x8x2x128.Idx from x) = _
    unfold trip_k0_t4.sl.k0_w8
    pointwise [trip_k0_t4.sl.v170_lo, trip_k0_t4.sl.v170_hi, trip_k0_t4.sl.v165_lo, trip_k0_t4.sl.v165_hi, trip_k0_t4.sl.v164, trip_k0_t4.sl.v163, trip_k0_t4.sl.cst_60]
    split <;> refine key 5 x _ _ ?_ ?_ ?_ ?_ ?_ ?_ <;> (try rw [unit_emb_val]) <;>
      first | rfl | (simp [off21_eq] <;> first | omega | rfl)
  · change trip_k0_t4.sl.k0_w7 arg9 k0_t2 X k (show S1x1x8x2x128.Idx from x) = _
    unfold trip_k0_t4.sl.k0_w7
    pointwise [trip_k0_t4.sl.v162_lo, trip_k0_t4.sl.v162_hi, trip_k0_t4.sl.v157_lo, trip_k0_t4.sl.v157_hi, trip_k0_t4.sl.v156, trip_k0_t4.sl.v155, trip_k0_t4.sl.cst_57]
    split <;> refine key 1 x _ _ ?_ ?_ ?_ ?_ ?_ ?_ <;> (try rw [unit_emb_val]) <;>
      first | rfl | (simp [off20_eq] <;> first | omega | rfl)
  · change trip_k0_t4.sl.k0_w6 arg9 k0_t2 X k (show S1x1x8x2x128.Idx from x) = _
    unfold trip_k0_t4.sl.k0_w6
    pointwise [trip_k0_t4.sl.v152_lo, trip_k0_t4.sl.v152_hi, trip_k0_t4.sl.v147_lo, trip_k0_t4.sl.v147_hi, trip_k0_t4.sl.v146, trip_k0_t4.sl.v145, trip_k0_t4.sl.cst_54]
    split <;> refine key 4 x _ _ ?_ ?_ ?_ ?_ ?_ ?_ <;> (try rw [unit_emb_val]) <;>
      first | rfl | (simp [off19_eq] <;> first | omega | rfl)
  · change trip_k0_t4.sl.k0_w5 arg9 k0_t2 X k (show S1x1x8x2x128.Idx from x) = _
    unfold trip_k0_t4.sl.k0_w5
    pointwise [trip_k0_t4.sl.v144_lo, trip_k0_t4.sl.v144_hi, trip_k0_t4.sl.v139_lo, trip_k0_t4.sl.v139_hi, trip_k0_t4.sl.v138, trip_k0_t4.sl.v137, trip_k0_t4.sl.cst_51]
    split <;> refine (mul_one _).symm.trans (key 0 x _ _ ?_ ?_ ?_ ?_ ?_ ?_) <;> (try rw [unit_emb_val]) <;>
      first | rfl | (simp [off18_eq] <;> first | omega | rfl)
end Cert.KernelIdeal.Val
-- ==== Proof.KernelIdeal.Val.Trip8.lean ====
/- One trip of the loop over the pieces of a half strip, run at the pieces it writes, and the loop by those pieces. -/
module

public import proofs.«01_k».proof.Proof.Gen.KernelIdeal.Loops
public import Idealize.ShloMosaic.Lib.Tactic

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- One trip's resources: the transposed strip and the widths' table read at their contents, the rounding errors and the
packed codes written, at any. -/
abbrev Trip8 (c : Dev nD) (arg8 : Memref sig .tc .vmem S4x1024x128 .bf16) (arg10 : Memref sig .tc .vmem S4x8x32x2x128 .bf16) (arg11 : Memref sig .tc .vmem S4x4x256x512 .bf16) (arg12 : Memref sig .tc .vmem S4x4x2x128x128 .i32) (X8 : BufTy.Contents (Elt F) arg8.view.ty) (X10 : BufTy.Contents (Elt F) arg10.view.ty) (f11 : BufTy.Contents (Elt F) arg11.view.ty) (f12 : BufTy.Contents (Elt F) arg12.view.ty) : sProp 𝕄G :=
  iprop((arg8.view.loc (c : Thread nD τ) ↦[arg8.view.set]{fullShare} X8) ∗ (arg10.view.loc (c : Thread nD τ) ↦[arg10.view.set]{fullShare} X10) ∗ (arg11.view.loc (c : Thread nD τ) ↦[arg11.view.set]{fullShare} f11) ∗ (arg12.view.loc (c : Thread nD τ) ↦[arg12.view.set]{fullShare} f12))

/-- One trip at a symbolic `k`: the pieces it writes into the rounding errors and the packed codes are the run's own finds. -/
@[irreducible] def trip8 (c : Dev nD) (i : grid0.Coords) (arg2 : Memref sig .tc .vmem S1x512x1024 .bf16) (harg2 : arg2.IsWhole) (arg3 : Memref sig .tc .vmem S1x8x128x128 .f32) (harg3 : arg3.IsWhole) (arg4 : Memref sig .tc .vmem S1x4x8x512 .f32) (harg4 : arg4.IsWhole) (arg5 : Memref sig .tc .vmem S1x512x4x1024 .i8) (harg5 : arg5.IsWhole) (arg6 : Memref sig .tc .vmem S1x4x32x512 .f32) (harg6 : arg6.IsWhole) (arg7 : Memref sig .tc .vmem S4x256x256 .bf16) (harg7 : arg7.IsWhole) (arg8 : Memref sig .tc .vmem S4x1024x128 .bf16) (harg8 : arg8.IsWhole) (arg9 : Memref sig .tc .vmem S4x288x2x128 .bf16) (harg9 : arg9.IsWhole) (arg10 : Memref sig .tc .vmem S4x8x32x2x128 .bf16) (harg10 : arg10.IsWhole) (arg11 : Memref sig .tc .vmem S4x4x256x512 .bf16) (harg11 : arg11.IsWhole) (arg12 : Memref sig .tc .vmem S4x4x2x128x128 .i32) (harg12 : arg12.IsWhole) (arg13 : Memref sig .tc .vmem S4x4x72x128 .f32) (harg13 : arg13.IsWhole) (k0_t5 : Fin k0_t5_loop.trips) (arg14 : BitVec 32) (k0_t6 : Fin k0_t6_loop.trips) (arg15 : BitVec 32) (v9 : BitVec 32) (k0_t7 : Fin k0_t7_loop.trips) (arg16 : BitVec 32) (v12 : BitVec 32) (X8 : BufTy.Contents (Elt F) arg8.view.ty) (X10 : BufTy.Contents (Elt F) arg10.view.ty) (k : Fin k0_t8_loop.trips) :
    Σ' (L11 : List (View.Piece (Elt F) S4x4x256x512 .bf16)), { L12 : List (View.Piece (Elt F) S4x4x2x128x128 .i32) // ∀ (E : Set ℕ) (f11 : BufTy.Contents (Elt F) arg11.view.ty) (f12 : BufTy.Contents (Elt F) arg12.view.ty),
      Trip8 (F := F) c arg8 arg10 arg11 arg12 X8 X10 f11 f12
      ⊢ wp frame (wpE (defs₀ (F := F)) Variants.none (c : Thread nD τ) none) E (k0_t8_body (F := F) i arg2 harg2 arg3 harg3 arg4 harg4 arg5 harg5 arg6 harg6 arg7 harg7 arg8 harg8 arg9 harg9 arg10 harg10 arg11 harg11 arg12 harg12 arg13 harg13 k0_t5 arg14 k0_t6 arg15 v9 k0_t7 arg16 v12 k PUnit.unit)
          (fun _ => Trip8 (F := F) c arg8 arg10 arg11 arg12 X8 X10 (arg11.view.writes (Elt F) f11 L11) (arg12.view.writes (Elt F) f12 L12)) } := by
  refine ⟨?_, ?_, fun E f11 f12 => ?run⟩
  case run =>
    unfold k0_t8_body
    iintro ⟨H8, H10, H11, H12⟩
    sl_exec
    sl_step
    sl_close

/-- What one trip writes into the rounding errors. -/
abbrev trip8e (c : Dev nD) (i : grid0.Coords) (arg2 : Memref sig .tc .vmem S1x512x1024 .bf16) (harg2 : arg2.IsWhole) (arg3 : Memref sig .tc .vmem S1x8x128x128 .f32) (harg3 : arg3.IsWhole) (arg4 : Memref sig .tc .vmem S1x4x8x512 .f32) (harg4 : arg4.IsWhole) (arg5 : Memref sig .tc .vmem S1x512x4x1024 .i8) (harg5 : arg5.IsWhole) (arg6 : Memref sig .tc .vmem S1x4x32x512 .f32) (harg6 : arg6.IsWhole) (arg7 : Memref sig .tc .vmem S4x256x256 .bf16) (harg7 : arg7.IsWhole) (arg8 : Memref sig .tc .vmem S4x1024x128 .bf16) (harg8 : arg8.IsWhole) (arg9 : Memref sig .tc .vmem S4x288x2x128 .bf16) (harg9 : arg9.IsWhole) (arg10 : Memref sig .tc .vmem S4x8x32x2x128 .bf16) (harg10 : arg10.IsWhole) (arg11 : Memref sig .tc .vmem S4x4x256x512 .bf16) (harg11 : arg11.IsWhole) (arg12 : Memref sig .tc .vmem S4x4x2x128x128 .i32) (harg12 : arg12.IsWhole) (arg13 : Memref sig .tc .vmem S4x4x72x128 .f32) (harg13 : arg13.IsWhole) (k0_t5 : Fin k0_t5_loop.trips) (arg14 : BitVec 32) (k0_t6 : Fin k0_t6_loop.trips) (arg15 : BitVec 32) (v9 : BitVec 32) (k0_t7 : Fin k0_t7_loop.trips) (arg16 : BitVec 32) (v12 : BitVec 32) (X8 : BufTy.Contents (Elt F) arg8.view.ty) (X10 : BufTy.Contents (Elt F) arg10.view.ty) (k : Fin k0_t8_loop.trips) :
    List (View.Piece (Elt F) S4x4x256x512 .bf16) := (trip8 (F := F) c i arg2 harg2 arg3 harg3 arg4 harg4 arg5 harg5 arg6 harg6 arg7 harg7 arg8 harg8 arg9 harg9 arg10 harg10 arg11 harg11 arg12 harg12 arg13 harg13 k0_t5 arg14 k0_t6 arg15 v9 k0_t7 arg16 v12 X8 X10 k).1
/-- What one trip writes into the packed codes. -/
abbrev trip8c (c : Dev nD) (i : grid0.Coords) (arg2 : Memref sig .tc .vmem S1x512x1024 .bf16) (harg2 : arg2.IsWhole) (arg3 : Memref sig .tc .vmem S1x8x128x128 .f32) (harg3 : arg3.IsWhole) (arg4 : Memref sig .tc .vmem S1x4x8x512 .f32) (harg4 : arg4.IsWhole) (arg5 : Memref sig .tc .vmem S1x512x4x1024 .i8) (harg5 : arg5.IsWhole) (arg6 : Memref sig .tc .vmem S1x4x32x512 .f32) (harg6 : arg6.IsWhole) (arg7 : Memref sig .tc .vmem S4x256x256 .bf16) (harg7 : arg7.IsWhole) (arg8 : Memref sig .tc .vmem S4x1024x128 .bf16) (harg8 : arg8.IsWhole) (arg9 : Memref sig .tc .vmem S4x288x2x128 .bf16) (harg9 : arg9.IsWhole) (arg10 : Memref sig .tc .vmem S4x8x32x2x128 .bf16) (harg10 : arg10.IsWhole) (arg11 : Memref sig .tc .vmem S4x4x256x512 .bf16) (harg11 : arg11.IsWhole) (arg12 : Memref sig .tc .vmem S4x4x2x128x128 .i32) (harg12 : arg12.IsWhole) (arg13 : Memref sig .tc .vmem S4x4x72x128 .f32) (harg13 : arg13.IsWhole) (k0_t5 : Fin k0_t5_loop.trips) (arg14 : BitVec 32) (k0_t6 : Fin k0_t6_loop.trips) (arg15 : BitVec 32) (v9 : BitVec 32) (k0_t7 : Fin k0_t7_loop.trips) (arg16 : BitVec 32) (v12 : BitVec 32) (X8 : BufTy.Contents (Elt F) arg8.view.ty) (X10 : BufTy.Contents (Elt F) arg10.view.ty) (k : Fin k0_t8_loop.trips) :
    List (View.Piece (Elt F) S4x4x2x128x128 .i32) := (trip8 (F := F) c i arg2 harg2 arg3 harg3 arg4 harg4 arg5 harg5 arg6 harg6 arg7 harg7 arg8 harg8 arg9 harg9 arg10 harg10 arg11 harg11 arg12 harg12 arg13 harg13 k0_t5 arg14 k0_t6 arg15 v9 k0_t7 arg16 v12 X8 X10 k).2.1

end Cert.KernelIdeal.Val
-- ==== Proof.KernelIdeal.Val.PayT8.lean ====
/- The values one trip of the code loop computes: the error, the code and the packed codes, each from one element of the block and its sub-group’s power of two. -/
module

public import proofs.«01_k».proof.Proof.KernelIdeal.Val.PayT4
public import proofs.«01_k».proof.Proof.KernelIdeal.Val.Trip8
public import Idealize.ShloMosaic.Lib.BitcastPair

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The step of a width: the first limit times the width's factor. -/
def unitS (b : ℕ) (pw : EReal) : EReal :=
  match b with
  | 0 => pw * kindC 0
  | 1 => pw * kindC 0 * Ideal.ofBits .bf16 0x3F00#16
  | 2 => pw * kindC 0 * Ideal.ofBits .bf16 0x3E80#16
  | _ => pw * kindC 0 * Ideal.ofBits .bf16 0x3C80#16

/-- A value in steps; zero where there is no step. -/
def stepsS (v u : EReal) : EReal := if 0 < u then Ideal.div v u else 0

/-- The rounding offset, of the value's sign at the widest width. -/
def magS (b : ℕ) (x m : EReal) : EReal := if b = 3 then if x < 0 then 0 - m else m else m

/-- The value clipped to the width's limits, moved by the offset and rounded to a multiple of the step. -/
def yS (b : ℕ) (x pw : EReal) : EReal :=
  Ideal.liftRound Ideal.roundHalfEven
    (stepsS (min (max x (0 - pw * kindC b)) (pw * kindC b) + magS b x (pw * kindC (4 + b))) (unitS b pw))
    * (unitS b pw)

/-- The quantisation error. -/
def eS (b : ℕ) (x pw : EReal) : EReal := x - (yS b x pw - magS b x (pw * kindC (4 + b)))

/-- The code, as the 16-bit word the loop packs. -/
def dS (b : ℕ) (x pw : EReal) : BitVec 16 :=
  BitVec.setWidth 16 (FloatOps.fptosi (F := Ideal) (φ := .f32) 32 (stepsS (yS b x pw - magS b x (pw * kindC (4 + b))) (unitS b pw)))

/-- The four codes in one 32-bit word, the first width's in the lowest byte. -/
def wordS (d0 d1 d2 d3 : BitVec 16) : BitVec 32 := (d2 &&& 255#16 ||| d3 <<< 8) ++ (d0 &&& 255#16 ||| d1 <<< 8)

theorem pair_at (x : S16x128.Idx → BitVec 16) (h : S16x128.Bitcasts 16 S8x128 32) (z : S8x128.Idx) (G : ℕ → ℕ → BitVec 16)
    (hG : ∀ y, x y = G (y 0).val (y 1).val) :
    bitcast S8x128 32 x h z = G (2 * (z 0).val + 1) (z 1).val ++ G (2 * (z 0).val) (z 1).val := by
  have hr : S8x128.row z = (z 0).val := rfl
  have e0 : ∀ p hp, (h.srcIdx z p hp 0).val = p := fun p hp => h.srcIdx_row z p hp 0 rfl
  have e1 : ∀ p hp, (h.srcIdx z p hp 1).val = (z 1).val := fun p hp => h.srcIdx_other z p hp 1 (by decide)
  rw [bitcast_16_32, hG, hG, e0, e0, e1, e1, hr]

theorem low_append (a b : BitVec 16) : BitVec.setWidth 16 (a ++ b) = b := by
  apply BitVec.eq_of_getLsbD_eq
  intro i hi
  rw [BitVec.getLsbD_setWidth, BitVec.getLsbD_append, if_pos hi, decide_eq_true hi, Bool.true_and]

theorem mask_bit : ∀ i : Fin 32, (4294901760#32).getLsbD i.val = decide (16 ≤ i.val) := by decide

theorem mask_bit' (j : ℕ) (hj : j < 16 + 16) : (4294901760#32).getLsbD j = decide (16 ≤ j) := mask_bit ⟨j, hj⟩

theorem high_append (a b d e : BitVec 16) : ((a ++ b : BitVec 32) >>> 16) ||| ((d ++ e : BitVec 32) &&& 4294901760#32) = (d ++ a : BitVec 32) := by
  apply BitVec.eq_of_getLsbD_eq
  intro j hj
  rw [BitVec.getLsbD_or, BitVec.getLsbD_ushiftRight, BitVec.getLsbD_and, mask_bit' j hj, BitVec.getLsbD_append, BitVec.getLsbD_append,
    BitVec.getLsbD_append]
  by_cases h : j < 16
  · simp [h, show ¬ 16 + j < 16 by omega, show ¬ 16 ≤ j by omega]
  · have : a.getLsbD j = false := BitVec.getLsbD_of_ge _ _ (by omega)
    simp [h, show ¬ 16 + j < 16 by omega, show 16 ≤ j by omega, show a.getLsbD (16 + j - 16 + 16) = false from BitVec.getLsbD_of_ge _ _ (by omega)]

variable (c : Dev nD) (i : grid0.Coords) (arg2 : Memref sig .tc .vmem S1x512x1024 .bf16) (harg2 : arg2.IsWhole) (arg3 : Memref sig .tc .vmem S1x8x128x128 .f32) (harg3 : arg3.IsWhole) (arg4 : Memref sig .tc .vmem S1x4x8x512 .f32) (harg4 : arg4.IsWhole) (arg5 : Memref sig .tc .vmem S1x512x4x1024 .i8) (harg5 : arg5.IsWhole) (arg6 : Memref sig .tc .vmem S1x4x32x512 .f32) (harg6 : arg6.IsWhole) (arg7 : Memref sig .tc .vmem S4x256x256 .bf16) (harg7 : arg7.IsWhole) (arg8 : Memref sig .tc .vmem S4x1024x128 .bf16) (harg8 : arg8.IsWhole) (arg9 : Memref sig .tc .vmem S4x288x2x128 .bf16) (harg9 : arg9.IsWhole) (arg10 : Memref sig .tc .vmem S4x8x32x2x128 .bf16) (harg10 : arg10.IsWhole) (arg11 : Memref sig .tc .vmem S4x4x256x512 .bf16) (harg11 : arg11.IsWhole) (arg12 : Memref sig .tc .vmem S4x4x2x128x128 .i32) (harg12 : arg12.IsWhole) (arg13 : Memref sig .tc .vmem S4x4x72x128 .f32) (harg13 : arg13.IsWhole)
variable (k0_t5 : Fin k0_t5_loop.trips) (k0_t6 : Fin k0_t6_loop.trips) (k0_t7 : Fin k0_t7_loop.trips) (X8 : BufTy.Contents (Elt Ideal) arg8.view.ty) (X10 : BufTy.Contents (Elt Ideal) arg10.view.ty) (k : Fin k0_t8_loop.trips)

theorem off34_eq : ∀ a b d k, ∀ t : Fin 2, k0_off34 a b d k (BitVec.ofNat 32 (16 * t.val)) = ![b.val, 128 * (2 * a.val + d.val) + 32 * k.val + 16 * t.val, 0] := by decide +kernel
theorem off34_0 (a b d k) : k0_off34 a b d k 0#32 = ![b.val, 128 * (2 * a.val + d.val) + 32 * k.val, 0] := off34_eq a b d k 0
theorem off34_1 (a b d k) : k0_off34 a b d k 16#32 = ![b.val, 128 * (2 * a.val + d.val) + 32 * k.val + 16, 0] := off34_eq a b d k 1
theorem off26_eq : ∀ a b d k, k0_off26 a b d k = ![b.val, 0, 4 * (2 * a.val + d.val) + k.val, 0, 0] := by decide +kernel
theorem off27_eq : ∀ a b d k, k0_off27 a b d k = ![b.val, 1, 4 * (2 * a.val + d.val) + k.val, 0, 0] := by decide +kernel
theorem off28_eq : ∀ a b d k, k0_off28 a b d k = ![b.val, 2, 4 * (2 * a.val + d.val) + k.val, 0, 0] := by decide +kernel
theorem off29_eq : ∀ a b d k, k0_off29 a b d k = ![b.val, 3, 4 * (2 * a.val + d.val) + k.val, 0, 0] := by decide +kernel
theorem off30_eq : ∀ a b d k, k0_off30 a b d k = ![b.val, 4, 4 * (2 * a.val + d.val) + k.val, 0, 0] := by decide +kernel
theorem off31_eq : ∀ a b d k, k0_off31 a b d k = ![b.val, 5, 4 * (2 * a.val + d.val) + k.val, 0, 0] := by decide +kernel
theorem off32_eq : ∀ a b d k, k0_off32 a b d k = ![b.val, 6, 4 * (2 * a.val + d.val) + k.val, 0, 0] := by decide +kernel
theorem off33_eq : ∀ a b d k, k0_off33 a b d k = ![b.val, 7, 4 * (2 * a.val + d.val) + k.val, 0, 0] := by decide +kernel

variable (W : ℕ → ℕ → EReal) (h8 : ∀ y, arg8.view.read (Elt Ideal) X8 y = G8 W y)
  (h10 : ∀ y, arg10.view.read (Elt Ideal) X10 y = G10 W y)

section
include h10

theorem rd10 (r : LoadRect S4x8x32x2x128) (x : r.shape.Idx) (q kind sub l : ℕ) (h0 : (r.idx x 0).val = q)
    (h1 : (r.idx x 1).val = kind) (h2 : (r.idx x 2).val = sub) (h3 : (r.idx x 4).val = l) :
    View.readAt (Elt Ideal) arg10.view r X10 x = pwS (amaxS W (128 * q + l) sub) * kindC kind := by
  rw [View.readAt_apply, h10]
  unfold G10
  rw [h0, h1, h2, h3]

/-- The power of two of the sub-group this trip reads, at lane `l`. -/
def pwAt (W : ℕ → ℕ → EReal) (k0_t5 : Fin k0_t5_loop.trips) (k0_t6 : Fin k0_t6_loop.trips) (k0_t7 : Fin k0_t7_loop.trips) (k : Fin k0_t8_loop.trips) (l : ℕ) : EReal :=
  pwS (amaxS W (128 * k0_t6.val + l) (4 * (2 * k0_t5.val + k0_t7.val) + k.val))

set_option maxHeartbeats 2000000 in
theorem lims (z : S16x128.Idx) :
    trip8.sl.v36 arg10 k0_t5 k0_t6 k0_t7 X10 k z = pwAt W k0_t5 k0_t6 k0_t7 k (z 1).val * kindC 0 ∧
    trip8.sl.v42 arg10 k0_t5 k0_t6 k0_t7 X10 k z = pwAt W k0_t5 k0_t6 k0_t7 k (z 1).val * kindC 1 ∧
    trip8.sl.v48 arg10 k0_t5 k0_t6 k0_t7 X10 k z = pwAt W k0_t5 k0_t6 k0_t7 k (z 1).val * kindC 2 ∧
    trip8.sl.v54 arg10 k0_t5 k0_t6 k0_t7 X10 k z = pwAt W k0_t5 k0_t6 k0_t7 k (z 1).val * kindC 3 ∧
    trip8.sl.v60 arg10 k0_t5 k0_t6 k0_t7 X10 k z = pwAt W k0_t5 k0_t6 k0_t7 k (z 1).val * kindC 4 ∧
    trip8.sl.v66 arg10 k0_t5 k0_t6 k0_t7 X10 k z = pwAt W k0_t5 k0_t6 k0_t7 k (z 1).val * kindC 5 ∧
    trip8.sl.v72 arg10 k0_t5 k0_t6 k0_t7 X10 k z = pwAt W k0_t5 k0_t6 k0_t7 k (z 1).val * kindC 6 ∧
    trip8.sl.v78 arg10 k0_t5 k0_t6 k0_t7 X10 k z = pwAt W k0_t5 k0_t6 k0_t7 k (z 1).val * kindC 7 := by
  refine ⟨?_, ?_, ?_, ?_, ?_, ?_, ?_, ?_⟩
  · pointwise [trip8.sl.v36, trip8.sl.v35_lo, trip8.sl.v34_lo, trip8.sl.v33_lo, trip8.sl.v35_hi, trip8.sl.v34_hi, trip8.sl.v33_hi]
    repeat' split
    all_goals
      refine rd10 arg10 X10 W h10 _ _ _ _ _ _ ?_ ?_ ?_ ?_ <;> first | rfl | simp [LoadRect.idx, off26_eq]
  · pointwise [trip8.sl.v42, trip8.sl.v41_lo, trip8.sl.v40_lo, trip8.sl.v39_lo, trip8.sl.v41_hi, trip8.sl.v40_hi, trip8.sl.v39_hi]
    repeat' split
    all_goals
      refine rd10 arg10 X10 W h10 _ _ _ _ _ _ ?_ ?_ ?_ ?_ <;> first | rfl | simp [LoadRect.idx, off27_eq]
  · pointwise [trip8.sl.v48, trip8.sl.v47_lo, trip8.sl.v46_lo, trip8.sl.v45_lo, trip8.sl.v47_hi, trip8.sl.v46_hi, trip8.sl.v45_hi]
    repeat' split
    all_goals
      refine rd10 arg10 X10 W h10 _ _ _ _ _ _ ?_ ?_ ?_ ?_ <;> first | rfl | simp [LoadRect.idx, off28_eq]
  · pointwise [trip8.sl.v54, trip8.sl.v53_lo, trip8.sl.v52_lo, trip8.sl.v51_lo, trip8.sl.v53_hi, trip8.sl.v52_hi, trip8.sl.v51_hi]
    repeat' split
    all_goals
      refine rd10 arg10 X10 W h10 _ _ _ _ _ _ ?_ ?_ ?_ ?_ <;> first | rfl | simp [LoadRect.idx, off29_eq]
  · pointwise [trip8.sl.v60, trip8.sl.v59_lo, trip8.sl.v58_lo, trip8.sl.v57_lo, trip8.sl.v59_hi, trip8.sl.v58_hi, trip8.sl.v57_hi]
    repeat' split
    all_goals
      refine rd10 arg10 X10 W h10 _ _ _ _ _ _ ?_ ?_ ?_ ?_ <;> first | rfl | simp [LoadRect.idx, off30_eq]
  · pointwise [trip8.sl.v66, trip8.sl.v65_lo, trip8.sl.v64_lo, trip8.sl.v63_lo, trip8.sl.v65_hi, trip8.sl.v64_hi, trip8.sl.v63_hi]
    repeat' split
    all_goals
      refine rd10 arg10 X10 W h10 _ _ _ _ _ _ ?_ ?_ ?_ ?_ <;> first | rfl | simp [LoadRect.idx, off31_eq]
  · pointwise [trip8.sl.v72, trip8.sl.v71_lo, trip8.sl.v70_lo, trip8.sl.v69_lo, trip8.sl.v71_hi, trip8.sl.v70_hi, trip8.sl.v69_hi]
    repeat' split
    all_goals
      refine rd10 arg10 X10 W h10 _ _ _ _ _ _ ?_ ?_ ?_ ?_ <;> first | rfl | simp [LoadRect.idx, off32_eq]
  · pointwise [trip8.sl.v78, trip8.sl.v77_lo, trip8.sl.v76_lo, trip8.sl.v75_lo, trip8.sl.v77_hi, trip8.sl.v76_hi, trip8.sl.v75_hi]
    repeat' split
    all_goals
      refine rd10 arg10 X10 W h10 _ _ _ _ _ _ ?_ ?_ ?_ ?_ <;> first | rfl | simp [LoadRect.idx, off33_eq]

end

section
include h8

theorem rd8 (r : LoadRect S4x1024x128) (x : r.shape.Idx) (q d l : ℕ) (h0 : (r.idx x 0).val = q)
    (h1 : (r.idx x 1).val = d) (h2 : (r.idx x 2).val = l) : View.readAt (Elt Ideal) arg8.view r X8 x = W (128 * q + l) d := by
  rw [View.readAt_apply, h8]
  unfold G8
  rw [h0, h1, h2]

/-- The element of the block this trip reads at row `16 t + r` and lane `l`. -/
def xAt (W : ℕ → ℕ → EReal) (k0_t5 : Fin k0_t5_loop.trips) (k0_t6 : Fin k0_t6_loop.trips) (k0_t7 : Fin k0_t7_loop.trips) (k : Fin k0_t8_loop.trips) (t r l : ℕ) : EReal :=
  W (128 * k0_t6.val + l) (128 * (2 * k0_t5.val + k0_t7.val) + 32 * k.val + 16 * t + r)

theorem xs (z : S16x128.Idx) :
    trip8.sl.v87 arg8 k0_t5 k0_t6 k0_t7 X8 k z = xAt W k0_t5 k0_t6 k0_t7 k 0 (z 0).val (z 1).val ∧
    trip8.sl.v281 arg8 k0_t5 k0_t6 k0_t7 X8 k z = xAt W k0_t5 k0_t6 k0_t7 k 1 (z 0).val (z 1).val := by
  constructor
  · pointwise [trip8.sl.v87]
    refine rd8 arg8 X8 W h8 _ _ _ _ _ ?_ ?_ ?_ <;> first | rfl | simp [LoadRect.idx, off34_0]
  · pointwise [trip8.sl.v281]
    refine rd8 arg8 X8 W h8 _ _ _ _ _ ?_ ?_ ?_ <;> first | rfl | simp [LoadRect.idx, off34_1]

end

section
include h8 h10

theorem e0_eq (z : S16x128.Idx) :
    trip8.sl.v103 arg8 arg10 k0_t5 k0_t6 k0_t7 X8 X10 k z = eS 0 (xAt W k0_t5 k0_t6 k0_t7 k 0 (z 0).val (z 1).val) (pwAt W k0_t5 k0_t6 k0_t7 k (z 1).val) ∧
    trip8.sl.v139 arg8 arg10 k0_t5 k0_t6 k0_t7 X8 X10 k z = eS 1 (xAt W k0_t5 k0_t6 k0_t7 k 0 (z 0).val (z 1).val) (pwAt W k0_t5 k0_t6 k0_t7 k (z 1).val) ∧
    trip8.sl.v175 arg8 arg10 k0_t5 k0_t6 k0_t7 X8 X10 k z = eS 2 (xAt W k0_t5 k0_t6 k0_t7 k 0 (z 0).val (z 1).val) (pwAt W k0_t5 k0_t6 k0_t7 k (z 1).val) ∧
    trip8.sl.v216 arg8 arg10 k0_t5 k0_t6 k0_t7 X8 X10 k z = eS 3 (xAt W k0_t5 k0_t6 k0_t7 k 0 (z 0).val (z 1).val) (pwAt W k0_t5 k0_t6 k0_t7 k (z 1).val) := by
  obtain ⟨hl0, hl1, hl2, hl3, hm0, hm1, hm2, hm3⟩ := lims arg10 k0_t5 k0_t6 k0_t7 X10 k W h10 z
  obtain ⟨hx0, hx1⟩ := xs arg8 k0_t5 k0_t6 k0_t7 X8 k W h8 z
  refine ⟨?_, ?_, ?_, ?_⟩
  · pointwise [trip8.sl.v103, trip8.sl.v102, trip8.sl.v101, trip8.sl.v100, trip8.sl.v99, trip8.sl.v96, trip8.sl.v89, trip8.sl.v88, trip8.sl.cst, trip8.sl.v90, trip8.sl.cst_44, trip8.sl.v97, trip8.sl.v94, trip8.sl.v93, trip8.sl.v92, trip8.sl.v91]
    rw [hl0, hm0, hx0]
    rfl
  · pointwise [trip8.sl.v139, trip8.sl.v138, trip8.sl.v137, trip8.sl.v136, trip8.sl.v135, trip8.sl.v132, trip8.sl.v125, trip8.sl.v124, trip8.sl.cst_53, trip8.sl.v90, trip8.sl.cst_44, trip8.sl.v133, trip8.sl.v130, trip8.sl.v129, trip8.sl.v128, trip8.sl.v127]
    rw [hl0, hl1, hm1, hx0]
    rfl
  · pointwise [trip8.sl.v175, trip8.sl.v174, trip8.sl.v173, trip8.sl.v172, trip8.sl.v171, trip8.sl.v168, trip8.sl.v161, trip8.sl.v160, trip8.sl.cst_63, trip8.sl.v90, trip8.sl.cst_44, trip8.sl.v169, trip8.sl.v166, trip8.sl.v165, trip8.sl.v164, trip8.sl.v163]
    rw [hl0, hl2, hm2, hx0]
    rfl
  · pointwise [trip8.sl.v216, trip8.sl.v215, trip8.sl.v214, trip8.sl.v213, trip8.sl.v212, trip8.sl.v209, trip8.sl.v197, trip8.sl.v196, trip8.sl.cst_73, trip8.sl.v90, trip8.sl.cst_44, trip8.sl.v210, trip8.sl.v207, trip8.sl.v206, trip8.sl.v205, trip8.sl.v204, trip8.sl.v202, trip8.sl.v199, trip8.sl.v201]
    rw [hl0, hl3, hm3, hx0]
    rfl

theorem e1_eq (z : S16x128.Idx) :
    trip8.sl.v297 arg8 arg10 k0_t5 k0_t6 k0_t7 X8 X10 k z = eS 0 (xAt W k0_t5 k0_t6 k0_t7 k 1 (z 0).val (z 1).val) (pwAt W k0_t5 k0_t6 k0_t7 k (z 1).val) ∧
    trip8.sl.v333 arg8 arg10 k0_t5 k0_t6 k0_t7 X8 X10 k z = eS 1 (xAt W k0_t5 k0_t6 k0_t7 k 1 (z 0).val (z 1).val) (pwAt W k0_t5 k0_t6 k0_t7 k (z 1).val) ∧
    trip8.sl.v369 arg8 arg10 k0_t5 k0_t6 k0_t7 X8 X10 k z = eS 2 (xAt W k0_t5 k0_t6 k0_t7 k 1 (z 0).val (z 1).val) (pwAt W k0_t5 k0_t6 k0_t7 k (z 1).val) ∧
    trip8.sl.v410 arg8 arg10 k0_t5 k0_t6 k0_t7 X8 X10 k z = eS 3 (xAt W k0_t5 k0_t6 k0_t7 k 1 (z 0).val (z 1).val) (pwAt W k0_t5 k0_t6 k0_t7 k (z 1).val) := by
  obtain ⟨hl0, hl1, hl2, hl3, hm0, hm1, hm2, hm3⟩ := lims arg10 k0_t5 k0_t6 k0_t7 X10 k W h10 z
  obtain ⟨hx0, hx1⟩ := xs arg8 k0_t5 k0_t6 k0_t7 X8 k W h8 z
  refine ⟨?_, ?_, ?_, ?_⟩
  · pointwise [trip8.sl.v297, trip8.sl.v296, trip8.sl.v295, trip8.sl.v294, trip8.sl.v293, trip8.sl.v96, trip8.sl.v89, trip8.sl.v88, trip8.sl.cst, trip8.sl.v90, trip8.sl.cst_44, trip8.sl.v291, trip8.sl.v288, trip8.sl.v287, trip8.sl.v286, trip8.sl.v91]
    rw [hl0, hm0, hx1]
    rfl
  · pointwise [trip8.sl.v333, trip8.sl.v332, trip8.sl.v331, trip8.sl.v330, trip8.sl.v329, trip8.sl.v132, trip8.sl.v125, trip8.sl.v124, trip8.sl.cst_53, trip8.sl.v90, trip8.sl.cst_44, trip8.sl.v327, trip8.sl.v324, trip8.sl.v323, trip8.sl.v322, trip8.sl.v127]
    rw [hl0, hl1, hm1, hx1]
    rfl
  · pointwise [trip8.sl.v369, trip8.sl.v368, trip8.sl.v367, trip8.sl.v366, trip8.sl.v365, trip8.sl.v168, trip8.sl.v161, trip8.sl.v160, trip8.sl.cst_63, trip8.sl.v90, trip8.sl.cst_44, trip8.sl.v363, trip8.sl.v360, trip8.sl.v359, trip8.sl.v358, trip8.sl.v163]
    rw [hl0, hl2, hm2, hx1]
    rfl
  · pointwise [trip8.sl.v410, trip8.sl.v409, trip8.sl.v408, trip8.sl.v407, trip8.sl.v406, trip8.sl.v209, trip8.sl.v197, trip8.sl.v196, trip8.sl.cst_73, trip8.sl.v90, trip8.sl.cst_44, trip8.sl.v404, trip8.sl.v401, trip8.sl.v400, trip8.sl.v399, trip8.sl.v204, trip8.sl.v396, trip8.sl.v393, trip8.sl.v201]
    rw [hl0, hl3, hm3, hx1]
    rfl

theorem d0_eq (z : S16x128.Idx) :
    trip8.sl.v123 arg8 arg10 k0_t5 k0_t6 k0_t7 X8 X10 k z = dS 0 (xAt W k0_t5 k0_t6 k0_t7 k 0 (z 0).val (z 1).val) (pwAt W k0_t5 k0_t6 k0_t7 k (z 1).val) ∧
    trip8.sl.v159 arg8 arg10 k0_t5 k0_t6 k0_t7 X8 X10 k z = dS 1 (xAt W k0_t5 k0_t6 k0_t7 k 0 (z 0).val (z 1).val) (pwAt W k0_t5 k0_t6 k0_t7 k (z 1).val) ∧
    trip8.sl.v195 arg8 arg10 k0_t5 k0_t6 k0_t7 X8 X10 k z = dS 2 (xAt W k0_t5 k0_t6 k0_t7 k 0 (z 0).val (z 1).val) (pwAt W k0_t5 k0_t6 k0_t7 k (z 1).val) ∧
    trip8.sl.v236 arg8 arg10 k0_t5 k0_t6 k0_t7 X8 X10 k z = dS 3 (xAt W k0_t5 k0_t6 k0_t7 k 0 (z 0).val (z 1).val) (pwAt W k0_t5 k0_t6 k0_t7 k (z 1).val) := by
  obtain ⟨hl0, hl1, hl2, hl3, hm0, hm1, hm2, hm3⟩ := lims arg10 k0_t5 k0_t6 k0_t7 X10 k W h10 z
  obtain ⟨hx0, hx1⟩ := xs arg8 k0_t5 k0_t6 k0_t7 X8 k W h8 z
  refine ⟨?_, ?_, ?_, ?_⟩
  · pointwise [trip8.sl.v123, trip8.sl.v122, trip8.sl.v121, trip8.sl.v120, trip8.sl.v96, trip8.sl.v89, trip8.sl.v88, trip8.sl.cst, trip8.sl.v90, trip8.sl.cst_44, trip8.sl.v118, trip8.sl.v102, trip8.sl.v101, trip8.sl.v100, trip8.sl.v99, trip8.sl.v97, trip8.sl.v94, trip8.sl.v93, trip8.sl.v92, trip8.sl.v91]
    rw [hl0, hm0, hx0]
    rfl
  · pointwise [trip8.sl.v159, trip8.sl.v158, trip8.sl.v157, trip8.sl.v156, trip8.sl.v132, trip8.sl.v125, trip8.sl.v124, trip8.sl.cst_53, trip8.sl.v90, trip8.sl.cst_44, trip8.sl.v154, trip8.sl.v138, trip8.sl.v137, trip8.sl.v136, trip8.sl.v135, trip8.sl.v133, trip8.sl.v130, trip8.sl.v129, trip8.sl.v128, trip8.sl.v127]
    rw [hl0, hl1, hm1, hx0]
    rfl
  · pointwise [trip8.sl.v195, trip8.sl.v194, trip8.sl.v193, trip8.sl.v192, trip8.sl.v168, trip8.sl.v161, trip8.sl.v160, trip8.sl.cst_63, trip8.sl.v90, trip8.sl.cst_44, trip8.sl.v190, trip8.sl.v174, trip8.sl.v173, trip8.sl.v172, trip8.sl.v171, trip8.sl.v169, trip8.sl.v166, trip8.sl.v165, trip8.sl.v164, trip8.sl.v163]
    rw [hl0, hl2, hm2, hx0]
    rfl
  · pointwise [trip8.sl.v236, trip8.sl.v235, trip8.sl.v234, trip8.sl.v233, trip8.sl.v209, trip8.sl.v197, trip8.sl.v196, trip8.sl.cst_73, trip8.sl.v90, trip8.sl.cst_44, trip8.sl.v231, trip8.sl.v215, trip8.sl.v214, trip8.sl.v213, trip8.sl.v212, trip8.sl.v210, trip8.sl.v207, trip8.sl.v206, trip8.sl.v205, trip8.sl.v204, trip8.sl.v202, trip8.sl.v199, trip8.sl.v201]
    rw [hl0, hl3, hm3, hx0]
    rfl

theorem d1_eq (z : S16x128.Idx) :
    trip8.sl.v317 arg8 arg10 k0_t5 k0_t6 k0_t7 X8 X10 k z = dS 0 (xAt W k0_t5 k0_t6 k0_t7 k 1 (z 0).val (z 1).val) (pwAt W k0_t5 k0_t6 k0_t7 k (z 1).val) ∧
    trip8.sl.v353 arg8 arg10 k0_t5 k0_t6 k0_t7 X8 X10 k z = dS 1 (xAt W k0_t5 k0_t6 k0_t7 k 1 (z 0).val (z 1).val) (pwAt W k0_t5 k0_t6 k0_t7 k (z 1).val) ∧
    trip8.sl.v389 arg8 arg10 k0_t5 k0_t6 k0_t7 X8 X10 k z = dS 2 (xAt W k0_t5 k0_t6 k0_t7 k 1 (z 0).val (z 1).val) (pwAt W k0_t5 k0_t6 k0_t7 k (z 1).val) ∧
    trip8.sl.v430 arg8 arg10 k0_t5 k0_t6 k0_t7 X8 X10 k z = dS 3 (xAt W k0_t5 k0_t6 k0_t7 k 1 (z 0).val (z 1).val) (pwAt W k0_t5 k0_t6 k0_t7 k (z 1).val) := by
  obtain ⟨hl0, hl1, hl2, hl3, hm0, hm1, hm2, hm3⟩ := lims arg10 k0_t5 k0_t6 k0_t7 X10 k W h10 z
  obtain ⟨hx0, hx1⟩ := xs arg8 k0_t5 k0_t6 k0_t7 X8 k W h8 z
  refine ⟨?_, ?_, ?_, ?_⟩
  · pointwise [trip8.sl.v317, trip8.sl.v316, trip8.sl.v315, trip8.sl.v314, trip8.sl.v96, trip8.sl.v89, trip8.sl.v88, trip8.sl.cst, trip8.sl.v90, trip8.sl.cst_44, trip8.sl.v312, trip8.sl.v296, trip8.sl.v295, trip8.sl.v294, trip8.sl.v293, trip8.sl.v291, trip8.sl.v288, trip8.sl.v287, trip8.sl.v286, trip8.sl.v91]
    rw [hl0, hm0, hx1]
    rfl
  · pointwise [trip8.sl.v353, trip8.sl.v352, trip8.sl.v351, trip8.sl.v350, trip8.sl.v132, trip8.sl.v125, trip8.sl.v124, trip8.sl.cst_53, trip8.sl.v90, trip8.sl.cst_44, trip8.sl.v348, trip8.sl.v332, trip8.sl.v331, trip8.sl.v330, trip8.sl.v329, trip8.sl.v327, trip8.sl.v324, trip8.sl.v323, trip8.sl.v322, trip8.sl.v127]
    rw [hl0, hl1, hm1, hx1]
    rfl
  · pointwise [trip8.sl.v389, trip8.sl.v388, trip8.sl.v387, trip8.sl.v386, trip8.sl.v168, trip8.sl.v161, trip8.sl.v160, trip8.sl.cst_63, trip8.sl.v90, trip8.sl.cst_44, trip8.sl.v384, trip8.sl.v368, trip8.sl.v367, trip8.sl.v366, trip8.sl.v365, trip8.sl.v363, trip8.sl.v360, trip8.sl.v359, trip8.sl.v358, trip8.sl.v163]
    rw [hl0, hl2, hm2, hx1]
    rfl
  · pointwise [trip8.sl.v430, trip8.sl.v429, trip8.sl.v428, trip8.sl.v427, trip8.sl.v209, trip8.sl.v197, trip8.sl.v196, trip8.sl.cst_73, trip8.sl.v90, trip8.sl.cst_44, trip8.sl.v425, trip8.sl.v409, trip8.sl.v408, trip8.sl.v407, trip8.sl.v406, trip8.sl.v404, trip8.sl.v401, trip8.sl.v400, trip8.sl.v399, trip8.sl.v204, trip8.sl.v396, trip8.sl.v393, trip8.sl.v201]
    rw [hl0, hl3, hm3, hx1]
    rfl

end
end Cert.KernelIdeal.Val
-- ==== Proof.KernelIdeal.Val.PayT8w.lean ====
/- The packed codes one trip of the code loop computes. -/
module

public import proofs.«01_k».proof.Proof.KernelIdeal.Val.PayT8

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (arg2 : Memref sig .tc .vmem S1x512x1024 .bf16) (harg2 : arg2.IsWhole) (arg3 : Memref sig .tc .vmem S1x8x128x128 .f32) (harg3 : arg3.IsWhole) (arg4 : Memref sig .tc .vmem S1x4x8x512 .f32) (harg4 : arg4.IsWhole) (arg5 : Memref sig .tc .vmem S1x512x4x1024 .i8) (harg5 : arg5.IsWhole) (arg6 : Memref sig .tc .vmem S1x4x32x512 .f32) (harg6 : arg6.IsWhole) (arg7 : Memref sig .tc .vmem S4x256x256 .bf16) (harg7 : arg7.IsWhole) (arg8 : Memref sig .tc .vmem S4x1024x128 .bf16) (harg8 : arg8.IsWhole) (arg9 : Memref sig .tc .vmem S4x288x2x128 .bf16) (harg9 : arg9.IsWhole) (arg10 : Memref sig .tc .vmem S4x8x32x2x128 .bf16) (harg10 : arg10.IsWhole) (arg11 : Memref sig .tc .vmem S4x4x256x512 .bf16) (harg11 : arg11.IsWhole) (arg12 : Memref sig .tc .vmem S4x4x2x128x128 .i32) (harg12 : arg12.IsWhole) (arg13 : Memref sig .tc .vmem S4x4x72x128 .f32) (harg13 : arg13.IsWhole)
variable (k0_t5 : Fin k0_t5_loop.trips) (k0_t6 : Fin k0_t6_loop.trips) (k0_t7 : Fin k0_t7_loop.trips) (X8 : BufTy.Contents (Elt Ideal) arg8.view.ty) (X10 : BufTy.Contents (Elt Ideal) arg10.view.ty) (k : Fin k0_t8_loop.trips)
variable (W : ℕ → ℕ → EReal) (h8 : ∀ y, arg8.view.read (Elt Ideal) X8 y = G8 W y)
  (h10 : ∀ y, arg10.view.read (Elt Ideal) X10 y = G10 W y)
include h8 h10

/-- The four codes of one element as this trip packs them. -/
def wAt (W : ℕ → ℕ → EReal) (k0_t5 : Fin k0_t5_loop.trips) (k0_t6 : Fin k0_t6_loop.trips) (k0_t7 : Fin k0_t7_loop.trips) (k : Fin k0_t8_loop.trips) (t r l : ℕ) : BitVec 32 :=
  wordS (dS 0 (xAt W k0_t5 k0_t6 k0_t7 k t r l) (pwAt W k0_t5 k0_t6 k0_t7 k l)) (dS 1 (xAt W k0_t5 k0_t6 k0_t7 k t r l) (pwAt W k0_t5 k0_t6 k0_t7 k l))
    (dS 2 (xAt W k0_t5 k0_t6 k0_t7 k t r l) (pwAt W k0_t5 k0_t6 k0_t7 k l)) (dS 3 (xAt W k0_t5 k0_t6 k0_t7 k t r l) (pwAt W k0_t5 k0_t6 k0_t7 k l))

theorem w0_eq (z : S8x128.Idx) : trip8.sl.v249 arg8 arg10 k0_t5 k0_t6 k0_t7 X8 X10 k z = wAt W k0_t5 k0_t6 k0_t7 k 0 (2 * (z 0).val) (z 1).val ∧
    trip8.sl.v254 arg8 arg10 k0_t5 k0_t6 k0_t7 X8 X10 k z = wAt W k0_t5 k0_t6 k0_t7 k 0 (2 * (z 0).val + 1) (z 1).val := by
  have hd := d0_eq arg8 arg10 k0_t5 k0_t6 k0_t7 X8 X10 k W h8 h10
  have hlo := pair_at (trip8.sl.v241 arg8 arg10 k0_t5 k0_t6 k0_t7 X8 X10 k) (by decide) z (fun r l => (dS 0 (xAt W k0_t5 k0_t6 k0_t7 k 0 r l) (pwAt W k0_t5 k0_t6 k0_t7 k l) &&& 255#16 ||| (dS 1 (xAt W k0_t5 k0_t6 k0_t7 k 0 r l) (pwAt W k0_t5 k0_t6 k0_t7 k l)) <<< 8)) (by
    intro z
    pointwise [trip8.sl.v241, trip8.sl.v238, trip8.sl.v237, trip8.sl.v240, trip8.sl.v239]
    rw [(hd z).1, (hd z).2.1]
    rfl)
  have hhi := pair_at (trip8.sl.v247 arg8 arg10 k0_t5 k0_t6 k0_t7 X8 X10 k) (by decide) z (fun r l => (dS 2 (xAt W k0_t5 k0_t6 k0_t7 k 0 r l) (pwAt W k0_t5 k0_t6 k0_t7 k l) &&& 255#16 ||| (dS 3 (xAt W k0_t5 k0_t6 k0_t7 k 0 r l) (pwAt W k0_t5 k0_t6 k0_t7 k l)) <<< 8)) (by
    intro z
    pointwise [trip8.sl.v247, trip8.sl.v244, trip8.sl.v237, trip8.sl.v246, trip8.sl.v239]
    rw [(hd z).2.2.1, (hd z).2.2.2]
    rfl)
  constructor
  · pointwise [trip8.sl.v249, trip8.sl.v242, trip8.sl.v248]
    refine (congrArg₂ (fun a b => BitVec.setWidth 16 b ++ BitVec.setWidth 16 a) hlo hhi).trans ?_
    exact congrArg₂ (fun a b : BitVec 16 => (a ++ b : BitVec 32)) (low_append _ _) (low_append _ _)
  · pointwise [trip8.sl.v254, trip8.sl.v251, trip8.sl.v250, trip8.sl.v253, trip8.sl.v252, trip8.sl.v242, trip8.sl.v248]
    refine (congrArg₂ (fun a b : BitVec 32 => (a >>> 16) ||| (b &&& 4294901760#32)) hlo hhi).trans ?_
    exact high_append _ _ _ _

theorem w1_eq (z : S8x128.Idx) : trip8.sl.v443 arg8 arg10 k0_t5 k0_t6 k0_t7 X8 X10 k z = wAt W k0_t5 k0_t6 k0_t7 k 1 (2 * (z 0).val) (z 1).val ∧
    trip8.sl.v448 arg8 arg10 k0_t5 k0_t6 k0_t7 X8 X10 k z = wAt W k0_t5 k0_t6 k0_t7 k 1 (2 * (z 0).val + 1) (z 1).val := by
  have hd := d1_eq arg8 arg10 k0_t5 k0_t6 k0_t7 X8 X10 k W h8 h10
  have hlo := pair_at (trip8.sl.v435 arg8 arg10 k0_t5 k0_t6 k0_t7 X8 X10 k) (by decide) z (fun r l => (dS 0 (xAt W k0_t5 k0_t6 k0_t7 k 1 r l) (pwAt W k0_t5 k0_t6 k0_t7 k l) &&& 255#16 ||| (dS 1 (xAt W k0_t5 k0_t6 k0_t7 k 1 r l) (pwAt W k0_t5 k0_t6 k0_t7 k l)) <<< 8)) (by
    intro z
    pointwise [trip8.sl.v435, trip8.sl.v432, trip8.sl.v237, trip8.sl.v434, trip8.sl.v239]
    rw [(hd z).1, (hd z).2.1]
    rfl)
  have hhi := pair_at (trip8.sl.v441 arg8 arg10 k0_t5 k0_t6 k0_t7 X8 X10 k) (by decide) z (fun r l => (dS 2 (xAt W k0_t5 k0_t6 k0_t7 k 1 r l) (pwAt W k0_t5 k0_t6 k0_t7 k l) &&& 255#16 ||| (dS 3 (xAt W k0_t5 k0_t6 k0_t7 k 1 r l) (pwAt W k0_t5 k0_t6 k0_t7 k l)) <<< 8)) (by
    intro z
    pointwise [trip8.sl.v441, trip8.sl.v438, trip8.sl.v237, trip8.sl.v440, trip8.sl.v239]
    rw [(hd z).2.2.1, (hd z).2.2.2]
    rfl)
  constructor
  · pointwise [trip8.sl.v443, trip8.sl.v436, trip8.sl.v442]
    refine (congrArg₂ (fun a b => BitVec.setWidth 16 b ++ BitVec.setWidth 16 a) hlo hhi).trans ?_
    exact congrArg₂ (fun a b : BitVec 16 => (a ++ b : BitVec 32)) (low_append _ _) (low_append _ _)
  · pointwise [trip8.sl.v448, trip8.sl.v445, trip8.sl.v250, trip8.sl.v447, trip8.sl.v252, trip8.sl.v436, trip8.sl.v442]
    refine (congrArg₂ (fun a b : BitVec 32 => (a >>> 16) ||| (b &&& 4294901760#32)) hlo hhi).trans ?_
    exact high_append _ _ _ _

end Cert.KernelIdeal.Val
-- ==== Proof.KernelIdeal.Val.PayT8p.lean ====
/- What one trip of the code loop writes into the errors and the packed codes is the specification’s value at every index of the piece. -/
module

public import proofs.«01_k».proof.Proof.KernelIdeal.Val.PayT8w

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The errors of a grid step. -/
def G11 (W : ℕ → ℕ → EReal) (y : S4x4x256x512.Idx) : EReal :=
  eS (y 0).val (W (y 3).val (256 * (y 1).val + (y 2).val)) (pwS (amaxS W (y 3).val ((256 * (y 1).val + (y 2).val) / 32)))

/-- The code of one element. -/
def codeS (W : ℕ → ℕ → EReal) (b s d : ℕ) : BitVec 16 := dS b (W s d) (pwS (amaxS W s (d / 32)))

/-- The packed codes of a grid step. -/
def G12 (W : ℕ → ℕ → EReal) (y : S4x4x2x128x128.Idx) : BitVec 32 :=
  let d := 256 * (y 0).val + 128 * (y 2).val + (y 3).val
  let s := 128 * (y 1).val + (y 4).val
  wordS (codeS W 0 s d) (codeS W 1 s d) (codeS W 2 s d) (codeS W 3 s d)

theorem off35_eq : ∀ a b d k, ∀ t : Fin 2, k0_off35 a b d k (BitVec.ofNat 32 (16 * t.val)) = ![0, a.val, 128 * d.val + 32 * k.val + 16 * t.val, 128 * b.val] := by decide +kernel
theorem off35_0 (a b d k) : k0_off35 a b d k 0#32 = ![0, a.val, 128 * d.val + 32 * k.val + 16 * 0, 128 * b.val] := off35_eq a b d k 0
theorem off35_1 (a b d k) : k0_off35 a b d k 16#32 = ![0, a.val, 128 * d.val + 32 * k.val + 16 * 1, 128 * b.val] := off35_eq a b d k 1
theorem off36_eq : ∀ a b d k, ∀ t : Fin 2, k0_off36 a b d k (BitVec.ofNat 32 (16 * t.val)) = ![1, a.val, 128 * d.val + 32 * k.val + 16 * t.val, 128 * b.val] := by decide +kernel
theorem off36_0 (a b d k) : k0_off36 a b d k 0#32 = ![1, a.val, 128 * d.val + 32 * k.val + 16 * 0, 128 * b.val] := off36_eq a b d k 0
theorem off36_1 (a b d k) : k0_off36 a b d k 16#32 = ![1, a.val, 128 * d.val + 32 * k.val + 16 * 1, 128 * b.val] := off36_eq a b d k 1
theorem off37_eq : ∀ a b d k, ∀ t : Fin 2, k0_off37 a b d k (BitVec.ofNat 32 (16 * t.val)) = ![2, a.val, 128 * d.val + 32 * k.val + 16 * t.val, 128 * b.val] := by decide +kernel
theorem off37_0 (a b d k) : k0_off37 a b d k 0#32 = ![2, a.val, 128 * d.val + 32 * k.val + 16 * 0, 128 * b.val] := off37_eq a b d k 0
theorem off37_1 (a b d k) : k0_off37 a b d k 16#32 = ![2, a.val, 128 * d.val + 32 * k.val + 16 * 1, 128 * b.val] := off37_eq a b d k 1
theorem off38_eq : ∀ a b d k, ∀ t : Fin 2, k0_off38 a b d k (BitVec.ofNat 32 (16 * t.val)) = ![3, a.val, 128 * d.val + 32 * k.val + 16 * t.val, 128 * b.val] := by decide +kernel
theorem off38_0 (a b d k) : k0_off38 a b d k 0#32 = ![3, a.val, 128 * d.val + 32 * k.val + 16 * 0, 128 * b.val] := off38_eq a b d k 0
theorem off38_1 (a b d k) : k0_off38 a b d k 16#32 = ![3, a.val, 128 * d.val + 32 * k.val + 16 * 1, 128 * b.val] := off38_eq a b d k 1
theorem off39_eq : ∀ a b d k, ∀ t : Fin 2, k0_off39 a b d k (BitVec.ofNat 32 (16 * t.val)) = ![a.val, b.val, d.val, 32 * k.val + 16 * t.val + 0, 0] := by decide +kernel
theorem off39_0 (a b d k) : k0_off39 a b d k 0#32 = ![a.val, b.val, d.val, 32 * k.val + 16 * 0 + 0, 0] := off39_eq a b d k 0
theorem off39_1 (a b d k) : k0_off39 a b d k 16#32 = ![a.val, b.val, d.val, 32 * k.val + 16 * 1 + 0, 0] := off39_eq a b d k 1
theorem off40_eq : ∀ a b d k, ∀ t : Fin 2, k0_off40 a b d k (BitVec.ofNat 32 (16 * t.val)) = ![a.val, b.val, d.val, 32 * k.val + 16 * t.val + 1, 0] := by decide +kernel
theorem off40_0 (a b d k) : k0_off40 a b d k 0#32 = ![a.val, b.val, d.val, 32 * k.val + 16 * 0 + 1, 0] := off40_eq a b d k 0
theorem off40_1 (a b d k) : k0_off40 a b d k 16#32 = ![a.val, b.val, d.val, 32 * k.val + 16 * 1 + 1, 0] := off40_eq a b d k 1

/-- The coordinates of an index of a strided piece. -/
theorem rect_emb_val {s : Shape} (r : Rect s) (x : r.shape.Idx) (a : Fin s.rank) : (r.emb x a).val = r.off a + r.stride a * (x a).val := rfl

variable (c : Dev nD) (i : grid0.Coords) (arg2 : Memref sig .tc .vmem S1x512x1024 .bf16) (harg2 : arg2.IsWhole) (arg3 : Memref sig .tc .vmem S1x8x128x128 .f32) (harg3 : arg3.IsWhole) (arg4 : Memref sig .tc .vmem S1x4x8x512 .f32) (harg4 : arg4.IsWhole) (arg5 : Memref sig .tc .vmem S1x512x4x1024 .i8) (harg5 : arg5.IsWhole) (arg6 : Memref sig .tc .vmem S1x4x32x512 .f32) (harg6 : arg6.IsWhole) (arg7 : Memref sig .tc .vmem S4x256x256 .bf16) (harg7 : arg7.IsWhole) (arg8 : Memref sig .tc .vmem S4x1024x128 .bf16) (harg8 : arg8.IsWhole) (arg9 : Memref sig .tc .vmem S4x288x2x128 .bf16) (harg9 : arg9.IsWhole) (arg10 : Memref sig .tc .vmem S4x8x32x2x128 .bf16) (harg10 : arg10.IsWhole) (arg11 : Memref sig .tc .vmem S4x4x256x512 .bf16) (harg11 : arg11.IsWhole) (arg12 : Memref sig .tc .vmem S4x4x2x128x128 .i32) (harg12 : arg12.IsWhole) (arg13 : Memref sig .tc .vmem S4x4x72x128 .f32) (harg13 : arg13.IsWhole)
variable (k0_t5 : Fin k0_t5_loop.trips) (arg14 : BitVec 32) (k0_t6 : Fin k0_t6_loop.trips) (arg15 v9 : BitVec 32) (k0_t7 : Fin k0_t7_loop.trips) (arg16 v12 : BitVec 32) (X8 : BufTy.Contents (Elt Ideal) arg8.view.ty) (X10 : BufTy.Contents (Elt Ideal) arg10.view.ty) (k : Fin k0_t8_loop.trips)
variable (W : ℕ → ℕ → EReal)

theorem key11 (b t : ℕ) (x : S1x1x16x128.Idx) (z : S16x128.Idx) (y : S4x4x256x512.Idx) (hz0 : (z 0).val = (x 2).val) (hz1 : (z 1).val = (x 3).val)
    (ht : t < 2) (h0 : (y 0).val = b) (h1 : (y 1).val = k0_t5.val)
    (h2 : (y 2).val = 128 * k0_t7.val + 32 * k.val + 16 * t + (x 2).val) (h3 : (y 3).val = 128 * k0_t6.val + (x 3).val) :
    eS b (xAt W k0_t5 k0_t6 k0_t7 k t (z 0).val (z 1).val) (pwAt W k0_t5 k0_t6 k0_t7 k (z 1).val) = G11 W y := by
  have : (x 2).val < 16 := (x 2).isLt
  unfold G11 xAt pwAt
  rw [h0, h1, h2, h3, hz0, hz1, show (256 * k0_t5.val + (128 * k0_t7.val + 32 * k.val + 16 * t + (x 2).val)) / 32 = 4 * (2 * k0_t5.val + k0_t7.val) + k.val by omega]
  congr 1
  apply W_congr <;> omega

theorem key12 (t o : ℕ) (x : S1x1x1x8x128.Idx) (z : S8x128.Idx) (y : S4x4x2x128x128.Idx) (r : ℕ) (hz1 : (z 1).val = (x 4).val)
    (ht : t < 2) (ho : o < 2) (hr : r = 2 * (x 3).val + o) (h0 : (y 0).val = k0_t5.val) (h1 : (y 1).val = k0_t6.val) (h2 : (y 2).val = k0_t7.val)
    (h3 : (y 3).val = 32 * k.val + 16 * t + o + 2 * (x 3).val) (h4 : (y 4).val = (x 4).val) :
    wAt W k0_t5 k0_t6 k0_t7 k t r (z 1).val = G12 W y := by
  have : (x 3).val < 8 := (x 3).isLt
  have e : xAt W k0_t5 k0_t6 k0_t7 k t r (z 1).val = W (128 * k0_t6.val + (x 4).val) (256 * k0_t5.val + 128 * k0_t7.val + (32 * k.val + 16 * t + o + 2 * (x 3).val)) := by
    unfold xAt
    rw [hz1, hr]
    apply W_congr <;> omega
  have e' : pwAt W k0_t5 k0_t6 k0_t7 k (z 1).val = pwS (amaxS W (128 * k0_t6.val + (x 4).val) ((256 * k0_t5.val + 128 * k0_t7.val + (32 * k.val + 16 * t + o + 2 * (x 3).val)) / 32)) := by
    unfold pwAt
    rw [hz1, show (256 * k0_t5.val + 128 * k0_t7.val + (32 * k.val + 16 * t + o + 2 * (x 3).val)) / 32 = 4 * (2 * k0_t5.val + k0_t7.val) + k.val by omega]
  unfold wAt G12 codeS
  rw [e, e', h0, h1, h2, h3, h4]

variable (h8 : ∀ y, arg8.view.read (Elt Ideal) X8 y = G8 W y) (h10 : ∀ y, arg10.view.read (Elt Ideal) X10 y = G10 W y)
include h8 h10

theorem t8_one : ∀ p ∈ trip8e (F := Ideal) c i arg2 harg2 arg3 harg3 arg4 harg4 arg5 harg5 arg6 harg6 arg7 harg7 arg8 harg8 arg9 harg9 arg10 harg10 arg11 harg11 arg12 harg12 arg13 harg13 k0_t5 arg14 k0_t6 arg15 v9 k0_t7 arg16 v12 X8 X10 k, ∀ x, p.2 x = G11 W (p.1.emb x) := by
  have he0 := e0_eq arg8 arg10 k0_t5 k0_t6 k0_t7 X8 X10 k W h8 h10
  have he1 := e1_eq arg8 arg10 k0_t5 k0_t6 k0_t7 X8 X10 k W h8 h10
  unfold trip8e trip8
  dsimp only
  simp only [List.forall_mem_cons, List.not_mem_nil, IsEmpty.forall_iff, implies_true, and_true]
  refine ⟨?_, ?_, ?_, ?_, ?_, ?_, ?_, ?_⟩ <;> intro x <;> have hx0 : (x 0).val < 1 := (x 0).isLt <;> have hx1 : (x 1).val < 1 := (x 1).isLt
  · pointwise [trip8.sl.v421]
    refine (he1 _).2.2.2.trans (key11 k0_t5 k0_t6 k0_t7 k W 3 1 x _ _ ?_ ?_ ?_ ?_ ?_ ?_ ?_) <;> (try rw [unit_emb_val]) <;>
      first | rfl | omega | (simp [off38_1] <;> first | omega | rfl)
  · pointwise [trip8.sl.v380]
    refine (he1 _).2.2.1.trans (key11 k0_t5 k0_t6 k0_t7 k W 2 1 x _ _ ?_ ?_ ?_ ?_ ?_ ?_ ?_) <;> (try rw [unit_emb_val]) <;>
      first | rfl | omega | (simp [off37_1] <;> first | omega | rfl)
  · pointwise [trip8.sl.v344]
    refine (he1 _).2.1.trans (key11 k0_t5 k0_t6 k0_t7 k W 1 1 x _ _ ?_ ?_ ?_ ?_ ?_ ?_ ?_) <;> (try rw [unit_emb_val]) <;>
      first | rfl | omega | (simp [off36_1] <;> first | omega | rfl)
  · pointwise [trip8.sl.v308]
    refine (he1 _).1.trans (key11 k0_t5 k0_t6 k0_t7 k W 0 1 x _ _ ?_ ?_ ?_ ?_ ?_ ?_ ?_) <;> (try rw [unit_emb_val]) <;>
      first | rfl | omega | (simp [off35_1] <;> first | omega | rfl)
  · pointwise [trip8.sl.v227]
    refine (he0 _).2.2.2.trans (key11 k0_t5 k0_t6 k0_t7 k W 3 0 x _ _ ?_ ?_ ?_ ?_ ?_ ?_ ?_) <;> (try rw [unit_emb_val]) <;>
      first | rfl | omega | (simp [off38_0] <;> first | omega | rfl)
  · pointwise [trip8.sl.v186]
    refine (he0 _).2.2.1.trans (key11 k0_t5 k0_t6 k0_t7 k W 2 0 x _ _ ?_ ?_ ?_ ?_ ?_ ?_ ?_) <;> (try rw [unit_emb_val]) <;>
      first | rfl | omega | (simp [off37_0] <;> first | omega | rfl)
  · pointwise [trip8.sl.v150]
    refine (he0 _).2.1.trans (key11 k0_t5 k0_t6 k0_t7 k W 1 0 x _ _ ?_ ?_ ?_ ?_ ?_ ?_ ?_) <;> (try rw [unit_emb_val]) <;>
      first | rfl | omega | (simp [off36_0] <;> first | omega | rfl)
  · pointwise [trip8.sl.v114]
    refine (he0 _).1.trans (key11 k0_t5 k0_t6 k0_t7 k W 0 0 x _ _ ?_ ?_ ?_ ?_ ?_ ?_ ?_) <;> (try rw [unit_emb_val]) <;>
      first | rfl | omega | (simp [off35_0] <;> first | omega | rfl)

theorem t8_two : ∀ p ∈ trip8c (F := Ideal) c i arg2 harg2 arg3 harg3 arg4 harg4 arg5 harg5 arg6 harg6 arg7 harg7 arg8 harg8 arg9 harg9 arg10 harg10 arg11 harg11 arg12 harg12 arg13 harg13 k0_t5 arg14 k0_t6 arg15 v9 k0_t7 arg16 v12 X8 X10 k, ∀ x, p.2 x = G12 W (p.1.emb x) := by
  have hw0 := w0_eq arg8 arg10 k0_t5 k0_t6 k0_t7 X8 X10 k W h8 h10
  have hw1 := w1_eq arg8 arg10 k0_t5 k0_t6 k0_t7 X8 X10 k W h8 h10
  unfold trip8c trip8
  dsimp only
  unfold trip8.sl.H12_1
  simp only [List.forall_mem_cons, List.not_mem_nil, IsEmpty.forall_iff, implies_true, and_true]
  refine ⟨?_, ?_, ?_, ?_⟩ <;> intro x <;> have hx0 : (x 0).val < 1 := (x 0).isLt <;> have hx1 : (x 1).val < 1 := (x 1).isLt <;> have hx2 : (x 2).val < 1 := (x 2).isLt
  · pointwise [k0_pay9]
    refine (hw1 _).2.trans (key12 k0_t5 k0_t6 k0_t7 k W 1 1 x _ _ _ ?_ ?_ ?_ ?_ ?_ ?_ ?_ ?_ ?_) <;> (try rw [rect_emb_val]) <;>
      first | rfl | omega | (simp [off40_1] <;> first | omega | rfl)
  · pointwise [k0_pay8]
    refine (hw1 _).1.trans (key12 k0_t5 k0_t6 k0_t7 k W 1 0 x _ _ _ ?_ ?_ ?_ ?_ ?_ ?_ ?_ ?_ ?_) <;> (try rw [rect_emb_val]) <;>
      first | rfl | omega | (simp [off39_1] <;> first | omega | rfl)
  · pointwise [trip8.sl.v272]
    refine (hw0 _).2.trans (key12 k0_t5 k0_t6 k0_t7 k W 0 1 x _ _ _ ?_ ?_ ?_ ?_ ?_ ?_ ?_ ?_ ?_) <;> (try rw [rect_emb_val]) <;>
      first | rfl | omega | (simp [off40_0] <;> first | omega | rfl)
  · pointwise [trip8.sl.v264]
    refine (hw0 _).1.trans (key12 k0_t5 k0_t6 k0_t7 k W 0 0 x _ _ _ ?_ ?_ ?_ ?_ ?_ ?_ ?_ ?_ ?_) <;> (try rw [rect_emb_val]) <;>
      first | rfl | omega | (simp [off39_0] <;> first | omega | rfl)

end Cert.KernelIdeal.Val
-- ==== Proof.KernelIdeal.Val.Loop8.lean ====
/- The invariant of the loop over the pieces of one half strip: the errors and packed codes written so far are the specification’s. -/
module

public import proofs.«01_k».proof.Proof.KernelIdeal.Val.PayT8p
public import proofs.«01_k».proof.Proof.KernelIdeal.Val.Agree

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The number, in the order they are written, of the trip that writes an index of the errors. -/
def pos11 (y : S4x4x256x512.Idx) : ℕ := (((y 1).val * 4 + (y 3).val / 128) * 2 + (y 2).val / 128) * 4 + (y 2).val % 128 / 32

/-- The same of the packed codes. -/
def pos12 (y : S4x4x2x128x128.Idx) : ℕ := (((y 0).val * 4 + (y 1).val) * 2 + (y 2).val) * 4 + (y 3).val / 32

variable (c : Dev nD) (i : grid0.Coords) (arg2 : Memref sig .tc .vmem S1x512x1024 .bf16) (harg2 : arg2.IsWhole) (arg3 : Memref sig .tc .vmem S1x8x128x128 .f32) (harg3 : arg3.IsWhole) (arg4 : Memref sig .tc .vmem S1x4x8x512 .f32) (harg4 : arg4.IsWhole) (arg5 : Memref sig .tc .vmem S1x512x4x1024 .i8) (harg5 : arg5.IsWhole) (arg6 : Memref sig .tc .vmem S1x4x32x512 .f32) (harg6 : arg6.IsWhole) (arg7 : Memref sig .tc .vmem S4x256x256 .bf16) (harg7 : arg7.IsWhole) (arg8 : Memref sig .tc .vmem S4x1024x128 .bf16) (harg8 : arg8.IsWhole) (arg9 : Memref sig .tc .vmem S4x288x2x128 .bf16) (harg9 : arg9.IsWhole) (arg10 : Memref sig .tc .vmem S4x8x32x2x128 .bf16) (harg10 : arg10.IsWhole) (arg11 : Memref sig .tc .vmem S4x4x256x512 .bf16) (harg11 : arg11.IsWhole) (arg12 : Memref sig .tc .vmem S4x4x2x128x128 .i32) (harg12 : arg12.IsWhole) (arg13 : Memref sig .tc .vmem S4x4x72x128 .f32) (harg13 : arg13.IsWhole)
variable (k0_t5 : Fin k0_t5_loop.trips) (arg14 : BitVec 32) (k0_t6 : Fin k0_t6_loop.trips) (arg15 v9 : BitVec 32) (k0_t7 : Fin k0_t7_loop.trips) (arg16 v12 : BitVec 32) (X8 : BufTy.Contents (Elt Ideal) arg8.view.ty) (X10 : BufTy.Contents (Elt Ideal) arg10.view.ty) (k : Fin k0_t8_loop.trips)

theorem t8_cover11 (y : S4x4x256x512.Idx) (hy : pos11 y = ((k0_t5.val * 4 + k0_t6.val) * 2 + k0_t7.val) * 4 + k.val) :
    ∃ p ∈ trip8e (F := Ideal) c i arg2 harg2 arg3 harg3 arg4 harg4 arg5 harg5 arg6 harg6 arg7 harg7 arg8 harg8 arg9 harg9 arg10 harg10 arg11 harg11 arg12 harg12 arg13 harg13 k0_t5 arg14 k0_t6 arg15 v9 k0_t7 arg16 v12 X8 X10 k, y ∈ p.1.set := by
  have hk : k.val < 4 := k.isLt
  have h7 : k0_t7.val < 2 := k0_t7.isLt
  have h6 : k0_t6.val < 4 := k0_t6.isLt
  have h0 : (y 0).val < 4 := (y 0).isLt
  have h1 : (y 1).val < 4 := (y 1).isLt
  have h2 : (y 2).val < 256 := (y 2).isLt
  have h3 : (y 3).val < 512 := (y 3).isLt
  unfold pos11 at hy
  unfold trip8e trip8
  dsimp only
  simp only [List.mem_cons, exists_eq_or_imp, List.not_mem_nil, false_and, exists_false, or_false, exists_eq_left]
  simp only [Rect.mem_set_unit]
  have hb : (y 0).val = 3 ∨ (y 0).val = 2 ∨ (y 0).val = 1 ∨ (y 0).val = 0 := by omega
  have ht : (y 2).val % 32 / 16 = 1 ∨ (y 2).val % 32 / 16 = 0 := by omega
  rcases ht with ht | ht <;> rcases hb with hb | hb | hb | hb
  · refine Or.inl ?_
    intro a
    fin_cases a <;> simp [off38_1] <;> omega
  · refine (Or.inr (Or.inl ?_))
    intro a
    fin_cases a <;> simp [off37_1] <;> omega
  · refine (Or.inr (Or.inr (Or.inl ?_)))
    intro a
    fin_cases a <;> simp [off36_1] <;> omega
  · refine (Or.inr (Or.inr (Or.inr (Or.inl ?_))))
    intro a
    fin_cases a <;> simp [off35_1] <;> omega
  · refine (Or.inr (Or.inr (Or.inr (Or.inr (Or.inl ?_)))))
    intro a
    fin_cases a <;> simp [off38_0] <;> omega
  · refine (Or.inr (Or.inr (Or.inr (Or.inr (Or.inr (Or.inl ?_))))))
    intro a
    fin_cases a <;> simp [off37_0] <;> omega
  · refine (Or.inr (Or.inr (Or.inr (Or.inr (Or.inr (Or.inr (Or.inl ?_)))))))
    intro a
    fin_cases a <;> simp [off36_0] <;> omega
  · refine (Or.inr (Or.inr (Or.inr (Or.inr (Or.inr (Or.inr (Or.inr ?_)))))))
    intro a
    fin_cases a <;> simp [off35_0] <;> omega

theorem t8_cover12 (y : S4x4x2x128x128.Idx) (hy : pos12 y = ((k0_t5.val * 4 + k0_t6.val) * 2 + k0_t7.val) * 4 + k.val) :
    ∃ p ∈ trip8c (F := Ideal) c i arg2 harg2 arg3 harg3 arg4 harg4 arg5 harg5 arg6 harg6 arg7 harg7 arg8 harg8 arg9 harg9 arg10 harg10 arg11 harg11 arg12 harg12 arg13 harg13 k0_t5 arg14 k0_t6 arg15 v9 k0_t7 arg16 v12 X8 X10 k, y ∈ p.1.set := by
  have hk : k.val < 4 := k.isLt
  have h7 : k0_t7.val < 2 := k0_t7.isLt
  have h6 : k0_t6.val < 4 := k0_t6.isLt
  have h0 : (y 0).val < 4 := (y 0).isLt
  have h1 : (y 1).val < 4 := (y 1).isLt
  have h2 : (y 2).val < 2 := (y 2).isLt
  have h3 : (y 3).val < 128 := (y 3).isLt
  have h4 : (y 4).val < 128 := (y 4).isLt
  unfold pos12 at hy
  unfold trip8c trip8
  dsimp only
  unfold trip8.sl.H12_1
  simp only [List.mem_cons, exists_eq_or_imp, List.not_mem_nil, false_and, exists_false, or_false, exists_eq_left]
  simp only [LoadRect.mem_set]
  have hb : (y 3).val % 2 = 1 ∨ (y 3).val % 2 = 0 := by omega
  have ht : (y 3).val % 32 / 16 = 1 ∨ (y 3).val % 32 / 16 = 0 := by omega
  rcases ht with ht | ht <;> rcases hb with hb | hb
  · refine Or.inl ?_
    intro a
    fin_cases a
    · exact ⟨0, Nat.one_pos, by simp [off40_1]; omega⟩
    · exact ⟨0, Nat.one_pos, by simp [off40_1]; omega⟩
    · exact ⟨0, Nat.one_pos, by simp [off40_1]; omega⟩
    · exact ⟨(y 3).val % 16 / 2, show (y 3).val % 16 / 2 < 8 by omega, by simp [off40_1]; omega⟩
    · exact ⟨(y 4).val, h4, by simp [off40_1]⟩
  · refine (Or.inr (Or.inl ?_))
    intro a
    fin_cases a
    · exact ⟨0, Nat.one_pos, by simp [off39_1]; omega⟩
    · exact ⟨0, Nat.one_pos, by simp [off39_1]; omega⟩
    · exact ⟨0, Nat.one_pos, by simp [off39_1]; omega⟩
    · exact ⟨(y 3).val % 16 / 2, show (y 3).val % 16 / 2 < 8 by omega, by simp [off39_1]; omega⟩
    · exact ⟨(y 4).val, h4, by simp [off39_1]⟩
  · refine (Or.inr (Or.inr (Or.inl ?_)))
    intro a
    fin_cases a
    · exact ⟨0, Nat.one_pos, by simp [off40_0]; omega⟩
    · exact ⟨0, Nat.one_pos, by simp [off40_0]; omega⟩
    · exact ⟨0, Nat.one_pos, by simp [off40_0]; omega⟩
    · exact ⟨(y 3).val % 16 / 2, show (y 3).val % 16 / 2 < 8 by omega, by simp [off40_0]; omega⟩
    · exact ⟨(y 4).val, h4, by simp [off40_0]⟩
  · refine (Or.inr (Or.inr (Or.inr ?_)))
    intro a
    fin_cases a
    · exact ⟨0, Nat.one_pos, by simp [off39_0]; omega⟩
    · exact ⟨0, Nat.one_pos, by simp [off39_0]; omega⟩
    · exact ⟨0, Nat.one_pos, by simp [off39_0]; omega⟩
    · exact ⟨(y 3).val % 16 / 2, show (y 3).val % 16 / 2 < 8 by omega, by simp [off39_0]; omega⟩
    · exact ⟨(y 4).val, h4, by simp [off39_0]⟩

variable (W : ℕ → ℕ → EReal)

/-- What the two buffers hold before the trip numbered `n`. -/
def Done11 (W : ℕ → ℕ → EReal) (arg11 : Memref sig .tc .vmem S4x4x256x512 .bf16) (n : ℕ) (f : BufTy.Contents (Elt Ideal) arg11.view.ty) : Prop :=
  ∀ y, pos11 y < n → arg11.view.read (Elt Ideal) f y = G11 W y

@[inherit_doc Done11]
def Done12 (W : ℕ → ℕ → EReal) (arg12 : Memref sig .tc .vmem S4x4x2x128x128 .i32) (n : ℕ) (f : BufTy.Contents (Elt Ideal) arg12.view.ty) : Prop :=
  ∀ y, pos12 y < n → arg12.view.read (Elt Ideal) f y = G12 W y

variable (h8 : ∀ y, arg8.view.read (Elt Ideal) X8 y = G8 W y) (h10 : ∀ y, arg10.view.read (Elt Ideal) X10 y = G10 W y)

section
include h8 h10

theorem done11_succ (f : BufTy.Contents (Elt Ideal) arg11.view.ty) (h : Done11 W arg11 (((k0_t5.val * 4 + k0_t6.val) * 2 + k0_t7.val) * 4 + k.val) f) :
    Done11 W arg11 (((k0_t5.val * 4 + k0_t6.val) * 2 + k0_t7.val) * 4 + (k.val + 1))
      (arg11.view.writes (Elt Ideal) f (trip8e (F := Ideal) c i arg2 harg2 arg3 harg3 arg4 harg4 arg5 harg5 arg6 harg6 arg7 harg7 arg8 harg8 arg9 harg9 arg10 harg10 arg11 harg11 arg12 harg12 arg13 harg13 k0_t5 arg14 k0_t6 arg15 v9 k0_t7 arg16 v12 X8 X10 k)) := by
  intro y hy
  refine read_writes_agree arg11.view f (G11 W) _ h _ (t8_one c i arg2 harg2 arg3 harg3 arg4 harg4 arg5 harg5 arg6 harg6 arg7 harg7 arg8 harg8 arg9 harg9 arg10 harg10 arg11 harg11 arg12 harg12 arg13 harg13 k0_t5 arg14 k0_t6 arg15 v9 k0_t7 arg16 v12 X8 X10 k W h8 h10) y ?_
  rcases Nat.lt_or_ge (pos11 y) (((k0_t5.val * 4 + k0_t6.val) * 2 + k0_t7.val) * 4 + k.val) with h' | h'
  · exact .inl h'
  · exact .inr (t8_cover11 c i arg2 harg2 arg3 harg3 arg4 harg4 arg5 harg5 arg6 harg6 arg7 harg7 arg8 harg8 arg9 harg9 arg10 harg10 arg11 harg11 arg12 harg12 arg13 harg13 k0_t5 arg14 k0_t6 arg15 v9 k0_t7 arg16 v12 X8 X10 k y (by omega))

theorem done12_succ (f : BufTy.Contents (Elt Ideal) arg12.view.ty) (h : Done12 W arg12 (((k0_t5.val * 4 + k0_t6.val) * 2 + k0_t7.val) * 4 + k.val) f) :
    Done12 W arg12 (((k0_t5.val * 4 + k0_t6.val) * 2 + k0_t7.val) * 4 + (k.val + 1))
      (arg12.view.writes (Elt Ideal) f (trip8c (F := Ideal) c i arg2 harg2 arg3 harg3 arg4 harg4 arg5 harg5 arg6 harg6 arg7 harg7 arg8 harg8 arg9 harg9 arg10 harg10 arg11 harg11 arg12 harg12 arg13 harg13 k0_t5 arg14 k0_t6 arg15 v9 k0_t7 arg16 v12 X8 X10 k)) := by
  intro y hy
  refine read_writes_agree arg12.view f (G12 W) _ h _ (t8_two c i arg2 harg2 arg3 harg3 arg4 harg4 arg5 harg5 arg6 harg6 arg7 harg7 arg8 harg8 arg9 harg9 arg10 harg10 arg11 harg11 arg12 harg12 arg13 harg13 k0_t5 arg14 k0_t6 arg15 v9 k0_t7 arg16 v12 X8 X10 k W h8 h10) y ?_
  rcases Nat.lt_or_ge (pos12 y) (((k0_t5.val * 4 + k0_t6.val) * 2 + k0_t7.val) * 4 + k.val) with h' | h'
  · exact .inl h'
  · exact .inr (t8_cover12 c i arg2 harg2 arg3 harg3 arg4 harg4 arg5 harg5 arg6 harg6 arg7 harg7 arg8 harg8 arg9 harg9 arg10 harg10 arg11 harg11 arg12 harg12 arg13 harg13 k0_t5 arg14 k0_t6 arg15 v9 k0_t7 arg16 v12 X8 X10 k y (by omega))

end

local notation "𝕄G" => MT nD τ sig Unit (Elt Ideal) ℕ (UR sig nD τ) ℕ

/-- Before the trip `k` every index of the errors and of the packed codes that an earlier trip wrote holds its value. -/
def loopInv_k0_t8 (k0_t5 : Fin k0_t5_loop.trips) (arg14 : BitVec 32) (k0_t6 : Fin k0_t6_loop.trips) (arg15 v9 : BitVec 32) (k0_t7 : Fin k0_t7_loop.trips) (arg16 v12 : BitVec 32) :
    LoopInvTy_k0_t8 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 k0_t5 arg14 k0_t6 arg15 v9 k0_t7 arg16 v12 where
  inv := fun k _ => iprop((arg8.view.loc (c : Thread nD τ) ↦[arg8.view.set]{fullShare} X8) ∗ (arg10.view.loc (c : Thread nD τ) ↦[arg10.view.set]{fullShare} X10)
    ∗ (∃ f, (arg11.view.loc (c : Thread nD τ) ↦[arg11.view.set]{fullShare} f) ∗ ⌜Done11 W arg11 (((k0_t5.val * 4 + k0_t6.val) * 2 + k0_t7.val) * 4 + k) f⌝)
    ∗ (∃ f, (arg12.view.loc (c : Thread nD τ) ↦[arg12.view.set]{fullShare} f) ∗ ⌜Done12 W arg12 (((k0_t5.val * 4 + k0_t6.val) * 2 + k0_t7.val) * 4 + k) f⌝))
  step := fun k _ => by
    iintro ⟨H8, H10, ⟨%f11, H11, %hf11⟩, ⟨%f12, H12, %hf12⟩⟩
    iapply (wp_wand_r Idealize.ShloMosaic.frame (wpE (defs₀ (F := Ideal)) Variants.none (c : Thread nD τ) none) Set.univ)
    isplitl [H8 H10 H11 H12]
    · iapply ((trip8 (F := Ideal) c i arg2 harg2 arg3 harg3 arg4 harg4 arg5 harg5 arg6 harg6 arg7 harg7 arg8 harg8 arg9 harg9 arg10 harg10 arg11 harg11 arg12 harg12 arg13 harg13 k0_t5 arg14 k0_t6 arg15 v9 k0_t7 arg16 v12 X8 X10 k).2.2 Set.univ f11 f12)
      isplitl [H8]; · iexact H8
      isplitl [H10]; · iexact H10
      isplitl [H11]; · iexact H11
      iexact H12
    · iintro %_ ⟨H8, H10, H11, H12⟩
      isplitl [H8]; · iexact H8
      isplitl [H10]; · iexact H10
      isplitl [H11]
      · iexists _; isplitl [H11]; · iexact H11
        ipureintro; exact done11_succ c i arg2 harg2 arg3 harg3 arg4 harg4 arg5 harg5 arg6 harg6 arg7 harg7 arg8 harg8 arg9 harg9 arg10 harg10 arg11 harg11 arg12 harg12 arg13 harg13 k0_t5 arg14 k0_t6 arg15 v9 k0_t7 arg16 v12 X8 X10 k W h8 h10 f11 hf11
      iexists _; isplitl [H12]; · iexact H12
      ipureintro; exact done12_succ c i arg2 harg2 arg3 harg3 arg4 harg4 arg5 harg5 arg6 harg6 arg7 harg7 arg8 harg8 arg9 harg9 arg10 harg10 arg11 harg11 arg12 harg12 arg13 harg13 k0_t5 arg14 k0_t6 arg15 v9 k0_t7 arg16 v12 X8 X10 k W h8 h10 f12 hf12

end Cert.KernelIdeal.Val
-- ==== Proof.KernelIdeal.Val.Loop7.lean ====
/- The invariant of the loop over the two halves: the codes stored so far are the specification’s. -/
module

public import proofs.«01_k».proof.Proof.KernelIdeal.Val.Loop8

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The codes of a grid step. -/
def G5 (W : ℕ → ℕ → EReal) (y : S1x512x4x1024.Idx) : BitVec 8 := BitVec.setWidth 8 (codeS W (y 2).val (y 1).val (y 3).val)

/-- The number of the trip that stores an index of the codes. -/
def pos5 (y : S1x512x4x1024.Idx) : ℕ := ((y 3).val / 256 * 4 + (y 1).val / 128) * 2 + (y 3).val % 256 / 128

theorem byteS (d0 d1 d2 d3 : BitVec 16) (q : ℕ) (hq : q < 8) :
    (wordS d0 d1 d2 d3).getLsbD (8 * 0 + q) = d0.getLsbD q ∧ (wordS d0 d1 d2 d3).getLsbD (8 * 1 + q) = d1.getLsbD q ∧
      (wordS d0 d1 d2 d3).getLsbD (8 * 2 + q) = d2.getLsbD q ∧ (wordS d0 d1 d2 d3).getLsbD (8 * 3 + q) = d3.getLsbD q := by
  have hm : ∀ j : Fin 16, (255#16).getLsbD j.val = decide (j.val < 8) := by decide
  have lo : ∀ a b : BitVec 16, (a &&& 255#16 ||| b <<< 8).getLsbD q = a.getLsbD q := by
    intro a b
    have := hm ⟨q, by omega⟩
    simp only at this
    simp [this, hq]
  have hi : ∀ a b : BitVec 16, (a &&& 255#16 ||| b <<< 8).getLsbD (8 + q) = b.getLsbD q := by
    intro a b
    have := hm ⟨8 + q, by omega⟩
    simp only at this
    rw [BitVec.getLsbD_or, BitVec.getLsbD_and, this, BitVec.getLsbD_shiftLeft]
    simp [show 8 + q < 16 by omega]
  unfold wordS
  simp only [BitVec.getLsbD_append]
  refine ⟨?_, ?_, ?_, ?_⟩
  · rw [if_pos (by omega), Nat.mul_zero, Nat.zero_add, lo]
  · rw [if_pos (by omega), Nat.mul_one, hi]
  · rw [if_neg (by omega), show 8 * 2 + q - 16 = q by omega, lo]
  · rw [if_neg (by omega), show 8 * 3 + q - 16 = 8 + q by omega, hi]

/-- One of four words. -/
def pick4 (n : ℕ) (a0 a1 a2 a3 : BitVec 16) : BitVec 16 :=
  match n with
  | 0 => a0
  | 1 => a1
  | 2 => a2
  | _ => a3

theorem off41_eq : ∀ a b d, k0_off41 a b d = ![a.val, b.val, d.val, 0, 0] := by decide +kernel
theorem off42_eq : ∀ a b d, k0_off42 a b d = ![0, 128 * b.val, 0, 128 * (2 * a.val + d.val)] := by decide +kernel

/-- A byte of the transposed words. -/
theorem byte_at (v : Vec Ideal S1x1x1x128x128 .i32) (wd : ℕ → ℕ → BitVec 32) (hv : ∀ z : S1x1x1x128x128.Idx, v z = wd (z 4).val (z 3).val)
    (z : S512x128.Idx) (q : ℕ) (hq : q < 8) :
    (bitcast S512x128 8 (transpose S128x128 [1, 0] (shapeCast S128x128 v shapeCasts_S1x1x1x128x128_S128x128) transposes_S128x128_p1_0_S128x128)
      bitcasts_S128x128_w32_S512x128_w8 z).getLsbD q = (wd ((z 0).val / 4) (z 1).val).getLsbD (8 * ((z 0).val % 4) + q) := by
  have e0 : ∀ p hp, (bitcasts_S128x128_w32_S512x128_w8.srcIdx z p hp 0).val = p := fun p hp => bitcasts_S128x128_w32_S512x128_w8.srcIdx_row z p hp 0 rfl
  have e1 : ∀ p hp, (bitcasts_S128x128_w32_S512x128_w8.srcIdx z p hp 1).val = (z 1).val := fun p hp => bitcasts_S128x128_w32_S512x128_w8.srcIdx_other z p hp 1 (by decide)
  have hT : ∀ j, transpose S128x128 [1, 0] (shapeCast S128x128 v shapeCasts_S1x1x1x128x128_S128x128) transposes_S128x128_p1_0_S128x128 j = wd (j 0).val (j 1).val := by
    intro j
    pointwise []
    exact hv _
  have hr : S512x128.row z = (z 0).val := rfl
  rw [bitcast_getLsbD _ _ _ q hq (by decide), hT, e0, e1, hr, show ((z 0).val * 8 + q) / 32 = (z 0).val / 4 by omega,
    show ((z 0).val * 8 + q) % 32 = 8 * ((z 0).val % 4) + q by omega]

/-- The codes stored at once: byte `b` of the word. -/
theorem pay10_eq (v : Vec Ideal S1x1x1x128x128 .i32) (d0 d1 d2 d3 : ℕ → ℕ → BitVec 16)
    (hv : ∀ z : S1x1x1x128x128.Idx, v z = wordS (d0 (z 4).val (z 3).val) (d1 (z 4).val (z 3).val) (d2 (z 4).val (z 3).val) (d3 (z 4).val (z 3).val))
    (x : S1x128x4x128.Idx) :
    k0_pay10 v x = BitVec.setWidth 8 (pick4 (x 2).val (d0 (x 1).val (x 3).val) (d1 (x 1).val (x 3).val) (d2 (x 1).val (x 3).val) (d3 (x 1).val (x 3).val)) := by
  have hx2 : (x 2).val < 4 := (x 2).isLt
  pointwise [k0_pay10]
  apply BitVec.eq_of_getLsbD_eq
  intro q hq
  have hb := fun s d => byteS (d0 s d) (d1 s d) (d2 s d) (d3 s d) q hq
  have key : ∀ s d n s' n', n < 4 → s' = s → n' = 8 * n + q → (wordS (d0 s' d) (d1 s' d) (d2 s' d) (d3 s' d)).getLsbD n' = (BitVec.setWidth 8 (pick4 n (d0 s d) (d1 s d) (d2 s d) (d3 s d))).getLsbD q := by
    rintro s d n s' n' hn rfl rfl
    rw [BitVec.getLsbD_setWidth, decide_eq_true hq, Bool.true_and]
    obtain rfl | rfl | rfl | rfl : n = 0 ∨ n = 1 ∨ n = 2 ∨ n = 3 := by omega
    · exact (hb _ d).1
    · exact (hb _ d).2.1
    · exact (hb _ d).2.2.1
    · exact (hb _ d).2.2.2
  refine (byte_at v (fun s d => wordS (d0 s d) (d1 s d) (d2 s d) (d3 s d)) hv _ q hq).trans (key _ _ _ _ _ hx2 ?_ ?_)
  · show ((x 1).val * 4 + (x 2).val) / 4 = (x 1).val
    omega
  · show 8 * (((x 1).val * 4 + (x 2).val) % 4) + q = 8 * (x 2).val + q
    omega

variable (c : Dev nD) (i : grid0.Coords) (arg2 : Memref sig .tc .vmem S1x512x1024 .bf16) (harg2 : arg2.IsWhole) (arg3 : Memref sig .tc .vmem S1x8x128x128 .f32) (harg3 : arg3.IsWhole) (arg4 : Memref sig .tc .vmem S1x4x8x512 .f32) (harg4 : arg4.IsWhole) (arg5 : Memref sig .tc .vmem S1x512x4x1024 .i8) (harg5 : arg5.IsWhole) (arg6 : Memref sig .tc .vmem S1x4x32x512 .f32) (harg6 : arg6.IsWhole) (arg7 : Memref sig .tc .vmem S4x256x256 .bf16) (harg7 : arg7.IsWhole) (arg8 : Memref sig .tc .vmem S4x1024x128 .bf16) (harg8 : arg8.IsWhole) (arg9 : Memref sig .tc .vmem S4x288x2x128 .bf16) (harg9 : arg9.IsWhole) (arg10 : Memref sig .tc .vmem S4x8x32x2x128 .bf16) (harg10 : arg10.IsWhole) (arg11 : Memref sig .tc .vmem S4x4x256x512 .bf16) (harg11 : arg11.IsWhole) (arg12 : Memref sig .tc .vmem S4x4x2x128x128 .i32) (harg12 : arg12.IsWhole) (arg13 : Memref sig .tc .vmem S4x4x72x128 .f32) (harg13 : arg13.IsWhole)
variable (k0_t5 : Fin k0_t5_loop.trips) (arg14 : BitVec 32) (k0_t6 : Fin k0_t6_loop.trips) (arg15 v9 : BitVec 32) (X8 : BufTy.Contents (Elt Ideal) arg8.view.ty) (X10 : BufTy.Contents (Elt Ideal) arg10.view.ty)
variable (W : ℕ → ℕ → EReal)

/-- What the codes' buffer holds before the store numbered `n`. -/
def Done5 (W : ℕ → ℕ → EReal) (arg5 : Memref sig .tc .vmem S1x512x4x1024 .i8) (n : ℕ) (f : BufTy.Contents (Elt Ideal) arg5.view.ty) : Prop :=
  ∀ y, pos5 y < n → arg5.view.read (Elt Ideal) f y = G5 W y

theorem t7_done5 (k : Fin k0_t7_loop.trips) (f5 : BufTy.Contents (Elt Ideal) arg5.view.ty) (f12 : BufTy.Contents (Elt Ideal) arg12.view.ty)
    (h5 : Done5 W arg5 ((k0_t5.val * 4 + k0_t6.val) * 2 + k.val) f5)
    (h12 : Done12 W arg12 (((k0_t5.val * 4 + k0_t6.val) * 2 + k.val) * 4 + 4) f12) :
    Done5 W arg5 ((k0_t5.val * 4 + k0_t6.val) * 2 + (k.val + 1)) (arg5.view.writes (Elt Ideal) f5
      [⟨Rect.unit (s := S1x512x4x1024) (k0_off42 k0_t5 k0_t6 k) S1x128x4x128.size (k0_off42_inb k0_t5 k0_t6 k),
        k0_pay10 (View.readAt (Elt Ideal) arg12.view (Rect.unit (s := S4x4x2x128x128) (k0_off41 k0_t5 k0_t6 k) S1x1x1x128x128.size (k0_off41_inb k0_t5 k0_t6 k)).toLoadRect f12)⟩]) := by
  have hk : k.val < 2 := k.isLt
  have h6 : k0_t6.val < 4 := k0_t6.isLt
  intro y hy
  refine read_writes_agree arg5.view f5 (G5 W) _ h5 _ ?_ y ?_
  · simp only [List.forall_mem_cons, List.not_mem_nil, IsEmpty.forall_iff, implies_true, and_true]
    intro x
    have hx0 : (x 0).val < 1 := (x 0).isLt
    have hx1 : (x 1).val < 128 := (x 1).isLt
    have hx2 : (x 2).val < 4 := (x 2).isLt
    have hx3 : (x 3).val < 128 := (x 3).isLt
    have key : ∀ y : S1x512x4x1024.Idx, (y 1).val = 128 * k0_t6.val + (x 1).val → (y 2).val = (x 2).val → (y 3).val = 128 * (2 * k0_t5.val + k.val) + (x 3).val →
        BitVec.setWidth 8 (pick4 (x 2).val (codeS W 0 (128 * k0_t6.val + (x 1).val) (256 * k0_t5.val + 128 * k.val + (x 3).val)) (codeS W 1 (128 * k0_t6.val + (x 1).val) (256 * k0_t5.val + 128 * k.val + (x 3).val)) (codeS W 2 (128 * k0_t6.val + (x 1).val) (256 * k0_t5.val + 128 * k.val + (x 3).val)) (codeS W 3 (128 * k0_t6.val + (x 1).val) (256 * k0_t5.val + 128 * k.val + (x 3).val))) = G5 W y := by
      intro y h1 h2 h3
      unfold G5
      rw [h1, h2, h3, show 128 * (2 * k0_t5.val + k.val) + (x 3).val = 256 * k0_t5.val + 128 * k.val + (x 3).val by omega]
      obtain h | h | h | h : (x 2).val = 0 ∨ (x 2).val = 1 ∨ (x 2).val = 2 ∨ (x 2).val = 3 := by omega
      all_goals rw [h]; rfl
    refine (pay10_eq _ (fun s d => codeS W 0 (128 * k0_t6.val + s) (256 * k0_t5.val + 128 * k.val + d)) (fun s d => codeS W 1 (128 * k0_t6.val + s) (256 * k0_t5.val + 128 * k.val + d))
      (fun s d => codeS W 2 (128 * k0_t6.val + s) (256 * k0_t5.val + 128 * k.val + d)) (fun s d => codeS W 3 (128 * k0_t6.val + s) (256 * k0_t5.val + 128 * k.val + d)) ?_ x).trans (key _ ?_ ?_ ?_)
    · intro z
      have hz0 : (z 0).val < 1 := (z 0).isLt
      have hz1 : (z 1).val < 1 := (z 1).isLt
      have hz2 : (z 2).val < 1 := (z 2).isLt
      have hz3 : (z 3).val < 128 := (z 3).isLt
      have e : ∀ y : S4x4x2x128x128.Idx, (y 0).val = k0_t5.val + (z 0).val → (y 1).val = k0_t6.val + (z 1).val → (y 2).val = k.val + (z 2).val → (y 3).val = (z 3).val → (y 4).val = (z 4).val →
          arg12.view.read (Elt Ideal) f12 y = wordS (codeS W 0 (128 * k0_t6.val + (z 4).val) (256 * k0_t5.val + 128 * k.val + (z 3).val)) (codeS W 1 (128 * k0_t6.val + (z 4).val) (256 * k0_t5.val + 128 * k.val + (z 3).val))
            (codeS W 2 (128 * k0_t6.val + (z 4).val) (256 * k0_t5.val + 128 * k.val + (z 3).val)) (codeS W 3 (128 * k0_t6.val + (z 4).val) (256 * k0_t5.val + 128 * k.val + (z 3).val)) := by
        intro y h0 h1 h2 h3 h4
        rw [h12 y (by unfold pos12; omega)]
        unfold G12
        simp only
        rw [h0, h1, h2, h3, h4, show (z 0).val = 0 by omega, show (z 1).val = 0 by omega, show (z 2).val = 0 by omega, Nat.add_zero, Nat.add_zero, Nat.add_zero]
      rw [View.readAt_apply]
      refine e _ ?_ ?_ ?_ ?_ ?_ <;> first | (simp [LoadRect.idx, off41_eq] <;> done) | (simp [LoadRect.idx, off41_eq] <;> omega)
    all_goals (try rw [unit_emb_val]) <;> first | rfl | (simp [off42_eq] <;> first | omega | rfl)
  · rcases Nat.lt_or_ge (pos5 y) ((k0_t5.val * 4 + k0_t6.val) * 2 + k.val) with h' | h'
    · exact .inl h'
    · right
      have h0 : (y 0).val < 1 := (y 0).isLt
      have h1 : (y 1).val < 512 := (y 1).isLt
      have h2 : (y 2).val < 4 := (y 2).isLt
      have h3 : (y 3).val < 1024 := (y 3).isLt
      unfold pos5 at h' hy
      refine ⟨_, List.mem_cons_self, ?_⟩
      rw [Rect.mem_set_unit]
      intro a
      fin_cases a <;> simp [off42_eq] <;> omega

variable (h8 : ∀ y, arg8.view.read (Elt Ideal) X8 y = G8 W y) (h10 : ∀ y, arg10.view.read (Elt Ideal) X10 y = G10 W y)

local notation "𝕄G" => MT nD τ sig Unit (Elt Ideal) ℕ (UR sig nD τ) ℕ

def loopInv_k0_t7 (k0_t5 : Fin k0_t5_loop.trips) (arg14 : BitVec 32) (k0_t6 : Fin k0_t6_loop.trips) (arg15 v9 : BitVec 32) :
    LoopInvTy_k0_t7 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 k0_t5 arg14 k0_t6 arg15 v9 where
  inv := fun k _ => iprop((arg8.view.loc (c : Thread nD τ) ↦[arg8.view.set]{fullShare} X8) ∗ (arg10.view.loc (c : Thread nD τ) ↦[arg10.view.set]{fullShare} X10)
    ∗ (∃ f, (arg5.view.loc (c : Thread nD τ) ↦[arg5.view.set]{fullShare} f) ∗ ⌜Done5 W arg5 ((k0_t5.val * 4 + k0_t6.val) * 2 + k) f⌝)
    ∗ (∃ f, (arg11.view.loc (c : Thread nD τ) ↦[arg11.view.set]{fullShare} f) ∗ ⌜Done11 W arg11 (((k0_t5.val * 4 + k0_t6.val) * 2 + k) * 4) f⌝)
    ∗ (∃ f, (arg12.view.loc (c : Thread nD τ) ↦[arg12.view.set]{fullShare} f) ∗ ⌜Done12 W arg12 (((k0_t5.val * 4 + k0_t6.val) * 2 + k) * 4) f⌝))
  step := fun k _ => by
    unfold k0_t7_body
    let L := fun arg16 v12 => loopInv_k0_t8 c i arg2 harg2 arg3 harg3 arg4 harg4 arg5 harg5 arg6 harg6 arg7 harg7 arg8 harg8 arg9 harg9 arg10 harg10 arg11 harg11 arg12 harg12 arg13 harg13 X8 X10 W h8 h10 k0_t5 arg14 k0_t6 arg15 v9 k arg16 v12
    iintro ⟨H8, H10, ⟨%f5, H5, %h5⟩, ⟨%f11, H11, %h11⟩, ⟨%f12, H12, %h12⟩⟩
    sl_exec
    sl_step
    have e8 : Scf.trips k0_t8_loop.lb k0_t8_loop.ub k0_t8_loop.st = 4 := by decide
    rw [e8] at *
    isplitl [H8]; · iexact H8
    isplitl [H10]; · iexact H10
    isplitl [H5]
    · iexists _; isplitl [H5]; · iexact H5
      ipureintro; exact t7_done5 arg5 arg12 k0_t5 k0_t6 W k _ _ h5 (by assumption)
    isplitl [H11]
    · iexists _; isplitl [H11]; · iexact H11
      ipureintro
      rw [show ((k0_t5.val * 4 + k0_t6.val) * 2 + (k.val + 1)) * 4 = ((k0_t5.val * 4 + k0_t6.val) * 2 + k.val) * 4 + 4 by omega]
      assumption
    iexists _; isplitl [H12]; · iexact H12
    ipureintro
    rw [show ((k0_t5.val * 4 + k0_t6.val) * 2 + (k.val + 1)) * 4 = ((k0_t5.val * 4 + k0_t6.val) * 2 + k.val) * 4 + 4 by omega]
    assumption

def loopInv_k0_t6 (k0_t5 : Fin k0_t5_loop.trips) (arg14 : BitVec 32) :
    LoopInvTy_k0_t6 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 k0_t5 arg14 where
  inv := fun k _ => iprop((arg8.view.loc (c : Thread nD τ) ↦[arg8.view.set]{fullShare} X8) ∗ (arg10.view.loc (c : Thread nD τ) ↦[arg10.view.set]{fullShare} X10)
    ∗ (∃ f, (arg5.view.loc (c : Thread nD τ) ↦[arg5.view.set]{fullShare} f) ∗ ⌜Done5 W arg5 ((k0_t5.val * 4 + k) * 2) f⌝)
    ∗ (∃ f, (arg11.view.loc (c : Thread nD τ) ↦[arg11.view.set]{fullShare} f) ∗ ⌜Done11 W arg11 ((k0_t5.val * 4 + k) * 2 * 4) f⌝)
    ∗ (∃ f, (arg12.view.loc (c : Thread nD τ) ↦[arg12.view.set]{fullShare} f) ∗ ⌜Done12 W arg12 ((k0_t5.val * 4 + k) * 2 * 4) f⌝))
  step := fun k _ => by
    unfold k0_t6_body
    let L := fun arg15 v9 => loopInv_k0_t7 c i arg2 harg2 arg3 harg3 arg4 harg4 arg5 harg5 arg6 harg6 arg7 harg7 arg8 harg8 arg9 harg9 arg10 harg10 arg11 harg11 arg12 harg12 arg13 harg13 X8 X10 W h8 h10 k0_t5 arg14 k arg15 v9
    iintro ⟨H8, H10, ⟨%f5, H5, %h5⟩, ⟨%f11, H11, %h11⟩, ⟨%f12, H12, %h12⟩⟩
    sl_exec
    sl_step
    have e7 : Scf.trips k0_t7_loop.lb k0_t7_loop.ub k0_t7_loop.st = 2 := by decide
    rw [e7] at *
    have e : (k0_t5.val * 4 + (k.val + 1)) * 2 = (k0_t5.val * 4 + k.val) * 2 + 2 := by omega
    isplitl [H8]; · iexact H8
    isplitl [H10]; · iexact H10
    isplitl [H5]
    · iexists _; isplitl [H5]; · iexact H5
      ipureintro; rw [e]; assumption
    isplitl [H11]
    · iexists _; isplitl [H11]; · iexact H11
      ipureintro; rw [e]; assumption
    iexists _; isplitl [H12]; · iexact H12
    ipureintro; rw [e]; assumption

end Cert.KernelIdeal.Val
-- ==== Proof.KernelIdeal.Val.PayT9.lean ====
/- The score sums one trip of the products’ loop writes: eight sums, one per group of the pair and strip, of the products of the Hessian’s rows with the errors. -/
module

public import proofs.«01_k».proof.Proof.KernelIdeal.Val.Loop7

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The quantisation error of one element. -/
def errS (W : ℕ → ℕ → EReal) (b s d : ℕ) : EReal := eS b (W s d) (pwS (amaxS W s (d / 32)))

/-- One element of the product of a pair's two diagonal blocks with the errors. -/
def thS (HB : ℕ → ℕ → ℕ → EReal) (W : ℕ → ℕ → EReal) (b p r s : ℕ) : EReal := ∑ x : Fin 256, HB p r x.val * errS W b s (256 * p + x.val)

/-- Two products of the quadratic form: an even row's and an odd row's. -/
def prS (HB : ℕ → ℕ → ℕ → EReal) (W : ℕ → ℕ → EReal) (b p h v u s : ℕ) : EReal :=
  thS HB W b p (128 * h + 8 * v + u) s * errS W b s (256 * p + (128 * h + 16 * v + 2 * u))
    + thS HB W b p (128 * h + 64 + 8 * v + u) s * errS W b s (256 * p + (128 * h + 16 * v + 2 * u + 1))

/-- Eight terms summed in the order the loop sums them. -/
def sum8 (f : ℕ → EReal) : EReal := f 0 + f 1 + f 2 + f 3 + f 4 + f 5 + f 6 + f 7

/-- The sum of sixteen of a group's products. -/
def accS (HB : ℕ → ℕ → ℕ → EReal) (W : ℕ → ℕ → EReal) (b p h u s : ℕ) : EReal := sum8 fun v => prS HB W b p h v u s

/-- The partial sums of a grid step. -/
def G13 (HB : ℕ → ℕ → ℕ → EReal) (W : ℕ → ℕ → EReal) (y : S4x4x72x128.Idx) : EReal :=
  accS HB W (y 0).val ((y 2).val / 18) ((y 2).val / 9 % 2) ((y 2).val % 9) (128 * (y 1).val + (y 3).val)

theorem sum8_congr {a0 a1 a2 a3 a4 a5 a6 a7 : EReal} (f : ℕ → EReal) (h0 : a0 = f 0) (h1 : a1 = f 1) (h2 : a2 = f 2) (h3 : a3 = f 3) (h4 : a4 = f 4)
    (h5 : a5 = f 5) (h6 : a6 = f 6) (h7 : a7 = f 7) : a0 + a1 + a2 + a3 + a4 + a5 + a6 + a7 = sum8 f := by
  rw [h0, h1, h2, h3, h4, h5, h6, h7]; rfl

theorem off43_eq : ∀ a, k0_off43 a = ![a.val, 0, 0] := by decide +kernel
theorem off44_eq : ∀ a b, k0_off44 a b = ![b.val, a.val, 0, 0] := by decide +kernel
theorem off45_eq : ∀ a b, k0_off45 a b = ![b.val, a.val, 0, 0] := by decide +kernel
theorem off46_eq : ∀ a b, k0_off46 a b = ![b.val, a.val, 16, 0] := by decide +kernel
theorem off47_eq : ∀ a b, k0_off47 a b = ![b.val, a.val, 32, 0] := by decide +kernel
theorem off48_eq : ∀ a b, k0_off48 a b = ![b.val, a.val, 48, 0] := by decide +kernel
theorem off49_eq : ∀ a b, k0_off49 a b = ![b.val, a.val, 64, 0] := by decide +kernel
theorem off50_eq : ∀ a b, k0_off50 a b = ![b.val, a.val, 80, 0] := by decide +kernel
theorem off51_eq : ∀ a b, k0_off51 a b = ![b.val, a.val, 96, 0] := by decide +kernel
theorem off52_eq : ∀ a b, k0_off52 a b = ![b.val, a.val, 112, 0] := by decide +kernel
theorem off54_eq : ∀ a b, k0_off54 a b = ![b.val, a.val, 128, 0] := by decide +kernel
theorem off55_eq : ∀ a b, k0_off55 a b = ![b.val, a.val, 144, 0] := by decide +kernel
theorem off56_eq : ∀ a b, k0_off56 a b = ![b.val, a.val, 160, 0] := by decide +kernel
theorem off57_eq : ∀ a b, k0_off57 a b = ![b.val, a.val, 176, 0] := by decide +kernel
theorem off58_eq : ∀ a b, k0_off58 a b = ![b.val, a.val, 192, 0] := by decide +kernel
theorem off59_eq : ∀ a b, k0_off59 a b = ![b.val, a.val, 208, 0] := by decide +kernel
theorem off60_eq : ∀ a b, k0_off60 a b = ![b.val, a.val, 224, 0] := by decide +kernel
theorem off61_eq : ∀ a b, k0_off61 a b = ![b.val, a.val, 240, 0] := by decide +kernel
theorem off53_eq : ∀ a b, ∀ h : Fin 2, k0_off53 a b (BitVec.ofNat 32 h.val) = ![b.val, 0, 18 * a.val + 9 * h.val, 0] := by decide +kernel
theorem off53_0 (a b) : k0_off53 a b 0#32 = ![b.val, 0, 18 * a.val + 9 * 0, 0] := off53_eq a b 0
theorem off53_1 (a b) : k0_off53 a b 1#32 = ![b.val, 0, 18 * a.val + 9 * 1, 0] := off53_eq a b 1
theorem off62_eq : ∀ a b, k0_off62 a b = ![b.val, a.val, 0, 128] := by decide +kernel
theorem off63_eq : ∀ a b, k0_off63 a b = ![b.val, a.val, 16, 128] := by decide +kernel
theorem off64_eq : ∀ a b, k0_off64 a b = ![b.val, a.val, 32, 128] := by decide +kernel
theorem off65_eq : ∀ a b, k0_off65 a b = ![b.val, a.val, 48, 128] := by decide +kernel
theorem off66_eq : ∀ a b, k0_off66 a b = ![b.val, a.val, 64, 128] := by decide +kernel
theorem off67_eq : ∀ a b, k0_off67 a b = ![b.val, a.val, 80, 128] := by decide +kernel
theorem off68_eq : ∀ a b, k0_off68 a b = ![b.val, a.val, 96, 128] := by decide +kernel
theorem off69_eq : ∀ a b, k0_off69 a b = ![b.val, a.val, 112, 128] := by decide +kernel
theorem off71_eq : ∀ a b, k0_off71 a b = ![b.val, a.val, 128, 128] := by decide +kernel
theorem off72_eq : ∀ a b, k0_off72 a b = ![b.val, a.val, 144, 128] := by decide +kernel
theorem off73_eq : ∀ a b, k0_off73 a b = ![b.val, a.val, 160, 128] := by decide +kernel
theorem off74_eq : ∀ a b, k0_off74 a b = ![b.val, a.val, 176, 128] := by decide +kernel
theorem off75_eq : ∀ a b, k0_off75 a b = ![b.val, a.val, 192, 128] := by decide +kernel
theorem off76_eq : ∀ a b, k0_off76 a b = ![b.val, a.val, 208, 128] := by decide +kernel
theorem off77_eq : ∀ a b, k0_off77 a b = ![b.val, a.val, 224, 128] := by decide +kernel
theorem off78_eq : ∀ a b, k0_off78 a b = ![b.val, a.val, 240, 128] := by decide +kernel
theorem off70_eq : ∀ a b, ∀ h : Fin 2, k0_off70 a b (BitVec.ofNat 32 h.val) = ![b.val, 1, 18 * a.val + 9 * h.val, 0] := by decide +kernel
theorem off70_0 (a b) : k0_off70 a b 0#32 = ![b.val, 1, 18 * a.val + 9 * 0, 0] := off70_eq a b 0
theorem off70_1 (a b) : k0_off70 a b 1#32 = ![b.val, 1, 18 * a.val + 9 * 1, 0] := off70_eq a b 1
theorem off79_eq : ∀ a b, k0_off79 a b = ![b.val, a.val, 0, 256] := by decide +kernel
theorem off80_eq : ∀ a b, k0_off80 a b = ![b.val, a.val, 16, 256] := by decide +kernel
theorem off81_eq : ∀ a b, k0_off81 a b = ![b.val, a.val, 32, 256] := by decide +kernel
theorem off82_eq : ∀ a b, k0_off82 a b = ![b.val, a.val, 48, 256] := by decide +kernel
theorem off83_eq : ∀ a b, k0_off83 a b = ![b.val, a.val, 64, 256] := by decide +kernel
theorem off84_eq : ∀ a b, k0_off84 a b = ![b.val, a.val, 80, 256] := by decide +kernel
theorem off85_eq : ∀ a b, k0_off85 a b = ![b.val, a.val, 96, 256] := by decide +kernel
theorem off86_eq : ∀ a b, k0_off86 a b = ![b.val, a.val, 112, 256] := by decide +kernel
theorem off88_eq : ∀ a b, k0_off88 a b = ![b.val, a.val, 128, 256] := by decide +kernel
theorem off89_eq : ∀ a b, k0_off89 a b = ![b.val, a.val, 144, 256] := by decide +kernel
theorem off90_eq : ∀ a b, k0_off90 a b = ![b.val, a.val, 160, 256] := by decide +kernel
theorem off91_eq : ∀ a b, k0_off91 a b = ![b.val, a.val, 176, 256] := by decide +kernel
theorem off92_eq : ∀ a b, k0_off92 a b = ![b.val, a.val, 192, 256] := by decide +kernel
theorem off93_eq : ∀ a b, k0_off93 a b = ![b.val, a.val, 208, 256] := by decide +kernel
theorem off94_eq : ∀ a b, k0_off94 a b = ![b.val, a.val, 224, 256] := by decide +kernel
theorem off95_eq : ∀ a b, k0_off95 a b = ![b.val, a.val, 240, 256] := by decide +kernel
theorem off87_eq : ∀ a b, ∀ h : Fin 2, k0_off87 a b (BitVec.ofNat 32 h.val) = ![b.val, 2, 18 * a.val + 9 * h.val, 0] := by decide +kernel
theorem off87_0 (a b) : k0_off87 a b 0#32 = ![b.val, 2, 18 * a.val + 9 * 0, 0] := off87_eq a b 0
theorem off87_1 (a b) : k0_off87 a b 1#32 = ![b.val, 2, 18 * a.val + 9 * 1, 0] := off87_eq a b 1
theorem off96_eq : ∀ a b, k0_off96 a b = ![b.val, a.val, 0, 384] := by decide +kernel
theorem off97_eq : ∀ a b, k0_off97 a b = ![b.val, a.val, 16, 384] := by decide +kernel
theorem off98_eq : ∀ a b, k0_off98 a b = ![b.val, a.val, 32, 384] := by decide +kernel
theorem off99_eq : ∀ a b, k0_off99 a b = ![b.val, a.val, 48, 384] := by decide +kernel
theorem off100_eq : ∀ a b, k0_off100 a b = ![b.val, a.val, 64, 384] := by decide +kernel
theorem off101_eq : ∀ a b, k0_off101 a b = ![b.val, a.val, 80, 384] := by decide +kernel
theorem off102_eq : ∀ a b, k0_off102 a b = ![b.val, a.val, 96, 384] := by decide +kernel
theorem off103_eq : ∀ a b, k0_off103 a b = ![b.val, a.val, 112, 384] := by decide +kernel
theorem off105_eq : ∀ a b, k0_off105 a b = ![b.val, a.val, 128, 384] := by decide +kernel
theorem off106_eq : ∀ a b, k0_off106 a b = ![b.val, a.val, 144, 384] := by decide +kernel
theorem off107_eq : ∀ a b, k0_off107 a b = ![b.val, a.val, 160, 384] := by decide +kernel
theorem off108_eq : ∀ a b, k0_off108 a b = ![b.val, a.val, 176, 384] := by decide +kernel
theorem off109_eq : ∀ a b, k0_off109 a b = ![b.val, a.val, 192, 384] := by decide +kernel
theorem off110_eq : ∀ a b, k0_off110 a b = ![b.val, a.val, 208, 384] := by decide +kernel
theorem off111_eq : ∀ a b, k0_off111 a b = ![b.val, a.val, 224, 384] := by decide +kernel
theorem off112_eq : ∀ a b, k0_off112 a b = ![b.val, a.val, 240, 384] := by decide +kernel
theorem off104_eq : ∀ a b, ∀ h : Fin 2, k0_off104 a b (BitVec.ofNat 32 h.val) = ![b.val, 3, 18 * a.val + 9 * h.val, 0] := by decide +kernel
theorem off104_0 (a b) : k0_off104 a b 0#32 = ![b.val, 3, 18 * a.val + 9 * 0, 0] := off104_eq a b 0
theorem off104_1 (a b) : k0_off104 a b 1#32 = ![b.val, 3, 18 * a.val + 9 * 1, 0] := off104_eq a b 1

variable (c : Dev nD) (i : grid0.Coords) (arg2 : Memref sig .tc .vmem S1x512x1024 .bf16) (harg2 : arg2.IsWhole) (arg3 : Memref sig .tc .vmem S1x8x128x128 .f32) (harg3 : arg3.IsWhole) (arg4 : Memref sig .tc .vmem S1x4x8x512 .f32) (harg4 : arg4.IsWhole) (arg5 : Memref sig .tc .vmem S1x512x4x1024 .i8) (harg5 : arg5.IsWhole) (arg6 : Memref sig .tc .vmem S1x4x32x512 .f32) (harg6 : arg6.IsWhole) (arg7 : Memref sig .tc .vmem S4x256x256 .bf16) (harg7 : arg7.IsWhole) (arg8 : Memref sig .tc .vmem S4x1024x128 .bf16) (harg8 : arg8.IsWhole) (arg9 : Memref sig .tc .vmem S4x288x2x128 .bf16) (harg9 : arg9.IsWhole) (arg10 : Memref sig .tc .vmem S4x8x32x2x128 .bf16) (harg10 : arg10.IsWhole) (arg11 : Memref sig .tc .vmem S4x4x256x512 .bf16) (harg11 : arg11.IsWhole) (arg12 : Memref sig .tc .vmem S4x4x2x128x128 .i32) (harg12 : arg12.IsWhole) (arg13 : Memref sig .tc .vmem S4x4x72x128 .f32) (harg13 : arg13.IsWhole)
variable (k0_t5 : Fin k0_t5_loop.trips) (arg14 : BitVec 32) (X7 : BufTy.Contents (Elt Ideal) arg7.view.ty) (X11 : BufTy.Contents (Elt Ideal) arg11.view.ty) (k : Fin k0_t9_loop.trips)
variable (W : ℕ → ℕ → EReal) (HB : ℕ → ℕ → ℕ → EReal)
  (h7 : ∀ y, arg7.view.read (Elt Ideal) X7 y = HB (y 0).val (y 1).val (y 2).val)
  (h11 : ∀ y, (y 1).val = k0_t5.val → arg11.view.read (Elt Ideal) X11 y = errS W (y 0).val (y 3).val (256 * (y 1).val + (y 2).val))

section
include h7

theorem rd7 (r : LoadRect S4x256x256) (x : r.shape.Idx) (p a b : ℕ) (h0 : (r.idx x 0).val = p) (h1 : (r.idx x 1).val = a) (h2 : (r.idx x 2).val = b) :
    View.readAt (Elt Ideal) arg7.view r X7 x = HB p a b := by
  rw [View.readAt_apply, h7, h0, h1, h2]

end

section
include h11

theorem rd11 (r : LoadRect S4x4x256x512) (x : r.shape.Idx) (b a s : ℕ) (h0 : (r.idx x 0).val = b) (h1 : (r.idx x 1).val = k0_t5.val)
    (h2 : (r.idx x 2).val = a) (h3 : (r.idx x 3).val = s) :
    View.readAt (Elt Ideal) arg11.view r X11 x = errS W b s (256 * k0_t5.val + a) := by
  rw [View.readAt_apply, h11 _ h1, h0, h1, h2, h3]

end

section
include h7 h11

theorem v15_eq (z : S256x512.Idx) : trip_k0_t9.sl.v15 arg7 arg11 k0_t5 X7 X11 k z = thS HB W k.val k0_t5.val (z 0).val (z 1).val := by
  pointwise [trip_k0_t9.sl.v15, trip_k0_t9.sl.v10, trip_k0_t9.sl.v14, trip_k0_t9.sl.cst]
  unfold thS
  refine Finset.sum_congr rfl fun x _ => congrArg₂ (· * ·) ?_ ?_
  · refine rd7 arg7 X7 HB h7 _ _ _ _ _ ?_ ?_ ?_ <;> first | rfl | simp [LoadRect.idx, off43_eq]
  · refine rd11 arg11 k0_t5 X11 W h11 _ _ _ _ _ ?_ ?_ ?_ ?_ <;> first | rfl | simp [LoadRect.idx, off44_eq]

theorem pr_at (z1 z2 : S256x512.Idx) (r : LoadRect S4x4x256x512) (x1 x2 : r.shape.Idx) (h v u s : ℕ)
    (a1 : (z1 0).val = 128 * h + 8 * v + u) (a2 : (z1 1).val = s) (a3 : (z2 0).val = 128 * h + 64 + 8 * v + u) (a4 : (z2 1).val = s)
    (b0 : (r.idx x1 0).val = k.val) (b1 : (r.idx x1 1).val = k0_t5.val) (b2 : (r.idx x1 2).val = 128 * h + 16 * v + 2 * u) (b3 : (r.idx x1 3).val = s)
    (c0 : (r.idx x2 0).val = k.val) (c1 : (r.idx x2 1).val = k0_t5.val) (c2 : (r.idx x2 2).val = 128 * h + 16 * v + 2 * u + 1) (c3 : (r.idx x2 3).val = s) :
    trip_k0_t9.sl.v15 arg7 arg11 k0_t5 X7 X11 k z1 * View.readAt (Elt Ideal) arg11.view r X11 x1
      + trip_k0_t9.sl.v15 arg7 arg11 k0_t5 X7 X11 k z2 * View.readAt (Elt Ideal) arg11.view r X11 x2 = prS HB W k.val k0_t5.val h v u s := by
  rw [v15_eq arg7 arg11 k0_t5 X7 X11 k W HB h7 h11, v15_eq arg7 arg11 k0_t5 X7 X11 k W HB h7 h11, rd11 arg11 k0_t5 X11 W h11 r x1 _ _ _ b0 b1 b2 b3,
    rd11 arg11 k0_t5 X11 W h11 r x2 _ _ _ c0 c1 c2 c3, a1, a2, a3, a4]
  rfl

end

theorem key13 (q h : ℕ) (x : S1x1x8x128.Idx) (y : S4x4x72x128.Idx) (hh : h < 2) (h0 : (y 0).val = k.val) (h1 : (y 1).val = q)
    (h2 : (y 2).val = 18 * k0_t5.val + 9 * h + (x 2).val) (h3 : (y 3).val = (x 3).val) :
    sum8 (fun v => prS HB W k.val k0_t5.val h v (x 2).val (128 * q + (x 3).val)) = G13 HB W y := by
  have : (x 2).val < 8 := (x 2).isLt
  unfold G13 accS
  rw [h0, h1, h2, h3, show (18 * k0_t5.val + 9 * h + (x 2).val) / 18 = k0_t5.val by omega, show (18 * k0_t5.val + 9 * h + (x 2).val) / 9 % 2 = h by omega,
    show (18 * k0_t5.val + 9 * h + (x 2).val) % 9 = (x 2).val by omega]

section
include h7 h11

theorem p00_eq (x : S1x1x8x128.Idx) (s : ℕ) (hs : s = 128 * 0 + (x 3).val) :
    trip_k0_t9.sl.v158 arg7 arg11 k0_t5 X7 X11 k x = sum8 (fun v => prS HB W k.val k0_t5.val 0 v (x 2).val s) := by
  pointwise [trip_k0_t9.sl.v158, trip_k0_t9.sl.v150, trip_k0_t9.sl.v149, trip_k0_t9.sl.v148, trip_k0_t9.sl.v144, trip_k0_t9.sl.v138_hi, trip_k0_t9.sl.v137, trip_k0_t9.sl.v147, trip_k0_t9.sl.v146, trip_k0_t9.sl.v141, trip_k0_t9.sl.v138_lo, trip_k0_t9.sl.v145, trip_k0_t9.sl.v133, trip_k0_t9.sl.v132, trip_k0_t9.sl.v131, trip_k0_t9.sl.v127, trip_k0_t9.sl.v121_hi, trip_k0_t9.sl.v120, trip_k0_t9.sl.v130, trip_k0_t9.sl.v129, trip_k0_t9.sl.v124, trip_k0_t9.sl.v121_lo, trip_k0_t9.sl.v128, trip_k0_t9.sl.v116, trip_k0_t9.sl.v115, trip_k0_t9.sl.v114, trip_k0_t9.sl.v110, trip_k0_t9.sl.v104_hi, trip_k0_t9.sl.v103, trip_k0_t9.sl.v113, trip_k0_t9.sl.v112, trip_k0_t9.sl.v107, trip_k0_t9.sl.v104_lo, trip_k0_t9.sl.v111, trip_k0_t9.sl.v99, trip_k0_t9.sl.v98, trip_k0_t9.sl.v97, trip_k0_t9.sl.v93, trip_k0_t9.sl.v87_hi, trip_k0_t9.sl.v86, trip_k0_t9.sl.v96, trip_k0_t9.sl.v95, trip_k0_t9.sl.v90, trip_k0_t9.sl.v87_lo, trip_k0_t9.sl.v94, trip_k0_t9.sl.v82, trip_k0_t9.sl.v81, trip_k0_t9.sl.v80, trip_k0_t9.sl.v76, trip_k0_t9.sl.v70_hi, trip_k0_t9.sl.v69, trip_k0_t9.sl.v79, trip_k0_t9.sl.v78, trip_k0_t9.sl.v73, trip_k0_t9.sl.v70_lo, trip_k0_t9.sl.v77, trip_k0_t9.sl.v65, trip_k0_t9.sl.v64, trip_k0_t9.sl.v63, trip_k0_t9.sl.v59, trip_k0_t9.sl.v53_hi, trip_k0_t9.sl.v52, trip_k0_t9.sl.v62, trip_k0_t9.sl.v61, trip_k0_t9.sl.v56, trip_k0_t9.sl.v53_lo, trip_k0_t9.sl.v60, trip_k0_t9.sl.v48, trip_k0_t9.sl.v47, trip_k0_t9.sl.v46, trip_k0_t9.sl.v42, trip_k0_t9.sl.v36_hi, trip_k0_t9.sl.v35, trip_k0_t9.sl.v45, trip_k0_t9.sl.v44, trip_k0_t9.sl.v39, trip_k0_t9.sl.v36_lo, trip_k0_t9.sl.v43, trip_k0_t9.sl.v31, trip_k0_t9.sl.v30, trip_k0_t9.sl.v26, trip_k0_t9.sl.v20_hi, trip_k0_t9.sl.v19, trip_k0_t9.sl.v29, trip_k0_t9.sl.v28, trip_k0_t9.sl.v23, trip_k0_t9.sl.v20_lo, trip_k0_t9.sl.v27]
  subst hs
  refine sum8_congr _ ?_ ?_ ?_ ?_ ?_ ?_ ?_ ?_
  · refine pr_at arg7 arg11 k0_t5 X7 X11 k W HB h7 h11 _ _ _ _ _ 0 0 (x 2).val (128 * 0 + (x 3).val) ?_ ?_ ?_ ?_ ?_ ?_ ?_ ?_ ?_ ?_ ?_ ?_ <;>
      first | rfl | (simp [LoadRect.idx, off45_eq] <;> first | omega | rfl)
  · refine pr_at arg7 arg11 k0_t5 X7 X11 k W HB h7 h11 _ _ _ _ _ 0 1 (x 2).val (128 * 0 + (x 3).val) ?_ ?_ ?_ ?_ ?_ ?_ ?_ ?_ ?_ ?_ ?_ ?_ <;>
      first | rfl | (simp [LoadRect.idx, off46_eq] <;> first | omega | rfl)
  · refine pr_at arg7 arg11 k0_t5 X7 X11 k W HB h7 h11 _ _ _ _ _ 0 2 (x 2).val (128 * 0 + (x 3).val) ?_ ?_ ?_ ?_ ?_ ?_ ?_ ?_ ?_ ?_ ?_ ?_ <;>
      first | rfl | (simp [LoadRect.idx, off47_eq] <;> first | omega | rfl)
  · refine pr_at arg7 arg11 k0_t5 X7 X11 k W HB h7 h11 _ _ _ _ _ 0 3 (x 2).val (128 * 0 + (x 3).val) ?_ ?_ ?_ ?_ ?_ ?_ ?_ ?_ ?_ ?_ ?_ ?_ <;>
      first | rfl | (simp [LoadRect.idx, off48_eq] <;> first | omega | rfl)
  · refine pr_at arg7 arg11 k0_t5 X7 X11 k W HB h7 h11 _ _ _ _ _ 0 4 (x 2).val (128 * 0 + (x 3).val) ?_ ?_ ?_ ?_ ?_ ?_ ?_ ?_ ?_ ?_ ?_ ?_ <;>
      first | rfl | (simp [LoadRect.idx, off49_eq] <;> first | omega | rfl)
  · refine pr_at arg7 arg11 k0_t5 X7 X11 k W HB h7 h11 _ _ _ _ _ 0 5 (x 2).val (128 * 0 + (x 3).val) ?_ ?_ ?_ ?_ ?_ ?_ ?_ ?_ ?_ ?_ ?_ ?_ <;>
      first | rfl | (simp [LoadRect.idx, off50_eq] <;> first | omega | rfl)
  · refine pr_at arg7 arg11 k0_t5 X7 X11 k W HB h7 h11 _ _ _ _ _ 0 6 (x 2).val (128 * 0 + (x 3).val) ?_ ?_ ?_ ?_ ?_ ?_ ?_ ?_ ?_ ?_ ?_ ?_ <;>
      first | rfl | (simp [LoadRect.idx, off51_eq] <;> first | omega | rfl)
  · refine pr_at arg7 arg11 k0_t5 X7 X11 k W HB h7 h11 _ _ _ _ _ 0 7 (x 2).val (128 * 0 + (x 3).val) ?_ ?_ ?_ ?_ ?_ ?_ ?_ ?_ ?_ ?_ ?_ ?_ <;>
      first | rfl | (simp [LoadRect.idx, off52_eq] <;> first | omega | rfl)

theorem p01_eq (x : S1x1x8x128.Idx) (s : ℕ) (hs : s = 128 * 0 + (x 3).val) :
    trip_k0_t9.sl.v301 arg7 arg11 k0_t5 X7 X11 k x = sum8 (fun v => prS HB W k.val k0_t5.val 1 v (x 2).val s) := by
  pointwise [trip_k0_t9.sl.v301, trip_k0_t9.sl.v293, trip_k0_t9.sl.v292, trip_k0_t9.sl.v291, trip_k0_t9.sl.v287, trip_k0_t9.sl.v281_hi, trip_k0_t9.sl.v280, trip_k0_t9.sl.v290, trip_k0_t9.sl.v289, trip_k0_t9.sl.v284, trip_k0_t9.sl.v281_lo, trip_k0_t9.sl.v288, trip_k0_t9.sl.v276, trip_k0_t9.sl.v275, trip_k0_t9.sl.v274, trip_k0_t9.sl.v270, trip_k0_t9.sl.v264_hi, trip_k0_t9.sl.v263, trip_k0_t9.sl.v273, trip_k0_t9.sl.v272, trip_k0_t9.sl.v267, trip_k0_t9.sl.v264_lo, trip_k0_t9.sl.v271, trip_k0_t9.sl.v259, trip_k0_t9.sl.v258, trip_k0_t9.sl.v257, trip_k0_t9.sl.v253, trip_k0_t9.sl.v247_hi, trip_k0_t9.sl.v246, trip_k0_t9.sl.v256, trip_k0_t9.sl.v255, trip_k0_t9.sl.v250, trip_k0_t9.sl.v247_lo, trip_k0_t9.sl.v254, trip_k0_t9.sl.v242, trip_k0_t9.sl.v241, trip_k0_t9.sl.v240, trip_k0_t9.sl.v236, trip_k0_t9.sl.v230_hi, trip_k0_t9.sl.v229, trip_k0_t9.sl.v239, trip_k0_t9.sl.v238, trip_k0_t9.sl.v233, trip_k0_t9.sl.v230_lo, trip_k0_t9.sl.v237, trip_k0_t9.sl.v225, trip_k0_t9.sl.v224, trip_k0_t9.sl.v223, trip_k0_t9.sl.v219, trip_k0_t9.sl.v213_hi, trip_k0_t9.sl.v212, trip_k0_t9.sl.v222, trip_k0_t9.sl.v221, trip_k0_t9.sl.v216, trip_k0_t9.sl.v213_lo, trip_k0_t9.sl.v220, trip_k0_t9.sl.v208, trip_k0_t9.sl.v207, trip_k0_t9.sl.v206, trip_k0_t9.sl.v202, trip_k0_t9.sl.v196_hi, trip_k0_t9.sl.v195, trip_k0_t9.sl.v205, trip_k0_t9.sl.v204, trip_k0_t9.sl.v199, trip_k0_t9.sl.v196_lo, trip_k0_t9.sl.v203, trip_k0_t9.sl.v191, trip_k0_t9.sl.v190, trip_k0_t9.sl.v189, trip_k0_t9.sl.v185, trip_k0_t9.sl.v179_hi, trip_k0_t9.sl.v178, trip_k0_t9.sl.v188, trip_k0_t9.sl.v187, trip_k0_t9.sl.v182, trip_k0_t9.sl.v179_lo, trip_k0_t9.sl.v186, trip_k0_t9.sl.v174, trip_k0_t9.sl.v173, trip_k0_t9.sl.v169, trip_k0_t9.sl.v163_hi, trip_k0_t9.sl.v162, trip_k0_t9.sl.v172, trip_k0_t9.sl.v171, trip_k0_t9.sl.v166, trip_k0_t9.sl.v163_lo, trip_k0_t9.sl.v170]
  subst hs
  refine sum8_congr _ ?_ ?_ ?_ ?_ ?_ ?_ ?_ ?_
  · refine pr_at arg7 arg11 k0_t5 X7 X11 k W HB h7 h11 _ _ _ _ _ 1 0 (x 2).val (128 * 0 + (x 3).val) ?_ ?_ ?_ ?_ ?_ ?_ ?_ ?_ ?_ ?_ ?_ ?_ <;>
      first | rfl | (simp [LoadRect.idx, off54_eq] <;> first | omega | rfl)
  · refine pr_at arg7 arg11 k0_t5 X7 X11 k W HB h7 h11 _ _ _ _ _ 1 1 (x 2).val (128 * 0 + (x 3).val) ?_ ?_ ?_ ?_ ?_ ?_ ?_ ?_ ?_ ?_ ?_ ?_ <;>
      first | rfl | (simp [LoadRect.idx, off55_eq] <;> first | omega | rfl)
  · refine pr_at arg7 arg11 k0_t5 X7 X11 k W HB h7 h11 _ _ _ _ _ 1 2 (x 2).val (128 * 0 + (x 3).val) ?_ ?_ ?_ ?_ ?_ ?_ ?_ ?_ ?_ ?_ ?_ ?_ <;>
      first | rfl | (simp [LoadRect.idx, off56_eq] <;> first | omega | rfl)
  · refine pr_at arg7 arg11 k0_t5 X7 X11 k W HB h7 h11 _ _ _ _ _ 1 3 (x 2).val (128 * 0 + (x 3).val) ?_ ?_ ?_ ?_ ?_ ?_ ?_ ?_ ?_ ?_ ?_ ?_ <;>
      first | rfl | (simp [LoadRect.idx, off57_eq] <;> first | omega | rfl)
  · refine pr_at arg7 arg11 k0_t5 X7 X11 k W HB h7 h11 _ _ _ _ _ 1 4 (x 2).val (128 * 0 + (x 3).val) ?_ ?_ ?_ ?_ ?_ ?_ ?_ ?_ ?_ ?_ ?_ ?_ <;>
      first | rfl | (simp [LoadRect.idx, off58_eq] <;> first | omega | rfl)
  · refine pr_at arg7 arg11 k0_t5 X7 X11 k W HB h7 h11 _ _ _ _ _ 1 5 (x 2).val (128 * 0 + (x 3).val) ?_ ?_ ?_ ?_ ?_ ?_ ?_ ?_ ?_ ?_ ?_ ?_ <;>
      first | rfl | (simp [LoadRect.idx, off59_eq] <;> first | omega | rfl)
  · refine pr_at arg7 arg11 k0_t5 X7 X11 k W HB h7 h11 _ _ _ _ _ 1 6 (x 2).val (128 * 0 + (x 3).val) ?_ ?_ ?_ ?_ ?_ ?_ ?_ ?_ ?_ ?_ ?_ ?_ <;>
      first | rfl | (simp [LoadRect.idx, off60_eq] <;> first | omega | rfl)
  · refine pr_at arg7 arg11 k0_t5 X7 X11 k W HB h7 h11 _ _ _ _ _ 1 7 (x 2).val (128 * 0 + (x 3).val) ?_ ?_ ?_ ?_ ?_ ?_ ?_ ?_ ?_ ?_ ?_ ?_ <;>
      first | rfl | (simp [LoadRect.idx, off61_eq] <;> first | omega | rfl)

theorem p10_eq (x : S1x1x8x128.Idx) (s : ℕ) (hs : s = 128 * 1 + (x 3).val) :
    trip_k0_t9.sl.v444 arg7 arg11 k0_t5 X7 X11 k x = sum8 (fun v => prS HB W k.val k0_t5.val 0 v (x 2).val s) := by
  pointwise [trip_k0_t9.sl.v444, trip_k0_t9.sl.v436, trip_k0_t9.sl.v435, trip_k0_t9.sl.v434, trip_k0_t9.sl.v430, trip_k0_t9.sl.v424_hi, trip_k0_t9.sl.v423, trip_k0_t9.sl.v433, trip_k0_t9.sl.v432, trip_k0_t9.sl.v427, trip_k0_t9.sl.v424_lo, trip_k0_t9.sl.v431, trip_k0_t9.sl.v419, trip_k0_t9.sl.v418, trip_k0_t9.sl.v417, trip_k0_t9.sl.v413, trip_k0_t9.sl.v407_hi, trip_k0_t9.sl.v406, trip_k0_t9.sl.v416, trip_k0_t9.sl.v415, trip_k0_t9.sl.v410, trip_k0_t9.sl.v407_lo, trip_k0_t9.sl.v414, trip_k0_t9.sl.v402, trip_k0_t9.sl.v401, trip_k0_t9.sl.v400, trip_k0_t9.sl.v396, trip_k0_t9.sl.v390_hi, trip_k0_t9.sl.v389, trip_k0_t9.sl.v399, trip_k0_t9.sl.v398, trip_k0_t9.sl.v393, trip_k0_t9.sl.v390_lo, trip_k0_t9.sl.v397, trip_k0_t9.sl.v385, trip_k0_t9.sl.v384, trip_k0_t9.sl.v383, trip_k0_t9.sl.v379, trip_k0_t9.sl.v373_hi, trip_k0_t9.sl.v372, trip_k0_t9.sl.v382, trip_k0_t9.sl.v381, trip_k0_t9.sl.v376, trip_k0_t9.sl.v373_lo, trip_k0_t9.sl.v380, trip_k0_t9.sl.v368, trip_k0_t9.sl.v367, trip_k0_t9.sl.v366, trip_k0_t9.sl.v362, trip_k0_t9.sl.v356_hi, trip_k0_t9.sl.v355, trip_k0_t9.sl.v365, trip_k0_t9.sl.v364, trip_k0_t9.sl.v359, trip_k0_t9.sl.v356_lo, trip_k0_t9.sl.v363, trip_k0_t9.sl.v351, trip_k0_t9.sl.v350, trip_k0_t9.sl.v349, trip_k0_t9.sl.v345, trip_k0_t9.sl.v339_hi, trip_k0_t9.sl.v338, trip_k0_t9.sl.v348, trip_k0_t9.sl.v347, trip_k0_t9.sl.v342, trip_k0_t9.sl.v339_lo, trip_k0_t9.sl.v346, trip_k0_t9.sl.v334, trip_k0_t9.sl.v333, trip_k0_t9.sl.v332, trip_k0_t9.sl.v328, trip_k0_t9.sl.v322_hi, trip_k0_t9.sl.v321, trip_k0_t9.sl.v331, trip_k0_t9.sl.v330, trip_k0_t9.sl.v325, trip_k0_t9.sl.v322_lo, trip_k0_t9.sl.v329, trip_k0_t9.sl.v317, trip_k0_t9.sl.v316, trip_k0_t9.sl.v312, trip_k0_t9.sl.v306_hi, trip_k0_t9.sl.v305, trip_k0_t9.sl.v315, trip_k0_t9.sl.v314, trip_k0_t9.sl.v309, trip_k0_t9.sl.v306_lo, trip_k0_t9.sl.v313]
  subst hs
  refine sum8_congr _ ?_ ?_ ?_ ?_ ?_ ?_ ?_ ?_
  · refine pr_at arg7 arg11 k0_t5 X7 X11 k W HB h7 h11 _ _ _ _ _ 0 0 (x 2).val (128 * 1 + (x 3).val) ?_ ?_ ?_ ?_ ?_ ?_ ?_ ?_ ?_ ?_ ?_ ?_ <;>
      first | rfl | (simp [LoadRect.idx, off62_eq] <;> first | omega | rfl)
  · refine pr_at arg7 arg11 k0_t5 X7 X11 k W HB h7 h11 _ _ _ _ _ 0 1 (x 2).val (128 * 1 + (x 3).val) ?_ ?_ ?_ ?_ ?_ ?_ ?_ ?_ ?_ ?_ ?_ ?_ <;>
      first | rfl | (simp [LoadRect.idx, off63_eq] <;> first | omega | rfl)
  · refine pr_at arg7 arg11 k0_t5 X7 X11 k W HB h7 h11 _ _ _ _ _ 0 2 (x 2).val (128 * 1 + (x 3).val) ?_ ?_ ?_ ?_ ?_ ?_ ?_ ?_ ?_ ?_ ?_ ?_ <;>
      first | rfl | (simp [LoadRect.idx, off64_eq] <;> first | omega | rfl)
  · refine pr_at arg7 arg11 k0_t5 X7 X11 k W HB h7 h11 _ _ _ _ _ 0 3 (x 2).val (128 * 1 + (x 3).val) ?_ ?_ ?_ ?_ ?_ ?_ ?_ ?_ ?_ ?_ ?_ ?_ <;>
      first | rfl | (simp [LoadRect.idx, off65_eq] <;> first | omega | rfl)
  · refine pr_at arg7 arg11 k0_t5 X7 X11 k W HB h7 h11 _ _ _ _ _ 0 4 (x 2).val (128 * 1 + (x 3).val) ?_ ?_ ?_ ?_ ?_ ?_ ?_ ?_ ?_ ?_ ?_ ?_ <;>
      first | rfl | (simp [LoadRect.idx, off66_eq] <;> first | omega | rfl)
  · refine pr_at arg7 arg11 k0_t5 X7 X11 k W HB h7 h11 _ _ _ _ _ 0 5 (x 2).val (128 * 1 + (x 3).val) ?_ ?_ ?_ ?_ ?_ ?_ ?_ ?_ ?_ ?_ ?_ ?_ <;>
      first | rfl | (simp [LoadRect.idx, off67_eq] <;> first | omega | rfl)
  · refine pr_at arg7 arg11 k0_t5 X7 X11 k W HB h7 h11 _ _ _ _ _ 0 6 (x 2).val (128 * 1 + (x 3).val) ?_ ?_ ?_ ?_ ?_ ?_ ?_ ?_ ?_ ?_ ?_ ?_ <;>
      first | rfl | (simp [LoadRect.idx, off68_eq] <;> first | omega | rfl)
  · refine pr_at arg7 arg11 k0_t5 X7 X11 k W HB h7 h11 _ _ _ _ _ 0 7 (x 2).val (128 * 1 + (x 3).val) ?_ ?_ ?_ ?_ ?_ ?_ ?_ ?_ ?_ ?_ ?_ ?_ <;>
      first | rfl | (simp [LoadRect.idx, off69_eq] <;> first | omega | rfl)

theorem p11_eq (x : S1x1x8x128.Idx) (s : ℕ) (hs : s = 128 * 1 + (x 3).val) :
    trip_k0_t9.sl.v587 arg7 arg11 k0_t5 X7 X11 k x = sum8 (fun v => prS HB W k.val k0_t5.val 1 v (x 2).val s) := by
  pointwise [trip_k0_t9.sl.v587, trip_k0_t9.sl.v579, trip_k0_t9.sl.v578, trip_k0_t9.sl.v577, trip_k0_t9.sl.v573, trip_k0_t9.sl.v567_hi, trip_k0_t9.sl.v566, trip_k0_t9.sl.v576, trip_k0_t9.sl.v575, trip_k0_t9.sl.v570, trip_k0_t9.sl.v567_lo, trip_k0_t9.sl.v574, trip_k0_t9.sl.v562, trip_k0_t9.sl.v561, trip_k0_t9.sl.v560, trip_k0_t9.sl.v556, trip_k0_t9.sl.v550_hi, trip_k0_t9.sl.v549, trip_k0_t9.sl.v559, trip_k0_t9.sl.v558, trip_k0_t9.sl.v553, trip_k0_t9.sl.v550_lo, trip_k0_t9.sl.v557, trip_k0_t9.sl.v545, trip_k0_t9.sl.v544, trip_k0_t9.sl.v543, trip_k0_t9.sl.v539, trip_k0_t9.sl.v533_hi, trip_k0_t9.sl.v532, trip_k0_t9.sl.v542, trip_k0_t9.sl.v541, trip_k0_t9.sl.v536, trip_k0_t9.sl.v533_lo, trip_k0_t9.sl.v540, trip_k0_t9.sl.v528, trip_k0_t9.sl.v527, trip_k0_t9.sl.v526, trip_k0_t9.sl.v522, trip_k0_t9.sl.v516_hi, trip_k0_t9.sl.v515, trip_k0_t9.sl.v525, trip_k0_t9.sl.v524, trip_k0_t9.sl.v519, trip_k0_t9.sl.v516_lo, trip_k0_t9.sl.v523, trip_k0_t9.sl.v511, trip_k0_t9.sl.v510, trip_k0_t9.sl.v509, trip_k0_t9.sl.v505, trip_k0_t9.sl.v499_hi, trip_k0_t9.sl.v498, trip_k0_t9.sl.v508, trip_k0_t9.sl.v507, trip_k0_t9.sl.v502, trip_k0_t9.sl.v499_lo, trip_k0_t9.sl.v506, trip_k0_t9.sl.v494, trip_k0_t9.sl.v493, trip_k0_t9.sl.v492, trip_k0_t9.sl.v488, trip_k0_t9.sl.v482_hi, trip_k0_t9.sl.v481, trip_k0_t9.sl.v491, trip_k0_t9.sl.v490, trip_k0_t9.sl.v485, trip_k0_t9.sl.v482_lo, trip_k0_t9.sl.v489, trip_k0_t9.sl.v477, trip_k0_t9.sl.v476, trip_k0_t9.sl.v475, trip_k0_t9.sl.v471, trip_k0_t9.sl.v465_hi, trip_k0_t9.sl.v464, trip_k0_t9.sl.v474, trip_k0_t9.sl.v473, trip_k0_t9.sl.v468, trip_k0_t9.sl.v465_lo, trip_k0_t9.sl.v472, trip_k0_t9.sl.v460, trip_k0_t9.sl.v459, trip_k0_t9.sl.v455, trip_k0_t9.sl.v449_hi, trip_k0_t9.sl.v448, trip_k0_t9.sl.v458, trip_k0_t9.sl.v457, trip_k0_t9.sl.v452, trip_k0_t9.sl.v449_lo, trip_k0_t9.sl.v456]
  subst hs
  refine sum8_congr _ ?_ ?_ ?_ ?_ ?_ ?_ ?_ ?_
  · refine pr_at arg7 arg11 k0_t5 X7 X11 k W HB h7 h11 _ _ _ _ _ 1 0 (x 2).val (128 * 1 + (x 3).val) ?_ ?_ ?_ ?_ ?_ ?_ ?_ ?_ ?_ ?_ ?_ ?_ <;>
      first | rfl | (simp [LoadRect.idx, off71_eq] <;> first | omega | rfl)
  · refine pr_at arg7 arg11 k0_t5 X7 X11 k W HB h7 h11 _ _ _ _ _ 1 1 (x 2).val (128 * 1 + (x 3).val) ?_ ?_ ?_ ?_ ?_ ?_ ?_ ?_ ?_ ?_ ?_ ?_ <;>
      first | rfl | (simp [LoadRect.idx, off72_eq] <;> first | omega | rfl)
  · refine pr_at arg7 arg11 k0_t5 X7 X11 k W HB h7 h11 _ _ _ _ _ 1 2 (x 2).val (128 * 1 + (x 3).val) ?_ ?_ ?_ ?_ ?_ ?_ ?_ ?_ ?_ ?_ ?_ ?_ <;>
      first | rfl | (simp [LoadRect.idx, off73_eq] <;> first | omega | rfl)
  · refine pr_at arg7 arg11 k0_t5 X7 X11 k W HB h7 h11 _ _ _ _ _ 1 3 (x 2).val (128 * 1 + (x 3).val) ?_ ?_ ?_ ?_ ?_ ?_ ?_ ?_ ?_ ?_ ?_ ?_ <;>
      first | rfl | (simp [LoadRect.idx, off74_eq] <;> first | omega | rfl)
  · refine pr_at arg7 arg11 k0_t5 X7 X11 k W HB h7 h11 _ _ _ _ _ 1 4 (x 2).val (128 * 1 + (x 3).val) ?_ ?_ ?_ ?_ ?_ ?_ ?_ ?_ ?_ ?_ ?_ ?_ <;>
      first | rfl | (simp [LoadRect.idx, off75_eq] <;> first | omega | rfl)
  · refine pr_at arg7 arg11 k0_t5 X7 X11 k W HB h7 h11 _ _ _ _ _ 1 5 (x 2).val (128 * 1 + (x 3).val) ?_ ?_ ?_ ?_ ?_ ?_ ?_ ?_ ?_ ?_ ?_ ?_ <;>
      first | rfl | (simp [LoadRect.idx, off76_eq] <;> first | omega | rfl)
  · refine pr_at arg7 arg11 k0_t5 X7 X11 k W HB h7 h11 _ _ _ _ _ 1 6 (x 2).val (128 * 1 + (x 3).val) ?_ ?_ ?_ ?_ ?_ ?_ ?_ ?_ ?_ ?_ ?_ ?_ <;>
      first | rfl | (simp [LoadRect.idx, off77_eq] <;> first | omega | rfl)
  · refine pr_at arg7 arg11 k0_t5 X7 X11 k W HB h7 h11 _ _ _ _ _ 1 7 (x 2).val (128 * 1 + (x 3).val) ?_ ?_ ?_ ?_ ?_ ?_ ?_ ?_ ?_ ?_ ?_ ?_ <;>
      first | rfl | (simp [LoadRect.idx, off78_eq] <;> first | omega | rfl)

theorem p20_eq (x : S1x1x8x128.Idx) (s : ℕ) (hs : s = 128 * 2 + (x 3).val) :
    trip_k0_t9.sl.v730 arg7 arg11 k0_t5 X7 X11 k x = sum8 (fun v => prS HB W k.val k0_t5.val 0 v (x 2).val s) := by
  pointwise [trip_k0_t9.sl.v730, trip_k0_t9.sl.v722, trip_k0_t9.sl.v721, trip_k0_t9.sl.v720, trip_k0_t9.sl.v716, trip_k0_t9.sl.v710_hi, trip_k0_t9.sl.v709, trip_k0_t9.sl.v719, trip_k0_t9.sl.v718, trip_k0_t9.sl.v713, trip_k0_t9.sl.v710_lo, trip_k0_t9.sl.v717, trip_k0_t9.sl.v705, trip_k0_t9.sl.v704, trip_k0_t9.sl.v703, trip_k0_t9.sl.v699, trip_k0_t9.sl.v693_hi, trip_k0_t9.sl.v692, trip_k0_t9.sl.v702, trip_k0_t9.sl.v701, trip_k0_t9.sl.v696, trip_k0_t9.sl.v693_lo, trip_k0_t9.sl.v700, trip_k0_t9.sl.v688, trip_k0_t9.sl.v687, trip_k0_t9.sl.v686, trip_k0_t9.sl.v682, trip_k0_t9.sl.v676_hi, trip_k0_t9.sl.v675, trip_k0_t9.sl.v685, trip_k0_t9.sl.v684, trip_k0_t9.sl.v679, trip_k0_t9.sl.v676_lo, trip_k0_t9.sl.v683, trip_k0_t9.sl.v671, trip_k0_t9.sl.v670, trip_k0_t9.sl.v669, trip_k0_t9.sl.v665, trip_k0_t9.sl.v659_hi, trip_k0_t9.sl.v658, trip_k0_t9.sl.v668, trip_k0_t9.sl.v667, trip_k0_t9.sl.v662, trip_k0_t9.sl.v659_lo, trip_k0_t9.sl.v666, trip_k0_t9.sl.v654, trip_k0_t9.sl.v653, trip_k0_t9.sl.v652, trip_k0_t9.sl.v648, trip_k0_t9.sl.v642_hi, trip_k0_t9.sl.v641, trip_k0_t9.sl.v651, trip_k0_t9.sl.v650, trip_k0_t9.sl.v645, trip_k0_t9.sl.v642_lo, trip_k0_t9.sl.v649, trip_k0_t9.sl.v637, trip_k0_t9.sl.v636, trip_k0_t9.sl.v635, trip_k0_t9.sl.v631, trip_k0_t9.sl.v625_hi, trip_k0_t9.sl.v624, trip_k0_t9.sl.v634, trip_k0_t9.sl.v633, trip_k0_t9.sl.v628, trip_k0_t9.sl.v625_lo, trip_k0_t9.sl.v632, trip_k0_t9.sl.v620, trip_k0_t9.sl.v619, trip_k0_t9.sl.v618, trip_k0_t9.sl.v614, trip_k0_t9.sl.v608_hi, trip_k0_t9.sl.v607, trip_k0_t9.sl.v617, trip_k0_t9.sl.v616, trip_k0_t9.sl.v611, trip_k0_t9.sl.v608_lo, trip_k0_t9.sl.v615, trip_k0_t9.sl.v603, trip_k0_t9.sl.v602, trip_k0_t9.sl.v598, trip_k0_t9.sl.v592_hi, trip_k0_t9.sl.v591, trip_k0_t9.sl.v601, trip_k0_t9.sl.v600, trip_k0_t9.sl.v595, trip_k0_t9.sl.v592_lo, trip_k0_t9.sl.v599]
  subst hs
  refine sum8_congr _ ?_ ?_ ?_ ?_ ?_ ?_ ?_ ?_
  · refine pr_at arg7 arg11 k0_t5 X7 X11 k W HB h7 h11 _ _ _ _ _ 0 0 (x 2).val (128 * 2 + (x 3).val) ?_ ?_ ?_ ?_ ?_ ?_ ?_ ?_ ?_ ?_ ?_ ?_ <;>
      first | rfl | (simp [LoadRect.idx, off79_eq] <;> first | omega | rfl)
  · refine pr_at arg7 arg11 k0_t5 X7 X11 k W HB h7 h11 _ _ _ _ _ 0 1 (x 2).val (128 * 2 + (x 3).val) ?_ ?_ ?_ ?_ ?_ ?_ ?_ ?_ ?_ ?_ ?_ ?_ <;>
      first | rfl | (simp [LoadRect.idx, off80_eq] <;> first | omega | rfl)
  · refine pr_at arg7 arg11 k0_t5 X7 X11 k W HB h7 h11 _ _ _ _ _ 0 2 (x 2).val (128 * 2 + (x 3).val) ?_ ?_ ?_ ?_ ?_ ?_ ?_ ?_ ?_ ?_ ?_ ?_ <;>
      first | rfl | (simp [LoadRect.idx, off81_eq] <;> first | omega | rfl)
  · refine pr_at arg7 arg11 k0_t5 X7 X11 k W HB h7 h11 _ _ _ _ _ 0 3 (x 2).val (128 * 2 + (x 3).val) ?_ ?_ ?_ ?_ ?_ ?_ ?_ ?_ ?_ ?_ ?_ ?_ <;>
      first | rfl | (simp [LoadRect.idx, off82_eq] <;> first | omega | rfl)
  · refine pr_at arg7 arg11 k0_t5 X7 X11 k W HB h7 h11 _ _ _ _ _ 0 4 (x 2).val (128 * 2 + (x 3).val) ?_ ?_ ?_ ?_ ?_ ?_ ?_ ?_ ?_ ?_ ?_ ?_ <;>
      first | rfl | (simp [LoadRect.idx, off83_eq] <;> first | omega | rfl)
  · refine pr_at arg7 arg11 k0_t5 X7 X11 k W HB h7 h11 _ _ _ _ _ 0 5 (x 2).val (128 * 2 + (x 3).val) ?_ ?_ ?_ ?_ ?_ ?_ ?_ ?_ ?_ ?_ ?_ ?_ <;>
      first | rfl | (simp [LoadRect.idx, off84_eq] <;> first | omega | rfl)
  · refine pr_at arg7 arg11 k0_t5 X7 X11 k W HB h7 h11 _ _ _ _ _ 0 6 (x 2).val (128 * 2 + (x 3).val) ?_ ?_ ?_ ?_ ?_ ?_ ?_ ?_ ?_ ?_ ?_ ?_ <;>
      first | rfl | (simp [LoadRect.idx, off85_eq] <;> first | omega | rfl)
  · refine pr_at arg7 arg11 k0_t5 X7 X11 k W HB h7 h11 _ _ _ _ _ 0 7 (x 2).val (128 * 2 + (x 3).val) ?_ ?_ ?_ ?_ ?_ ?_ ?_ ?_ ?_ ?_ ?_ ?_ <;>
      first | rfl | (simp [LoadRect.idx, off86_eq] <;> first | omega | rfl)

theorem p21_eq (x : S1x1x8x128.Idx) (s : ℕ) (hs : s = 128 * 2 + (x 3).val) :
    trip_k0_t9.sl.v873 arg7 arg11 k0_t5 X7 X11 k x = sum8 (fun v => prS HB W k.val k0_t5.val 1 v (x 2).val s) := by
  pointwise [trip_k0_t9.sl.v873, trip_k0_t9.sl.v865, trip_k0_t9.sl.v864, trip_k0_t9.sl.v863, trip_k0_t9.sl.v859, trip_k0_t9.sl.v853_hi, trip_k0_t9.sl.v852, trip_k0_t9.sl.v862, trip_k0_t9.sl.v861, trip_k0_t9.sl.v856, trip_k0_t9.sl.v853_lo, trip_k0_t9.sl.v860, trip_k0_t9.sl.v848, trip_k0_t9.sl.v847, trip_k0_t9.sl.v846, trip_k0_t9.sl.v842, trip_k0_t9.sl.v836_hi, trip_k0_t9.sl.v835, trip_k0_t9.sl.v845, trip_k0_t9.sl.v844, trip_k0_t9.sl.v839, trip_k0_t9.sl.v836_lo, trip_k0_t9.sl.v843, trip_k0_t9.sl.v831, trip_k0_t9.sl.v830, trip_k0_t9.sl.v829, trip_k0_t9.sl.v825, trip_k0_t9.sl.v819_hi, trip_k0_t9.sl.v818, trip_k0_t9.sl.v828, trip_k0_t9.sl.v827, trip_k0_t9.sl.v822, trip_k0_t9.sl.v819_lo, trip_k0_t9.sl.v826, trip_k0_t9.sl.v814, trip_k0_t9.sl.v813, trip_k0_t9.sl.v812, trip_k0_t9.sl.v808, trip_k0_t9.sl.v802_hi, trip_k0_t9.sl.v801, trip_k0_t9.sl.v811, trip_k0_t9.sl.v810, trip_k0_t9.sl.v805, trip_k0_t9.sl.v802_lo, trip_k0_t9.sl.v809, trip_k0_t9.sl.v797, trip_k0_t9.sl.v796, trip_k0_t9.sl.v795, trip_k0_t9.sl.v791, trip_k0_t9.sl.v785_hi, trip_k0_t9.sl.v784, trip_k0_t9.sl.v794, trip_k0_t9.sl.v793, trip_k0_t9.sl.v788, trip_k0_t9.sl.v785_lo, trip_k0_t9.sl.v792, trip_k0_t9.sl.v780, trip_k0_t9.sl.v779, trip_k0_t9.sl.v778, trip_k0_t9.sl.v774, trip_k0_t9.sl.v768_hi, trip_k0_t9.sl.v767, trip_k0_t9.sl.v777, trip_k0_t9.sl.v776, trip_k0_t9.sl.v771, trip_k0_t9.sl.v768_lo, trip_k0_t9.sl.v775, trip_k0_t9.sl.v763, trip_k0_t9.sl.v762, trip_k0_t9.sl.v761, trip_k0_t9.sl.v757, trip_k0_t9.sl.v751_hi, trip_k0_t9.sl.v750, trip_k0_t9.sl.v760, trip_k0_t9.sl.v759, trip_k0_t9.sl.v754, trip_k0_t9.sl.v751_lo, trip_k0_t9.sl.v758, trip_k0_t9.sl.v746, trip_k0_t9.sl.v745, trip_k0_t9.sl.v741, trip_k0_t9.sl.v735_hi, trip_k0_t9.sl.v734, trip_k0_t9.sl.v744, trip_k0_t9.sl.v743, trip_k0_t9.sl.v738, trip_k0_t9.sl.v735_lo, trip_k0_t9.sl.v742]
  subst hs
  refine sum8_congr _ ?_ ?_ ?_ ?_ ?_ ?_ ?_ ?_
  · refine pr_at arg7 arg11 k0_t5 X7 X11 k W HB h7 h11 _ _ _ _ _ 1 0 (x 2).val (128 * 2 + (x 3).val) ?_ ?_ ?_ ?_ ?_ ?_ ?_ ?_ ?_ ?_ ?_ ?_ <;>
      first | rfl | (simp [LoadRect.idx, off88_eq] <;> first | omega | rfl)
  · refine pr_at arg7 arg11 k0_t5 X7 X11 k W HB h7 h11 _ _ _ _ _ 1 1 (x 2).val (128 * 2 + (x 3).val) ?_ ?_ ?_ ?_ ?_ ?_ ?_ ?_ ?_ ?_ ?_ ?_ <;>
      first | rfl | (simp [LoadRect.idx, off89_eq] <;> first | omega | rfl)
  · refine pr_at arg7 arg11 k0_t5 X7 X11 k W HB h7 h11 _ _ _ _ _ 1 2 (x 2).val (128 * 2 + (x 3).val) ?_ ?_ ?_ ?_ ?_ ?_ ?_ ?_ ?_ ?_ ?_ ?_ <;>
      first | rfl | (simp [LoadRect.idx, off90_eq] <;> first | omega | rfl)
  · refine pr_at arg7 arg11 k0_t5 X7 X11 k W HB h7 h11 _ _ _ _ _ 1 3 (x 2).val (128 * 2 + (x 3).val) ?_ ?_ ?_ ?_ ?_ ?_ ?_ ?_ ?_ ?_ ?_ ?_ <;>
      first | rfl | (simp [LoadRect.idx, off91_eq] <;> first | omega | rfl)
  · refine pr_at arg7 arg11 k0_t5 X7 X11 k W HB h7 h11 _ _ _ _ _ 1 4 (x 2).val (128 * 2 + (x 3).val) ?_ ?_ ?_ ?_ ?_ ?_ ?_ ?_ ?_ ?_ ?_ ?_ <;>
      first | rfl | (simp [LoadRect.idx, off92_eq] <;> first | omega | rfl)
  · refine pr_at arg7 arg11 k0_t5 X7 X11 k W HB h7 h11 _ _ _ _ _ 1 5 (x 2).val (128 * 2 + (x 3).val) ?_ ?_ ?_ ?_ ?_ ?_ ?_ ?_ ?_ ?_ ?_ ?_ <;>
      first | rfl | (simp [LoadRect.idx, off93_eq] <;> first | omega | rfl)
  · refine pr_at arg7 arg11 k0_t5 X7 X11 k W HB h7 h11 _ _ _ _ _ 1 6 (x 2).val (128 * 2 + (x 3).val) ?_ ?_ ?_ ?_ ?_ ?_ ?_ ?_ ?_ ?_ ?_ ?_ <;>
      first | rfl | (simp [LoadRect.idx, off94_eq] <;> first | omega | rfl)
  · refine pr_at arg7 arg11 k0_t5 X7 X11 k W HB h7 h11 _ _ _ _ _ 1 7 (x 2).val (128 * 2 + (x 3).val) ?_ ?_ ?_ ?_ ?_ ?_ ?_ ?_ ?_ ?_ ?_ ?_ <;>
      first | rfl | (simp [LoadRect.idx, off95_eq] <;> first | omega | rfl)

theorem p30_eq (x : S1x1x8x128.Idx) (s : ℕ) (hs : s = 128 * 3 + (x 3).val) :
    trip_k0_t9.sl.v1016 arg7 arg11 k0_t5 X7 X11 k x = sum8 (fun v => prS HB W k.val k0_t5.val 0 v (x 2).val s) := by
  pointwise [trip_k0_t9.sl.v1016, trip_k0_t9.sl.v1008, trip_k0_t9.sl.v1007, trip_k0_t9.sl.v1006, trip_k0_t9.sl.v1002, trip_k0_t9.sl.v996_hi, trip_k0_t9.sl.v995, trip_k0_t9.sl.v1005, trip_k0_t9.sl.v1004, trip_k0_t9.sl.v999, trip_k0_t9.sl.v996_lo, trip_k0_t9.sl.v1003, trip_k0_t9.sl.v991, trip_k0_t9.sl.v990, trip_k0_t9.sl.v989, trip_k0_t9.sl.v985, trip_k0_t9.sl.v979_hi, trip_k0_t9.sl.v978, trip_k0_t9.sl.v988, trip_k0_t9.sl.v987, trip_k0_t9.sl.v982, trip_k0_t9.sl.v979_lo, trip_k0_t9.sl.v986, trip_k0_t9.sl.v974, trip_k0_t9.sl.v973, trip_k0_t9.sl.v972, trip_k0_t9.sl.v968, trip_k0_t9.sl.v962_hi, trip_k0_t9.sl.v961, trip_k0_t9.sl.v971, trip_k0_t9.sl.v970, trip_k0_t9.sl.v965, trip_k0_t9.sl.v962_lo, trip_k0_t9.sl.v969, trip_k0_t9.sl.v957, trip_k0_t9.sl.v956, trip_k0_t9.sl.v955, trip_k0_t9.sl.v951, trip_k0_t9.sl.v945_hi, trip_k0_t9.sl.v944, trip_k0_t9.sl.v954, trip_k0_t9.sl.v953, trip_k0_t9.sl.v948, trip_k0_t9.sl.v945_lo, trip_k0_t9.sl.v952, trip_k0_t9.sl.v940, trip_k0_t9.sl.v939, trip_k0_t9.sl.v938, trip_k0_t9.sl.v934, trip_k0_t9.sl.v928_hi, trip_k0_t9.sl.v927, trip_k0_t9.sl.v937, trip_k0_t9.sl.v936, trip_k0_t9.sl.v931, trip_k0_t9.sl.v928_lo, trip_k0_t9.sl.v935, trip_k0_t9.sl.v923, trip_k0_t9.sl.v922, trip_k0_t9.sl.v921, trip_k0_t9.sl.v917, trip_k0_t9.sl.v911_hi, trip_k0_t9.sl.v910, trip_k0_t9.sl.v920, trip_k0_t9.sl.v919, trip_k0_t9.sl.v914, trip_k0_t9.sl.v911_lo, trip_k0_t9.sl.v918, trip_k0_t9.sl.v906, trip_k0_t9.sl.v905, trip_k0_t9.sl.v904, trip_k0_t9.sl.v900, trip_k0_t9.sl.v894_hi, trip_k0_t9.sl.v893, trip_k0_t9.sl.v903, trip_k0_t9.sl.v902, trip_k0_t9.sl.v897, trip_k0_t9.sl.v894_lo, trip_k0_t9.sl.v901, trip_k0_t9.sl.v889, trip_k0_t9.sl.v888, trip_k0_t9.sl.v884, trip_k0_t9.sl.v878_hi, trip_k0_t9.sl.v877, trip_k0_t9.sl.v887, trip_k0_t9.sl.v886, trip_k0_t9.sl.v881, trip_k0_t9.sl.v878_lo, trip_k0_t9.sl.v885]
  subst hs
  refine sum8_congr _ ?_ ?_ ?_ ?_ ?_ ?_ ?_ ?_
  · refine pr_at arg7 arg11 k0_t5 X7 X11 k W HB h7 h11 _ _ _ _ _ 0 0 (x 2).val (128 * 3 + (x 3).val) ?_ ?_ ?_ ?_ ?_ ?_ ?_ ?_ ?_ ?_ ?_ ?_ <;>
      first | rfl | (simp [LoadRect.idx, off96_eq] <;> first | omega | rfl)
  · refine pr_at arg7 arg11 k0_t5 X7 X11 k W HB h7 h11 _ _ _ _ _ 0 1 (x 2).val (128 * 3 + (x 3).val) ?_ ?_ ?_ ?_ ?_ ?_ ?_ ?_ ?_ ?_ ?_ ?_ <;>
      first | rfl | (simp [LoadRect.idx, off97_eq] <;> first | omega | rfl)
  · refine pr_at arg7 arg11 k0_t5 X7 X11 k W HB h7 h11 _ _ _ _ _ 0 2 (x 2).val (128 * 3 + (x 3).val) ?_ ?_ ?_ ?_ ?_ ?_ ?_ ?_ ?_ ?_ ?_ ?_ <;>
      first | rfl | (simp [LoadRect.idx, off98_eq] <;> first | omega | rfl)
  · refine pr_at arg7 arg11 k0_t5 X7 X11 k W HB h7 h11 _ _ _ _ _ 0 3 (x 2).val (128 * 3 + (x 3).val) ?_ ?_ ?_ ?_ ?_ ?_ ?_ ?_ ?_ ?_ ?_ ?_ <;>
      first | rfl | (simp [LoadRect.idx, off99_eq] <;> first | omega | rfl)
  · refine pr_at arg7 arg11 k0_t5 X7 X11 k W HB h7 h11 _ _ _ _ _ 0 4 (x 2).val (128 * 3 + (x 3).val) ?_ ?_ ?_ ?_ ?_ ?_ ?_ ?_ ?_ ?_ ?_ ?_ <;>
      first | rfl | (simp [LoadRect.idx, off100_eq] <;> first | omega | rfl)
  · refine pr_at arg7 arg11 k0_t5 X7 X11 k W HB h7 h11 _ _ _ _ _ 0 5 (x 2).val (128 * 3 + (x 3).val) ?_ ?_ ?_ ?_ ?_ ?_ ?_ ?_ ?_ ?_ ?_ ?_ <;>
      first | rfl | (simp [LoadRect.idx, off101_eq] <;> first | omega | rfl)
  · refine pr_at arg7 arg11 k0_t5 X7 X11 k W HB h7 h11 _ _ _ _ _ 0 6 (x 2).val (128 * 3 + (x 3).val) ?_ ?_ ?_ ?_ ?_ ?_ ?_ ?_ ?_ ?_ ?_ ?_ <;>
      first | rfl | (simp [LoadRect.idx, off102_eq] <;> first | omega | rfl)
  · refine pr_at arg7 arg11 k0_t5 X7 X11 k W HB h7 h11 _ _ _ _ _ 0 7 (x 2).val (128 * 3 + (x 3).val) ?_ ?_ ?_ ?_ ?_ ?_ ?_ ?_ ?_ ?_ ?_ ?_ <;>
      first | rfl | (simp [LoadRect.idx, off103_eq] <;> first | omega | rfl)

theorem p31_eq (x : S1x1x8x128.Idx) (s : ℕ) (hs : s = 128 * 3 + (x 3).val) :
    k0_pay11 (trip_k0_t9.sl.v15 arg7 arg11 k0_t5 X7 X11 k) (trip_k0_t9.sl.v1134 arg7 arg11 k0_t5 X7 X11 k) (trip_k0_t9.sl.v1145 arg11 k0_t5 X11 k) (trip_k0_t9.sl.v1147 arg7 arg11 k0_t5 X7 X11 k) x = sum8 (fun v => prS HB W k.val k0_t5.val 1 v (x 2).val s) := by
  pointwise [k0_pay11, trip_k0_t9.sl.v1134, trip_k0_t9.sl.v1133, trip_k0_t9.sl.v1132, trip_k0_t9.sl.v1128, trip_k0_t9.sl.v1122_hi, trip_k0_t9.sl.v1121, trip_k0_t9.sl.v1131, trip_k0_t9.sl.v1130, trip_k0_t9.sl.v1125, trip_k0_t9.sl.v1122_lo, trip_k0_t9.sl.v1129, trip_k0_t9.sl.v1117, trip_k0_t9.sl.v1116, trip_k0_t9.sl.v1115, trip_k0_t9.sl.v1111, trip_k0_t9.sl.v1105_hi, trip_k0_t9.sl.v1104, trip_k0_t9.sl.v1114, trip_k0_t9.sl.v1113, trip_k0_t9.sl.v1108, trip_k0_t9.sl.v1105_lo, trip_k0_t9.sl.v1112, trip_k0_t9.sl.v1100, trip_k0_t9.sl.v1099, trip_k0_t9.sl.v1098, trip_k0_t9.sl.v1094, trip_k0_t9.sl.v1088_hi, trip_k0_t9.sl.v1087, trip_k0_t9.sl.v1097, trip_k0_t9.sl.v1096, trip_k0_t9.sl.v1091, trip_k0_t9.sl.v1088_lo, trip_k0_t9.sl.v1095, trip_k0_t9.sl.v1083, trip_k0_t9.sl.v1082, trip_k0_t9.sl.v1081, trip_k0_t9.sl.v1077, trip_k0_t9.sl.v1071_hi, trip_k0_t9.sl.v1070, trip_k0_t9.sl.v1080, trip_k0_t9.sl.v1079, trip_k0_t9.sl.v1074, trip_k0_t9.sl.v1071_lo, trip_k0_t9.sl.v1078, trip_k0_t9.sl.v1066, trip_k0_t9.sl.v1065, trip_k0_t9.sl.v1064, trip_k0_t9.sl.v1060, trip_k0_t9.sl.v1054_hi, trip_k0_t9.sl.v1053, trip_k0_t9.sl.v1063, trip_k0_t9.sl.v1062, trip_k0_t9.sl.v1057, trip_k0_t9.sl.v1054_lo, trip_k0_t9.sl.v1061, trip_k0_t9.sl.v1049, trip_k0_t9.sl.v1048, trip_k0_t9.sl.v1047, trip_k0_t9.sl.v1043, trip_k0_t9.sl.v1037_hi, trip_k0_t9.sl.v1036, trip_k0_t9.sl.v1046, trip_k0_t9.sl.v1045, trip_k0_t9.sl.v1040, trip_k0_t9.sl.v1037_lo, trip_k0_t9.sl.v1044, trip_k0_t9.sl.v1032, trip_k0_t9.sl.v1031, trip_k0_t9.sl.v1027, trip_k0_t9.sl.v1021_hi, trip_k0_t9.sl.v1020, trip_k0_t9.sl.v1030, trip_k0_t9.sl.v1029, trip_k0_t9.sl.v1024, trip_k0_t9.sl.v1021_lo, trip_k0_t9.sl.v1028, trip_k0_t9.sl.v1145, trip_k0_t9.sl.v1139_hi, trip_k0_t9.sl.v1138, trip_k0_t9.sl.v1147, trip_k0_t9.sl.v1142, trip_k0_t9.sl.v1139_lo, trip_k0_t9.sl.v1146]
  subst hs
  refine sum8_congr _ ?_ ?_ ?_ ?_ ?_ ?_ ?_ ?_
  · refine pr_at arg7 arg11 k0_t5 X7 X11 k W HB h7 h11 _ _ _ _ _ 1 0 (x 2).val (128 * 3 + (x 3).val) ?_ ?_ ?_ ?_ ?_ ?_ ?_ ?_ ?_ ?_ ?_ ?_ <;>
      first | rfl | (simp [LoadRect.idx, off105_eq] <;> first | omega | rfl)
  · refine pr_at arg7 arg11 k0_t5 X7 X11 k W HB h7 h11 _ _ _ _ _ 1 1 (x 2).val (128 * 3 + (x 3).val) ?_ ?_ ?_ ?_ ?_ ?_ ?_ ?_ ?_ ?_ ?_ ?_ <;>
      first | rfl | (simp [LoadRect.idx, off106_eq] <;> first | omega | rfl)
  · refine pr_at arg7 arg11 k0_t5 X7 X11 k W HB h7 h11 _ _ _ _ _ 1 2 (x 2).val (128 * 3 + (x 3).val) ?_ ?_ ?_ ?_ ?_ ?_ ?_ ?_ ?_ ?_ ?_ ?_ <;>
      first | rfl | (simp [LoadRect.idx, off107_eq] <;> first | omega | rfl)
  · refine pr_at arg7 arg11 k0_t5 X7 X11 k W HB h7 h11 _ _ _ _ _ 1 3 (x 2).val (128 * 3 + (x 3).val) ?_ ?_ ?_ ?_ ?_ ?_ ?_ ?_ ?_ ?_ ?_ ?_ <;>
      first | rfl | (simp [LoadRect.idx, off108_eq] <;> first | omega | rfl)
  · refine pr_at arg7 arg11 k0_t5 X7 X11 k W HB h7 h11 _ _ _ _ _ 1 4 (x 2).val (128 * 3 + (x 3).val) ?_ ?_ ?_ ?_ ?_ ?_ ?_ ?_ ?_ ?_ ?_ ?_ <;>
      first | rfl | (simp [LoadRect.idx, off109_eq] <;> first | omega | rfl)
  · refine pr_at arg7 arg11 k0_t5 X7 X11 k W HB h7 h11 _ _ _ _ _ 1 5 (x 2).val (128 * 3 + (x 3).val) ?_ ?_ ?_ ?_ ?_ ?_ ?_ ?_ ?_ ?_ ?_ ?_ <;>
      first | rfl | (simp [LoadRect.idx, off110_eq] <;> first | omega | rfl)
  · refine pr_at arg7 arg11 k0_t5 X7 X11 k W HB h7 h11 _ _ _ _ _ 1 6 (x 2).val (128 * 3 + (x 3).val) ?_ ?_ ?_ ?_ ?_ ?_ ?_ ?_ ?_ ?_ ?_ ?_ <;>
      first | rfl | (simp [LoadRect.idx, off111_eq] <;> first | omega | rfl)
  · refine pr_at arg7 arg11 k0_t5 X7 X11 k W HB h7 h11 _ _ _ _ _ 1 7 (x 2).val (128 * 3 + (x 3).val) ?_ ?_ ?_ ?_ ?_ ?_ ?_ ?_ ?_ ?_ ?_ ?_ <;>
      first | rfl | (simp [LoadRect.idx, off112_eq] <;> first | omega | rfl)

theorem t9_one : ∀ p ∈ tripL_k0_t9 (F := Ideal) Variants.none c none i arg2 harg2 arg3 harg3 arg4 harg4 arg5 harg5 arg6 harg6 arg7 harg7 arg8 harg8 arg9 harg9 arg10 harg10 arg11 harg11 arg12 harg12 arg13 harg13 k0_t5 arg14 X7 X11 k, ∀ x, p.2 x = G13 HB W (p.1.emb x) := by
  unfold tripL_k0_t9 trip_k0_t9
  dsimp only
  simp only [List.forall_mem_cons, List.not_mem_nil, IsEmpty.forall_iff, implies_true, and_true]
  refine ⟨?_, ?_, ?_, ?_, ?_, ?_, ?_, ?_⟩ <;> intro x <;> have hx0 : (x 0).val < 1 := (x 0).isLt <;> have hx1 : (x 1).val < 1 := (x 1).isLt
  · refine (p31_eq arg7 arg11 k0_t5 X7 X11 k W HB h7 h11 x _ rfl).trans (key13 k0_t5 k W HB 3 1 x _ ?_ ?_ ?_ ?_ ?_) <;> (try rw [unit_emb_val]) <;>
      first | rfl | omega | (simp [off104_1] <;> first | omega | rfl)
  · refine (p30_eq arg7 arg11 k0_t5 X7 X11 k W HB h7 h11 x _ rfl).trans (key13 k0_t5 k W HB 3 0 x _ ?_ ?_ ?_ ?_ ?_) <;> (try rw [unit_emb_val]) <;>
      first | rfl | omega | (simp [off104_0] <;> first | omega | rfl)
  · refine (p21_eq arg7 arg11 k0_t5 X7 X11 k W HB h7 h11 x _ rfl).trans (key13 k0_t5 k W HB 2 1 x _ ?_ ?_ ?_ ?_ ?_) <;> (try rw [unit_emb_val]) <;>
      first | rfl | omega | (simp [off87_1] <;> first | omega | rfl)
  · refine (p20_eq arg7 arg11 k0_t5 X7 X11 k W HB h7 h11 x _ rfl).trans (key13 k0_t5 k W HB 2 0 x _ ?_ ?_ ?_ ?_ ?_) <;> (try rw [unit_emb_val]) <;>
      first | rfl | omega | (simp [off87_0] <;> first | omega | rfl)
  · refine (p11_eq arg7 arg11 k0_t5 X7 X11 k W HB h7 h11 x _ rfl).trans (key13 k0_t5 k W HB 1 1 x _ ?_ ?_ ?_ ?_ ?_) <;> (try rw [unit_emb_val]) <;>
      first | rfl | omega | (simp [off70_1] <;> first | omega | rfl)
  · refine (p10_eq arg7 arg11 k0_t5 X7 X11 k W HB h7 h11 x _ rfl).trans (key13 k0_t5 k W HB 1 0 x _ ?_ ?_ ?_ ?_ ?_) <;> (try rw [unit_emb_val]) <;>
      first | rfl | omega | (simp [off70_0] <;> first | omega | rfl)
  · refine (p01_eq arg7 arg11 k0_t5 X7 X11 k W HB h7 h11 x _ rfl).trans (key13 k0_t5 k W HB 0 1 x _ ?_ ?_ ?_ ?_ ?_) <;> (try rw [unit_emb_val]) <;>
      first | rfl | omega | (simp [off53_1] <;> first | omega | rfl)
  · refine (p00_eq arg7 arg11 k0_t5 X7 X11 k W HB h7 h11 x _ rfl).trans (key13 k0_t5 k W HB 0 0 x _ ?_ ?_ ?_ ?_ ?_) <;> (try rw [unit_emb_val]) <;>
      first | rfl | omega | (simp [off53_0] <;> first | omega | rfl)

end
end Cert.KernelIdeal.Val
-- ==== Proof.Maths.Round.lean ====
/- Rounding to nearest, ties to even, over the real numbers; the constants of the four widths. -/
module

public import proofs.«01_k».proof.Proof.KernelIdeal.Val.PayT9

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Rounding to even stays within half of its argument from below. -/
theorem rhe_floor (r : ℝ) : Ideal.roundHalfEven r = ⌊r⌋ ∨ Ideal.roundHalfEven r = ⌊r⌋ + 1 := by
  unfold Ideal.roundHalfEven
  dsimp only
  split_ifs <;> simp

/-- Rounding fixes the integers. -/
theorem rhe_int (n : ℤ) : Ideal.roundHalfEven (n : ℝ) = n := by
  unfold Ideal.roundHalfEven
  simp

/-- An even shift passes through rounding to even. -/
theorem rhe_add_even (r : ℝ) (M : ℤ) (h : Even M) : Ideal.roundHalfEven (r + M) = Ideal.roundHalfEven r + M := by
  unfold Ideal.roundHalfEven
  have e : r + (M : ℝ) - ((⌊r⌋ + M : ℤ) : ℝ) = r - ⌊r⌋ := by push_cast; ring
  simp only [Int.floor_add_intCast, e, Int.even_add, h, iff_true]
  split_ifs <;> ring

/-- Rounding to even is monotone. -/
theorem rhe_mono {r s : ℝ} (h : r ≤ s) : Ideal.roundHalfEven r ≤ Ideal.roundHalfEven s := by
  have hf : ⌊r⌋ ≤ ⌊s⌋ := Int.floor_le_floor h
  rcases hf.lt_or_eq with hlt | heq
  · rcases rhe_floor r with hr | hr <;> rcases rhe_floor s with hs | hs <;> omega
  · unfold Ideal.roundHalfEven
    rw [← heq]
    dsimp only
    split_ifs <;> first | omega | (exfalso; linarith)

/-- Clipping to integer limits and rounding change places. -/
theorem rhe_clip (z : ℝ) (q : ℤ) (hq : 0 ≤ q) :
    Ideal.roundHalfEven (min (max z (-(q : ℝ))) q) = min q (max (-q) (Ideal.roundHalfEven z)) := by
  have hm : Monotone Ideal.roundHalfEven := fun _ _ h => rhe_mono h
  have e : (-(q : ℝ)) = ((-q : ℤ) : ℝ) := by push_cast; rfl
  rw [hm.map_min, hm.map_max, e, rhe_int, rhe_int, min_comm, max_comm]

/-- The width's step, over the greatest power of two not above the maximum. -/
def uR : ℕ → ℝ
  | 0 => 1
  | 1 => 1 / 2
  | 2 => 1 / 4
  | _ => 1 / 64

/-- The width's greatest code. -/
def qZ : ℕ → ℤ
  | 0 => 1
  | 1 => 3
  | 2 => 7
  | _ => 127

/-- The rounding offset, in steps. -/
def mZ : ℕ → ℤ
  | 3 => 128
  | _ => 192

theorem uR_pos (b : ℕ) : 0 < uR b := by unfold uR; split <;> norm_num
theorem qZ_nonneg (b : ℕ) : 0 ≤ qZ b := by unfold qZ; split <;> norm_num
theorem qZ_le (b : ℕ) : qZ b ≤ 127 := by unfold qZ; split <;> norm_num
theorem mZ_even (b : ℕ) : Even (mZ b) := by unfold mZ; split <;> decide

theorem bf_half : Ideal.ofBits .bf16 0x3F00#16 = (((1 : ℝ) / 2 : ℝ) : EReal) := by
  simp [Ideal.ofBits, Ideal.ieee, -EReal.coe_mul]; norm_num
theorem bf_quarter : Ideal.ofBits .bf16 0x3E80#16 = (((1 : ℝ) / 4 : ℝ) : EReal) := by
  simp [Ideal.ofBits, Ideal.ieee, -EReal.coe_mul]; norm_num
theorem bf_64th : Ideal.ofBits .bf16 0x3C80#16 = (((1 : ℝ) / 64 : ℝ) : EReal) := by
  simp [Ideal.ofBits, Ideal.ieee, -EReal.coe_mul]; norm_num
theorem f_half : Ideal.ofBits .f32 0x3F000000#32 = (((1 : ℝ) / 2 : ℝ) : EReal) := by
  simp [Ideal.ofBits, Ideal.ieee, -EReal.coe_mul]; norm_num
theorem f_quarter : Ideal.ofBits .f32 0x3E800000#32 = (((1 : ℝ) / 4 : ℝ) : EReal) := by
  simp [Ideal.ofBits, Ideal.ieee, -EReal.coe_mul]; norm_num
theorem f_64th : Ideal.ofBits .f32 0x3C800000#32 = (((1 : ℝ) / 64 : ℝ) : EReal) := by
  simp [Ideal.ofBits, Ideal.ieee, -EReal.coe_mul]; norm_num
theorem bf_3_2 : Ideal.ofBits .bf16 0x3FC0#16 = (((3 : ℝ) / 2 : ℝ) : EReal) := by
  simp [Ideal.ofBits, Ideal.ieee, -EReal.coe_mul]; norm_num
theorem bf_7_4 : Ideal.ofBits .bf16 0x3FE0#16 = (((7 : ℝ) / 4 : ℝ) : EReal) := by
  simp [Ideal.ofBits, Ideal.ieee, -EReal.coe_mul]; norm_num
theorem bf_127_64 : Ideal.ofBits .bf16 0x3FFE#16 = (((127 : ℝ) / 64 : ℝ) : EReal) := by
  simp [Ideal.ofBits, Ideal.ieee, -EReal.coe_mul]; norm_num
theorem bf_192 : Ideal.ofBits .bf16 0x4340#16 = ((192 : ℝ) : EReal) := by
  simp [Ideal.ofBits, Ideal.ieee, -EReal.coe_mul]
theorem bf_96 : Ideal.ofBits .bf16 0x42C0#16 = ((96 : ℝ) : EReal) := by
  simp [Ideal.ofBits, Ideal.ieee, -EReal.coe_mul]; norm_num
theorem bf_48 : Ideal.ofBits .bf16 0x4240#16 = ((48 : ℝ) : EReal) := by
  simp [Ideal.ofBits, Ideal.ieee, -EReal.coe_mul]; norm_num
theorem bf_2 : Ideal.ofBits .bf16 0x4000#16 = ((2 : ℝ) : EReal) := by
  simp [Ideal.ofBits, Ideal.ieee, -EReal.coe_mul]; norm_num

/-- The step of a width, from the power of two. -/
theorem unitS_coe (b : ℕ) (hb : b < 4) (p : ℝ) : unitS b (p : EReal) = ((uR b * p : ℝ) : EReal) := by
  have h1 : (1 : EReal) = ((1 : ℝ) : EReal) := rfl
  interval_cases b <;>
    simp only [unitS, uR, kindC, bf_half, bf_quarter, bf_64th, h1, ← EReal.coe_mul] <;> congr 1 <;> ring

/-- The limit of a width: its greatest code in steps. -/
theorem limit_coe (b : ℕ) (hb : b < 4) (p : ℝ) : (p : EReal) * kindC b = (((qZ b : ℝ) * (uR b * p) : ℝ) : EReal) := by
  have h1 : (1 : EReal) = ((1 : ℝ) : EReal) := rfl
  interval_cases b <;>
    simp only [uR, qZ, kindC, bf_3_2, bf_7_4, bf_127_64, h1, ← EReal.coe_mul] <;> congr 1 <;> push_cast <;> ring

/-- The rounding offset of a width, in steps. -/
theorem offset_coe (b : ℕ) (hb : b < 4) (p : ℝ) : (p : EReal) * kindC (4 + b) = (((mZ b : ℝ) * (uR b * p) : ℝ) : EReal) := by
  interval_cases b <;>
    simp only [uR, mZ, kindC, bf_192, bf_96, bf_48, bf_2, ← EReal.coe_mul, Nat.reduceAdd] <;> congr 1 <;> push_cast <;> ring

/-- The scale's factor of a width. -/
theorem scC_coe (b : ℕ) (hb : b < 4) (h0 : b ≠ 0) : scC b = ((uR b : ℝ) : EReal) := by
  interval_cases b
  · exact absurd rfl h0
  · exact f_half
  · exact f_quarter
  · exact f_64th

end Cert.KernelIdeal.Val
-- ==== Proof.Maths.Quant.lean ====
/- The kernel’s quantiser at real numbers. -/
module

public import proofs.«01_k».proof.Proof.Maths.Round

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem coe_max' (a b : ℝ) : max (a : EReal) (b : EReal) = ((max a b : ℝ) : EReal) := (EReal.coe_strictMono.monotone.map_max).symm
theorem coe_min' (a b : ℝ) : min (a : EReal) (b : EReal) = ((min a b : ℝ) : EReal) := (EReal.coe_strictMono.monotone.map_min).symm

/-- A quotient of reals by a real that is not zero. -/
theorem div_coe (v u : ℝ) (hu : u ≠ 0) : Ideal.div (v : EReal) (u : EReal) = ((v / u : ℝ) : EReal) := by
  rw [Ideal.div, if_neg (by exact_mod_cast hu), ← EReal.coe_inv, ← EReal.coe_mul, div_eq_mul_inv]

theorem stepsS_coe (v u : ℝ) (hu : 0 < u) : stepsS (v : EReal) (u : EReal) = ((v / u : ℝ) : EReal) := by
  rw [stepsS, if_pos (by exact_mod_cast hu), div_coe v u hu.ne']

/-- The code of a real, in whole steps. -/
def codeZ (b : ℕ) (z : ℝ) : ℤ := min (qZ b) (max (-qZ b) (Ideal.roundHalfEven z))

theorem codeZ_bounds (b : ℕ) (z : ℝ) : -127 ≤ codeZ b z ∧ codeZ b z ≤ 127 := by
  have h1 := qZ_le b
  have h2 := qZ_nonneg b
  unfold codeZ
  omega

/-- The rounding offset with its sign. -/
theorem magS_coe (b : ℕ) (hb : b < 4) (x p : ℝ) :
    ∃ M : ℤ, Even M ∧ magS b (x : EReal) ((p : EReal) * kindC (4 + b)) = (((M : ℝ) * (uR b * p) : ℝ) : EReal) := by
  rw [offset_coe b hb p]
  unfold magS
  split_ifs
  · refine ⟨-mZ b, (mZ_even b).neg, ?_⟩
    rw [show (0 : EReal) = ((0 : ℝ) : EReal) from rfl, ← EReal.coe_sub]
    congr 1
    push_cast
    ring
  · exact ⟨mZ b, mZ_even b, rfl⟩
  · exact ⟨mZ b, mZ_even b, rfl⟩

/-- The rounded value less its offset is the code in steps. -/
theorem y_sub_mag (b : ℕ) (hb : b < 4) (x p : ℝ) (hp : 0 < p) :
    yS b (x : EReal) (p : EReal) - magS b (x : EReal) ((p : EReal) * kindC (4 + b))
      = (((codeZ b (x / (uR b * p)) : ℝ) * (uR b * p) : ℝ) : EReal) := by
  obtain ⟨M, hM, eM⟩ := magS_coe b hb x p
  have hU : 0 < uR b * p := mul_pos (uR_pos b) hp
  have hclip : (min (max x (0 - (qZ b : ℝ) * (uR b * p))) ((qZ b : ℝ) * (uR b * p)) + (M : ℝ) * (uR b * p)) / (uR b * p)
      = min (max (x / (uR b * p)) (-(qZ b : ℝ))) (qZ b : ℝ) + (M : ℝ) := by
    rw [add_div, mul_div_assoc, div_self hU.ne', mul_one]
    congr 1
    rw [← min_div_div_right hU.le, ← max_div_div_right hU.le, zero_sub, neg_div, mul_div_assoc, div_self hU.ne', mul_one]
  unfold yS
  rw [eM, limit_coe b hb p, unitS_coe b hb p, show (0 : EReal) = ((0 : ℝ) : EReal) from rfl, ← EReal.coe_sub, coe_max', coe_min',
    ← EReal.coe_add, stepsS_coe _ _ hU, hclip, Ideal.liftRound_coe, rhe_add_even _ _ hM, rhe_clip _ _ (qZ_nonneg b), ← EReal.coe_mul,
    ← EReal.coe_sub]
  congr 1
  unfold codeZ
  push_cast
  ring

/-- The error of a real. -/
theorem eS_coe (b : ℕ) (hb : b < 4) (x p : ℝ) (hp : 0 < p) :
    eS b (x : EReal) (p : EReal) = ((x - (codeZ b (x / (uR b * p)) : ℝ) * (uR b * p) : ℝ) : EReal) := by
  rw [eS, y_sub_mag b hb x p hp, ← EReal.coe_sub]

/-- A whole number within the clamp converts to itself. -/
theorem fptosi_int (z : ℤ) (h : -127 ≤ z ∧ z ≤ 127) : Ideal.fptosi 32 (((z : ℝ)) : EReal) = BitVec.ofInt 32 z := by
  show BitVec.ofInt 32 (max (-((2 ^ (32 - 1) : ℕ) : ℤ)) (min (((2 ^ (32 - 1) : ℕ) : ℤ) - 1) (if (0 : ℝ) ≤ (z : ℝ) then ⌊(z : ℝ)⌋ else ⌈(z : ℝ)⌉))) = _
  have e : (if (0 : ℝ) ≤ (z : ℝ) then ⌊(z : ℝ)⌋ else ⌈(z : ℝ)⌉) = z := by
    rw [Int.floor_intCast, Int.ceil_intCast, ite_self]
  rw [e]
  congr 1
  norm_num
  omega

/-- The 16-bit code of a real. -/
theorem dS_coe (b : ℕ) (hb : b < 4) (x p : ℝ) (hp : 0 < p) :
    dS b (x : EReal) (p : EReal) = BitVec.setWidth 16 (BitVec.ofInt 32 (codeZ b (x / (uR b * p)))) := by
  have hU : 0 < uR b * p := mul_pos (uR_pos b) hp
  rw [dS, y_sub_mag b hb x p hp, unitS_coe b hb p, stepsS_coe _ _ hU, mul_div_assoc, div_self hU.ne', mul_one]
  exact congrArg _ (fptosi_int _ (codeZ_bounds b _))

/-- In a sub-group of zeros there is no step. -/
theorem y_sub_mag_zero (b : ℕ) (hb : b < 4) : yS b 0 0 - magS b 0 (0 * kindC (4 + b)) = 0 := by
  have hm : magS b 0 (0 * kindC (4 + b)) = 0 := by
    unfold magS
    simp
  have hu : unitS b 0 = 0 := by
    have := unitS_coe b hb 0
    simpa using this
  unfold yS
  rw [hm, hu]
  simp

theorem eS_zero (b : ℕ) (hb : b < 4) : eS b 0 0 = 0 := by
  rw [eS, y_sub_mag_zero b hb]; simp

theorem dS_zero (b : ℕ) (hb : b < 4) : dS b 0 0 = 0#16 := by
  have hu : unitS b 0 = 0 := by
    have := unitS_coe b hb 0
    simpa using this
  rw [dS, y_sub_mag_zero b hb, hu]
  have : stepsS 0 0 = ((0 : ℤ) : ℝ) := by simp [stepsS]
  rw [this]
  have := fptosi_int 0 (by omega)
  exact (congrArg (BitVec.setWidth 16) this).trans (by decide)

/-- The exponent of a positive real. -/
def nZ (a : ℝ) : ℤ := ⌊Real.log a / Real.log 2⌋

theorem log2_pos : 0 < Real.log 2 := Real.log_pos (by norm_num)

theorem ln2S_eq : ln2S = ((Real.log 2 : ℝ) : EReal) := rfl

/-- The power of two of a positive maximum. -/
def pR (a : ℝ) : ℝ := Real.exp ((nZ a : ℝ) * Real.log 2)

theorem pR_pos (a : ℝ) : 0 < pR a := Real.exp_pos _

theorem log_coe (a : ℝ) (ha : 0 < a) : Ideal.log (a : EReal) = ((Real.log a : ℝ) : EReal) := by
  show (if a ≤ 0 then ⊥ else ((Real.log a : ℝ) : EReal)) = _
  rw [if_neg (not_le.mpr ha)]

theorem pwS_coe (a : ℝ) (ha : 0 < a) : pwS (a : EReal) = ((pR a : ℝ) : EReal) := by
  rw [pwS, if_neg (by exact_mod_cast ha.ne'), log_coe a ha, ln2S_eq, div_coe _ _ log2_pos.ne', Ideal.liftRound_coe]
  show ((Real.rpow 2 _ : ℝ) : EReal) = _
  congr 1
  show (2 : ℝ) ^ ((⌊Real.log a / Real.log 2⌋ : ℤ) : ℝ) = _
  rw [Real.rpow_def_of_pos (by norm_num), pR, nZ, mul_comm]

theorem pwS_zero : pwS 0 = 0 := by rw [pwS, if_pos rfl]

/-- The scale of a positive maximum is the width's step. -/
theorem scaleS_coe (b : ℕ) (hb : b < 4) (a : ℝ) (ha : 0 < a) : scaleS b (a : EReal) = ((uR b * pR a : ℝ) : EReal) := by
  have h0 : (a : EReal) ≠ 0 := by exact_mod_cast ha.ne'
  unfold scaleS p2S
  rw [if_neg h0, if_neg h0, pwS_coe a ha]
  split_ifs with h
  · subst h; simp [uR]
  · rw [scC_coe b hb h, ← EReal.coe_mul, mul_comm]

theorem scaleS_zero (b : ℕ) : scaleS b 0 = 1 := by
  simp [scaleS, p2S]

end Cert.KernelIdeal.Val
-- ==== Proof.KernelIdeal.Val.PayT1.lean ====
/- The Hessian’s rearranged diagonal blocks and the scores: what one trip of their loops writes. -/
module

public import proofs.«01_k».proof.Proof.KernelIdeal.Val.PayT9

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The row of the Hessian's block that stands at row `r`: the even rows first, then the odd ones. -/
def rowS (r : ℕ) : ℕ := if r < 64 then 2 * r else 2 * (r - 64) + 1

/-- A pair of groups' blocks on the diagonal, their rows rearranged; zero off it. -/
def HBS (H : ℕ → ℕ → ℕ → EReal) (p r x : ℕ) : EReal :=
  if r / 128 = x / 128 then H (2 * p + r / 128) (rowS (r % 128)) (x % 128) else 0

/-- The rearranged blocks of a batch. -/
def G7 (H : ℕ → ℕ → ℕ → EReal) (y : S4x256x256.Idx) : EReal := HBS H (y 0).val (y 1).val (y 2).val

/-- A score: the eight partial sums of its group. -/
def scoreS (HB : ℕ → ℕ → ℕ → EReal) (W : ℕ → ℕ → EReal) (b g s : ℕ) : EReal := sum8 fun u => accS HB W b (g / 2) (g % 2) u s

/-- The scores of a grid step. -/
def G4 (HB : ℕ → ℕ → ℕ → EReal) (W : ℕ → ℕ → EReal) (y : S1x4x8x512.Idx) : EReal := scoreS HB W (y 1).val (y 2).val (y 3).val

theorem off1_eq : ∀ a, ∀ h : Fin 2, k0_off1 a (BitVec.ofNat 32 h.val) = ![0, 2 * a.val + h.val, 0, 0] := by decide +kernel
theorem off1_0 (a) : k0_off1 a 0#32 = ![0, 2 * a.val + 0, 0, 0] := off1_eq a 0
theorem off1_1 (a) : k0_off1 a 1#32 = ![0, 2 * a.val + 1, 0, 0] := off1_eq a 1
theorem off2_eq : ∀ a, ∀ h : Fin 2, k0_off2 a (BitVec.ofNat 32 h.val) = ![0, 2 * a.val + h.val, 1, 0] := by decide +kernel
theorem off2_0 (a) : k0_off2 a 0#32 = ![0, 2 * a.val + 0, 1, 0] := off2_eq a 0
theorem off2_1 (a) : k0_off2 a 1#32 = ![0, 2 * a.val + 1, 1, 0] := off2_eq a 1
theorem off3_eq : ∀ a, k0_off3 a = ![a.val, 0, 0] := by decide +kernel
theorem off4_eq : ∀ a, k0_off4 a = ![a.val, 64, 0] := by decide +kernel
theorem off5_eq : ∀ a, k0_off5 a = ![a.val, 0, 128] := by decide +kernel
theorem off6_eq : ∀ a, k0_off6 a = ![a.val, 128, 128] := by decide +kernel
theorem off7_eq : ∀ a, k0_off7 a = ![a.val, 192, 128] := by decide +kernel
theorem off8_eq : ∀ a, k0_off8 a = ![a.val, 128, 0] := by decide +kernel
theorem off113_eq : ∀ a b, k0_off113 a b = ![a.val, b.val, 0, 0] := by decide +kernel
theorem off114_eq : ∀ a b, k0_off114 a b = ![a.val, b.val, 1, 0] := by decide +kernel
theorem off115_eq : ∀ a b, k0_off115 a b = ![a.val, b.val, 2, 0] := by decide +kernel
theorem off116_eq : ∀ a b, k0_off116 a b = ![a.val, b.val, 3, 0] := by decide +kernel
theorem off117_eq : ∀ a b, k0_off117 a b = ![a.val, b.val, 4, 0] := by decide +kernel
theorem off118_eq : ∀ a b, k0_off118 a b = ![a.val, b.val, 5, 0] := by decide +kernel
theorem off119_eq : ∀ a b, k0_off119 a b = ![a.val, b.val, 6, 0] := by decide +kernel
theorem off120_eq : ∀ a b, k0_off120 a b = ![a.val, b.val, 7, 0] := by decide +kernel
theorem off121_eq : ∀ a b, k0_off121 a b = ![0, a.val, 0, 128 * b.val] := by decide +kernel

variable (c : Dev nD) (i : grid0.Coords) (arg2 : Memref sig .tc .vmem S1x512x1024 .bf16) (harg2 : arg2.IsWhole) (arg3 : Memref sig .tc .vmem S1x8x128x128 .f32) (harg3 : arg3.IsWhole) (arg4 : Memref sig .tc .vmem S1x4x8x512 .f32) (harg4 : arg4.IsWhole) (arg5 : Memref sig .tc .vmem S1x512x4x1024 .i8) (harg5 : arg5.IsWhole) (arg6 : Memref sig .tc .vmem S1x4x32x512 .f32) (harg6 : arg6.IsWhole) (arg7 : Memref sig .tc .vmem S4x256x256 .bf16) (harg7 : arg7.IsWhole) (arg8 : Memref sig .tc .vmem S4x1024x128 .bf16) (harg8 : arg8.IsWhole) (arg9 : Memref sig .tc .vmem S4x288x2x128 .bf16) (harg9 : arg9.IsWhole) (arg10 : Memref sig .tc .vmem S4x8x32x2x128 .bf16) (harg10 : arg10.IsWhole) (arg11 : Memref sig .tc .vmem S4x4x256x512 .bf16) (harg11 : arg11.IsWhole) (arg12 : Memref sig .tc .vmem S4x4x2x128x128 .i32) (harg12 : arg12.IsWhole) (arg13 : Memref sig .tc .vmem S4x4x72x128 .f32) (harg13 : arg13.IsWhole)

section
variable (k0_t10 : Fin k0_t10_loop.trips) (arg14 : BitVec 32) (X13 : BufTy.Contents (Elt Ideal) arg13.view.ty) (k : Fin k0_t11_loop.trips)
variable (W : ℕ → ℕ → EReal) (HB : ℕ → ℕ → ℕ → EReal)
  (h13 : ∀ y, (y 2).val % 9 < 8 → arg13.view.read (Elt Ideal) X13 y = G13 HB W y)
include h13

theorem rd13 (r : LoadRect S4x4x72x128) (x : r.shape.Idx) (b q g u l : ℕ) (hu : u < 8) (h0 : (r.idx x 0).val = b) (h1 : (r.idx x 1).val = q)
    (h2 : (r.idx x 2).val = u + 9 * g) (h3 : (r.idx x 3).val = l) :
    View.readAt (Elt Ideal) arg13.view r X13 x = accS HB W b (g / 2) (g % 2) u (128 * q + l) := by
  rw [View.readAt_apply, h13 _ (by omega)]
  unfold G13
  rw [h0, h1, h2, h3, show (u + 9 * g) / 18 = g / 2 by omega, show (u + 9 * g) / 9 % 2 = g % 2 by omega, show (u + 9 * g) % 9 = u by omega]

theorem t11_one : ∀ p ∈ tripL_k0_t11 (F := Ideal) Variants.none c none i arg2 harg2 arg3 harg3 arg4 harg4 arg5 harg5 arg6 harg6 arg7 harg7 arg8 harg8 arg9 harg9 arg10 harg10 arg11 harg11 arg12 harg12 arg13 harg13 k0_t10 arg14 X13 k, ∀ x, p.2 x = G4 HB W (p.1.emb x) := by
  unfold tripL_k0_t11 trip_k0_t11
  dsimp only
  simp only [List.forall_mem_cons, List.not_mem_nil, IsEmpty.forall_iff, implies_true, and_true]
  intro x
  have hx1 : (x 1).val < 1 := (x 1).isLt
  have key : ∀ (x : S1x1x8x128.Idx) (y : S1x4x8x512.Idx), (y 1).val = k0_t10.val → (y 2).val = (x 2).val → (y 3).val = 128 * k.val + (x 3).val →
      k0_pay12 (trip_k0_t11.sl.v45 arg13 k0_t10 X13 k) x = G4 HB W y := by
    intro x y h1 h2 h3
    unfold G4 scoreS
    rw [h1, h2, h3]
    pointwise [k0_pay12, trip_k0_t11.sl.v45, trip_k0_t11.sl.v44, trip_k0_t11.sl.v40, trip_k0_t11.sl.v39, trip_k0_t11.sl.v35, trip_k0_t11.sl.v34, trip_k0_t11.sl.v30, trip_k0_t11.sl.v29, trip_k0_t11.sl.v25, trip_k0_t11.sl.v24, trip_k0_t11.sl.v20, trip_k0_t11.sl.v19, trip_k0_t11.sl.v15, trip_k0_t11.sl.v14, trip_k0_t11.sl.v10]
    refine sum8_congr _ ?_ ?_ ?_ ?_ ?_ ?_ ?_ ?_
    · refine rd13 arg13 X13 W HB h13 _ _ k0_t10.val k.val (x 2).val 0 (x 3).val (by decide) ?_ ?_ ?_ ?_ <;>
        first | rfl | (simp [LoadRect.idx, off113_eq] <;> first | omega | rfl)
    · refine rd13 arg13 X13 W HB h13 _ _ k0_t10.val k.val (x 2).val 1 (x 3).val (by decide) ?_ ?_ ?_ ?_ <;>
        first | rfl | (simp [LoadRect.idx, off114_eq] <;> first | omega | rfl)
    · refine rd13 arg13 X13 W HB h13 _ _ k0_t10.val k.val (x 2).val 2 (x 3).val (by decide) ?_ ?_ ?_ ?_ <;>
        first | rfl | (simp [LoadRect.idx, off115_eq] <;> first | omega | rfl)
    · refine rd13 arg13 X13 W HB h13 _ _ k0_t10.val k.val (x 2).val 3 (x 3).val (by decide) ?_ ?_ ?_ ?_ <;>
        first | rfl | (simp [LoadRect.idx, off116_eq] <;> first | omega | rfl)
    · refine rd13 arg13 X13 W HB h13 _ _ k0_t10.val k.val (x 2).val 4 (x 3).val (by decide) ?_ ?_ ?_ ?_ <;>
        first | rfl | (simp [LoadRect.idx, off117_eq] <;> first | omega | rfl)
    · refine rd13 arg13 X13 W HB h13 _ _ k0_t10.val k.val (x 2).val 5 (x 3).val (by decide) ?_ ?_ ?_ ?_ <;>
        first | rfl | (simp [LoadRect.idx, off118_eq] <;> first | omega | rfl)
    · refine rd13 arg13 X13 W HB h13 _ _ k0_t10.val k.val (x 2).val 6 (x 3).val (by decide) ?_ ?_ ?_ ?_ <;>
        first | rfl | (simp [LoadRect.idx, off119_eq] <;> first | omega | rfl)
    · refine rd13 arg13 X13 W HB h13 _ _ k0_t10.val k.val (x 2).val 7 (x 3).val (by decide) ?_ ?_ ?_ ?_ <;>
        first | rfl | (simp [LoadRect.idx, off120_eq] <;> first | omega | rfl)
  refine key x _ ?_ ?_ ?_ <;> (try rw [unit_emb_val]) <;> first | rfl | (simp [off121_eq] <;> first | omega | rfl)

end

variable (k0_h1 : k0_cond1 i = 1#1) (X3 : BufTy.Contents (Elt Ideal) arg3.view.ty) (k : Fin k0_t1_loop.trips)
variable (H : ℕ → ℕ → ℕ → EReal) (h3 : ∀ y, arg3.view.read (Elt Ideal) X3 y = H (y 1).val (y 2).val (y 3).val)
include h3

theorem rd3 (r : LoadRect S1x8x128x128) (x : r.shape.Idx) (a b d : ℕ) (h0 : (r.idx x 1).val = a) (h1 : (r.idx x 2).val = b) (h2 : (r.idx x 3).val = d) :
    View.readAt (Elt Ideal) arg3.view r X3 x = H a b d := by
  rw [View.readAt_apply, h3, h0, h1, h2]

theorem t1_one : ∀ p ∈ tripL_k0_t1 (F := Ideal) Variants.none c none i arg2 harg2 arg3 harg3 arg4 harg4 arg5 harg5 arg6 harg6 arg7 harg7 arg8 harg8 arg9 harg9 arg10 harg10 arg11 harg11 arg12 harg12 arg13 harg13 k0_h1 X3 k, ∀ x, p.2 x = G7 H (p.1.emb x) := by
  have key : ∀ (h o : ℕ) (x : S1x64x128.Idx) (y : S4x256x256.Idx), h < 2 → o < 2 → (y 0).val = k.val → (y 1).val = 128 * h + 64 * o + (x 1).val → (y 2).val = 128 * h + (x 2).val →
      H (2 * k.val + h) (o + 2 * (x 1).val) (x 2).val = G7 H y := by
    intro h o x y hh ho h0 h1 h2
    have hx1 : (x 1).val < 64 := (x 1).isLt
    have hx2 : (x 2).val < 128 := (x 2).isLt
    unfold G7 HBS rowS
    rw [h0, h1, h2, if_pos (by omega), show (128 * h + 64 * o + (x 1).val) / 128 = h by omega, show (128 * h + 64 * o + (x 1).val) % 128 = 64 * o + (x 1).val by omega,
      show (128 * h + (x 2).val) % 128 = (x 2).val by omega]
    congr 1
    split <;> omega
  have zero : ∀ (h : ℕ) (x : S1x128x128.Idx) (y : S4x256x256.Idx), h < 2 → (y 1).val = 128 * h + (x 1).val → (y 2).val = 128 * (1 - h) + (x 2).val → (0 : EReal) = G7 H y := by
    intro h x y hh h1 h2
    have hx1 : (x 1).val < 128 := (x 1).isLt
    have hx2 : (x 2).val < 128 := (x 2).isLt
    unfold G7 HBS
    rw [if_neg (by omega)]
  unfold tripL_k0_t1 trip_k0_t1
  dsimp only
  simp only [List.forall_mem_cons, List.not_mem_nil, IsEmpty.forall_iff, implies_true, and_true]
  refine ⟨?_, ?_, ?_, ?_, ?_, ?_⟩ <;> intro x <;> have hx0 : (x 0).val < 1 := (x 0).isLt
  · pointwise [k0_pay4, k0_pay1]
    refine zero 1 x _ ?_ ?_ ?_ <;> (try rw [unit_emb_val]) <;> first | rfl | omega | (simp [off8_eq] <;> first | omega | rfl)
  · pointwise [k0_pay3, trip_k0_t1.sl.v37]
    refine (rd3 arg3 X3 H h3 _ _ (2 * k.val + 1) (1 + 2 * (x 1).val) (x 2).val ?_ ?_ ?_).trans (key 1 1 x _ ?_ ?_ ?_ ?_ ?_) <;> (try rw [unit_emb_val]) <;>
      first | rfl | omega | (simp [LoadRect.idx, off1_0, off1_1, off2_0, off2_1, off7_eq] <;> first | omega | rfl)
  · pointwise [k0_pay2, trip_k0_t1.sl.v38, trip_k0_t1.sl.v34]
    refine (rd3 arg3 X3 H h3 _ _ (2 * k.val + 1) (0 + 2 * (x 1).val) (x 2).val ?_ ?_ ?_).trans (key 1 0 x _ ?_ ?_ ?_ ?_ ?_) <;> (try rw [unit_emb_val]) <;>
      first | rfl | omega | (simp [LoadRect.idx, off1_0, off1_1, off2_0, off2_1, off6_eq] <;> first | omega | rfl)
  · pointwise [trip_k0_t1.sl.v29, k0_pay1]
    refine zero 0 x _ ?_ ?_ ?_ <;> (try rw [unit_emb_val]) <;> first | rfl | omega | (simp [off5_eq] <;> first | omega | rfl)
  · pointwise [trip_k0_t1.sl.v25, trip_k0_t1.sl.v21, trip_k0_t1.sl.v15]
    refine (rd3 arg3 X3 H h3 _ _ (2 * k.val + 0) (1 + 2 * (x 1).val) (x 2).val ?_ ?_ ?_).trans (key 0 1 x _ ?_ ?_ ?_ ?_ ?_) <;> (try rw [unit_emb_val]) <;>
      first | rfl | omega | (simp [LoadRect.idx, off1_0, off1_1, off2_0, off2_1, off4_eq] <;> first | omega | rfl)
  · pointwise [trip_k0_t1.sl.v20, trip_k0_t1.sl.v16, trip_k0_t1.sl.v12]
    refine (rd3 arg3 X3 H h3 _ _ (2 * k.val + 0) (0 + 2 * (x 1).val) (x 2).val ?_ ?_ ?_).trans (key 0 0 x _ ?_ ?_ ?_ ?_ ?_) <;> (try rw [unit_emb_val]) <;>
      first | rfl | omega | (simp [LoadRect.idx, off1_0, off1_1, off2_0, off2_1, off3_eq] <;> first | omega | rfl)

end Cert.KernelIdeal.Val
-- ==== Proof.KernelIdeal.Val.Loop2.lean ====
/- The invariant of the loop over the strips of the first phase: the transposed strips, the widths’ table and the scales written so far are the specification’s. -/
module

public import proofs.«01_k».proof.Proof.KernelIdeal.Val.PayT3
public import proofs.«01_k».proof.Proof.KernelIdeal.Val.PayT4
public import proofs.«01_k».proof.Proof.KernelIdeal.Val.Agree

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (c : Dev nD) (i : grid0.Coords) (arg2 : Memref sig .tc .vmem S1x512x1024 .bf16) (harg2 : arg2.IsWhole) (arg3 : Memref sig .tc .vmem S1x8x128x128 .f32) (harg3 : arg3.IsWhole) (arg4 : Memref sig .tc .vmem S1x4x8x512 .f32) (harg4 : arg4.IsWhole) (arg5 : Memref sig .tc .vmem S1x512x4x1024 .i8) (harg5 : arg5.IsWhole) (arg6 : Memref sig .tc .vmem S1x4x32x512 .f32) (harg6 : arg6.IsWhole) (arg7 : Memref sig .tc .vmem S4x256x256 .bf16) (harg7 : arg7.IsWhole) (arg8 : Memref sig .tc .vmem S4x1024x128 .bf16) (harg8 : arg8.IsWhole) (arg9 : Memref sig .tc .vmem S4x288x2x128 .bf16) (harg9 : arg9.IsWhole) (arg10 : Memref sig .tc .vmem S4x8x32x2x128 .bf16) (harg10 : arg10.IsWhole) (arg11 : Memref sig .tc .vmem S4x4x256x512 .bf16) (harg11 : arg11.IsWhole) (arg12 : Memref sig .tc .vmem S4x4x2x128x128 .i32) (harg12 : arg12.IsWhole) (arg13 : Memref sig .tc .vmem S4x4x72x128 .f32) (harg13 : arg13.IsWhole)
variable (k0_t2 : Fin k0_t2_loop.trips) (arg14 v7 : BitVec 32) (X2 : BufTy.Contents (Elt Ideal) arg2.view.ty) (X9 : BufTy.Contents (Elt Ideal) arg9.view.ty)

theorem t3_cover8 (k : Fin k0_t3_loop.trips) (y : S4x1024x128.Idx) (h0 : (y 0).val = k0_t2.val) (h1 : (y 1).val / 128 = k.val) :
    ∃ p ∈ (tripL_k0_t3 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X2 k).1, y ∈ p.1.set := by
  have h2 : (y 2).val < 128 := (y 2).isLt
  unfold tripL_k0_t3 trip_k0_t3
  dsimp only
  simp only [List.mem_cons, exists_eq_or_imp, List.not_mem_nil, false_and, exists_false, or_false, exists_eq_left]
  rw [Rect.mem_set_unit]
  intro a
  fin_cases a <;> simp [off10_eq] <;> omega

theorem t3_cover9 (k : Fin k0_t3_loop.trips) (y : S4x288x2x128.Idx) (h0 : (y 0).val = k0_t2.val) (h1 : (y 1).val / 9 / 4 = k.val)
    (h : (y 1).val % 9 < 8) :
    ∃ p ∈ (tripL_k0_t3 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X2 k).2, y ∈ p.1.set := by
  have h2 : (y 2).val < 2 := (y 2).isLt
  have h3 : (y 3).val < 128 := (y 3).isLt
  unfold tripL_k0_t3 trip_k0_t3
  dsimp only
  simp only [List.mem_cons, exists_eq_or_imp, List.not_mem_nil, false_and, exists_false, or_false, exists_eq_left]
  simp only [Rect.mem_set_unit]
  obtain hj | hj | hj | hj : (y 1).val / 9 % 4 = 3 ∨ (y 1).val / 9 % 4 = 2 ∨ (y 1).val / 9 % 4 = 1 ∨ (y 1).val / 9 % 4 = 0 := by omega
  · refine Or.inl ?_
    intro a
    fin_cases a <;> simp [off11_3] <;> omega
  · refine Or.inr (Or.inl ?_)
    intro a
    fin_cases a <;> simp [off11_2] <;> omega
  · refine Or.inr (Or.inr (Or.inl ?_))
    intro a
    fin_cases a <;> simp [off11_1] <;> omega
  · refine Or.inr (Or.inr (Or.inr ?_))
    intro a
    fin_cases a <;> simp [off11_0] <;> omega

theorem t4_cover6 (k : Fin k0_t4_loop.trips) (y : S1x4x32x512.Idx) (h3 : (y 3).val / 128 = k0_t2.val) (h2 : (y 2).val / 8 = k.val) :
    ∃ p ∈ (tripL_k0_t4 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X9 k).1, y ∈ p.1.set := by
  have h0 : (y 0).val < 1 := (y 0).isLt
  have h1 : (y 1).val < 4 := (y 1).isLt
  unfold tripL_k0_t4 trip_k0_t4
  dsimp only
  simp only [List.mem_cons, exists_eq_or_imp, List.not_mem_nil, false_and, exists_false, or_false, exists_eq_left]
  simp only [Rect.mem_set_unit]
  obtain hj | hj | hj | hj : (y 1).val = 3 ∨ (y 1).val = 2 ∨ (y 1).val = 1 ∨ (y 1).val = 0 := by omega
  · refine Or.inl ?_
    intro a
    fin_cases a <;> simp [off17_eq] <;> omega
  · refine Or.inr (Or.inl ?_)
    intro a
    fin_cases a <;> simp [off16_eq] <;> omega
  · refine Or.inr (Or.inr (Or.inl ?_))
    intro a
    fin_cases a <;> simp [off15_eq] <;> omega
  · refine Or.inr (Or.inr (Or.inr ?_))
    intro a
    fin_cases a <;> simp [off14_eq] <;> omega

theorem t4_cover10 (k : Fin k0_t4_loop.trips) (y : S4x8x32x2x128.Idx) (h0 : (y 0).val = k0_t2.val) (h2 : (y 2).val / 8 = k.val) :
    ∃ p ∈ (tripL_k0_t4 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X9 k).2, y ∈ p.1.set := by
  have h1 : (y 1).val < 8 := (y 1).isLt
  have h3 : (y 3).val < 2 := (y 3).isLt
  have h4 : (y 4).val < 128 := (y 4).isLt
  unfold tripL_k0_t4 trip_k0_t4
  dsimp only
  simp only [List.mem_cons, exists_eq_or_imp, List.not_mem_nil, false_and, exists_false, or_false, exists_eq_left]
  simp only [Rect.mem_set_unit]
  have hj : (y 1).val = 7 ∨ (y 1).val = 3 ∨ (y 1).val = 6 ∨ (y 1).val = 2 ∨ (y 1).val = 5 ∨ (y 1).val = 1 ∨ (y 1).val = 4 ∨ (y 1).val = 0 := by omega
  rcases hj with hj | hj | hj | hj | hj | hj | hj | hj
  · refine Or.inl ?_
    intro a
    fin_cases a <;> simp [off25_eq] <;> omega
  · refine (Or.inr (Or.inl ?_))
    intro a
    fin_cases a <;> simp [off24_eq] <;> omega
  · refine (Or.inr (Or.inr (Or.inl ?_)))
    intro a
    fin_cases a <;> simp [off23_eq] <;> omega
  · refine (Or.inr (Or.inr (Or.inr (Or.inl ?_))))
    intro a
    fin_cases a <;> simp [off22_eq] <;> omega
  · refine (Or.inr (Or.inr (Or.inr (Or.inr (Or.inl ?_)))))
    intro a
    fin_cases a <;> simp [off21_eq] <;> omega
  · refine (Or.inr (Or.inr (Or.inr (Or.inr (Or.inr (Or.inl ?_))))))
    intro a
    fin_cases a <;> simp [off20_eq] <;> omega
  · refine (Or.inr (Or.inr (Or.inr (Or.inr (Or.inr (Or.inr (Or.inl ?_)))))))
    intro a
    fin_cases a <;> simp [off19_eq] <;> omega
  · refine (Or.inr (Or.inr (Or.inr (Or.inr (Or.inr (Or.inr (Or.inr ?_)))))))
    intro a
    fin_cases a <;> simp [off18_eq] <;> omega

variable (W : ℕ → ℕ → EReal)

/-- What the transposed strips hold before strip `n`. -/
def Done8 (W : ℕ → ℕ → EReal) (arg8 : Memref sig .tc .vmem S4x1024x128 .bf16) (n : ℕ) (f : BufTy.Contents (Elt Ideal) arg8.view.ty) : Prop :=
  ∀ y, (y 0).val < n → arg8.view.read (Elt Ideal) f y = G8 W y

/-- What the widths' table holds before strip `n`. -/
def Done10 (W : ℕ → ℕ → EReal) (arg10 : Memref sig .tc .vmem S4x8x32x2x128 .bf16) (n : ℕ) (f : BufTy.Contents (Elt Ideal) arg10.view.ty) : Prop :=
  ∀ y, (y 0).val < n → arg10.view.read (Elt Ideal) f y = G10 W y

/-- What the scales hold before strip `n`. -/
def Done6 (W : ℕ → ℕ → EReal) (arg6 : Memref sig .tc .vmem S1x4x32x512 .f32) (n : ℕ) (f : BufTy.Contents (Elt Ideal) arg6.view.ty) : Prop :=
  ∀ y, (y 3).val / 128 < n → arg6.view.read (Elt Ideal) f y = G6 W y

section
variable (hX : ∀ y, arg2.view.read (Elt Ideal) X2 y = W (y 1).val (y 2).val)
include hX

theorem t3_done8 (f : BufTy.Contents (Elt Ideal) arg8.view.ty) (h : Done8 W arg8 k0_t2.val f) :
    Done8 W arg8 (k0_t2.val + 1) (arg8.view.writes (Elt Ideal) f (pb_k0_t3 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X2 k0_t3_loop.trips).1) := by
  intro y hy
  refine read_writes_trips arg8.view f (G8 W) (fun y => (y 0).val < k0_t2.val) h (fun k => (tripL_k0_t3 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X2 k).1)
    (fun n => (pb_k0_t3 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X2 n).1) rfl
    (fun k => congrArg Prod.fst (pb_k0_t3_succ (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X2 k))
    (fun k => t3_one c i arg2 harg2 arg3 harg3 arg4 harg4 arg5 harg5 arg6 harg6 arg7 harg7 arg8 harg8 arg9 harg9 arg10 harg10 arg11 harg11 arg12 harg12 arg13 harg13 k0_t2 arg14 v7 X2 k W hX) _ le_rfl y ?_
  rcases Nat.lt_or_ge (y 0).val k0_t2.val with h' | h'
  · exact .inl h'
  · have h1 : (y 1).val < 1024 := (y 1).isLt
    have ht : k0_t3_loop.trips = 8 := by decide
    have hk : (y 1).val / 128 < k0_t3_loop.trips := by omega
    exact .inr ⟨⟨_, hk⟩, hk, t3_cover8 c i arg2 harg2 arg3 harg3 arg4 harg4 arg5 harg5 arg6 harg6 arg7 harg7 arg8 harg8 arg9 harg9 arg10 harg10 arg11 harg11 arg12 harg12 arg13 harg13 k0_t2 arg14 v7 X2 ⟨_, hk⟩ y (by omega) rfl⟩

theorem t3_done9 (f : BufTy.Contents (Elt Ideal) arg9.view.ty) :
    ∀ y, (y 0).val = k0_t2.val → (y 1).val % 9 < 8 →
      arg9.view.read (Elt Ideal) (arg9.view.writes (Elt Ideal) f (pb_k0_t3 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X2 k0_t3_loop.trips).2) y = G9 W y := by
  intro y h0 h8
  refine read_writes_trips arg9.view f (G9 W) (fun _ => False) (fun _ h => h.elim) (fun k => (tripL_k0_t3 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X2 k).2)
    (fun n => (pb_k0_t3 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X2 n).2) rfl
    (fun k => congrArg Prod.snd (pb_k0_t3_succ (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X2 k))
    (fun k => t3_two c i arg2 harg2 arg3 harg3 arg4 harg4 arg5 harg5 arg6 harg6 arg7 harg7 arg8 harg8 arg9 harg9 arg10 harg10 arg11 harg11 arg12 harg12 arg13 harg13 k0_t2 arg14 v7 X2 k W hX) _ le_rfl y ?_
  have h1 : (y 1).val < 288 := (y 1).isLt
  have ht : k0_t3_loop.trips = 8 := by decide
  have hk : (y 1).val / 9 / 4 < k0_t3_loop.trips := by omega
  exact .inr ⟨⟨_, hk⟩, hk, t3_cover9 c i arg2 harg2 arg3 harg3 arg4 harg4 arg5 harg5 arg6 harg6 arg7 harg7 arg8 harg8 arg9 harg9 arg10 harg10 arg11 harg11 arg12 harg12 arg13 harg13 k0_t2 arg14 v7 X2 ⟨_, hk⟩ y h0 rfl h8⟩

end

section
variable (hX : ∀ y, (y 0).val = k0_t2.val → (y 1).val % 9 < 8 → arg9.view.read (Elt Ideal) X9 y = G9 W y)
include hX

theorem t4_done6 (f : BufTy.Contents (Elt Ideal) arg6.view.ty) (h : Done6 W arg6 k0_t2.val f) :
    Done6 W arg6 (k0_t2.val + 1) (arg6.view.writes (Elt Ideal) f (pb_k0_t4 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X9 k0_t4_loop.trips).1) := by
  intro y hy
  refine read_writes_trips arg6.view f (G6 W) (fun y => (y 3).val / 128 < k0_t2.val) h (fun k => (tripL_k0_t4 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X9 k).1)
    (fun n => (pb_k0_t4 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X9 n).1) rfl
    (fun k => congrArg Prod.fst (pb_k0_t4_succ (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X9 k))
    (fun k => t4_one c i arg2 harg2 arg3 harg3 arg4 harg4 arg5 harg5 arg6 harg6 arg7 harg7 arg8 harg8 arg9 harg9 arg10 harg10 arg11 harg11 arg12 harg12 arg13 harg13 k0_t2 arg14 v7 X9 k W hX) _ le_rfl y ?_
  rcases Nat.lt_or_ge ((y 3).val / 128) k0_t2.val with h' | h'
  · exact .inl h'
  · have h1 : (y 2).val < 32 := (y 2).isLt
    have ht : k0_t4_loop.trips = 4 := by decide
    have hk : (y 2).val / 8 < k0_t4_loop.trips := by omega
    exact .inr ⟨⟨_, hk⟩, hk, t4_cover6 c i arg2 harg2 arg3 harg3 arg4 harg4 arg5 harg5 arg6 harg6 arg7 harg7 arg8 harg8 arg9 harg9 arg10 harg10 arg11 harg11 arg12 harg12 arg13 harg13 k0_t2 arg14 v7 X9 ⟨_, hk⟩ y (by omega) rfl⟩

theorem t4_done10 (f : BufTy.Contents (Elt Ideal) arg10.view.ty) (h : Done10 W arg10 k0_t2.val f) :
    Done10 W arg10 (k0_t2.val + 1) (arg10.view.writes (Elt Ideal) f (pb_k0_t4 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X9 k0_t4_loop.trips).2) := by
  intro y hy
  refine read_writes_trips arg10.view f (G10 W) (fun y => (y 0).val < k0_t2.val) h (fun k => (tripL_k0_t4 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X9 k).2)
    (fun n => (pb_k0_t4 (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X9 n).2) rfl
    (fun k => congrArg Prod.snd (pb_k0_t4_succ (F := Ideal) Variants.none c none i arg2 harg2 arg3 harg3 arg4 harg4 arg5 harg5 arg6 harg6 arg7 harg7 arg8 harg8 arg9 harg9 arg10 harg10 arg11 harg11 arg12 harg12 arg13 harg13 k0_t2 arg14 v7 X9 k))
    (fun k => t4_two c i arg2 harg2 arg3 harg3 arg4 harg4 arg5 harg5 arg6 harg6 arg7 harg7 arg8 harg8 arg9 harg9 arg10 harg10 arg11 harg11 arg12 harg12 arg13 harg13 k0_t2 arg14 v7 X9 k W hX) _ le_rfl y ?_
  rcases Nat.lt_or_ge (y 0).val k0_t2.val with h' | h'
  · exact .inl h'
  · have h1 : (y 2).val < 32 := (y 2).isLt
    have ht : k0_t4_loop.trips = 4 := by decide
    have hk : (y 2).val / 8 < k0_t4_loop.trips := by omega
    exact .inr ⟨⟨_, hk⟩, hk, t4_cover10 c i arg2 harg2 arg3 harg3 arg4 harg4 arg5 harg5 arg6 harg6 arg7 harg7 arg8 harg8 arg9 harg9 arg10 harg10 arg11 harg11 arg12 harg12 arg13 harg13 k0_t2 arg14 v7 X9 ⟨_, hk⟩ y (by omega) rfl⟩

end

variable (hX : ∀ y, arg2.view.read (Elt Ideal) X2 y = W (y 1).val (y 2).val)

local notation "𝕄G" => MT nD τ sig Unit (Elt Ideal) ℕ (UR sig nD τ) ℕ

def loopInv_k0_t2 : LoopInvTy_k0_t2 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 where
  inv := fun k _ => iprop((arg2.view.loc (c : Thread nD τ) ↦[arg2.view.set]{fullShare} X2)
    ∗ (∃ f, (arg8.view.loc (c : Thread nD τ) ↦[arg8.view.set]{fullShare} f) ∗ ⌜Done8 W arg8 k f⌝)
    ∗ (∃ f, (arg9.view.loc (c : Thread nD τ) ↦[arg9.view.set]{fullShare} f))
    ∗ (∃ f, (arg6.view.loc (c : Thread nD τ) ↦[arg6.view.set]{fullShare} f) ∗ ⌜Done6 W arg6 k f⌝)
    ∗ (∃ f, (arg10.view.loc (c : Thread nD τ) ↦[arg10.view.set]{fullShare} f) ∗ ⌜Done10 W arg10 k f⌝))
  step := fun k _ => by
    unfold k0_t2_body
    iintro ⟨H2, ⟨%f8, H8, %h8⟩, ⟨%f9, H9⟩, ⟨%f6, H6, %h6⟩, ⟨%f10, H10, %h10⟩⟩
    sl_exec
    sl_step
    subst_vars
    isplitl [H2]; · iexact H2
    isplitl [H8]
    · iexists _; isplitl [H8]; · iexact H8
      ipureintro; exact t3_done8 c i arg2 harg2 arg3 harg3 arg4 harg4 arg5 harg5 arg6 harg6 arg7 harg7 arg8 harg8 arg9 harg9 arg10 harg10 arg11 harg11 arg12 harg12 arg13 harg13 k _ _ X2 W hX f8 h8
    isplitl [H9]
    · iexists _; iexact H9
    isplitl [H6]
    · iexists _; isplitl [H6]; · iexact H6
      ipureintro; exact t4_done6 c i arg2 harg2 arg3 harg3 arg4 harg4 arg5 harg5 arg6 harg6 arg7 harg7 arg8 harg8 arg9 harg9 arg10 harg10 arg11 harg11 arg12 harg12 arg13 harg13 k _ _ _ W (t3_done9 c i arg2 harg2 arg3 harg3 arg4 harg4 arg5 harg5 arg6 harg6 arg7 harg7 arg8 harg8 arg9 harg9 arg10 harg10 arg11 harg11 arg12 harg12 arg13 harg13 k _ _ X2 W hX f9) f6 h6
    iexists _; isplitl [H10]; · iexact H10
    ipureintro; exact t4_done10 c i arg2 harg2 arg3 harg3 arg4 harg4 arg5 harg5 arg6 harg6 arg7 harg7 arg8 harg8 arg9 harg9 arg10 harg10 arg11 harg11 arg12 harg12 arg13 harg13 k _ _ _ W (t3_done9 c i arg2 harg2 arg3 harg3 arg4 harg4 arg5 harg5 arg6 harg6 arg7 harg7 arg8 harg8 arg9 harg9 arg10 harg10 arg11 harg11 arg12 harg12 arg13 harg13 k _ _ X2 W hX f9) f10 h10

end Cert.KernelIdeal.Val
-- ==== Proof.KernelIdeal.Val.Loop5.lean ====
/- The invariants of the loop over the pairs and of the loop over the widths that ends the body: what the codes, the partial sums and the scores hold so far. -/
module

public import proofs.«01_k».proof.Proof.KernelIdeal.Val.PayT1
public import proofs.«01_k».proof.Proof.KernelIdeal.Val.Loop7
public import proofs.«01_k».proof.Proof.KernelIdeal.Val.Loop2
public import proofs.«01_k».proof.Proof.KernelIdeal.Val.Agree

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (c : Dev nD) (i : grid0.Coords) (arg2 : Memref sig .tc .vmem S1x512x1024 .bf16) (harg2 : arg2.IsWhole) (arg3 : Memref sig .tc .vmem S1x8x128x128 .f32) (harg3 : arg3.IsWhole) (arg4 : Memref sig .tc .vmem S1x4x8x512 .f32) (harg4 : arg4.IsWhole) (arg5 : Memref sig .tc .vmem S1x512x4x1024 .i8) (harg5 : arg5.IsWhole) (arg6 : Memref sig .tc .vmem S1x4x32x512 .f32) (harg6 : arg6.IsWhole) (arg7 : Memref sig .tc .vmem S4x256x256 .bf16) (harg7 : arg7.IsWhole) (arg8 : Memref sig .tc .vmem S4x1024x128 .bf16) (harg8 : arg8.IsWhole) (arg9 : Memref sig .tc .vmem S4x288x2x128 .bf16) (harg9 : arg9.IsWhole) (arg10 : Memref sig .tc .vmem S4x8x32x2x128 .bf16) (harg10 : arg10.IsWhole) (arg11 : Memref sig .tc .vmem S4x4x256x512 .bf16) (harg11 : arg11.IsWhole) (arg12 : Memref sig .tc .vmem S4x4x2x128x128 .i32) (harg12 : arg12.IsWhole) (arg13 : Memref sig .tc .vmem S4x4x72x128 .f32) (harg13 : arg13.IsWhole)
variable (W : ℕ → ℕ → EReal) (HB : ℕ → ℕ → ℕ → EReal) (H : ℕ → ℕ → ℕ → EReal)

/-- What the partial sums hold before pair `n`. -/
def Done13 (HB : ℕ → ℕ → ℕ → EReal) (W : ℕ → ℕ → EReal) (arg13 : Memref sig .tc .vmem S4x4x72x128 .f32) (n : ℕ) (f : BufTy.Contents (Elt Ideal) arg13.view.ty) : Prop :=
  ∀ y, (y 2).val / 18 < n ∧ (y 2).val % 9 < 8 → arg13.view.read (Elt Ideal) f y = G13 HB W y

/-- What the scores hold before width `n`. -/
def Done4 (HB : ℕ → ℕ → ℕ → EReal) (W : ℕ → ℕ → EReal) (arg4 : Memref sig .tc .vmem S1x4x8x512 .f32) (n : ℕ) (f : BufTy.Contents (Elt Ideal) arg4.view.ty) : Prop :=
  ∀ y, (y 1).val < n → arg4.view.read (Elt Ideal) f y = G4 HB W y

/-- A pair's errors, once its trip has written them. -/
theorem done11_err (arg11 : Memref sig .tc .vmem S4x4x256x512 .bf16) (p : ℕ) (f : BufTy.Contents (Elt Ideal) arg11.view.ty) (h : Done11 W arg11 ((p + 1) * 32) f) :
    ∀ y, (y 1).val = p → arg11.view.read (Elt Ideal) f y = errS W (y 0).val (y 3).val (256 * (y 1).val + (y 2).val) := by
  intro y hy
  have h2 : (y 2).val < 256 := (y 2).isLt
  have h3 : (y 3).val < 512 := (y 3).isLt
  refine (h y ?_).trans rfl
  unfold pos11
  omega

/-- What the rearranged blocks hold before pair `n`. -/
def Done7 (H : ℕ → ℕ → ℕ → EReal) (arg7 : Memref sig .tc .vmem S4x256x256 .bf16) (n : ℕ) (f : BufTy.Contents (Elt Ideal) arg7.view.ty) : Prop :=
  ∀ y, (y 0).val < n → arg7.view.read (Elt Ideal) f y = G7 H y

section
variable (k0_t5 : Fin k0_t5_loop.trips) (arg14 : BitVec 32) (X7 : BufTy.Contents (Elt Ideal) arg7.view.ty) (X11 : BufTy.Contents (Elt Ideal) arg11.view.ty)

theorem t9_cover (k : Fin k0_t9_loop.trips) (y : S4x4x72x128.Idx) (h0 : (y 0).val = k.val) (h2 : (y 2).val / 18 = k0_t5.val) (h9 : (y 2).val % 9 < 8) :
    ∃ p ∈ tripL_k0_t9 (F := Ideal) Variants.none c none i arg2 harg2 arg3 harg3 arg4 harg4 arg5 harg5 arg6 harg6 arg7 harg7 arg8 harg8 arg9 harg9 arg10 harg10 arg11 harg11 arg12 harg12 arg13 harg13 k0_t5 arg14 X7 X11 k, y ∈ p.1.set := by
  have h1 : (y 1).val < 4 := (y 1).isLt
  have h3 : (y 3).val < 128 := (y 3).isLt
  unfold tripL_k0_t9 trip_k0_t9
  dsimp only
  simp only [List.mem_cons, exists_eq_or_imp, List.not_mem_nil, false_and, exists_false, or_false, exists_eq_left]
  simp only [Rect.mem_set_unit]
  have hj : (y 1).val = 3 ∧ (y 2).val % 18 / 9 = 1 ∨ (y 1).val = 3 ∧ (y 2).val % 18 / 9 = 0 ∨ (y 1).val = 2 ∧ (y 2).val % 18 / 9 = 1 ∨ (y 1).val = 2 ∧ (y 2).val % 18 / 9 = 0 ∨
    (y 1).val = 1 ∧ (y 2).val % 18 / 9 = 1 ∨ (y 1).val = 1 ∧ (y 2).val % 18 / 9 = 0 ∨ (y 1).val = 0 ∧ (y 2).val % 18 / 9 = 1 ∨ (y 1).val = 0 ∧ (y 2).val % 18 / 9 = 0 := by omega
  rcases hj with hj | hj | hj | hj | hj | hj | hj | hj
  · refine Or.inl ?_
    intro a
    fin_cases a <;> simp [off104_1] <;> omega
  · refine (Or.inr (Or.inl ?_))
    intro a
    fin_cases a <;> simp [off104_0] <;> omega
  · refine (Or.inr (Or.inr (Or.inl ?_)))
    intro a
    fin_cases a <;> simp [off87_1] <;> omega
  · refine (Or.inr (Or.inr (Or.inr (Or.inl ?_))))
    intro a
    fin_cases a <;> simp [off87_0] <;> omega
  · refine (Or.inr (Or.inr (Or.inr (Or.inr (Or.inl ?_)))))
    intro a
    fin_cases a <;> simp [off70_1] <;> omega
  · refine (Or.inr (Or.inr (Or.inr (Or.inr (Or.inr (Or.inl ?_))))))
    intro a
    fin_cases a <;> simp [off70_0] <;> omega
  · refine (Or.inr (Or.inr (Or.inr (Or.inr (Or.inr (Or.inr (Or.inl ?_)))))))
    intro a
    fin_cases a <;> simp [off53_1] <;> omega
  · refine (Or.inr (Or.inr (Or.inr (Or.inr (Or.inr (Or.inr (Or.inr ?_)))))))
    intro a
    fin_cases a <;> simp [off53_0] <;> omega

theorem t9_done13 (h7 : ∀ y, arg7.view.read (Elt Ideal) X7 y = HB (y 0).val (y 1).val (y 2).val)
    (h11 : ∀ y, (y 1).val = k0_t5.val → arg11.view.read (Elt Ideal) X11 y = errS W (y 0).val (y 3).val (256 * (y 1).val + (y 2).val))
    (f : BufTy.Contents (Elt Ideal) arg13.view.ty) (h : Done13 HB W arg13 k0_t5.val f) :
    Done13 HB W arg13 (k0_t5.val + 1) (arg13.view.writes (Elt Ideal) f (pb_k0_t9 (F := Ideal) Variants.none c none i arg2 harg2 arg3 harg3 arg4 harg4 arg5 harg5 arg6 harg6 arg7 harg7 arg8 harg8 arg9 harg9 arg10 harg10 arg11 harg11 arg12 harg12 arg13 harg13 k0_t5 arg14 X7 X11 k0_t9_loop.trips)) := by
  intro y hy
  refine read_writes_trips arg13.view f (G13 HB W) (fun y => (y 2).val / 18 < k0_t5.val ∧ (y 2).val % 9 < 8) h (fun k => tripL_k0_t9 (F := Ideal) Variants.none c none i arg2 harg2 arg3 harg3 arg4 harg4 arg5 harg5 arg6 harg6 arg7 harg7 arg8 harg8 arg9 harg9 arg10 harg10 arg11 harg11 arg12 harg12 arg13 harg13 k0_t5 arg14 X7 X11 k)
    (fun n => pb_k0_t9 (F := Ideal) Variants.none c none i arg2 harg2 arg3 harg3 arg4 harg4 arg5 harg5 arg6 harg6 arg7 harg7 arg8 harg8 arg9 harg9 arg10 harg10 arg11 harg11 arg12 harg12 arg13 harg13 k0_t5 arg14 X7 X11 n) rfl
    (fun k => pb_k0_t9_succ (F := Ideal) Variants.none c none i arg2 harg2 arg3 harg3 arg4 harg4 arg5 harg5 arg6 harg6 arg7 harg7 arg8 harg8 arg9 harg9 arg10 harg10 arg11 harg11 arg12 harg12 arg13 harg13 k0_t5 arg14 X7 X11 k)
    (fun k => t9_one c i arg2 harg2 arg3 harg3 arg4 harg4 arg5 harg5 arg6 harg6 arg7 harg7 arg8 harg8 arg9 harg9 arg10 harg10 arg11 harg11 arg12 harg12 arg13 harg13 k0_t5 arg14 X7 X11 k W HB h7 h11) _ le_rfl y ?_
  rcases Nat.lt_or_ge ((y 2).val / 18) k0_t5.val with h' | h'
  · exact .inl ⟨h', hy.2⟩
  · have h1 : (y 0).val < 4 := (y 0).isLt
    have ht : k0_t9_loop.trips = 4 := by decide
    have hk : (y 0).val < k0_t9_loop.trips := by omega
    exact .inr ⟨⟨_, hk⟩, hk, t9_cover c i arg2 harg2 arg3 harg3 arg4 harg4 arg5 harg5 arg6 harg6 arg7 harg7 arg8 harg8 arg9 harg9 arg10 harg10 arg11 harg11 arg12 harg12 arg13 harg13 k0_t5 arg14 X7 X11 ⟨_, hk⟩ y rfl (by omega) hy.2⟩

end

section
variable (k0_t10 : Fin k0_t10_loop.trips) (arg14 : BitVec 32) (X13 : BufTy.Contents (Elt Ideal) arg13.view.ty)

theorem t11_cover (k : Fin k0_t11_loop.trips) (y : S1x4x8x512.Idx) (h1 : (y 1).val = k0_t10.val) (h3 : (y 3).val / 128 = k.val) :
    ∃ p ∈ tripL_k0_t11 (F := Ideal) Variants.none c none i arg2 harg2 arg3 harg3 arg4 harg4 arg5 harg5 arg6 harg6 arg7 harg7 arg8 harg8 arg9 harg9 arg10 harg10 arg11 harg11 arg12 harg12 arg13 harg13 k0_t10 arg14 X13 k, y ∈ p.1.set := by
  have h0 : (y 0).val < 1 := (y 0).isLt
  have h2 : (y 2).val < 8 := (y 2).isLt
  unfold tripL_k0_t11 trip_k0_t11
  dsimp only
  simp only [List.mem_cons, exists_eq_or_imp, List.not_mem_nil, false_and, exists_false, or_false, exists_eq_left]
  rw [Rect.mem_set_unit]
  intro a
  fin_cases a <;> simp [off121_eq] <;> omega

theorem t11_done4 (h13 : ∀ y, (y 2).val % 9 < 8 → arg13.view.read (Elt Ideal) X13 y = G13 HB W y)
    (f : BufTy.Contents (Elt Ideal) arg4.view.ty) (h : Done4 HB W arg4 k0_t10.val f) :
    Done4 HB W arg4 (k0_t10.val + 1) (arg4.view.writes (Elt Ideal) f (pb_k0_t11 (F := Ideal) Variants.none c none i arg2 harg2 arg3 harg3 arg4 harg4 arg5 harg5 arg6 harg6 arg7 harg7 arg8 harg8 arg9 harg9 arg10 harg10 arg11 harg11 arg12 harg12 arg13 harg13 k0_t10 arg14 X13 k0_t11_loop.trips)) := by
  intro y hy
  refine read_writes_trips arg4.view f (G4 HB W) (fun y => (y 1).val < k0_t10.val) h (fun k => tripL_k0_t11 (F := Ideal) Variants.none c none i arg2 harg2 arg3 harg3 arg4 harg4 arg5 harg5 arg6 harg6 arg7 harg7 arg8 harg8 arg9 harg9 arg10 harg10 arg11 harg11 arg12 harg12 arg13 harg13 k0_t10 arg14 X13 k)
    (fun n => pb_k0_t11 (F := Ideal) Variants.none c none i arg2 harg2 arg3 harg3 arg4 harg4 arg5 harg5 arg6 harg6 arg7 harg7 arg8 harg8 arg9 harg9 arg10 harg10 arg11 harg11 arg12 harg12 arg13 harg13 k0_t10 arg14 X13 n) rfl
    (fun k => pb_k0_t11_succ (F := Ideal) Variants.none c none i arg2 harg2 arg3 harg3 arg4 harg4 arg5 harg5 arg6 harg6 arg7 harg7 arg8 harg8 arg9 harg9 arg10 harg10 arg11 harg11 arg12 harg12 arg13 harg13 k0_t10 arg14 X13 k)
    (fun k => t11_one c i arg2 harg2 arg3 harg3 arg4 harg4 arg5 harg5 arg6 harg6 arg7 harg7 arg8 harg8 arg9 harg9 arg10 harg10 arg11 harg11 arg12 harg12 arg13 harg13 k0_t10 arg14 X13 k W HB h13) _ le_rfl y ?_
  rcases Nat.lt_or_ge (y 1).val k0_t10.val with h' | h'
  · exact .inl h'
  · have h1 : (y 3).val < 512 := (y 3).isLt
    have ht : k0_t11_loop.trips = 4 := by decide
    have hk : (y 3).val / 128 < k0_t11_loop.trips := by omega
    exact .inr ⟨⟨_, hk⟩, hk, t11_cover c i arg2 harg2 arg3 harg3 arg4 harg4 arg5 harg5 arg6 harg6 arg7 harg7 arg8 harg8 arg9 harg9 arg10 harg10 arg11 harg11 arg12 harg12 arg13 harg13 k0_t10 arg14 X13 ⟨_, hk⟩ y (by omega) rfl⟩

end

section
variable (k0_h1 : k0_cond1 i = 1#1) (X3 : BufTy.Contents (Elt Ideal) arg3.view.ty)

theorem t1_cover (k : Fin k0_t1_loop.trips) (y : S4x256x256.Idx) (h0 : (y 0).val = k.val) :
    ∃ p ∈ tripL_k0_t1 (F := Ideal) Variants.none c none i arg2 harg2 arg3 harg3 arg4 harg4 arg5 harg5 arg6 harg6 arg7 harg7 arg8 harg8 arg9 harg9 arg10 harg10 arg11 harg11 arg12 harg12 arg13 harg13 k0_h1 X3 k, y ∈ p.1.set := by
  have h1 : (y 1).val < 256 := (y 1).isLt
  have h2 : (y 2).val < 256 := (y 2).isLt
  unfold tripL_k0_t1 trip_k0_t1
  dsimp only
  simp only [List.mem_cons, exists_eq_or_imp, List.not_mem_nil, false_and, exists_false, or_false, exists_eq_left]
  simp only [Rect.mem_set_unit]
  have hj : (128 ≤ (y 1).val ∧ (y 2).val < 128) ∨ (192 ≤ (y 1).val ∧ 128 ≤ (y 2).val) ∨ (128 ≤ (y 1).val ∧ (y 1).val < 192 ∧ 128 ≤ (y 2).val) ∨ ((y 1).val < 128 ∧ 128 ≤ (y 2).val) ∨
    (64 ≤ (y 1).val ∧ (y 1).val < 128 ∧ (y 2).val < 128) ∨ ((y 1).val < 64 ∧ (y 2).val < 128) := by omega
  rcases hj with hj | hj | hj | hj | hj | hj
  · refine Or.inl ?_
    intro a
    fin_cases a <;> simp [off8_eq] <;> omega
  · refine (Or.inr (Or.inl ?_))
    intro a
    fin_cases a <;> simp [off7_eq] <;> omega
  · refine (Or.inr (Or.inr (Or.inl ?_)))
    intro a
    fin_cases a <;> simp [off6_eq] <;> omega
  · refine (Or.inr (Or.inr (Or.inr (Or.inl ?_))))
    intro a
    fin_cases a <;> simp [off5_eq] <;> omega
  · refine (Or.inr (Or.inr (Or.inr (Or.inr (Or.inl ?_)))))
    intro a
    fin_cases a <;> simp [off4_eq] <;> omega
  · refine (Or.inr (Or.inr (Or.inr (Or.inr (Or.inr ?_)))))
    intro a
    fin_cases a <;> simp [off3_eq] <;> omega

theorem t1_done7 (h3 : ∀ y, arg3.view.read (Elt Ideal) X3 y = H (y 1).val (y 2).val (y 3).val) (f : BufTy.Contents (Elt Ideal) arg7.view.ty) :
    Done7 H arg7 (Scf.trips k0_t1_loop.lb k0_t1_loop.ub k0_t1_loop.st) (arg7.view.writes (Elt Ideal) f (pb_k0_t1 (F := Ideal) Variants.none c none i arg2 harg2 arg3 harg3 arg4 harg4 arg5 harg5 arg6 harg6 arg7 harg7 arg8 harg8 arg9 harg9 arg10 harg10 arg11 harg11 arg12 harg12 arg13 harg13 k0_h1 X3 (Scf.trips k0_t1_loop.lb k0_t1_loop.ub k0_t1_loop.st))) := by
  intro y _
  refine read_writes_trips arg7.view f (G7 H) (fun _ => False) (fun _ h => h.elim) (fun k => tripL_k0_t1 (F := Ideal) Variants.none c none i arg2 harg2 arg3 harg3 arg4 harg4 arg5 harg5 arg6 harg6 arg7 harg7 arg8 harg8 arg9 harg9 arg10 harg10 arg11 harg11 arg12 harg12 arg13 harg13 k0_h1 X3 k)
    (fun n => pb_k0_t1 (F := Ideal) Variants.none c none i arg2 harg2 arg3 harg3 arg4 harg4 arg5 harg5 arg6 harg6 arg7 harg7 arg8 harg8 arg9 harg9 arg10 harg10 arg11 harg11 arg12 harg12 arg13 harg13 k0_h1 X3 n) rfl
    (fun k => pb_k0_t1_succ (F := Ideal) Variants.none c none i arg2 harg2 arg3 harg3 arg4 harg4 arg5 harg5 arg6 harg6 arg7 harg7 arg8 harg8 arg9 harg9 arg10 harg10 arg11 harg11 arg12 harg12 arg13 harg13 k0_h1 X3 k)
    (fun k => t1_one c i arg2 harg2 arg3 harg3 arg4 harg4 arg5 harg5 arg6 harg6 arg7 harg7 arg8 harg8 arg9 harg9 arg10 harg10 arg11 harg11 arg12 harg12 arg13 harg13 k0_h1 X3 k H h3) _ le_rfl y ?_
  have h1 : (y 0).val < 4 := (y 0).isLt
  have ht : k0_t1_loop.trips = 4 := by decide
  have hk : (y 0).val < k0_t1_loop.trips := by omega
  exact .inr ⟨⟨_, hk⟩, hk, t1_cover c i arg2 harg2 arg3 harg3 arg4 harg4 arg5 harg5 arg6 harg6 arg7 harg7 arg8 harg8 arg9 harg9 arg10 harg10 arg11 harg11 arg12 harg12 arg13 harg13 k0_h1 X3 ⟨_, hk⟩ y rfl⟩

end

local notation "𝕄G" => MT nD τ sig Unit (Elt Ideal) ℕ (UR sig nD τ) ℕ

def loopInv_k0_t5 : LoopInvTy_k0_t5 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 where
  inv := fun k _ => iprop((∃ f, (arg7.view.loc (c : Thread nD τ) ↦[arg7.view.set]{fullShare} f) ∗ ⌜Done7 H arg7 (Scf.trips k0_t1_loop.lb k0_t1_loop.ub k0_t1_loop.st) f⌝)
    ∗ (∃ f, (arg8.view.loc (c : Thread nD τ) ↦[arg8.view.set]{fullShare} f) ∗ ⌜Done8 W arg8 (Scf.trips k0_t2_loop.lb k0_t2_loop.ub k0_t2_loop.st) f⌝)
    ∗ (∃ f, (arg10.view.loc (c : Thread nD τ) ↦[arg10.view.set]{fullShare} f) ∗ ⌜Done10 W arg10 (Scf.trips k0_t2_loop.lb k0_t2_loop.ub k0_t2_loop.st) f⌝)
    ∗ (∃ f, (arg5.view.loc (c : Thread nD τ) ↦[arg5.view.set]{fullShare} f) ∗ ⌜Done5 W arg5 (k * 8) f⌝)
    ∗ (∃ f, (arg11.view.loc (c : Thread nD τ) ↦[arg11.view.set]{fullShare} f) ∗ ⌜Done11 W arg11 (k * 32) f⌝)
    ∗ (∃ f, (arg12.view.loc (c : Thread nD τ) ↦[arg12.view.set]{fullShare} f) ∗ ⌜Done12 W arg12 (k * 32) f⌝)
    ∗ (∃ f, (arg13.view.loc (c : Thread nD τ) ↦[arg13.view.set]{fullShare} f) ∗ ⌜Done13 (HBS H) W arg13 k f⌝))
  step := fun k _ => by
    unfold k0_t5_body
    iintro ⟨⟨%X7, H7, %h7⟩, ⟨%X8, H8, %h8⟩, ⟨%X10, H10, %h10⟩, ⟨%f5, H5, %h5⟩, ⟨%f11, H11, %h11⟩, ⟨%f12, H12, %h12⟩, ⟨%f13, H13, %h13⟩⟩
    have t2 : Scf.trips k0_t2_loop.lb k0_t2_loop.ub k0_t2_loop.st = 4 := by decide
    have t1 : Scf.trips k0_t1_loop.lb k0_t1_loop.ub k0_t1_loop.st = 4 := by decide
    have g7 : ∀ y, arg7.view.read (Elt Ideal) X7 y = HBS H (y 0).val (y 1).val (y 2).val := fun y => h7 y (by have := (y 0).isLt; rw [t1]; exact this)
    have g8 : ∀ y, arg8.view.read (Elt Ideal) X8 y = G8 W y := fun y => h8 y (by have := (y 0).isLt; rw [t2]; exact this)
    have g10 : ∀ y, arg10.view.read (Elt Ideal) X10 y = G10 W y := fun y => h10 y (by have := (y 0).isLt; rw [t2]; exact this)
    let L := fun arg14 => loopInv_k0_t6 c i arg2 harg2 arg3 harg3 arg4 harg4 arg5 harg5 arg6 harg6 arg7 harg7 arg8 harg8 arg9 harg9 arg10 harg10 arg11 harg11 arg12 harg12 arg13 harg13 X8 X10 W g8 g10 k arg14
    have e0 : (k.val * 4 + 0) * 2 = k.val * 8 := by omega
    have e1 : (k.val * 4 + 0) * 2 * 4 = k.val * 32 := by omega
    rw [← e0] at h5
    rw [← e1] at h11 h12
    sl_exec
    sl_step
    subst_vars
    have e4 : Scf.trips k0_t6_loop.lb k0_t6_loop.ub k0_t6_loop.st = 4 := by decide
    have e2 : (k.val * 4 + Scf.trips k0_t6_loop.lb k0_t6_loop.ub k0_t6_loop.st) * 2 = (k.val + 1) * 8 := by omega
    have e3 : (k.val * 4 + Scf.trips k0_t6_loop.lb k0_t6_loop.ub k0_t6_loop.st) * 2 * 4 = (k.val + 1) * 32 := by omega
    isplitl [H7]
    · iexists _; isplitl [H7]; · iexact H7
      ipureintro; exact h7
    isplitl [H8]
    · iexists _; isplitl [H8]; · iexact H8
      ipureintro; exact h8
    isplitl [H10]
    · iexists _; isplitl [H10]; · iexact H10
      ipureintro; exact h10
    isplitl [H5]
    · iexists _; isplitl [H5]; · iexact H5
      ipureintro; rw [← e2]; assumption
    isplitl [H11]
    · iexists _; isplitl [H11]; · iexact H11
      ipureintro; rw [← e3]; assumption
    isplitl [H12]
    · iexists _; isplitl [H12]; · iexact H12
      ipureintro; rw [← e3]; assumption
    iexists _; isplitl [H13]; · iexact H13
    ipureintro
    refine t9_done13 c i arg2 harg2 arg3 harg3 arg4 harg4 arg5 harg5 arg6 harg6 arg7 harg7 arg8 harg8 arg9 harg9 arg10 harg10 arg11 harg11 arg12 harg12 arg13 harg13 W (HBS H) k _ X7 _ g7 ?_ f13 h13
    refine done11_err W arg11 k.val _ ?_
    rw [← e3]; assumption

def loopInv_k0_t10 : LoopInvTy_k0_t10 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 where
  inv := fun k _ => iprop((∃ f, (arg13.view.loc (c : Thread nD τ) ↦[arg13.view.set]{fullShare} f) ∗ ⌜Done13 HB W arg13 (Scf.trips k0_t5_loop.lb k0_t5_loop.ub k0_t5_loop.st) f⌝)
    ∗ (∃ f, (arg4.view.loc (c : Thread nD τ) ↦[arg4.view.set]{fullShare} f) ∗ ⌜Done4 HB W arg4 k f⌝))
  step := fun k _ => by
    unfold k0_t10_body
    have t5 : Scf.trips k0_t5_loop.lb k0_t5_loop.ub k0_t5_loop.st = 4 := by decide
    iintro ⟨⟨%X13, H13, %h13⟩, ⟨%f4, H4, %h4⟩⟩
    have g13 : ∀ y, (y 2).val % 9 < 8 → arg13.view.read (Elt Ideal) X13 y = G13 HB W y := fun y hy =>
      h13 y ⟨by have h2 : (y 2).val < 72 := (y 2).isLt; omega, hy⟩
    sl_exec
    sl_step
    subst_vars
    isplitl [H13]
    · iexists _; isplitl [H13]; · iexact H13
      ipureintro; exact h13
    iexists _; isplitl [H4]; · iexact H4
    ipureintro; exact t11_done4 c i arg2 harg2 arg3 harg3 arg4 harg4 arg5 harg5 arg6 harg6 arg7 harg7 arg8 harg8 arg9 harg9 arg10 harg10 arg11 harg11 arg12 harg12 arg13 harg13 W HB k _ X13 g13 f4 h4

end Cert.KernelIdeal.Val
-- ==== Proof.KernelIdeal.Val.Body.lean ====
/- One grid point’s run of the kernel’s body: what its three results hold afterwards. -/
module

public import proofs.«01_k».proof.Proof.KernelIdeal.Val.Loop5

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem done4_all (HB : ℕ → ℕ → ℕ → EReal) (W : ℕ → ℕ → EReal) (arg4 : Memref sig .tc .vmem S1x4x8x512 .f32) (f : BufTy.Contents (Elt Ideal) arg4.view.ty)
    (h : Done4 HB W arg4 ((Scf.trips k0_t10_loop.lb k0_t10_loop.ub k0_t10_loop.st)) f) : arg4.view.read (Elt Ideal) f = fun y => G4 HB W y := by
  have t : (Scf.trips k0_t10_loop.lb k0_t10_loop.ub k0_t10_loop.st) = 4 := by decide
  funext y
  refine h y ?_
  have h1 : (y 1).val < 4 := (y 1).isLt; omega

theorem done5_all (W : ℕ → ℕ → EReal) (arg5 : Memref sig .tc .vmem S1x512x4x1024 .i8) (f : BufTy.Contents (Elt Ideal) arg5.view.ty)
    (h : Done5 W arg5 ((Scf.trips k0_t5_loop.lb k0_t5_loop.ub k0_t5_loop.st) * 8) f) : arg5.view.read (Elt Ideal) f = fun y => G5 W y := by
  have t : (Scf.trips k0_t5_loop.lb k0_t5_loop.ub k0_t5_loop.st) = 4 := by decide
  funext y
  refine h y ?_
  have h1 : (y 1).val < 512 := (y 1).isLt; have h3 : (y 3).val < 1024 := (y 3).isLt; unfold pos5; omega

theorem done6_all (W : ℕ → ℕ → EReal) (arg6 : Memref sig .tc .vmem S1x4x32x512 .f32) (f : BufTy.Contents (Elt Ideal) arg6.view.ty)
    (h : Done6 W arg6 ((Scf.trips k0_t2_loop.lb k0_t2_loop.ub k0_t2_loop.st)) f) : arg6.view.read (Elt Ideal) f = fun y => G6 W y := by
  have t : (Scf.trips k0_t2_loop.lb k0_t2_loop.ub k0_t2_loop.st) = 4 := by decide
  funext y
  refine h y ?_
  have h3 : (y 3).val < 512 := (y 3).isLt; omega

theorem done7_all (H : ℕ → ℕ → ℕ → EReal) (arg7 : Memref sig .tc .vmem S4x256x256 .bf16) (f : BufTy.Contents (Elt Ideal) arg7.view.ty)
    (h : Done7 H arg7 ((Scf.trips k0_t1_loop.lb k0_t1_loop.ub k0_t1_loop.st)) f) : arg7.view.read (Elt Ideal) f = fun y => G7 H y := by
  have t : (Scf.trips k0_t1_loop.lb k0_t1_loop.ub k0_t1_loop.st) = 4 := by decide
  funext y
  refine h y ?_
  have h1 : (y 0).val < 4 := (y 0).isLt; omega

local notation "𝕄G" => MT nD τ sig Unit (Elt Ideal) ℕ (UR sig nD τ) ℕ

/-- The body at any grid point, on whole buffers: from the two input blocks (and, away from a batch's first point, the batch's rearranged blocks in their scratch) to the three results' blocks, as the specification says. -/
theorem bodyV (c : Dev nD) (i : grid0.Coords) (arg2 : Memref sig .tc .vmem S1x512x1024 .bf16) (harg2 : arg2.IsWhole) (arg3 : Memref sig .tc .vmem S1x8x128x128 .f32) (harg3 : arg3.IsWhole) (arg4 : Memref sig .tc .vmem S1x4x8x512 .f32) (harg4 : arg4.IsWhole) (arg5 : Memref sig .tc .vmem S1x512x4x1024 .i8) (harg5 : arg5.IsWhole) (arg6 : Memref sig .tc .vmem S1x4x32x512 .f32) (harg6 : arg6.IsWhole) (arg7 : Memref sig .tc .vmem S4x256x256 .bf16) (harg7 : arg7.IsWhole) (arg8 : Memref sig .tc .vmem S4x1024x128 .bf16) (harg8 : arg8.IsWhole) (arg9 : Memref sig .tc .vmem S4x288x2x128 .bf16) (harg9 : arg9.IsWhole) (arg10 : Memref sig .tc .vmem S4x8x32x2x128 .bf16) (harg10 : arg10.IsWhole) (arg11 : Memref sig .tc .vmem S4x4x256x512 .bf16) (harg11 : arg11.IsWhole) (arg12 : Memref sig .tc .vmem S4x4x2x128x128 .i32) (harg12 : arg12.IsWhole) (arg13 : Memref sig .tc .vmem S4x4x72x128 .f32) (harg13 : arg13.IsWhole)
    (x2 : Vec Ideal S1x512x1024 .bf16) (x3 : Vec Ideal S1x8x128x128 .f32) (x7 : Vec Ideal S4x256x256 .bf16) (W : ℕ → ℕ → EReal) (H : ℕ → ℕ → ℕ → EReal)
    (hW : ∀ y, x2 y = W (y 1).val (y 2).val) (hH : ∀ y, x3 y = H (y 1).val (y 2).val (y 3).val) (h7 : ¬ k0_cond1 i = 1#1 → ∀ y, x7 y = G7 H y) (K : PUnit → sProp 𝕄G) :
    iprop(owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x2 ∗ owns (c : Thread nD τ) arg3 fullShare x3 ∗ owns (c : Thread nD τ) arg4 fullShare (fun y => G4 (HBS H) W y) ∗ owns (c : Thread nD τ) arg5 fullShare (fun y => G5 W y) ∗ owns (c : Thread nD τ) arg6 fullShare (fun y => G6 W y) ∗ owns (c : Thread nD τ) arg7 fullShare (fun y => G7 H y) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := Ideal)) Variants.none c none) Set.univ (cc0_sensitivity_table i arg2 harg2 arg3 harg3 arg4 harg4 arg5 harg5 arg6 harg6 arg7 harg7 arg8 harg8 arg9 harg9 arg10 harg10 arg11 harg11 arg12 harg12 arg13 harg13) K := by
  unfold owns
  iintro ⟨⟨%f2, %hf2, H2⟩, ⟨%f3, %hf3, H3⟩, ⟨%d4, %f4, -, H4⟩, ⟨%d5, %f5, -, H5⟩, ⟨%d6, %f6, -, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  have g2 : ∀ y, arg2.view.read (Elt Ideal) f2 y = W (y 1).val (y 2).val := fun y => (congrFun hf2 y).trans (hW y)
  have g3 : ∀ y, arg3.view.read (Elt Ideal) f3 y = H (y 1).val (y 2).val (y 3).val := fun y => (congrFun hf3 y).trans (hH y)
  have z4 : Done4 (HBS H) W arg4 0 f4 := fun y h => absurd h (Nat.not_lt_zero _)
  have z5 : Done5 W arg5 (0 * 8) f5 := fun y h => absurd h (by omega)
  have z6 : Done6 W arg6 0 f6 := fun y h => absurd h (Nat.not_lt_zero _)
  have z7 : Done7 H arg7 0 f7 := fun y h => absurd h (Nat.not_lt_zero _)
  have z8 : Done8 W arg8 0 f8 := fun y h => absurd h (Nat.not_lt_zero _)
  have z10 : Done10 W arg10 0 f10 := fun y h => absurd h (Nat.not_lt_zero _)
  have z11 : Done11 W arg11 (0 * 32) f11 := fun y h => absurd h (by omega)
  have z12 : Done12 W arg12 (0 * 32) f12 := fun y h => absurd h (by omega)
  have z13 : Done13 (HBS H) W arg13 0 f13 := fun y h => absurd h.1 (Nat.not_lt_zero _)
  let L2 := loopInv_k0_t2 c i arg2 harg2 arg3 harg3 arg4 harg4 arg5 harg5 arg6 harg6 arg7 harg7 arg8 harg8 arg9 harg9 arg10 harg10 arg11 harg11 arg12 harg12 arg13 harg13 f2 W g2
  let L5 := loopInv_k0_t5 c i arg2 harg2 arg3 harg3 arg4 harg4 arg5 harg5 arg6 harg6 arg7 harg7 arg8 harg8 arg9 harg9 arg10 harg10 arg11 harg11 arg12 harg12 arg13 harg13 W H
  let L10 := loopInv_k0_t10 c i arg2 harg2 arg3 harg3 arg4 harg4 arg5 harg5 arg6 harg6 arg7 harg7 arg8 harg8 arg9 harg9 arg10 harg10 arg11 harg11 arg12 harg12 arg13 harg13 W (HBS H)
  by_cases hq : k0_cond1 i = 1#1
  · have w7 := t1_done7 c i arg2 harg2 arg3 harg3 arg4 harg4 arg5 harg5 arg6 harg6 arg7 harg7 arg8 harg8 arg9 harg9 arg10 harg10 arg11 harg11 arg12 harg12 arg13 harg13 H hq f3 g3 f7
    sl_unfold [cc0_sensitivity_table]
    sl_exec
    sl_step
    iapply Hk
    isplitl [H2]
    · iexists _; isplitr; · ipureintro; exact hf2
      iexact H2
    isplitl [H3]
    · iexists _; isplitr; · ipureintro; exact hf3
      iexact H3
    isplitl [H4]
    · iexists _; isplitr; swap; · iexact H4
      ipureintro; exact done4_all (HBS H) W arg4 _ (by assumption)
    isplitl [H5]
    · iexists _; isplitr; swap; · iexact H5
      ipureintro; exact done5_all W arg5 _ (by assumption)
    isplitl [H6]
    · iexists _; isplitr; swap; · iexact H6
      ipureintro; exact done6_all W arg6 _ (by assumption)
    isplitl [H7]
    · iexists _; isplitr; swap; · iexact H7
      ipureintro; exact done7_all H arg7 _ (by assumption)
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    iexists _; iexists _; isplitr; swap; · iexact H13
    ipureintro; rfl

  · have w7 : Done7 H arg7 (Scf.trips k0_t1_loop.lb k0_t1_loop.ub k0_t1_loop.st) f7 := fun y _ => (congrFun hf7 y).trans (h7 hq y)
    sl_unfold [cc0_sensitivity_table]
    sl_exec
    sl_step
    iapply Hk
    isplitl [H2]
    · iexists _; isplitr; · ipureintro; exact hf2
      iexact H2
    isplitl [H3]
    · iexists _; isplitr; · ipureintro; exact hf3
      iexact H3
    isplitl [H4]
    · iexists _; isplitr; swap; · iexact H4
      ipureintro; exact done4_all (HBS H) W arg4 _ (by assumption)
    isplitl [H5]
    · iexists _; isplitr; swap; · iexact H5
      ipureintro; exact done5_all W arg5 _ (by assumption)
    isplitl [H6]
    · iexists _; isplitr; swap; · iexact H6
      ipureintro; exact done6_all W arg6 _ (by assumption)
    isplitl [H7]
    · iexists _; isplitr; swap; · iexact H7
      ipureintro; exact done7_all H arg7 _ (by assumption)
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    iexists _; iexists _; isplitr; swap; · iexact H13
    ipureintro; rfl

end Cert.KernelIdeal.Val
-- ==== Proof.KernelIdeal.Val.RunV.lean ====
/- `KernelIdeal`’s run: its three result arrays, element by element, as functions of its two arguments. -/
module

public import proofs.«01_k».proof.Proof.KernelIdeal.Val.Body
public import proofs.«01_k».proof.Proof.KernelIdeal.Run
public import Idealize.ShloMosaic.Lib.Pipeline.ValueKit.Geometry

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf ΦA)
open Cert.KernelIdeal.Own (sc0 sc1 sc2 sc3 sc4 sc5 sc6)

local notation "𝕄G" => MT nD τ sig Unit (Elt Ideal) ℕ (UR sig nD τ) ℕ

/-- A batch of the weights, at plain numbers. -/
def WA (w : S28x3072x1024.Idx → EReal) (b s d : ℕ) : EReal :=
  if h : b < 28 ∧ s < 3072 ∧ d < 1024 then w (ix3 ⟨b, h.1⟩ ⟨s, h.2.1⟩ ⟨d, h.2.2⟩) else 0

/-- A batch of the Hessian’s blocks, at plain numbers. -/
def HA (h : S28x8x128x128.Idx → EReal) (b g r x : ℕ) : EReal :=
  if k : b < 28 ∧ g < 8 ∧ r < 128 ∧ x < 128 then h (ix4 ⟨b, k.1⟩ ⟨g, k.2.1⟩ ⟨r, k.2.2.1⟩ ⟨x, k.2.2.2⟩) else 0

/-- The scores the kernel leaves. -/
def K0 (w : S28x3072x1024.Idx → EReal) (h : S28x8x128x128.Idx → EReal) (y : S28x4x8x3072.Idx) : EReal :=
  scoreS (HBS (HA h (y 0).val)) (WA w (y 0).val) (y 1).val (y 2).val (y 3).val

/-- The codes the kernel leaves. -/
def K1 (w : S28x3072x1024.Idx → EReal) (y : S28x3072x4x1024.Idx) : BitVec 8 :=
  BitVec.setWidth 8 (codeS (WA w (y 0).val) (y 2).val (y 1).val (y 3).val)

/-- The scales the kernel leaves. -/
def K2 (w : S28x3072x1024.Idx → EReal) (y : S28x4x32x3072.Idx) : EReal :=
  scaleS (y 1).val (amaxS (WA w (y 0).val) (y 3).val (y 2).val)

/-- The rows of a grid point. -/
def WT (w : S28x3072x1024.Idx → EReal) (t s d : ℕ) : EReal := WA w (t / 6) (512 * (t % 6) + s) d

theorem cond_iff : ∀ t : Fin cfg0.N, k0_cond1 (grid0.coords t) = 1#1 ↔ t.val % 6 = 0 := (by decide +kernel : ∀ t : Fin grid0.N, k0_cond1 (grid0.coords t) = 1#1 ↔ t.val % 6 = 0)
theorem idx0 : ∀ t : Fin cfg0.N, win0_0.index t = ![t.val / 6, t.val % 6, 0] := (by decide +kernel : ∀ t : Fin grid0.N, win0_0.index t = ![t.val / 6, t.val % 6, 0])
theorem idx1 : ∀ t : Fin cfg0.N, win0_1.index t = ![t.val / 6, 0, 0, 0] := (by decide +kernel : ∀ t : Fin grid0.N, win0_1.index t = ![t.val / 6, 0, 0, 0])
theorem idx2 : ∀ t : Fin cfg0.N, win0_2.index t = ![t.val / 6, 0, 0, t.val % 6] := (by decide +kernel : ∀ t : Fin grid0.N, win0_2.index t = ![t.val / 6, 0, 0, t.val % 6])
theorem idx3 : ∀ t : Fin cfg0.N, win0_3.index t = ![t.val / 6, t.val % 6, 0, 0] := (by decide +kernel : ∀ t : Fin grid0.N, win0_3.index t = ![t.val / 6, t.val % 6, 0, 0])
theorem idx4 : ∀ t : Fin cfg0.N, win0_4.index t = ![t.val / 6, 0, 0, t.val % 6] := (by decide +kernel : ∀ t : Fin grid0.N, win0_4.index t = ![t.val / 6, 0, 0, t.val % 6])

variable (m : (ℓ : Loc nD τ sig) → Buf (Elt Ideal) ℓ) (ρ : Dev nD → PrngReg)

/-- The two arguments of a device. -/
abbrev wOf (c : Dev nD) : S28x3072x1024.Idx → EReal := m ((c : Thread nD τ).loc main_arg0)
abbrev hOf (c : Dev nD) : S28x8x128x128.Idx → EReal := m ((c : Thread nD τ).loc main_arg1)

theorem iblk0_at (c : Dev nD) (t : Fin cfg0.N) (y : S1x512x1024.Idx) : (iblk m c 0 t : Vec Ideal S1x512x1024 .bf16) y = WT (wOf m c) t.val (y 1).val (y 2).val := by
  have h0 : (y 0).val < 1 := (y 0).isLt
  have h1 : (y 1).val < 512 := (y 1).isLt
  have h2 : (y 2).val < 1024 := (y 2).isLt
  have ht : t.val < 168 := Nat.lt_of_lt_of_eq t.isLt N_0
  unfold WT WA
  rw [dif_pos (by omega)]
  blk_simp [iblk]
  show wOf m c _ = wOf m c _
  congr 1
  blk_ext [idx0] <;> simp [idx0] <;> omega

theorem iblk1_at (c : Dev nD) (t : Fin cfg0.N) (y : S1x8x128x128.Idx) : (iblk m c 1 t : Vec Ideal S1x8x128x128 .f32) y = HA (hOf m c) (t.val / 6) (y 1).val (y 2).val (y 3).val := by
  have h0 : (y 0).val < 1 := (y 0).isLt
  have h1 : (y 1).val < 8 := (y 1).isLt
  have h2 : (y 2).val < 128 := (y 2).isLt
  have h3 : (y 3).val < 128 := (y 3).isLt
  have ht : t.val < 168 := Nat.lt_of_lt_of_eq t.isLt N_0
  unfold HA
  rw [dif_pos (by omega)]
  blk_simp [iblk]
  show hOf m c _ = hOf m c _
  congr 1
  blk_ext [idx1] <;> simp [idx1] <;> omega

/-- What the scratch holds before point `t`: away from a batch’s first point, the batch’s rearranged blocks in the first. -/
def ΦV (c : Dev nD) (t : ℕ) : sProp 𝕄G :=
  iprop(iprop((∃ d, owns (c : Thread nD τ) sc0 fullShare d ∗ ⌜t % 6 ≠ 0 → ∀ y, d y = G7 (HA (hOf m c) (t / 6)) y⌝) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ ∃ r, prngReg c r)

/-- The arrays as the region finds them; after the body each input block in place, each result’s block the specification’s. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fun y => G4 (HBS (HA (hOf m c) (t.val / 6))) (WT (wOf m c) t.val) y
    | ⟨3, _⟩ => fun y => G5 (WT (wOf m c) t.val) y
    | ⟨4, _⟩ => fun y => G6 (WT (wOf m c) t.val) y
  Φ t := ΦV m c t.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = fun y => G4 (HBS (HA (hOf m c) (t.val / 6))) (WT (wOf m c) t.val) y := by dsimp only [dats]; rfl
theorem after0_3 (c : Dev nD) (t : Fin cfg0.N) : (dats m 0 c).after 3 t = fun y => G5 (WT (wOf m c) t.val) y := by dsimp only [dats]; rfl
theorem after0_4 (c : Dev nD) (t : Fin cfg0.N) : (dats m 0 c).after 4 t = fun y => G6 (WT (wOf m c) t.val) y := by dsimp only [dats]; rfl
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The body obligation. -/
theorem body_obligation (c : Dev nD) : BodyObligation (dats m 0 c) (defs₀ (F := Ideal)) Variants.none () Set.univ := fun t => by
  rw [bigSep_W0, bigSep_W0]
  sl_whnfR [defs₀, Defs.onTc]
  simp only [before0_0, before0_1]
  rw [show (dats m 0 c).Φ t.succ = ΦV m c (t.val + 1) from rfl, show (dats m 0 c).Φ t.castSucc = ΦV m c t.val from rfl,
    show (dats m 0 c).owesAt () t.succ = (dats m 0 c).owesAt () t.castSucc from rfl, after0_0, after0_1, after0_2, after0_3, after0_4]
  unfold ΦV
  iintro ⟨⟨⟨⟨%x7, S0, %hx7⟩, S1, S2, S3, S4, S5, S6⟩, Hg⟩, Ho, ⟨%d0, H0⟩, ⟨%d1, H1⟩, ⟨%d2, H2⟩, ⟨%d3, H3⟩, ⟨%d4, H4⟩⟩
  iapply (bodyV c _ _ _ _ _ _ _ _ _ _ _ sc0 _ sc1 _ sc2 _ sc3 _ sc4 _ sc5 _ sc6 _ (iblk m c 0 t) (iblk m c 1 t) x7 (WT (wOf m c) t.val) (HA (hOf m c) (t.val / 6))
    (iblk0_at m c t) (iblk1_at m c t) (fun h => hx7 fun e => h ((cond_iff t).mpr e)) _)
  isplitl [H0]; · iexact H0
  isplitl [H1]; · iexact H1
  isplitl [H2]; · iexists _; iexact H2
  isplitl [H3]; · iexists _; iexact H3
  isplitl [H4]; · iexists _; iexact H4
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, S0, S1, S2, S3, S4, S5, S6⟩
  isplitl [S0 S1 S2 S3 S4 S5 S6 Hg]
  · isplitl [S0 S1 S2 S3 S4 S5 S6]
    · isplitl [S0]
      · iexists _; isplitl [S0]; · iexact S0
        ipureintro
        intro h y
        rw [show (t.val + 1) / 6 = t.val / 6 by omega]
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  iexact H4

theorem hin (c : Dev nD) : ΦA spec0 c ⊢ (dats m 0 c).Φ 0 := by
  rw [Own.ΦA_eq, show (dats m 0 c).Φ 0 = ΦV m c 0 from rfl]
  unfold ΦV
  iintro ⟨⟨⟨%d, S0⟩, S⟩, Hg⟩
  isplitl [S0 S]
  · isplitl [S0]
    · iexists _; isplitl [S0]; · iexact S0
      ipureintro
      exact fun h => absurd rfl h
    iexact S
  iexact Hg

theorem hout (c : Dev nD) : (dats m 0 c).Φ (Fin.last cfg0.N) ⊢ ΦA spec0 c := by
  rw [Own.ΦA_eq, show (dats m 0 c).Φ (Fin.last cfg0.N) = ΦV m c cfg0.N from rfl]
  unfold ΦV
  iintro ⟨⟨⟨%d, S0, -⟩, S⟩, Hg⟩
  isplitl [S0 S]
  · isplitl [S0]
    · iexists _; iexact S0
    iexact S
  iexact Hg

set_option backward.isDefEq.respectTransparency.types false in
/-- From any memory with zero counters every run of the program ends with the arrays the body’s blocks make. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hin := hin m) (hout := hout m)

theorem final2 (c : Dev nD) : (dats m 0 c).arrAt 2 cfg0.N = fun y => K0 (wOf m c) (hOf m c) y := by
  refine (dats m 0 c).arrAt_eq_of_covers 2 _ (by decide +kernel) fun t hf y => ?_
  blk_simp
  rw [after0_2]
  have h0 : (y 0).val < 1 := (y 0).isLt
  have e0 : ((win0_2.blk t).view.emb y 0).val = t.val / 6 := by blk_simp [idx2] <;> (try simp) <;> (try omega)
  have e1 : ((win0_2.blk t).view.emb y 1).val = (y 1).val := by blk_simp [idx2] <;> simp
  have e2 : ((win0_2.blk t).view.emb y 2).val = (y 2).val := by blk_simp [idx2] <;> simp
  have e3 : ((win0_2.blk t).view.emb y 3).val = 512 * (t.val % 6) + (y 3).val := by blk_simp [idx2] <;> (try simp) <;> (try omega)
  unfold K0
  rw [e0, e1, e2, e3]
  rfl

theorem final3 (c : Dev nD) : (dats m 0 c).arrAt 3 cfg0.N = fun y => K1 (wOf m c) y := by
  refine (dats m 0 c).arrAt_eq_of_covers 3 _ (by decide +kernel) fun t hf y => ?_
  blk_simp
  rw [after0_3]
  have h0 : (y 0).val < 1 := (y 0).isLt
  have e0 : ((win0_3.blk t).view.emb y 0).val = t.val / 6 := by blk_simp [idx3] <;> (try simp) <;> (try omega)
  have e1 : ((win0_3.blk t).view.emb y 1).val = 512 * (t.val % 6) + (y 1).val := by blk_simp [idx3] <;> (try simp) <;> (try omega)
  have e2 : ((win0_3.blk t).view.emb y 2).val = (y 2).val := by blk_simp [idx3] <;> simp
  have e3 : ((win0_3.blk t).view.emb y 3).val = (y 3).val := by blk_simp [idx3] <;> simp
  unfold K1
  rw [e0, e1, e2, e3]
  rfl

theorem final4 (c : Dev nD) : (dats m 0 c).arrAt 4 cfg0.N = fun y => K2 (wOf m c) y := by
  refine (dats m 0 c).arrAt_eq_of_covers 4 _ (by decide +kernel) fun t hf y => ?_
  blk_simp
  rw [after0_4]
  have h0 : (y 0).val < 1 := (y 0).isLt
  have e0 : ((win0_4.blk t).view.emb y 0).val = t.val / 6 := by blk_simp [idx4] <;> (try simp) <;> (try omega)
  have e1 : ((win0_4.blk t).view.emb y 1).val = (y 1).val := by blk_simp [idx4] <;> simp
  have e2 : ((win0_4.blk t).view.emb y 2).val = (y 2).val := by blk_simp [idx4] <;> simp
  have e3 : ((win0_4.blk t).view.emb y 3).val = 512 * (t.val % 6) + (y 3).val := by blk_simp [idx4] <;> (try simp) <;> (try omega)
  unfold K2
  rw [e0, e1, e2, e3]
  rfl

/-- The run, read: the three result arrays at their functions of the arguments, the arguments unchanged. -/
theorem runV : θ_run defs (onTc (τ := τ) (main (F := Ideal))) ⟨m, fun _ => 0, ρ⟩ fun r => ∀ c : Dev nD,
      r.2.mem ((c : Thread nD τ).loc main_v0_0) = (fun y => K0 (wOf m c) (hOf m c) y)
      ∧ r.2.mem ((c : Thread nD τ).loc main_v0_1) = (fun y => K1 (wOf m c) y)
      ∧ r.2.mem ((c : Thread nD τ).loc main_v0_2) = (fun y => K2 (wOf m c) y)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final2 m c), ((h c).1 3).trans (final3 m c), ((h c).1 4).trans (final4 m c),
    ((h c).1 0).trans (((dats m 0 c).arrAt_in 0 rfl _).trans (V_main_arg0 m c)), ((h c).1 1).trans (((dats m 0 c).arrAt_in 1 rfl _).trans (V_main_arg1 m c))⟩) (run_main m ρ)

end Cert.KernelIdeal.Val
-- ==== Proof.Ref.Value.lean ====
/- The reference’s stages read at plain numbers: scale, code and error of an element. -/
module

public import proofs.«01_k».proof.Proof.Maths.Quant
public import proofs.«01_k».proof.Proof.KernelIdeal.Val.RunV
public import proofs.«01_k».proof.Proof.Gen.ReferenceIdeal.Run
public import proofs.«01_k».proof.Proof.Gen.ReferenceIdeal.Read

@[expose] public section

set_option maxRecDepth 16384
set_option warn.classDefReducibility false

noncomputable section

namespace Cert.ReferenceIdeal.Val

open Cert.ReferenceIdeal Cert.ReferenceIdeal.Read Cert.ReferenceIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The weights, as the reference takes them. -/
abbrev TW : Type := (⟨S28x3072x1024, .bf16⟩ : BufTy).Contents (Elt Ideal)

/-- The Hessian's blocks, as the reference takes them. -/
abbrev TH : Type := (⟨S28x8x128x128, .f32⟩ : BufTy).Contents (Elt Ideal)

/-- The width's factor in the reference: one over twice its greatest code plus one, rounded to a power of two. -/
def invR : ℕ → ℝ
  | 0 => 1 / 2
  | 1 => 1 / 4
  | 2 => 1 / 8
  | _ => 1 / 128

/-- The logarithm of two, as the reference takes it. -/
def log2Q : EReal := Ideal.log ((2 : ℝ) : EReal)

/-- The reference's exponent of a sub-group with maximum `a`. -/
def exQ (b : ℕ) (a : EReal) : EReal :=
  if a = 0 then 0 else Ideal.liftRound Int.floor (Ideal.div (Ideal.log (a * ((invR b : ℝ) : EReal))) log2Q) + 1

/-- The reference's scale. -/
def scQ (b : ℕ) (a : EReal) : EReal := Ideal.exp (exQ b a * log2Q)

/-- The reference's code. -/
def cdQ (b : ℕ) (a x : EReal) : BitVec 32 :=
  Ideal.fptosi 32 (min (((qZ b : ℝ)) : EReal) (max (-(((qZ b : ℝ)) : EReal))
    (Ideal.liftRound Ideal.roundHalfEven (x * Ideal.exp (-exQ b a * log2Q)))))

/-- The reference's error. -/
def erQ (b : ℕ) (a x : EReal) : EReal := x - (((cdQ b a x).toInt : ℝ) : EReal) * scQ b a

theorem WA_eq (w : TW) (j : S28x3072x1024.Idx) (b s d : ℕ) (h0 : (j 0).val = b) (h1 : (j 1).val = s) (h2 : (j 2).val = d) :
    w j = WA w b s d := by
  have l0 : (j 0).val < 28 := (j 0).isLt
  have l1 : (j 1).val < 3072 := (j 1).isLt
  have l2 : (j 2).val < 1024 := (j 2).isLt
  unfold WA
  rw [dif_pos ⟨by omega, by omega, by omega⟩]
  refine congrArg w (funext fun a => Fin.ext ?_)
  match a with
  | ⟨0, _⟩ => exact h0
  | ⟨1, _⟩ => exact h1
  | ⟨2, _⟩ => exact h2

theorem HA_eq (h : TH) (j : S28x8x128x128.Idx) (b g r x : ℕ) (h0 : (j 0).val = b) (h1 : (j 1).val = g) (h2 : (j 2).val = r)
    (h3 : (j 3).val = x) : h j = HA h b g r x := by
  have l0 : (j 0).val < 28 := (j 0).isLt
  have l1 : (j 1).val < 8 := (j 1).isLt
  have l2 : (j 2).val < 128 := (j 2).isLt
  have l3 : (j 3).val < 128 := (j 3).isLt
  unfold HA
  rw [dif_pos ⟨by omega, by omega, by omega, by omega⟩]
  refine congrArg h (funext fun a => Fin.ext ?_)
  match a with
  | ⟨0, _⟩ => exact h0
  | ⟨1, _⟩ => exact h1
  | ⟨2, _⟩ => exact h2
  | ⟨3, _⟩ => exact h3

theorem v1_at (w : TW) (i : S28x3072x1x32x32.Idx) (n s u t : ℕ) (h0 : (i 0).val = n) (h1 : (i 1).val = s) (h3 : (i 3).val = u)
    (h4 : (i 4).val = t) : val_main_v1 (F := Ideal) w i = WA w n s (32 * u + t) := by
  subst h0 h1 h3 h4
  have l0 : (i 0).val < 28 := (i 0).isLt
  have l1 : (i 1).val < 3072 := (i 1).isLt
  have l2 : (i 2).val < 1 := (i 2).isLt
  have l3 : (i 3).val < 32 := (i 3).isLt
  have l4 : (i 4).val < 32 := (i 4).isLt
  rw [val_main_v1_apply, val_main_v0_apply]
  refine WA_eq w _ _ _ _ ?_ ?_ ?_
  · show (((((i 0).val * 3072 + (i 1).val) * 1 + (i 2).val) * 32 + (i 3).val) * 32 + (i 4).val) / 3145728 = _
    omega
  · show (((((i 0).val * 3072 + (i 1).val) * 1 + (i 2).val) * 32 + (i 3).val) * 32 + (i 4).val) / 1024 % 3072 = _
    omega
  · show (((((i 0).val * 3072 + (i 1).val) * 1 + (i 2).val) * 32 + (i 3).val) * 32 + (i 4).val) % 1024 = _
    omega

theorem ofBits_neg_inf : Ideal.ofBits .f32 0xFF800000#32 = ⊥ := by
  simp [Ideal.ofBits, Ideal.ieee]

/-- The reduction over a sub-group is the kernel's maximum. -/
theorem v3_at (w : TW) (i : S28x3072x1x32.Idx) :
    val_main_v3 (F := Ideal) w i = amaxS (WA w (i 0).val) (i 1).val (i 3).val := by
  unfold val_main_v3
  have e2 : ∀ k : S28x3072x1x32x32.Idx, val_main_v2 (F := Ideal) w k = absS (WA w (k 0).val (k 1).val (32 * (k 3).val + (k 4).val)) := fun k => by
    rw [val_main_v2_apply, v1_at w k _ _ _ _ rfl rfl rfl rfl]; rfl
  have ec : val_main_cst (F := Ideal) (Shape.Idx.first h_S_) = ⊥ := ofBits_neg_inf
  generalize val_main_v2 (F := Ideal) w = y at e2
  show Host.reduce (max : EReal → EReal → EReal) y _ _ _ i = _
  have hR : S28x3072x1x32x32.Reduces [4] S28x3072x1x32 := by decide
  rw [Host.reduce_eq_fold_single (max : EReal → EReal → EReal) y _ reducesTo_S28x3072x1x32x32_S28x3072x1x32_d4 hR h_S_ i, ec]
  show Finset.sup (Finset.univ : Finset (Fin 32)) _ = _
  unfold amaxS
  apply le_antisymm
  · refine Finset.sup_le fun k _ => ?_
    refine le_trans (le_of_eq (e2 _)) ?_
    exact Finset.le_sup (f := fun t => absS (WA w (i 0).val (i 1).val (32 * (i 3).val + t))) (Finset.mem_range.mpr k.isLt)
  · refine Finset.sup_le fun k hk => ?_
    refine le_trans (le_of_eq ?_) (Finset.le_sup (Finset.mem_univ (⟨k, Finset.mem_range.mp hk⟩ : Fin 32)))
    exact (e2 (hR.lift i (⟨k, Finset.mem_range.mp hk⟩ : Fin 32))).symm

theorem bits_2 : Ideal.ofBits .f32 0x40000000#32 = ((2 : ℝ) : EReal) := by
  simp [Ideal.ofBits, Ideal.ieee, -EReal.coe_mul]; norm_num
theorem bits_3 : Ideal.ofBits .f32 0x40400000#32 = ((3 : ℝ) : EReal) := by
  simp [Ideal.ofBits, Ideal.ieee, -EReal.coe_mul]; norm_num
theorem bits_7 : Ideal.ofBits .f32 0x40E00000#32 = ((7 : ℝ) : EReal) := by
  simp [Ideal.ofBits, Ideal.ieee, -EReal.coe_mul]; norm_num
theorem bits_127 : Ideal.ofBits .f32 0x42FE0000#32 = ((127 : ℝ) : EReal) := by
  simp [Ideal.ofBits, Ideal.ieee, -EReal.coe_mul]; norm_num
theorem bits_8th : Ideal.ofBits .f32 0x3E000000#32 = ((1 / 8 : ℝ) : EReal) := by
  simp [Ideal.ofBits, Ideal.ieee, -EReal.coe_mul]; norm_num
theorem bits_128th : Ideal.ofBits .f32 0x3C000000#32 = ((1 / 128 : ℝ) : EReal) := by
  simp [Ideal.ofBits, Ideal.ieee, -EReal.coe_mul]; norm_num

/-- The table of greatest codes. -/
theorem v14_at (i : S1x1x4x1x1.Idx) (b : ℕ) (hb : (i 2).val = b) : val_main_v14 (F := Ideal) i = ((qZ b : ℝ) : EReal) := by
  subst hb
  have l : (i 2).val < 4 := (i 2).isLt
  simp only [val_main_v14_apply, val_main_v13_apply, val_main_v12_apply, val_main_v11_apply, val_main_v10_apply, val_main_v9_apply,
    val_main_v8_apply, val_main_v7_apply, val_main_v6_apply, val_main_v5_apply, val_main_c_apply, val_main_c_0_apply, val_main_c_1_apply,
    val_main_call0_v0_apply, val_main_call0_v1_apply, val_main_call1_v0_apply, val_main_call2_v0_apply, val_main_cst_2_apply,
    val_main_cst_3_apply, val_main_cst_4_apply, val_main_cst_5_apply, Ideal.ofBits_def, bits_3, bits_7, bits_127, Idealize.ShloMosaic.Ideal.ofBits_one_f32]
  generalize (i 2).val = b at l ⊢
  interval_cases b <;> simp [Scalar.select, IntOp.cmpi, qZ]

/-- The table of factors. -/
theorem v24_at (i : S1x1x4x1x1.Idx) (b : ℕ) (hb : (i 2).val = b) : val_main_v24 (F := Ideal) i = ((invR b : ℝ) : EReal) := by
  subst hb
  have l : (i 2).val < 4 := (i 2).isLt
  simp only [val_main_v24_apply, val_main_v23_apply, val_main_v22_apply, val_main_v21_apply, val_main_v20_apply, val_main_v19_apply,
    val_main_v18_apply, val_main_v17_apply, val_main_v16_apply, val_main_v15_apply, val_main_c_6_apply, val_main_c_7_apply, val_main_c_8_apply,
    val_main_call3_v0_apply, val_main_call3_v1_apply, val_main_call4_v0_apply, val_main_call5_v0_apply, val_main_cst_9_apply,
    val_main_cst_10_apply, val_main_cst_11_apply, val_main_cst_12_apply, Ideal.ofBits_def, bits_8th, bits_128th, f_half, f_quarter]
  generalize (i 2).val = b at l ⊢
  interval_cases b <;> simp [Scalar.select, IntOp.cmpi, invR]

theorem v25_at (i : S_.Idx) : val_main_v25 (F := Ideal) i = log2Q := by
  rw [val_main_v25_apply, val_main_cst_13_apply, Ideal.ofBits_def, bits_2]; rfl

theorem sel_eq (a t e : EReal) :
    Scalar.select (FloatOps.cmpf (F := Ideal) (φ := .f32) .oeq a 0) t e = if a = 0 then t else e := by
  rw [Ideal.cmpf_def]
  unfold Scalar.select Ideal.cmp
  by_cases h : a = 0 <;> simp [h]

theorem v4_at (w : TW) (i : S28x3072x1x32x1.Idx) (n s u : ℕ) (h0 : (i 0).val = n) (h1 : (i 1).val = s) (h3 : (i 3).val = u) :
    val_main_v4 (F := Ideal) w i = amaxS (WA w n) s u := by
  subst h0 h1 h3
  rw [val_main_v4_apply, v3_at]

theorem v36_at (w : TW) (i : S28x3072x4x32x1.Idx) :
    val_main_v36 (F := Ideal) w i = Ideal.liftRound Int.floor
      (Ideal.div (Ideal.log (amaxS (WA w (i 0).val) (i 1).val (i 3).val * ((invR (i 2).val : ℝ) : EReal))) log2Q) + 1 := by
  rw [val_main_v36_apply, val_main_v35_apply, val_main_cst_15_apply, Ideal.ofBits_def, Idealize.ShloMosaic.Ideal.ofBits_one_f32, val_main_v34_apply,
    val_main_v33_apply, val_main_v32_apply, val_main_v31_apply, val_main_v30_apply, val_main_v29_apply, val_main_v28_apply,
    v4_at w _ (i 0).val (i 1).val (i 3).val rfl rfl rfl, v24_at _ (i 2).val rfl, v25_at]
  generalize amaxS (WA w (i 0).val) (i 1).val (i 3).val = a
  simp only [Ideal.addf_def, Ideal.hostUnary_floor_def, Ideal.hostDivf_def, Ideal.hostUnary_log_def, Ideal.mulf_def]

/-- The exponents. -/
theorem v37_at (w : TW) (i : S28x3072x4x32x1.Idx) (n s b u : ℕ) (h0 : (i 0).val = n) (h1 : (i 1).val = s) (h2 : (i 2).val = b)
    (h3 : (i 3).val = u) : val_main_v37 (F := Ideal) w i = exQ b (amaxS (WA w n) s u) := by
  subst h0 h1 h2 h3
  rw [val_main_v37_apply, v36_at, val_main_call6_v1_apply, val_main_cst_16_apply, Ideal.ofBits_def, Idealize.ShloMosaic.Ideal.ofBits_zero_f32, val_main_call6_v0_apply,
    val_main_v27_apply, val_main_v26_apply, val_main_cst_14_apply, Ideal.ofBits_def, Idealize.ShloMosaic.Ideal.ofBits_zero_f32,
    v4_at w _ (i 0).val (i 1).val (i 3).val rfl rfl rfl]
  generalize amaxS (WA w (i 0).val) (i 1).val (i 3).val = a
  exact sel_eq _ _ _

theorem v40_at (w : TW) (i : S28x3072x4x32x1.Idx) (n s b u : ℕ) (h0 : (i 0).val = n) (h1 : (i 1).val = s) (h2 : (i 2).val = b)
    (h3 : (i 3).val = u) : val_main_v40 (F := Ideal) w i = scQ b (amaxS (WA w n) s u) := by
  rw [val_main_v40_apply, val_main_v39_apply, v37_at w i n s b u h0 h1 h2 h3, val_main_v38_apply, v25_at, Ideal.mulf_def,
    Ideal.hostUnary_exp_def]
  rfl

theorem v44_at (w : TW) (i : S28x3072x4x32x1.Idx) (n s b u : ℕ) (h0 : (i 0).val = n) (h1 : (i 1).val = s) (h2 : (i 2).val = b)
    (h3 : (i 3).val = u) : val_main_v44 (F := Ideal) w i = Ideal.exp (-exQ b (amaxS (WA w n) s u) * log2Q) := by
  rw [val_main_v44_apply, val_main_v43_apply, val_main_v41_apply, v37_at w i n s b u h0 h1 h2 h3, val_main_v42_apply, v25_at,
    Ideal.mulf_def, Ideal.hostUnary_exp_def, Ideal.hostNegf_def, Ideal.negf_def]

/-- The codes. -/
theorem v51_at (w : TW) (i : S28x3072x4x32x32.Idx) (n s b u t : ℕ) (h0 : (i 0).val = n) (h1 : (i 1).val = s) (h2 : (i 2).val = b)
    (h3 : (i 3).val = u) (h4 : (i 4).val = t) :
    val_main_v51 (F := Ideal) w i = cdQ b (amaxS (WA w n) s u) (WA w n s (32 * u + t)) := by
  rw [val_main_v51_apply, val_main_v50_apply, val_main_call8_v2_apply, val_main_call8_v1_apply, val_main_call8_v0_apply,
    val_main_v49_apply, v14_at _ b h2, val_main_v48_apply, val_main_v47_apply, val_main_v45_apply, val_main_v46_apply,
    v44_at w _ n s b u h0 h1 h2 h3, v1_at w _ n s u t h0 h1 h3 h4]
  generalize amaxS (WA w n) s u = a
  generalize WA w n s (32 * u + t) = x
  rw [Ideal.mulf_def, Ideal.hostNegf_def, Ideal.negf_def, Ideal.maximumf_def, Ideal.minimumf_def, Ideal.hostUnary_roundeven_def]
  rfl

/-- The errors. -/
theorem v56_at (w : TW) (i : S28x3072x4x32x32.Idx) (n s b u t : ℕ) (h0 : (i 0).val = n) (h1 : (i 1).val = s) (h2 : (i 2).val = b)
    (h3 : (i 3).val = u) (h4 : (i 4).val = t) :
    val_main_v56 (F := Ideal) w i = erQ b (amaxS (WA w n) s u) (WA w n s (32 * u + t)) := by
  rw [val_main_v56_apply, val_main_v55_apply, v1_at w _ n s u t h0 h1 h3 h4, val_main_v54_apply, val_main_v53_apply,
    v40_at w _ n s b u h0 h1 h2 h3, val_main_v52_apply, v51_at w i n s b u t h0 h1 h2 h3 h4]
  generalize amaxS (WA w n) s u = a
  generalize WA w n s (32 * u + t) = x
  rfl

end Cert.ReferenceIdeal.Val
-- ==== Proof.Maths.Agree.lean ====
/- Kernel and reference quantise a real number alike. -/
module

public import proofs.«01_k».proof.Proof.Ref.Value

@[expose] public section

set_option maxRecDepth 16384
set_option warn.classDefReducibility false

noncomputable section

namespace Cert.ReferenceIdeal.Val

open Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The power of two the width's factor is. -/
def jZ : ℕ → ℕ
  | 0 => 0
  | 1 => 1
  | 2 => 2
  | _ => 6

theorem uR_eq (b : ℕ) : uR b = ((2 : ℝ) ^ jZ b)⁻¹ :=
  match b with
  | 0 => by norm_num [uR, jZ]
  | 1 => by norm_num [uR, jZ]
  | 2 => by norm_num [uR, jZ]
  | n + 3 => by show (1 / 64 : ℝ) = ((2 : ℝ) ^ 6)⁻¹; norm_num

theorem invR_eq (b : ℕ) : invR b = ((2 : ℝ) ^ (jZ b + 1))⁻¹ :=
  match b with
  | 0 => by norm_num [invR, jZ]
  | 1 => by norm_num [invR, jZ]
  | 2 => by norm_num [invR, jZ]
  | n + 3 => by show (1 / 128 : ℝ) = ((2 : ℝ) ^ (6 + 1))⁻¹; norm_num

theorem log2Q_eq : log2Q = ((Real.log 2 : ℝ) : EReal) := log_coe 2 (by norm_num)

/-- The reference's exponent of a positive maximum. -/
theorem exQ_coe (b : ℕ) (a : ℝ) (ha : 0 < a) : exQ b (a : EReal) = (((nZ a : ℝ) - jZ b : ℝ) : EReal) := by
  have hi : 0 < invR b := by rw [invR_eq]; positivity
  have e : Real.log (a * invR b) / Real.log 2 = Real.log a / Real.log 2 - ((jZ b + 1 : ℕ) : ℝ) := by
    rw [Real.log_mul ha.ne' hi.ne', invR_eq, Real.log_inv, Real.log_pow, add_div, neg_div, mul_div_assoc, div_self log2_pos.ne', mul_one]
    ring
  rw [exQ, if_neg (by exact_mod_cast ha.ne'), ← EReal.coe_mul, log_coe _ (mul_pos ha hi), log2Q_eq, div_coe _ _ log2_pos.ne', e,
    Ideal.liftRound_coe, Int.floor_sub_natCast, show (1 : EReal) = ((1 : ℝ) : EReal) from rfl, ← EReal.coe_add]
  congr 1
  unfold nZ
  push_cast
  ring

theorem exp_j (j : ℕ) : Real.exp ((j : ℝ) * Real.log 2) = 2 ^ j := by
  rw [mul_comm, Real.exp_mul, Real.exp_log (by norm_num), Real.rpow_natCast]

/-- The reference's scale of a positive maximum is the kernel's step. -/
theorem scQ_coe (b : ℕ) (a : ℝ) (ha : 0 < a) : scQ b (a : EReal) = ((uR b * pR a : ℝ) : EReal) := by
  rw [scQ, exQ_coe b a ha, log2Q_eq, ← EReal.coe_mul]
  show ((Real.exp _ : ℝ) : EReal) = _
  congr 1
  rw [sub_mul, Real.exp_sub, exp_j, uR_eq, pR]
  field_simp

/-- The reference's reciprocal of the scale. -/
theorem inv_coe (b : ℕ) (a : ℝ) (ha : 0 < a) :
    Ideal.exp (-exQ b (a : EReal) * log2Q) = (((uR b * pR a)⁻¹ : ℝ) : EReal) := by
  rw [exQ_coe b a ha, log2Q_eq, ← EReal.coe_neg, ← EReal.coe_mul]
  show ((Real.exp _ : ℝ) : EReal) = _
  congr 1
  rw [neg_mul, Real.exp_neg, sub_mul, Real.exp_sub, exp_j, uR_eq, pR]
  congr 1
  field_simp

/-- The reference's code of a real. -/
theorem cdQ_coe (b : ℕ) (a x : ℝ) (ha : 0 < a) :
    cdQ b (a : EReal) (x : EReal) = BitVec.ofInt 32 (codeZ b (x / (uR b * pR a))) := by
  have e : min (((qZ b : ℝ)) : EReal) (max (-(((qZ b : ℝ)) : EReal))
      (Ideal.liftRound Ideal.roundHalfEven (((x / (uR b * pR a) : ℝ)) : EReal))) = (((codeZ b (x / (uR b * pR a)) : ℤ) : ℝ) : EReal) := by
    rw [Ideal.liftRound_coe, ← EReal.coe_neg, coe_max', coe_min']
    congr 1
    unfold codeZ
    push_cast
    rfl
  rw [cdQ, inv_coe b a ha, ← EReal.coe_mul, ← div_eq_mul_inv, e]
  exact fptosi_int _ (codeZ_bounds b _)

theorem toInt_code (z : ℤ) (h : -127 ≤ z ∧ z ≤ 127) : (BitVec.ofInt 32 z).toInt = z := by
  rw [BitVec.toInt_ofInt]
  exact Int.bmod_eq_of_le (by norm_num; omega) (by norm_num; omega)

/-- The reference's error of a real. -/
theorem erQ_coe (b : ℕ) (a x : ℝ) (ha : 0 < a) :
    erQ b (a : EReal) (x : EReal) = ((x - (codeZ b (x / (uR b * pR a)) : ℝ) * (uR b * pR a) : ℝ) : EReal) := by
  rw [erQ, cdQ_coe b a x ha, toInt_code _ (codeZ_bounds b _), scQ_coe b a ha, ← EReal.coe_mul, ← EReal.coe_sub]

theorem exQ_zero (b : ℕ) : exQ b 0 = 0 := by rw [exQ, if_pos rfl]

theorem scQ_zero (b : ℕ) : scQ b 0 = 1 := by
  rw [scQ, exQ_zero, zero_mul]
  show ((Real.exp 0 : ℝ) : EReal) = 1
  rw [Real.exp_zero]; rfl

theorem cdQ_zero (b : ℕ) : cdQ b 0 0 = 0#32 := by
  have h1 : (Ideal.liftRound Ideal.roundHalfEven (0 * Ideal.exp (-exQ b 0 * log2Q))) = (((0 : ℤ) : ℝ) : EReal) := by
    rw [zero_mul, show (0 : EReal) = ((((0 : ℤ) : ℝ)) : EReal) by norm_num, Ideal.liftRound_coe, rhe_int]
  have h2 : min (((qZ b : ℝ)) : EReal) (max (-(((qZ b : ℝ)) : EReal)) (((0 : ℤ) : ℝ) : EReal)) = (((0 : ℤ) : ℝ) : EReal) := by
    have := qZ_nonneg b
    rw [← EReal.coe_neg, coe_max', coe_min']
    congr 1
    rw [max_eq_right (by push_cast; simpa using this), min_eq_right (by exact_mod_cast this)]
  rw [cdQ, h1, h2]
  exact (fptosi_int 0 (by omega)).trans (by decide)

theorem erQ_zero (b : ℕ) : erQ b 0 0 = 0 := by
  rw [erQ, cdQ_zero, scQ_zero]
  simp

end Cert.ReferenceIdeal.Val
-- ==== Proof.Maths.Score.lean ====
/- The scores at real numbers: the kernel’s order of summation gives the quadratic form. -/
module

public import proofs.«01_k».proof.Proof.Maths.Quant
public import proofs.«01_k».proof.Proof.KernelIdeal.Val.PayT1

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A finite sum of reals, as extended reals. -/
theorem coe_sum' {ι : Type} (S : Finset ι) (f : ι → ℝ) : (∑ i ∈ S, ((f i : ℝ) : EReal)) = ((∑ i ∈ S, f i : ℝ) : EReal) := by
  induction S using Finset.cons_induction with
  | empty => simp
  | cons a S ha ih => rw [Finset.sum_cons, Finset.sum_cons, ih, EReal.coe_add]

theorem coe_sum8 (f : ℕ → ℝ) : sum8 (fun i => ((f i : ℝ) : EReal)) = ((f 0 + f 1 + f 2 + f 3 + f 4 + f 5 + f 6 + f 7 : ℝ) : EReal) := by
  simp only [sum8, EReal.coe_add]

theorem sum8_congr1 (f g : ℕ → EReal) (h : ∀ i < 8, f i = g i) : sum8 f = sum8 g := by
  unfold sum8
  rw [h 0 (by omega), h 1 (by omega), h 2 (by omega), h 3 (by omega), h 4 (by omega), h 5 (by omega), h 6 (by omega), h 7 (by omega)]

section

variable (H : ℕ → ℕ → ℕ → EReal) (W : ℕ → ℕ → EReal) (b s g : ℕ) (E : ℕ → ℝ) (M : ℕ → ℕ → ℝ)

/-- A row of a group's block times the group's errors. -/
def rowR (g : ℕ) (E : ℕ → ℝ) (M : ℕ → ℕ → ℝ) (r : ℕ) : ℝ := ∑ x ∈ Finset.range 128, M r x * E (128 * g + x)

/-- A row of the pair's matrix meets its own group's errors alone. -/
theorem thS_coe (hg : g < 8) (hE : ∀ d < 1024, errS W b s d = ((E d : ℝ) : EReal)) (hM : ∀ r < 128, ∀ x < 128, H g r x = ((M r x : ℝ) : EReal))
    (p h q : ℕ) (hp : g = 2 * p + h) (hh : h < 2) (hq : q < 128) :
    thS (HBS H) W b p (128 * h + q) s = ((rowR g E M (rowS q) : ℝ) : EReal) := by
  have hr : rowS q < 128 := by unfold rowS; split_ifs <;> omega
  unfold thS rowR
  rw [Fin.sum_univ_eq_sum_range (fun x => HBS H p (128 * h + q) x * errS W b s (256 * p + x)) 256,
    show (256 : ℕ) = 128 + 128 from rfl, Finset.sum_range_add, ← coe_sum']
  have e1 : (128 * h + q) / 128 = h := by omega
  have e2 : (128 * h + q) % 128 = q := by omega
  interval_cases h
  · have z : ∑ x ∈ Finset.range 128, HBS H p (128 * 0 + q) (128 + x) * errS W b s ((128 + 128) * p + (128 + x)) = 0 :=
      Finset.sum_eq_zero fun x hx => by
        have := Finset.mem_range.mp hx
        rw [HBS, if_neg (by omega), zero_mul]
    rw [z, add_zero]
    refine Finset.sum_congr rfl fun x hx => ?_
    have hx' := Finset.mem_range.mp hx
    rw [HBS, e1, e2, if_pos (by omega), show x % 128 = x by omega, show 2 * p + 0 = g by omega, hM _ hr _ hx', hE _ (by omega),
      ← EReal.coe_mul, show (128 + 128) * p + x = 128 * g + x by omega]
  · have z : ∑ x ∈ Finset.range 128, HBS H p (128 * 1 + q) x * errS W b s ((128 + 128) * p + x) = 0 :=
      Finset.sum_eq_zero fun x hx => by
        have := Finset.mem_range.mp hx
        rw [HBS, if_neg (by omega), zero_mul]
    rw [z, zero_add]
    refine Finset.sum_congr rfl fun x hx => ?_
    have hx' := Finset.mem_range.mp hx
    rw [HBS, e1, e2, if_pos (by omega), show (128 + x) % 128 = x by omega, show 2 * p + 1 = g by omega, hM _ hr _ hx', hE _ (by omega),
      ← EReal.coe_mul, show (128 + 128) * p + (128 + x) = 128 * g + x by omega]

/-- A term of the quadratic form. -/
def termR (g : ℕ) (E : ℕ → ℝ) (M : ℕ → ℕ → ℝ) (i : ℕ) : ℝ := rowR g E M i * E (128 * g + i)

theorem prS_coe (hg : g < 8) (hE : ∀ d < 1024, errS W b s d = ((E d : ℝ) : EReal)) (hM : ∀ r < 128, ∀ x < 128, H g r x = ((M r x : ℝ) : EReal))
    (v u : ℕ) (hv : v < 8) (hu : u < 8) :
    prS (HBS H) W b (g / 2) (g % 2) v u s = ((termR g E M (16 * v + 2 * u) + termR g E M (16 * v + 2 * u + 1) : ℝ) : EReal) := by
  unfold prS
  rw [show 128 * (g % 2) + 8 * v + u = 128 * (g % 2) + (8 * v + u) by omega,
    show 128 * (g % 2) + 64 + 8 * v + u = 128 * (g % 2) + (64 + 8 * v + u) by omega,
    thS_coe H W b s g E M hg hE hM (g / 2) (g % 2) (8 * v + u) (by omega) (by omega) (by omega),
    thS_coe H W b s g E M hg hE hM (g / 2) (g % 2) (64 + 8 * v + u) (by omega) (by omega) (by omega),
    hE _ (by omega), hE _ (by omega), ← EReal.coe_mul, ← EReal.coe_mul, ← EReal.coe_add]
  have r1 : rowS (8 * v + u) = 16 * v + 2 * u := by unfold rowS; rw [if_pos (by omega)]; omega
  have r2 : rowS (64 + 8 * v + u) = 16 * v + 2 * u + 1 := by unfold rowS; rw [if_neg (by omega)]; omega
  rw [r1, r2, show 256 * (g / 2) + (128 * (g % 2) + 16 * v + 2 * u) = 128 * g + (16 * v + 2 * u) by omega,
    show 256 * (g / 2) + (128 * (g % 2) + 16 * v + 2 * u + 1) = 128 * g + (16 * v + 2 * u + 1) by omega]
  rfl

/-- The kernel's score is the quadratic form of the group's errors. -/
theorem scoreS_coe (hg : g < 8) (hE : ∀ d < 1024, errS W b s d = ((E d : ℝ) : EReal)) (hM : ∀ r < 128, ∀ x < 128, H g r x = ((M r x : ℝ) : EReal)) :
    scoreS (HBS H) W b g s = ((∑ i ∈ Finset.range 128, termR g E M i : ℝ) : EReal) := by
  unfold scoreS
  have h1 : ∀ u < 8, accS (HBS H) W b (g / 2) (g % 2) u s
      = (((fun u => (fun v => termR g E M (16 * v + 2 * u) + termR g E M (16 * v + 2 * u + 1)) 0
        + (fun v => termR g E M (16 * v + 2 * u) + termR g E M (16 * v + 2 * u + 1)) 1
        + (fun v => termR g E M (16 * v + 2 * u) + termR g E M (16 * v + 2 * u + 1)) 2
        + (fun v => termR g E M (16 * v + 2 * u) + termR g E M (16 * v + 2 * u + 1)) 3
        + (fun v => termR g E M (16 * v + 2 * u) + termR g E M (16 * v + 2 * u + 1)) 4
        + (fun v => termR g E M (16 * v + 2 * u) + termR g E M (16 * v + 2 * u + 1)) 5
        + (fun v => termR g E M (16 * v + 2 * u) + termR g E M (16 * v + 2 * u + 1)) 6
        + (fun v => termR g E M (16 * v + 2 * u) + termR g E M (16 * v + 2 * u + 1)) 7) u : ℝ) : EReal) := fun u hu => by
    unfold accS
    rw [sum8_congr1 _ _ fun v hv => prS_coe H W b s g E M hg hE hM v u hv hu, coe_sum8]
  rw [sum8_congr1 _ _ h1, coe_sum8]
  congr 1
  simp only [Finset.sum_range_succ, Finset.sum_range_zero, Nat.reduceMul, Nat.reduceAdd]
  ring

/-- The quadratic form, its two sums in the other order. -/
theorem quad_swap : ∑ i ∈ Finset.range 128, termR g E M i
    = ∑ j ∈ Finset.range 128, (∑ k ∈ Finset.range 128, M k j * E (128 * g + k)) * E (128 * g + j) := by
  unfold termR rowR
  simp only [Finset.sum_mul]
  rw [Finset.sum_comm]
  refine Finset.sum_congr rfl fun j _ => Finset.sum_congr rfl fun k _ => ?_
  ring

end

end Cert.KernelIdeal.Val
-- ==== Proof.Ref.Results.lean ====
/- The reference’s three results read at plain numbers. -/
module

public import proofs.«01_k».proof.Proof.Ref.Value

@[expose] public section

set_option maxRecDepth 16384
set_option warn.classDefReducibility false

noncomputable section

namespace Cert.ReferenceIdeal.Val

open Cert.ReferenceIdeal Cert.ReferenceIdeal.Read Cert.ReferenceIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The reference's error at a column. -/
def errQ (W : ℕ → ℕ → EReal) (b s d : ℕ) : EReal := erQ b (amaxS W s (d / 32)) (W s d)

/-- The reference's score: the quadratic form of a group's errors. -/
def scoreQ (H : ℕ → ℕ → ℕ → EReal) (W : ℕ → ℕ → EReal) (b g s : ℕ) : EReal :=
  0 + ∑ j : Fin 128, (∑ k : Fin 128, H g k.val j.val * errQ W b s (128 * g + k.val)) * errQ W b s (128 * g + j.val)

theorem v58_at (w : TW) (i : S28x3072x4x8x128.Idx) (n s b g k : ℕ) (h0 : (i 0).val = n) (h1 : (i 1).val = s) (h2 : (i 2).val = b)
    (h3 : (i 3).val = g) (h4 : (i 4).val = k) : val_main_v58 (F := Ideal) w i = errQ (WA w n) b s (128 * g + k) := by
  have l0 : (i 0).val < 28 := (i 0).isLt
  have l1 : (i 1).val < 3072 := (i 1).isLt
  have l2 : (i 2).val < 4 := (i 2).isLt
  have l3 : (i 3).val < 8 := (i 3).isLt
  have l4 : (i 4).val < 128 := (i 4).isLt
  subst h0 h1 h2 h3 h4
  rw [val_main_v58_apply, val_main_v57_apply, Ideal.truncf_def]
  rw [v56_at w _ (i 0).val (i 1).val (i 2).val ((128 * (i 3).val + (i 4).val) / 32) ((128 * (i 3).val + (i 4).val) % 32)
    (by show (((((i 0).val * 3072 + (i 1).val) * 4 + (i 2).val) * 8 + (i 3).val) * 128 + (i 4).val) / 12582912 = _; omega)
    (by show (((((i 0).val * 3072 + (i 1).val) * 4 + (i 2).val) * 8 + (i 3).val) * 128 + (i 4).val) / 4096 % 3072 = _; omega)
    (by show (((((i 0).val * 3072 + (i 1).val) * 4 + (i 2).val) * 8 + (i 3).val) * 128 + (i 4).val) / 1024 % 4 = _; omega)
    (by show (((((i 0).val * 3072 + (i 1).val) * 4 + (i 2).val) * 8 + (i 3).val) * 128 + (i 4).val) / 32 % 32 = _; omega)
    (by show (((((i 0).val * 3072 + (i 1).val) * 4 + (i 2).val) * 8 + (i 3).val) * 128 + (i 4).val) % 32 = _; omega), Nat.div_add_mod]
  rfl

theorem v59_at (h : TH) (i : S28x8x128x128.Idx) (n g r x : ℕ) (h0 : (i 0).val = n) (h1 : (i 1).val = g) (h2 : (i 2).val = r)
    (h3 : (i 3).val = x) : val_main_v59 (F := Ideal) h i = HA h n g r x := by
  rw [val_main_v59_apply, Ideal.truncf_def]
  exact HA_eq h i n g r x h0 h1 h2 h3

theorem v63_at (w : TW) (h : TH) (i : S28x3072x4x8x128.Idx) (n s b g j : ℕ) (h0 : (i 0).val = n) (h1 : (i 1).val = s) (h2 : (i 2).val = b)
    (h3 : (i 3).val = g) (h4 : (i 4).val = j) : val_main_v63 (F := Ideal) w h i
      = (∑ k : Fin 128, HA h n g k.val j * errQ (WA w n) b s (128 * g + k.val)) * errQ (WA w n) b s (128 * g + j) := by
  rw [val_main_v63_apply, val_main_v62_apply, v58_at w i n s b g j h0 h1 h2 h3 h4, val_main_v61_apply, val_main_v60_apply,
    Ideal.mulf_def, Ideal.extf_def]
  congr 1
  refine Finset.sum_congr rfl fun k _ => ?_
  rw [v59_at h _ n g k.val j h0 h3 rfl h4, v58_at w (ridx_main_v60 (idx_main_v61 i) k) n s b g k.val h0 h1 h2 h3 rfl]

/-- The scores. -/
theorem v65_at (w : TW) (h : TH) (i : S28x4x8x3072.Idx) :
    val_main_v65 (F := Ideal) w h i = scoreQ (HA h (i 0).val) (WA w (i 0).val) (i 1).val (i 2).val (i 3).val := by
  rw [val_main_v65_apply, val_main_v64_apply, val_main_cst_17_apply, Ideal.ofBits_def, Idealize.ShloMosaic.Ideal.ofBits_zero_f32]
  unfold scoreQ
  congr 1
  refine Finset.sum_congr rfl fun j _ => ?_
  exact v63_at w h _ (i 0).val (i 3).val (i 1).val (i 2).val j.val rfl rfl rfl rfl rfl

/-- The codes. -/
theorem v67_at (w : TW) (i : S28x3072x4x1024.Idx) :
    val_main_v67 (F := Ideal) w i = BitVec.setWidth 8 (cdQ (i 2).val (amaxS (WA w (i 0).val) (i 1).val ((i 3).val / 32))
      (WA w (i 0).val (i 1).val (i 3).val)) := by
  have l0 : (i 0).val < 28 := (i 0).isLt
  have l1 : (i 1).val < 3072 := (i 1).isLt
  have l2 : (i 2).val < 4 := (i 2).isLt
  have l3 : (i 3).val < 1024 := (i 3).isLt
  rw [val_main_v67_apply, val_main_v66_apply]
  rw [v51_at w _ (i 0).val (i 1).val (i 2).val ((i 3).val / 32) ((i 3).val % 32)
    (by show ((((i 0).val * 3072 + (i 1).val) * 4 + (i 2).val) * 1024 + (i 3).val) / 12582912 = _; omega)
    (by show ((((i 0).val * 3072 + (i 1).val) * 4 + (i 2).val) * 1024 + (i 3).val) / 4096 % 3072 = _; omega)
    (by show ((((i 0).val * 3072 + (i 1).val) * 4 + (i 2).val) * 1024 + (i 3).val) / 1024 % 4 = _; omega)
    (by show ((((i 0).val * 3072 + (i 1).val) * 4 + (i 2).val) * 1024 + (i 3).val) / 32 % 32 = _; omega)
    (by show ((((i 0).val * 3072 + (i 1).val) * 4 + (i 2).val) * 1024 + (i 3).val) % 32 = _; omega), Nat.div_add_mod]

/-- The scales. -/
theorem v69_at (w : TW) (i : S28x4x32x3072.Idx) :
    val_main_v69 (F := Ideal) w i = scQ (i 1).val (amaxS (WA w (i 0).val) (i 3).val (i 2).val) := by
  have l0 : (i 0).val < 28 := (i 0).isLt
  have l1 : (i 1).val < 4 := (i 1).isLt
  have l2 : (i 2).val < 32 := (i 2).isLt
  have l3 : (i 3).val < 3072 := (i 3).isLt
  rw [val_main_v69_apply, val_main_v68_apply]
  exact v40_at w _ (i 0).val (i 3).val (i 1).val (i 2).val
    (by show ((((i 0).val * 3072 + (i 3).val) * 4 + (i 1).val) * 32 + (i 2).val) / 393216 = _; omega)
    (by show ((((i 0).val * 3072 + (i 3).val) * 4 + (i 1).val) * 32 + (i 2).val) / 128 % 3072 = _; omega)
    (by show ((((i 0).val * 3072 + (i 3).val) * 4 + (i 1).val) * 32 + (i 2).val) / 32 % 4 = _; omega)
    (by show ((((i 0).val * 3072 + (i 3).val) * 4 + (i 1).val) * 32 + (i 2).val) / 1 % 32 = _; omega)

end Cert.ReferenceIdeal.Val
-- ==== Proof.Maths.Results.lean ====
/- At finite arguments the kernel’s three results are the reference’s. -/
module

public import proofs.«01_k».proof.Proof.Maths.Agree
public import proofs.«01_k».proof.Proof.Maths.Score
public import proofs.«01_k».proof.Proof.Ref.Results

@[expose] public section

set_option maxRecDepth 16384
set_option warn.classDefReducibility false

noncomputable section

namespace Cert.ReferenceIdeal.Val

open Cert.ReferenceIdeal Cert.ReferenceIdeal.Read Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The maximum of a sub-group of reals: a real, not negative, and zero only over zeros. -/
theorem amax_coe (W : ℕ → ℕ → EReal) (s : ℕ) (X : ℕ → ℝ) (hX : ∀ d, W s d = ((X d : ℝ) : EReal)) (u : ℕ) :
    ∃ a : ℝ, 0 ≤ a ∧ amaxS W s u = (a : EReal) ∧ (a = 0 → ∀ t < 32, X (32 * u + t) = 0) := by
  have e : ∀ t, absS (W s (32 * u + t)) = ((|X (32 * u + t)| : ℝ) : EReal) := fun t => by
    rw [hX, absS, ← EReal.coe_neg, coe_max']; rfl
  obtain ⟨t0, _, ht0⟩ := Finset.exists_mem_eq_sup (Finset.range 32) ⟨0, by simp⟩ fun t => absS (W s (32 * u + t))
  have ha : amaxS W s u = ((|X (32 * u + t0)| : ℝ) : EReal) := ht0.trans (e t0)
  refine ⟨|X (32 * u + t0)|, abs_nonneg _, ha, fun hz t ht => ?_⟩
  have hle : absS (W s (32 * u + t)) ≤ amaxS W s u := Finset.le_sup (f := fun t => absS (W s (32 * u + t))) (Finset.mem_range.mpr ht)
  rw [e, ha, hz] at hle
  have : |X (32 * u + t)| ≤ 0 := by exact_mod_cast hle
  exact abs_eq_zero.mp (le_antisymm this (abs_nonneg _))

section

variable (W : ℕ → ℕ → EReal) (s : ℕ) (X : ℕ → ℝ) (hX : ∀ d, W s d = ((X d : ℝ) : EReal)) (b : ℕ) (hb : b < 4)
include hX hb

/-- The two scales are one. -/
theorem scale_agree (u : ℕ) : scaleS b (amaxS W s u) = scQ b (amaxS W s u) := by
  obtain ⟨a, h0, ha, _⟩ := amax_coe W s X hX u
  rw [ha]
  rcases h0.lt_or_eq with h | h
  · rw [scaleS_coe b hb a h, scQ_coe b a h]
  · rw [← h, EReal.coe_zero, scaleS_zero, scQ_zero]

/-- The two codes are one. -/
theorem code_agree (d : ℕ) :
    BitVec.setWidth 8 (codeS W b s d) = BitVec.setWidth 8 (cdQ b (amaxS W s (d / 32)) (W s d)) := by
  obtain ⟨a, h0, ha, hz⟩ := amax_coe W s X hX (d / 32)
  rw [codeS, ha, hX d]
  rcases h0.lt_or_eq with h | h
  · rw [pwS_coe a h, dS_coe b hb _ _ (pR_pos a), cdQ_coe b a _ h, BitVec.setWidth_setWidth_of_le _ (by omega)]
  · have hx : X d = 0 := by
      have := hz h.symm (d % 32) (Nat.mod_lt _ (by omega))
      rwa [Nat.div_add_mod] at this
    rw [hx, ← h, EReal.coe_zero, pwS_zero, dS_zero b hb, cdQ_zero]
    rfl

/-- The two errors are one real. -/
theorem err_agree (d : ℕ) : ∃ e : ℝ, errS W b s d = ((e : ℝ) : EReal) ∧ errQ W b s d = ((e : ℝ) : EReal) := by
  obtain ⟨a, h0, ha, hz⟩ := amax_coe W s X hX (d / 32)
  rw [errS, errQ, ha, hX d]
  rcases h0.lt_or_eq with h | h
  · exact ⟨_, by rw [pwS_coe a h]; exact eS_coe b hb _ _ (pR_pos a), erQ_coe b a _ h⟩
  · have hx : X d = 0 := by
      have := hz h.symm (d % 32) (Nat.mod_lt _ (by omega))
      rwa [Nat.div_add_mod] at this
    rw [hx, ← h, EReal.coe_zero, pwS_zero]
    exact ⟨0, (eS_zero b hb).trans EReal.coe_zero.symm, (erQ_zero b).trans EReal.coe_zero.symm⟩

/-- The two scores are one. -/
theorem score_agree (H : ℕ → ℕ → ℕ → EReal) (M : ℕ → ℕ → ℕ → ℝ) (hM : ∀ g r x, H g r x = ((M g r x : ℝ) : EReal)) (g : ℕ) (hg : g < 8) :
    scoreS (HBS H) W b g s = scoreQ H W b g s := by
  choose E hE hQ using err_agree W s X hX b hb
  rw [scoreS_coe H W b s g E (M g) hg (fun d _ => hE d) (fun r _ x _ => hM g r x), quad_swap, scoreQ, zero_add,
    Fin.sum_univ_eq_sum_range (fun j => (∑ k : Fin 128, H g k.val j * errQ W b s (128 * g + k.val)) * errQ W b s (128 * g + j)) 128,
    ← coe_sum']
  refine Finset.sum_congr rfl fun j _ => ?_
  rw [Fin.sum_univ_eq_sum_range (fun k => H g k j * errQ W b s (128 * g + k)) 128, hQ, EReal.coe_mul, ← coe_sum']
  congr 1
  refine Finset.sum_congr rfl fun k _ => ?_
  rw [hM, hQ, EReal.coe_mul]

end

section

variable (w : TW) (h : TH) (hw : ∀ j, ∃ r : ℝ, w j = ((r : ℝ) : EReal)) (hh : ∀ j, ∃ r : ℝ, h j = ((r : ℝ) : EReal))

include hw in
theorem WA_real (n s : ℕ) : ∃ X : ℕ → ℝ, ∀ d, WA w n s d = ((X d : ℝ) : EReal) := by
  have : ∀ d, ∃ r : ℝ, WA w n s d = ((r : ℝ) : EReal) := fun d => by
    unfold WA
    split_ifs
    · exact hw _
    · exact ⟨0, EReal.coe_zero.symm⟩
  exact ⟨fun d => (this d).choose, fun d => (this d).choose_spec⟩

include hh in
theorem HA_real (n : ℕ) : ∃ M : ℕ → ℕ → ℕ → ℝ, ∀ g r x, HA h n g r x = ((M g r x : ℝ) : EReal) := by
  have : ∀ g r x, ∃ v : ℝ, HA h n g r x = ((v : ℝ) : EReal) := fun g r x => by
    unfold HA
    split_ifs
    · exact hh _
    · exact ⟨0, EReal.coe_zero.symm⟩
  exact ⟨fun g r x => (this g r x).choose, fun g r x => (this g r x).choose_spec⟩

include hw hh in
/-- The scores agree. -/
theorem scores (y : S28x4x8x3072.Idx) : K0 w h y = val_main_v65 (F := Ideal) w h y := by
  obtain ⟨X, hX⟩ := WA_real w hw (y 0).val (y 3).val
  obtain ⟨M, hM⟩ := HA_real h hh (y 0).val
  rw [v65_at]
  exact score_agree _ _ X hX _ (y 1).isLt _ M hM _ (y 2).isLt

include hw in
/-- The codes agree. -/
theorem codes (y : S28x3072x4x1024.Idx) : K1 w y = val_main_v67 (F := Ideal) w y := by
  obtain ⟨X, hX⟩ := WA_real w hw (y 0).val (y 1).val
  rw [v67_at]
  exact code_agree _ _ X hX _ (y 2).isLt _

include hw in
/-- The scales agree. -/
theorem scales (y : S28x4x32x3072.Idx) : K2 w y = val_main_v69 (F := Ideal) w y := by
  obtain ⟨X, hX⟩ := WA_real w hw (y 0).val (y 3).val
  rw [v69_at]
  exact scale_agree _ _ X hX _ (y 1).isLt _

end

end Cert.ReferenceIdeal.Val
-- ==== Proof.Algebraic.lean ====
/- What is claimed of the reference, and that the idealized kernel computes what it does. -/
module

public import proofs.«01_k».proof.Defs
public import proofs.«01_k».proof.Proof.Claims
public import proofs.«01_k».proof.Proof.Finite
public import proofs.«01_k».proof.Proof.Maths.Results

@[expose] public section

noncomputable section

namespace Cert.Proof

open Idealize.ShloMosaic Idealize.ShloMosaic.TcCoe Idealize.SL.Sem

/-- The reference leaves its arguments, and its counters at zero. -/
theorem quiescentReference : Cert.quiescent_ReferenceIdeal := fun m ρ _ =>
  (θ_run Cert.ReferenceIdeal.defs _ _).mono
    (fun r h => ⟨fun c => ⟨(h c).2.2.2.1, (h c).2.2.2.2⟩, Idealize.ShloMosaic.sem_eq_zero_of_no_sems (by decide) r.2⟩)
    (Cert.ReferenceIdeal.Value.run (F := Ideal) m ρ)

variable [Cert.Pre_finite.Facts]

theorem quiescentIdealFinite : Cert.quiescent_KernelIdeal_pre_finite := fun m ρ _ => quiescentIdeal m ρ trivial

theorem quiescentReferenceFinite : Cert.quiescent_ReferenceIdeal_pre_finite := fun m ρ _ => quiescentReference m ρ trivial

open Cert.KernelIdeal.Val in
/-- At finite arguments the idealized kernel and the reference leave the same scores, codes and scales. -/
theorem algebraic : Cert.algebraic_KernelIdeal_ReferenceIdeal_pre_finite := fun m g m' g' hpre hargs => by
  refine ⟨fun c y => K0 (wOf m c) (hOf m c) y, fun c y => K1 (wOf m c) y, fun c y => K2 (wOf m c) y, runV m g, ?_⟩
  refine (θ_run Cert.ReferenceIdeal.defs _ _).mono (fun r h c => ?_) (Cert.ReferenceIdeal.Value.run (F := Ideal) m' g')
  obtain ⟨h0, h1, h2, h3, h4⟩ := h c
  obtain ⟨hw, hh⟩ := Cert.Pre_finite.Val.reals _ _ (hpre c)
  obtain ⟨ew, eh⟩ := hargs c
  refine ⟨h0.trans ?_, h1.trans ?_, h2.trans ?_, h3, h4⟩
  · rw [Cert.ReferenceIdeal.Read.val_main_v65_eq, ew, eh]
    exact funext fun y => (Cert.ReferenceIdeal.Val.scores (wOf m c) (hOf m c) hw hh y).symm
  · rw [Cert.ReferenceIdeal.Read.val_main_v67_eq, ew]
    exact funext fun y => (Cert.ReferenceIdeal.Val.codes (wOf m c) hw y).symm
  · rw [Cert.ReferenceIdeal.Read.val_main_v69_eq, ew]
    exact funext fun y => (Cert.ReferenceIdeal.Val.scales (wOf m c) hw y).symm

end Cert.Proof

end

end
-- ==== Proof.lean ====
/- The claim, put together from its parts: the programs leave their arguments and the counters as they should, the idealized program's rewrites preserve what the program computes, and at finite arguments the idealized program computes the reference's three results. -/
module

public import proofs.«01_k».proof.Proof.Claims
public import proofs.«01_k».proof.Proof.Algebraic

@[expose] public section

noncomputable section

namespace Cert.Proof

theorem claim : Cert.Claim :=
  letI := Cert.Pre_finite.Val.facts
  ⟨Cert.Kernel.Gen.facts, Cert.KernelIdeal.Gen.facts, Cert.ReferenceIdeal.Gen.facts, Cert.Pre_finite.Val.facts,
    quiescent, quiescentIdeal, quiescentIdealFinite, quiescentReference, quiescentReferenceFinite, preserves, algebraic⟩

end Cert.Proof

end

end
